-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastRefIdeal (m : (ℓ : Loc Cert.LastRefIdeal.nD Cert.LastRefIdeal.τ Cert.LastRefIdeal.sig) → Buf (Elt Ideal) ℓ) : Prop :=
  True

def Pre_Cross (m : (ℓ : Loc Cert.Cross.nD Cert.Cross.τ Cert.Cross.sig) → Buf (Elt Bits) ℓ) : Prop :=
  True

def Pre_CrossIdeal (m : (ℓ : Loc Cert.CrossIdeal.nD Cert.CrossIdeal.τ Cert.CrossIdeal.sig) → Buf (Elt Ideal) ℓ) : Prop :=
  True

def Pre_CrossRefIdeal (m : (ℓ : Loc Cert.CrossRefIdeal.nD Cert.CrossRefIdeal.τ Cert.CrossRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_LastS (m : (ℓ : Loc Cert.LastS.nD Cert.LastS.τ Cert.LastS.sig) → Buf (Elt Bits) ℓ) : Prop :=
  True

def Pre_LastSIdeal (m : (ℓ : Loc Cert.LastSIdeal.nD Cert.LastSIdeal.τ Cert.LastSIdeal.sig) → Buf (Elt Ideal) ℓ) : Prop :=
  True

def Pre_LastSRefIdeal (m : (ℓ : Loc Cert.LastSRefIdeal.nD Cert.LastSRefIdeal.τ Cert.LastSRefIdeal.sig) → Buf (Elt Ideal) ℓ) : Prop :=
  True

def Pre_ConvS (m : (ℓ : Loc Cert.ConvS.nD Cert.ConvS.τ Cert.ConvS.sig) → Buf (Elt Bits) ℓ) : Prop :=
  True

def Pre_ConvSIdeal (m : (ℓ : Loc Cert.ConvSIdeal.nD Cert.ConvSIdeal.τ Cert.ConvSIdeal.sig) → Buf (Elt Ideal) ℓ) : Prop :=
  True

def Pre_ConvSRefIdeal (m : (ℓ : Loc Cert.ConvSRefIdeal.nD Cert.ConvSRefIdeal.τ Cert.ConvSRefIdeal.sig) → Buf (Elt Ideal) ℓ) : Prop :=
  True

def Pre_ProjS (m : (ℓ : Loc Cert.ProjS.nD Cert.ProjS.τ Cert.ProjS.sig) → Buf (Elt Bits) ℓ) : Prop :=
  True

def Pre_ProjSIdeal (m : (ℓ : Loc Cert.ProjSIdeal.nD Cert.ProjSIdeal.τ Cert.ProjSIdeal.sig) → Buf (Elt Ideal) ℓ) : Prop :=
  True

def Pre_ProjSRefIdeal (m : (ℓ : Loc Cert.ProjSRefIdeal.nD Cert.ProjSRefIdeal.τ Cert.ProjSRefIdeal.sig) → Buf (Elt Ideal) ℓ) : Prop :=
  True

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolRefIdeal (m : (ℓ : Loc Cert.PoolRefIdeal.nD Cert.PoolRefIdeal.τ Cert.PoolRefIdeal.sig) → Buf (Elt Ideal) ℓ) : Prop :=
  True

def Pre_PoolS (m : (ℓ : Loc Cert.PoolS.nD Cert.PoolS.τ Cert.PoolS.sig) → Buf (Elt Bits) ℓ) : Prop :=
  True

def Pre_PoolSIdeal (m : (ℓ : Loc Cert.PoolSIdeal.nD Cert.PoolSIdeal.τ Cert.PoolSIdeal.sig) → Buf (Elt Ideal) ℓ) : Prop :=
  True

def Pre_PoolSRefIdeal (m : (ℓ : Loc Cert.PoolSRefIdeal.nD Cert.PoolSRefIdeal.τ Cert.PoolSRefIdeal.sig) → Buf (Elt Ideal) ℓ) : Prop :=
  True

def Pre_NsaPrompt (m : (ℓ : Loc Cert.NsaPrompt.nD Cert.NsaPrompt.τ Cert.NsaPrompt.sig) → Buf (Elt Bits) ℓ) : Prop :=
  True

def Pre_NsaPromptIdeal (m : (ℓ : Loc Cert.NsaPromptIdeal.nD Cert.NsaPromptIdeal.τ Cert.NsaPromptIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3)
      ∧ r.2.mem ((c.tc : Thread Cert.LastRefIdeal.nD Cert.LastRefIdeal.τ).loc Cert.LastRefIdeal.main_arg4) = m ((c.tc : Thread Cert.LastRefIdeal.nD Cert.LastRefIdeal.τ).loc Cert.LastRefIdeal.main_arg4))
      ∧ r.2.sem = fun _ => 0)

def quiescent_Cross [hCross : Cert.Cross.Facts] : Prop :=
  ∀ (m : (ℓ : Loc Cert.Cross.nD Cert.Cross.τ Cert.Cross.sig) → Buf (Elt Bits) ℓ) (g : Dev Cert.Cross.nD → PrngReg), Pre_Cross m →
    θ_run (Cert.Cross.defs (F := Bits)) (onTc (τ := Cert.Cross.τ) (Cert.Cross.main (F := Bits))) ⟨m, fun _ => 0, g⟩ (fun r => (∀ c : Dev Cert.Cross.nD,
      r.2.mem ((c.tc : Thread Cert.Cross.nD Cert.Cross.τ).loc Cert.Cross.main_arg0) = m ((c.tc : Thread Cert.Cross.nD Cert.Cross.τ).loc Cert.Cross.main_arg0)
      ∧ r.2.mem ((c.tc : Thread Cert.Cross.nD Cert.Cross.τ).loc Cert.Cross.main_arg1) = m ((c.tc : Thread Cert.Cross.nD Cert.Cross.τ).loc Cert.Cross.main_arg1)
      ∧ r.2.mem ((c.tc : Thread Cert.Cross.nD Cert.Cross.τ).loc Cert.Cross.main_arg2) = m ((c.tc : Thread Cert.Cross.nD Cert.Cross.τ).loc Cert.Cross.main_arg2)
      ∧ r.2.mem ((c.tc : Thread Cert.Cross.nD Cert.Cross.τ).loc Cert.Cross.main_arg3) = m ((c.tc : Thread Cert.Cross.nD Cert.Cross.τ).loc Cert.Cross.main_arg3)
      ∧ r.2.mem ((c.tc : Thread Cert.Cross.nD Cert.Cross.τ).loc Cert.Cross.main_arg4) = m ((c.tc : Thread Cert.Cross.nD Cert.Cross.τ).loc Cert.Cross.main_arg4))
      ∧ r.2.sem = fun _ => 0)

def quiescent_CrossIdeal [hCrossIdeal : Cert.CrossIdeal.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
      ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
      ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4))
      ∧ r.2.sem = fun _ => 0)

def quiescent_CrossRefIdeal [hCrossRefIdeal : Cert.CrossRefIdeal.Facts] : Prop :=
  ∀ (m : (ℓ : Loc Cert.CrossRefIdeal.nD Cert.CrossRefIdeal.τ Cert.CrossRefIdeal.sig) → Buf (Elt Ideal) ℓ) (g : Dev Cert.CrossRefIdeal.nD → PrngReg), Pre_CrossRefIdeal m →
    θ_run (Cert.CrossRefIdeal.defs (F := Ideal)) (onTc (τ := Cert.CrossRefIdeal.τ) (Cert.CrossRefIdeal.main (F := Ideal))) ⟨m, fun _ => 0, g⟩ (fun r => (∀ c : Dev Cert.CrossRefIdeal.nD,
      r.2.mem ((c.tc : Thread Cert.CrossRefIdeal.nD Cert.CrossRefIdeal.τ).loc Cert.CrossRefIdeal.main_arg0) = m ((c.tc : Thread Cert.CrossRefIdeal.nD Cert.CrossRefIdeal.τ).loc Cert.CrossRefIdeal.main_arg0)
      ∧ r.2.mem ((c.tc : Thread Cert.CrossRefIdeal.nD Cert.CrossRefIdeal.τ).loc Cert.CrossRefIdeal.main_arg1) = m ((c.tc : Thread Cert.CrossRefIdeal.nD Cert.CrossRefIdeal.τ).loc Cert.CrossRefIdeal.main_arg1)
      ∧ r.2.mem ((c.tc : Thread Cert.CrossRefIdeal.nD Cert.CrossRefIdeal.τ).loc Cert.CrossRefIdeal.main_arg2) = m ((c.tc : Thread Cert.CrossRefIdeal.nD Cert.CrossRefIdeal.τ).loc Cert.CrossRefIdeal.main_arg2)
      ∧ r.2.mem ((c.tc : Thread Cert.CrossRefIdeal.nD Cert.CrossRefIdeal.τ).loc Cert.CrossRefIdeal.main_arg3) = m ((c.tc : Thread Cert.CrossRefIdeal.nD Cert.CrossRefIdeal.τ).loc Cert.CrossRefIdeal.main_arg3)
      ∧ r.2.mem ((c.tc : Thread Cert.CrossRefIdeal.nD Cert.CrossRefIdeal.τ).loc Cert.CrossRefIdeal.main_arg4) = m ((c.tc : Thread Cert.CrossRefIdeal.nD Cert.CrossRefIdeal.τ).loc Cert.CrossRefIdeal.main_arg4))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_LastS [hLastS : Cert.LastS.Facts] : Prop :=
  ∀ (m : (ℓ : Loc Cert.LastS.nD Cert.LastS.τ Cert.LastS.sig) → Buf (Elt Bits) ℓ) (g : Dev Cert.LastS.nD → PrngReg), Pre_LastS m →
    θ_run (Cert.LastS.defs (F := Bits)) (onTc (τ := Cert.LastS.τ) (Cert.LastS.main (F := Bits))) ⟨m, fun _ => 0, g⟩ (fun r => (∀ c : Dev Cert.LastS.nD,
      r.2.mem ((c.tc : Thread Cert.LastS.nD Cert.LastS.τ).loc Cert.LastS.main_arg0) = m ((c.tc : Thread Cert.LastS.nD Cert.LastS.τ).loc Cert.LastS.main_arg0)
      ∧ r.2.mem ((c.tc : Thread Cert.LastS.nD Cert.LastS.τ).loc Cert.LastS.main_arg1) = m ((c.tc : Thread Cert.LastS.nD Cert.LastS.τ).loc Cert.LastS.main_arg1)
      ∧ r.2.mem ((c.tc : Thread Cert.LastS.nD Cert.LastS.τ).loc Cert.LastS.main_arg2) = m ((c.tc : Thread Cert.LastS.nD Cert.LastS.τ).loc Cert.LastS.main_arg2)
      ∧ r.2.mem ((c.tc : Thread Cert.LastS.nD Cert.LastS.τ).loc Cert.LastS.main_arg3) = m ((c.tc : Thread Cert.LastS.nD Cert.LastS.τ).loc Cert.LastS.main_arg3)
      ∧ r.2.mem ((c.tc : Thread Cert.LastS.nD Cert.LastS.τ).loc Cert.LastS.main_arg4) = m ((c.tc : Thread Cert.LastS.nD Cert.LastS.τ).loc Cert.LastS.main_arg4))
      ∧ r.2.sem = fun _ => 0)

def quiescent_LastSIdeal [hLastSIdeal : Cert.LastSIdeal.Facts] : Prop :=
  ∀ (m : (ℓ : Loc Cert.LastSIdeal.nD Cert.LastSIdeal.τ Cert.LastSIdeal.sig) → Buf (Elt Ideal) ℓ) (g : Dev Cert.LastSIdeal.nD → PrngReg), Pre_LastSIdeal m →
    θ_run (Cert.LastSIdeal.defs (F := Ideal)) (onTc (τ := Cert.LastSIdeal.τ) (Cert.LastSIdeal.main (F := Ideal))) ⟨m, fun _ => 0, g⟩ (fun r => (∀ c : Dev Cert.LastSIdeal.nD,
      r.2.mem ((c.tc : Thread Cert.LastSIdeal.nD Cert.LastSIdeal.τ).loc Cert.LastSIdeal.main_arg0) = m ((c.tc : Thread Cert.LastSIdeal.nD Cert.LastSIdeal.τ).loc Cert.LastSIdeal.main_arg0)
      ∧ r.2.mem ((c.tc : Thread Cert.LastSIdeal.nD Cert.LastSIdeal.τ).loc Cert.LastSIdeal.main_arg1) = m ((c.tc : Thread Cert.LastSIdeal.nD Cert.LastSIdeal.τ).loc Cert.LastSIdeal.main_arg1)
      ∧ r.2.mem ((c.tc : Thread Cert.LastSIdeal.nD Cert.LastSIdeal.τ).loc Cert.LastSIdeal.main_arg2) = m ((c.tc : Thread Cert.LastSIdeal.nD Cert.LastSIdeal.τ).loc Cert.LastSIdeal.main_arg2)
      ∧ r.2.mem ((c.tc : Thread Cert.LastSIdeal.nD Cert.LastSIdeal.τ).loc Cert.LastSIdeal.main_arg3) = m ((c.tc : Thread Cert.LastSIdeal.nD Cert.LastSIdeal.τ).loc Cert.LastSIdeal.main_arg3)
      ∧ r.2.mem ((c.tc : Thread Cert.LastSIdeal.nD Cert.LastSIdeal.τ).loc Cert.LastSIdeal.main_arg4) = m ((c.tc : Thread Cert.LastSIdeal.nD Cert.LastSIdeal.τ).loc Cert.LastSIdeal.main_arg4))
      ∧ r.2.sem = fun _ => 0)

def quiescent_LastSRefIdeal [hLastSRefIdeal : Cert.LastSRefIdeal.Facts] : Prop :=
  ∀ (m : (ℓ : Loc Cert.LastSRefIdeal.nD Cert.LastSRefIdeal.τ Cert.LastSRefIdeal.sig) → Buf (Elt Ideal) ℓ) (g : Dev Cert.LastSRefIdeal.nD → PrngReg), Pre_LastSRefIdeal m →
    θ_run (Cert.LastSRefIdeal.defs (F := Ideal)) (onTc (τ := Cert.LastSRefIdeal.τ) (Cert.LastSRefIdeal.main (F := Ideal))) ⟨m, fun _ => 0, g⟩ (fun r => (∀ c : Dev Cert.LastSRefIdeal.nD,
      r.2.mem ((c.tc : Thread Cert.LastSRefIdeal.nD Cert.LastSRefIdeal.τ).loc Cert.LastSRefIdeal.main_arg0) = m ((c.tc : Thread Cert.LastSRefIdeal.nD Cert.LastSRefIdeal.τ).loc Cert.LastSRefIdeal.main_arg0)
      ∧ r.2.mem ((c.tc : Thread Cert.LastSRefIdeal.nD Cert.LastSRefIdeal.τ).loc Cert.LastSRefIdeal.main_arg1) = m ((c.tc : Thread Cert.LastSRefIdeal.nD Cert.LastSRefIdeal.τ).loc Cert.LastSRefIdeal.main_arg1)
      ∧ r.2.mem ((c.tc : Thread Cert.LastSRefIdeal.nD Cert.LastSRefIdeal.τ).loc Cert.LastSRefIdeal.main_arg2) = m ((c.tc : Thread Cert.LastSRefIdeal.nD Cert.LastSRefIdeal.τ).loc Cert.LastSRefIdeal.main_arg2)
      ∧ r.2.mem ((c.tc : Thread Cert.LastSRefIdeal.nD Cert.LastSRefIdeal.τ).loc Cert.LastSRefIdeal.main_arg3) = m ((c.tc : Thread Cert.LastSRefIdeal.nD Cert.LastSRefIdeal.τ).loc Cert.LastSRefIdeal.main_arg3)
      ∧ r.2.mem ((c.tc : Thread Cert.LastSRefIdeal.nD Cert.LastSRefIdeal.τ).loc Cert.LastSRefIdeal.main_arg4) = m ((c.tc : Thread Cert.LastSRefIdeal.nD Cert.LastSRefIdeal.τ).loc Cert.LastSRefIdeal.main_arg4))
      ∧ r.2.sem = fun _ => 0)

def quiescent_ConvS [hConvS : Cert.ConvS.Facts] : Prop :=
  ∀ (m : (ℓ : Loc Cert.ConvS.nD Cert.ConvS.τ Cert.ConvS.sig) → Buf (Elt Bits) ℓ) (g : Dev Cert.ConvS.nD → PrngReg), Pre_ConvS m →
    θ_run (Cert.ConvS.defs (F := Bits)) (onTc (τ := Cert.ConvS.τ) (Cert.ConvS.main (F := Bits))) ⟨m, fun _ => 0, g⟩ (fun r => (∀ c : Dev Cert.ConvS.nD,
      r.2.mem ((c.tc : Thread Cert.ConvS.nD Cert.ConvS.τ).loc Cert.ConvS.main_arg0) = m ((c.tc : Thread Cert.ConvS.nD Cert.ConvS.τ).loc Cert.ConvS.main_arg0)
      ∧ r.2.mem ((c.tc : Thread Cert.ConvS.nD Cert.ConvS.τ).loc Cert.ConvS.main_arg1) = m ((c.tc : Thread Cert.ConvS.nD Cert.ConvS.τ).loc Cert.ConvS.main_arg1)
      ∧ r.2.mem ((c.tc : Thread Cert.ConvS.nD Cert.ConvS.τ).loc Cert.ConvS.main_arg2) = m ((c.tc : Thread Cert.ConvS.nD Cert.ConvS.τ).loc Cert.ConvS.main_arg2)
      ∧ r.2.mem ((c.tc : Thread Cert.ConvS.nD Cert.ConvS.τ).loc Cert.ConvS.main_arg3) = m ((c.tc : Thread Cert.ConvS.nD Cert.ConvS.τ).loc Cert.ConvS.main_arg3)
      ∧ r.2.mem ((c.tc : Thread Cert.ConvS.nD Cert.ConvS.τ).loc Cert.ConvS.main_arg4) = m ((c.tc : Thread Cert.ConvS.nD Cert.ConvS.τ).loc Cert.ConvS.main_arg4)
      ∧ r.2.mem ((c.tc : Thread Cert.ConvS.nD Cert.ConvS.τ).loc Cert.ConvS.main_arg5) = m ((c.tc : Thread Cert.ConvS.nD Cert.ConvS.τ).loc Cert.ConvS.main_arg5))
      ∧ r.2.sem = fun _ => 0)

def quiescent_ConvSIdeal [hConvSIdeal : Cert.ConvSIdeal.Facts] : Prop :=
  ∀ (m : (ℓ : Loc Cert.ConvSIdeal.nD Cert.ConvSIdeal.τ Cert.ConvSIdeal.sig) → Buf (Elt Ideal) ℓ) (g : Dev Cert.ConvSIdeal.nD → PrngReg), Pre_ConvSIdeal m →
    θ_run (Cert.ConvSIdeal.defs (F := Ideal)) (onTc (τ := Cert.ConvSIdeal.τ) (Cert.ConvSIdeal.main (F := Ideal))) ⟨m, fun _ => 0, g⟩ (fun r => (∀ c : Dev Cert.ConvSIdeal.nD,
      r.2.mem ((c.tc : Thread Cert.ConvSIdeal.nD Cert.ConvSIdeal.τ).loc Cert.ConvSIdeal.main_arg0) = m ((c.tc : Thread Cert.ConvSIdeal.nD Cert.ConvSIdeal.τ).loc Cert.ConvSIdeal.main_arg0)
      ∧ r.2.mem ((c.tc : Thread Cert.ConvSIdeal.nD Cert.ConvSIdeal.τ).loc Cert.ConvSIdeal.main_arg1) = m ((c.tc : Thread Cert.ConvSIdeal.nD Cert.ConvSIdeal.τ).loc Cert.ConvSIdeal.main_arg1)
      ∧ r.2.mem ((c.tc : Thread Cert.ConvSIdeal.nD Cert.ConvSIdeal.τ).loc Cert.ConvSIdeal.main_arg2) = m ((c.tc : Thread Cert.ConvSIdeal.nD Cert.ConvSIdeal.τ).loc Cert.ConvSIdeal.main_arg2)
      ∧ r.2.mem ((c.tc : Thread Cert.ConvSIdeal.nD Cert.ConvSIdeal.τ).loc Cert.ConvSIdeal.main_arg3) = m ((c.tc : Thread Cert.ConvSIdeal.nD Cert.ConvSIdeal.τ).loc Cert.ConvSIdeal.main_arg3)
      ∧ r.2.mem ((c.tc : Thread Cert.ConvSIdeal.nD Cert.ConvSIdeal.τ).loc Cert.ConvSIdeal.main_arg4) = m ((c.tc : Thread Cert.ConvSIdeal.nD Cert.ConvSIdeal.τ).loc Cert.ConvSIdeal.main_arg4)
      ∧ r.2.mem ((c.tc : Thread Cert.ConvSIdeal.nD Cert.ConvSIdeal.τ).loc Cert.ConvSIdeal.main_arg5) = m ((c.tc : Thread Cert.ConvSIdeal.nD Cert.ConvSIdeal.τ).loc Cert.ConvSIdeal.main_arg5))
      ∧ r.2.sem = fun _ => 0)

def quiescent_ConvSRefIdeal [hConvSRefIdeal : Cert.ConvSRefIdeal.Facts] : Prop :=
  ∀ (m : (ℓ : Loc Cert.ConvSRefIdeal.nD Cert.ConvSRefIdeal.τ Cert.ConvSRefIdeal.sig) → Buf (Elt Ideal) ℓ) (g : Dev Cert.ConvSRefIdeal.nD → PrngReg), Pre_ConvSRefIdeal m →
    θ_run (Cert.ConvSRefIdeal.defs (F := Ideal)) (onTc (τ := Cert.ConvSRefIdeal.τ) (Cert.ConvSRefIdeal.main (F := Ideal))) ⟨m, fun _ => 0, g⟩ (fun r => (∀ c : Dev Cert.ConvSRefIdeal.nD,
      r.2.mem ((c.tc : Thread Cert.ConvSRefIdeal.nD Cert.ConvSRefIdeal.τ).loc Cert.ConvSRefIdeal.main_arg0) = m ((c.tc : Thread Cert.ConvSRefIdeal.nD Cert.ConvSRefIdeal.τ).loc Cert.ConvSRefIdeal.main_arg0)
      ∧ r.2.mem ((c.tc : Thread Cert.ConvSRefIdeal.nD Cert.ConvSRefIdeal.τ).loc Cert.ConvSRefIdeal.main_arg1) = m ((c.tc : Thread Cert.ConvSRefIdeal.nD Cert.ConvSRefIdeal.τ).loc Cert.ConvSRefIdeal.main_arg1)
      ∧ r.2.mem ((c.tc : Thread Cert.ConvSRefIdeal.nD Cert.ConvSRefIdeal.τ).loc Cert.ConvSRefIdeal.main_arg2) = m ((c.tc : Thread Cert.ConvSRefIdeal.nD Cert.ConvSRefIdeal.τ).loc Cert.ConvSRefIdeal.main_arg2)
      ∧ r.2.mem ((c.tc : Thread Cert.ConvSRefIdeal.nD Cert.ConvSRefIdeal.τ).loc Cert.ConvSRefIdeal.main_arg3) = m ((c.tc : Thread Cert.ConvSRefIdeal.nD Cert.ConvSRefIdeal.τ).loc Cert.ConvSRefIdeal.main_arg3)
      ∧ r.2.mem ((c.tc : Thread Cert.ConvSRefIdeal.nD Cert.ConvSRefIdeal.τ).loc Cert.ConvSRefIdeal.main_arg4) = m ((c.tc : Thread Cert.ConvSRefIdeal.nD Cert.ConvSRefIdeal.τ).loc Cert.ConvSRefIdeal.main_arg4)
      ∧ r.2.mem ((c.tc : Thread Cert.ConvSRefIdeal.nD Cert.ConvSRefIdeal.τ).loc Cert.ConvSRefIdeal.main_arg5) = m ((c.tc : Thread Cert.ConvSRefIdeal.nD Cert.ConvSRefIdeal.τ).loc Cert.ConvSRefIdeal.main_arg5))
      ∧ r.2.sem = fun _ => 0)

def quiescent_ProjS [hProjS : Cert.ProjS.Facts] : Prop :=
  ∀ (m : (ℓ : Loc Cert.ProjS.nD Cert.ProjS.τ Cert.ProjS.sig) → Buf (Elt Bits) ℓ) (g : Dev Cert.ProjS.nD → PrngReg), Pre_ProjS m →
    θ_run (Cert.ProjS.defs (F := Bits)) (onTc (τ := Cert.ProjS.τ) (Cert.ProjS.main (F := Bits))) ⟨m, fun _ => 0, g⟩ (fun r => (∀ c : Dev Cert.ProjS.nD,
      r.2.mem ((c.tc : Thread Cert.ProjS.nD Cert.ProjS.τ).loc Cert.ProjS.main_arg0) = m ((c.tc : Thread Cert.ProjS.nD Cert.ProjS.τ).loc Cert.ProjS.main_arg0)
      ∧ r.2.mem ((c.tc : Thread Cert.ProjS.nD Cert.ProjS.τ).loc Cert.ProjS.main_arg1) = m ((c.tc : Thread Cert.ProjS.nD Cert.ProjS.τ).loc Cert.ProjS.main_arg1)
      ∧ r.2.mem ((c.tc : Thread Cert.ProjS.nD Cert.ProjS.τ).loc Cert.ProjS.main_arg2) = m ((c.tc : Thread Cert.ProjS.nD Cert.ProjS.τ).loc Cert.ProjS.main_arg2)
      ∧ r.2.mem ((c.tc : Thread Cert.ProjS.nD Cert.ProjS.τ).loc Cert.ProjS.main_arg3) = m ((c.tc : Thread Cert.ProjS.nD Cert.ProjS.τ).loc Cert.ProjS.main_arg3))
      ∧ r.2.sem = fun _ => 0)

def quiescent_ProjSIdeal [hProjSIdeal : Cert.ProjSIdeal.Facts] : Prop :=
  ∀ (m : (ℓ : Loc Cert.ProjSIdeal.nD Cert.ProjSIdeal.τ Cert.ProjSIdeal.sig) → Buf (Elt Ideal) ℓ) (g : Dev Cert.ProjSIdeal.nD → PrngReg), Pre_ProjSIdeal m →
    θ_run (Cert.ProjSIdeal.defs (F := Ideal)) (onTc (τ := Cert.ProjSIdeal.τ) (Cert.ProjSIdeal.main (F := Ideal))) ⟨m, fun _ => 0, g⟩ (fun r => (∀ c : Dev Cert.ProjSIdeal.nD,
      r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
      ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1)
      ∧ r.2.mem ((c.tc : Thread Cert.ProjSIdeal.nD Cert.ProjSIdeal.τ).loc Cert.ProjSIdeal.main_arg2) = m ((c.tc : Thread Cert.ProjSIdeal.nD Cert.ProjSIdeal.τ).loc Cert.ProjSIdeal.main_arg2)
      ∧ r.2.mem ((c.tc : Thread Cert.ProjSIdeal.nD Cert.ProjSIdeal.τ).loc Cert.ProjSIdeal.main_arg3) = m ((c.tc : Thread Cert.ProjSIdeal.nD Cert.ProjSIdeal.τ).loc Cert.ProjSIdeal.main_arg3))
      ∧ r.2.sem = fun _ => 0)

def quiescent_ProjSRefIdeal [hProjSRefIdeal : Cert.ProjSRefIdeal.Facts] : Prop :=
  ∀ (m : (ℓ : Loc Cert.ProjSRefIdeal.nD Cert.ProjSRefIdeal.τ Cert.ProjSRefIdeal.sig) → Buf (Elt Ideal) ℓ) (g : Dev Cert.ProjSRefIdeal.nD → PrngReg), Pre_ProjSRefIdeal m →
    θ_run (Cert.ProjSRefIdeal.defs (F := Ideal)) (onTc (τ := Cert.ProjSRefIdeal.τ) (Cert.ProjSRefIdeal.main (F := Ideal))) ⟨m, fun _ => 0, g⟩ (fun r => (∀ c : Dev Cert.ProjSRefIdeal.nD,
      r.2.mem ((c.tc : Thread Cert.ProjSRefIdeal.nD Cert.ProjSRefIdeal.τ).loc Cert.ProjSRefIdeal.main_arg0) = m ((c.tc : Thread Cert.ProjSRefIdeal.nD Cert.ProjSRefIdeal.τ).loc Cert.ProjSRefIdeal.main_arg0)
      ∧ r.2.mem ((c.tc : Thread Cert.ProjSRefIdeal.nD Cert.ProjSRefIdeal.τ).loc Cert.ProjSRefIdeal.main_arg1) = m ((c.tc : Thread Cert.ProjSRefIdeal.nD Cert.ProjSRefIdeal.τ).loc Cert.ProjSRefIdeal.main_arg1)
      ∧ r.2.mem ((c.tc : Thread Cert.ProjSRefIdeal.nD Cert.ProjSRefIdeal.τ).loc Cert.ProjSRefIdeal.main_arg2) = m ((c.tc : Thread Cert.ProjSRefIdeal.nD Cert.ProjSRefIdeal.τ).loc Cert.ProjSRefIdeal.main_arg2)
      ∧ r.2.mem ((c.tc : Thread Cert.ProjSRefIdeal.nD Cert.ProjSRefIdeal.τ).loc Cert.ProjSRefIdeal.main_arg3) = m ((c.tc : Thread Cert.ProjSRefIdeal.nD Cert.ProjSRefIdeal.τ).loc Cert.ProjSRefIdeal.main_arg3))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3))
      ∧ r.2.sem = fun _ => 0)

def quiescent_PoolS [hPoolS : Cert.PoolS.Facts] : Prop :=
  ∀ (m : (ℓ : Loc Cert.PoolS.nD Cert.PoolS.τ Cert.PoolS.sig) → Buf (Elt Bits) ℓ) (g : Dev Cert.PoolS.nD → PrngReg), Pre_PoolS m →
    θ_run (Cert.PoolS.defs (F := Bits)) (onTc (τ := Cert.PoolS.τ) (Cert.PoolS.main (F := Bits))) ⟨m, fun _ => 0, g⟩ (fun r => (∀ c : Dev Cert.PoolS.nD,
      r.2.mem ((c.tc : Thread Cert.PoolS.nD Cert.PoolS.τ).loc Cert.PoolS.main_arg0) = m ((c.tc : Thread Cert.PoolS.nD Cert.PoolS.τ).loc Cert.PoolS.main_arg0)
      ∧ r.2.mem ((c.tc : Thread Cert.PoolS.nD Cert.PoolS.τ).loc Cert.PoolS.main_arg1) = m ((c.tc : Thread Cert.PoolS.nD Cert.PoolS.τ).loc Cert.PoolS.main_arg1)
      ∧ r.2.mem ((c.tc : Thread Cert.PoolS.nD Cert.PoolS.τ).loc Cert.PoolS.main_arg2) = m ((c.tc : Thread Cert.PoolS.nD Cert.PoolS.τ).loc Cert.PoolS.main_arg2)
      ∧ r.2.mem ((c.tc : Thread Cert.PoolS.nD Cert.PoolS.τ).loc Cert.PoolS.main_arg3) = m ((c.tc : Thread Cert.PoolS.nD Cert.PoolS.τ).loc Cert.PoolS.main_arg3)
      ∧ r.2.mem ((c.tc : Thread Cert.PoolS.nD Cert.PoolS.τ).loc Cert.PoolS.main_arg4) = m ((c.tc : Thread Cert.PoolS.nD Cert.PoolS.τ).loc Cert.PoolS.main_arg4))
      ∧ r.2.sem = fun _ => 0)

def quiescent_PoolSIdeal [hPoolSIdeal : Cert.PoolSIdeal.Facts] : Prop :=
  ∀ (m : (ℓ : Loc Cert.PoolSIdeal.nD Cert.PoolSIdeal.τ Cert.PoolSIdeal.sig) → Buf (Elt Ideal) ℓ) (g : Dev Cert.PoolSIdeal.nD → PrngReg), Pre_PoolSIdeal m →
    θ_run (Cert.PoolSIdeal.defs (F := Ideal)) (onTc (τ := Cert.PoolSIdeal.τ) (Cert.PoolSIdeal.main (F := Ideal))) ⟨m, fun _ => 0, g⟩ (fun r => (∀ c : Dev Cert.PoolSIdeal.nD,
      r.2.mem ((c.tc : Thread Cert.PoolSIdeal.nD Cert.PoolSIdeal.τ).loc Cert.PoolSIdeal.main_arg0) = m ((c.tc : Thread Cert.PoolSIdeal.nD Cert.PoolSIdeal.τ).loc Cert.PoolSIdeal.main_arg0)
      ∧ r.2.mem ((c.tc : Thread Cert.PoolSIdeal.nD Cert.PoolSIdeal.τ).loc Cert.PoolSIdeal.main_arg1) = m ((c.tc : Thread Cert.PoolSIdeal.nD Cert.PoolSIdeal.τ).loc Cert.PoolSIdeal.main_arg1)
      ∧ r.2.mem ((c.tc : Thread Cert.PoolSIdeal.nD Cert.PoolSIdeal.τ).loc Cert.PoolSIdeal.main_arg2) = m ((c.tc : Thread Cert.PoolSIdeal.nD Cert.PoolSIdeal.τ).loc Cert.PoolSIdeal.main_arg2)
      ∧ r.2.mem ((c.tc : Thread Cert.PoolSIdeal.nD Cert.PoolSIdeal.τ).loc Cert.PoolSIdeal.main_arg3) = m ((c.tc : Thread Cert.PoolSIdeal.nD Cert.PoolSIdeal.τ).loc Cert.PoolSIdeal.main_arg3)
      ∧ r.2.mem ((c.tc : Thread Cert.PoolSIdeal.nD Cert.PoolSIdeal.τ).loc Cert.PoolSIdeal.main_arg4) = m ((c.tc : Thread Cert.PoolSIdeal.nD Cert.PoolSIdeal.τ).loc Cert.PoolSIdeal.main_arg4))
      ∧ r.2.sem = fun _ => 0)

def quiescent_PoolSRefIdeal [hPoolSRefIdeal : Cert.PoolSRefIdeal.Facts] : Prop :=
  ∀ (m : (ℓ : Loc Cert.PoolSRefIdeal.nD Cert.PoolSRefIdeal.τ Cert.PoolSRefIdeal.sig) → Buf (Elt Ideal) ℓ) (g : Dev Cert.PoolSRefIdeal.nD → PrngReg), Pre_PoolSRefIdeal m →
    θ_run (Cert.PoolSRefIdeal.defs (F := Ideal)) (onTc (τ := Cert.PoolSRefIdeal.τ) (Cert.PoolSRefIdeal.main (F := Ideal))) ⟨m, fun _ => 0, g⟩ (fun r => (∀ c : Dev Cert.PoolSRefIdeal.nD,
      r.2.mem ((c.tc : Thread Cert.PoolSRefIdeal.nD Cert.PoolSRefIdeal.τ).loc Cert.PoolSRefIdeal.main_arg0) = m ((c.tc : Thread Cert.PoolSRefIdeal.nD Cert.PoolSRefIdeal.τ).loc Cert.PoolSRefIdeal.main_arg0)
      ∧ r.2.mem ((c.tc : Thread Cert.PoolSRefIdeal.nD Cert.PoolSRefIdeal.τ).loc Cert.PoolSRefIdeal.main_arg1) = m ((c.tc : Thread Cert.PoolSRefIdeal.nD Cert.PoolSRefIdeal.τ).loc Cert.PoolSRefIdeal.main_arg1)
      ∧ r.2.mem ((c.tc : Thread Cert.PoolSRefIdeal.nD Cert.PoolSRefIdeal.τ).loc Cert.PoolSRefIdeal.main_arg2) = m ((c.tc : Thread Cert.PoolSRefIdeal.nD Cert.PoolSRefIdeal.τ).loc Cert.PoolSRefIdeal.main_arg2)
      ∧ r.2.mem ((c.tc : Thread Cert.PoolSRefIdeal.nD Cert.PoolSRefIdeal.τ).loc Cert.PoolSRefIdeal.main_arg3) = m ((c.tc : Thread Cert.PoolSRefIdeal.nD Cert.PoolSRefIdeal.τ).loc Cert.PoolSRefIdeal.main_arg3)
      ∧ r.2.mem ((c.tc : Thread Cert.PoolSRefIdeal.nD Cert.PoolSRefIdeal.τ).loc Cert.PoolSRefIdeal.main_arg4) = m ((c.tc : Thread Cert.PoolSRefIdeal.nD Cert.PoolSRefIdeal.τ).loc Cert.PoolSRefIdeal.main_arg4))
      ∧ r.2.sem = fun _ => 0)

def quiescent_NsaPrompt [hNsaPrompt : Cert.NsaPrompt.Facts] : Prop :=
  ∀ (m : (ℓ : Loc Cert.NsaPrompt.nD Cert.NsaPrompt.τ Cert.NsaPrompt.sig) → Buf (Elt Bits) ℓ) (g : Dev Cert.NsaPrompt.nD → PrngReg), Pre_NsaPrompt m →
    θ_run (Cert.NsaPrompt.defs (F := Bits)) (onTc (τ := Cert.NsaPrompt.τ) (Cert.NsaPrompt.main (F := Bits))) ⟨m, fun _ => 0, g⟩ (fun r => (∀ c : Dev Cert.NsaPrompt.nD,
      r.2.mem ((c.tc : Thread Cert.NsaPrompt.nD Cert.NsaPrompt.τ).loc Cert.NsaPrompt.main_arg0) = m ((c.tc : Thread Cert.NsaPrompt.nD Cert.NsaPrompt.τ).loc Cert.NsaPrompt.main_arg0)
      ∧ r.2.mem ((c.tc : Thread Cert.NsaPrompt.nD Cert.NsaPrompt.τ).loc Cert.NsaPrompt.main_arg1) = m ((c.tc : Thread Cert.NsaPrompt.nD Cert.NsaPrompt.τ).loc Cert.NsaPrompt.main_arg1)
      ∧ r.2.mem ((c.tc : Thread Cert.NsaPrompt.nD Cert.NsaPrompt.τ).loc Cert.NsaPrompt.main_arg2) = m ((c.tc : Thread Cert.NsaPrompt.nD Cert.NsaPrompt.τ).loc Cert.NsaPrompt.main_arg2)
      ∧ r.2.mem ((c.tc : Thread Cert.NsaPrompt.nD Cert.NsaPrompt.τ).loc Cert.NsaPrompt.main_arg3) = m ((c.tc : Thread Cert.NsaPrompt.nD Cert.NsaPrompt.τ).loc Cert.NsaPrompt.main_arg3)
      ∧ r.2.mem ((c.tc : Thread Cert.NsaPrompt.nD Cert.NsaPrompt.τ).loc Cert.NsaPrompt.main_arg4) = m ((c.tc : Thread Cert.NsaPrompt.nD Cert.NsaPrompt.τ).loc Cert.NsaPrompt.main_arg4)
      ∧ r.2.mem ((c.tc : Thread Cert.NsaPrompt.nD Cert.NsaPrompt.τ).loc Cert.NsaPrompt.main_arg5) = m ((c.tc : Thread Cert.NsaPrompt.nD Cert.NsaPrompt.τ).loc Cert.NsaPrompt.main_arg5)
      ∧ r.2.mem ((c.tc : Thread Cert.NsaPrompt.nD Cert.NsaPrompt.τ).loc Cert.NsaPrompt.main_arg6) = m ((c.tc : Thread Cert.NsaPrompt.nD Cert.NsaPrompt.τ).loc Cert.NsaPrompt.main_arg6)
      ∧ r.2.mem ((c.tc : Thread Cert.NsaPrompt.nD Cert.NsaPrompt.τ).loc Cert.NsaPrompt.main_arg7) = m ((c.tc : Thread Cert.NsaPrompt.nD Cert.NsaPrompt.τ).loc Cert.NsaPrompt.main_arg7)
      ∧ r.2.mem ((c.tc : Thread Cert.NsaPrompt.nD Cert.NsaPrompt.τ).loc Cert.NsaPrompt.main_arg8) = m ((c.tc : Thread Cert.NsaPrompt.nD Cert.NsaPrompt.τ).loc Cert.NsaPrompt.main_arg8)
      ∧ r.2.mem ((c.tc : Thread Cert.NsaPrompt.nD Cert.NsaPrompt.τ).loc Cert.NsaPrompt.main_arg9) = m ((c.tc : Thread Cert.NsaPrompt.nD Cert.NsaPrompt.τ).loc Cert.NsaPrompt.main_arg9)
      ∧ r.2.mem ((c.tc : Thread Cert.NsaPrompt.nD Cert.NsaPrompt.τ).loc Cert.NsaPrompt.main_arg10) = m ((c.tc : Thread Cert.NsaPrompt.nD Cert.NsaPrompt.τ).loc Cert.NsaPrompt.main_arg10))
      ∧ r.2.sem = fun _ => 0)

def quiescent_NsaPromptIdeal [hNsaPromptIdeal : Cert.NsaPromptIdeal.Facts] : Prop :=
  ∀ (m : (ℓ : Loc Cert.NsaPromptIdeal.nD Cert.NsaPromptIdeal.τ Cert.NsaPromptIdeal.sig) → Buf (Elt Ideal) ℓ) (g : Dev Cert.NsaPromptIdeal.nD → PrngReg), Pre_NsaPromptIdeal m →
    θ_run (Cert.NsaPromptIdeal.defs (F := Ideal)) (onTc (τ := Cert.NsaPromptIdeal.τ) (Cert.NsaPromptIdeal.main (F := Ideal))) ⟨m, fun _ => 0, g⟩ (fun r => (∀ c : Dev Cert.NsaPromptIdeal.nD,
      r.2.mem ((c.tc : Thread Cert.NsaPromptIdeal.nD Cert.NsaPromptIdeal.τ).loc Cert.NsaPromptIdeal.main_arg0) = m ((c.tc : Thread Cert.NsaPromptIdeal.nD Cert.NsaPromptIdeal.τ).loc Cert.NsaPromptIdeal.main_arg0)
      ∧ r.2.mem ((c.tc : Thread Cert.NsaPromptIdeal.nD Cert.NsaPromptIdeal.τ).loc Cert.NsaPromptIdeal.main_arg1) = m ((c.tc : Thread Cert.NsaPromptIdeal.nD Cert.NsaPromptIdeal.τ).loc Cert.NsaPromptIdeal.main_arg1)
      ∧ r.2.mem ((c.tc : Thread Cert.NsaPromptIdeal.nD Cert.NsaPromptIdeal.τ).loc Cert.NsaPromptIdeal.main_arg2) = m ((c.tc : Thread Cert.NsaPromptIdeal.nD Cert.NsaPromptIdeal.τ).loc Cert.NsaPromptIdeal.main_arg2)
      ∧ r.2.mem ((c.tc : Thread Cert.NsaPromptIdeal.nD Cert.NsaPromptIdeal.τ).loc Cert.NsaPromptIdeal.main_arg3) = m ((c.tc : Thread Cert.NsaPromptIdeal.nD Cert.NsaPromptIdeal.τ).loc Cert.NsaPromptIdeal.main_arg3)
      ∧ r.2.mem ((c.tc : Thread Cert.NsaPromptIdeal.nD Cert.NsaPromptIdeal.τ).loc Cert.NsaPromptIdeal.main_arg4) = m ((c.tc : Thread Cert.NsaPromptIdeal.nD Cert.NsaPromptIdeal.τ).loc Cert.NsaPromptIdeal.main_arg4)
      ∧ r.2.mem ((c.tc : Thread Cert.NsaPromptIdeal.nD Cert.NsaPromptIdeal.τ).loc Cert.NsaPromptIdeal.main_arg5) = m ((c.tc : Thread Cert.NsaPromptIdeal.nD Cert.NsaPromptIdeal.τ).loc Cert.NsaPromptIdeal.main_arg5)
      ∧ r.2.mem ((c.tc : Thread Cert.NsaPromptIdeal.nD Cert.NsaPromptIdeal.τ).loc Cert.NsaPromptIdeal.main_arg6) = m ((c.tc : Thread Cert.NsaPromptIdeal.nD Cert.NsaPromptIdeal.τ).loc Cert.NsaPromptIdeal.main_arg6)
      ∧ r.2.mem ((c.tc : Thread Cert.NsaPromptIdeal.nD Cert.NsaPromptIdeal.τ).loc Cert.NsaPromptIdeal.main_arg7) = m ((c.tc : Thread Cert.NsaPromptIdeal.nD Cert.NsaPromptIdeal.τ).loc Cert.NsaPromptIdeal.main_arg7)
      ∧ r.2.mem ((c.tc : Thread Cert.NsaPromptIdeal.nD Cert.NsaPromptIdeal.τ).loc Cert.NsaPromptIdeal.main_arg8) = m ((c.tc : Thread Cert.NsaPromptIdeal.nD Cert.NsaPromptIdeal.τ).loc Cert.NsaPromptIdeal.main_arg8)
      ∧ r.2.mem ((c.tc : Thread Cert.NsaPromptIdeal.nD Cert.NsaPromptIdeal.τ).loc Cert.NsaPromptIdeal.main_arg9) = m ((c.tc : Thread Cert.NsaPromptIdeal.nD Cert.NsaPromptIdeal.τ).loc Cert.NsaPromptIdeal.main_arg9)
      ∧ r.2.mem ((c.tc : Thread Cert.NsaPromptIdeal.nD Cert.NsaPromptIdeal.τ).loc Cert.NsaPromptIdeal.main_arg10) = m ((c.tc : Thread Cert.NsaPromptIdeal.nD Cert.NsaPromptIdeal.τ).loc Cert.NsaPromptIdeal.main_arg10))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v3) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v21) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_Last_LastIdeal : Prop :=
  True

def algebraic_LastIdeal_LastRefIdeal [hLastIdeal : Cert.LastIdeal.Facts] [hLastRefIdeal : Cert.LastRefIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)
      ∧ m' ((c.tc : Thread Cert.LastRefIdeal.nD Cert.LastRefIdeal.τ).loc Cert.LastRefIdeal.main_arg2) = m ((c.tc : Thread Cert.LastIdeal.nD Cert.LastIdeal.τ).loc Cert.LastIdeal.main_arg2)
      ∧ m' ((c.tc : Thread Cert.LastRefIdeal.nD Cert.LastRefIdeal.τ).loc Cert.LastRefIdeal.main_arg3) = m ((c.tc : Thread Cert.LastIdeal.nD Cert.LastIdeal.τ).loc Cert.LastIdeal.main_arg3)
      ∧ m' ((c.tc : Thread Cert.LastRefIdeal.nD Cert.LastRefIdeal.τ).loc Cert.LastRefIdeal.main_arg4) = m ((c.tc : Thread Cert.LastIdeal.nD Cert.LastIdeal.τ).loc Cert.LastIdeal.main_arg4)) →
    ∃ (v0 : (c : Dev Cert.LastIdeal.nD) → Buf (Elt Ideal) ((c.tc : Thread Cert.LastIdeal.nD Cert.LastIdeal.τ).loc Cert.LastIdeal.main_v4)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v4) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v34) = v0 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1)
          ∧ r.2.mem ((c.tc : Thread Cert.LastRefIdeal.nD Cert.LastRefIdeal.τ).loc Cert.LastRefIdeal.main_arg2) = m' ((c.tc : Thread Cert.LastRefIdeal.nD Cert.LastRefIdeal.τ).loc Cert.LastRefIdeal.main_arg2)
          ∧ r.2.mem ((c.tc : Thread Cert.LastRefIdeal.nD Cert.LastRefIdeal.τ).loc Cert.LastRefIdeal.main_arg3) = m' ((c.tc : Thread Cert.LastRefIdeal.nD Cert.LastRefIdeal.τ).loc Cert.LastRefIdeal.main_arg3)
          ∧ r.2.mem ((c.tc : Thread Cert.LastRefIdeal.nD Cert.LastRefIdeal.τ).loc Cert.LastRefIdeal.main_arg4) = m' ((c.tc : Thread Cert.LastRefIdeal.nD Cert.LastRefIdeal.τ).loc Cert.LastRefIdeal.main_arg4))

def preserves_Cross_CrossIdeal : Prop :=
  True

def algebraic_CrossIdeal_CrossRefIdeal [hCrossIdeal : Cert.CrossIdeal.Facts] [hCrossRefIdeal : Cert.CrossRefIdeal.Facts] : Prop :=
  ∀ (m : (ℓ : Loc Cert.CrossIdeal.nD Cert.CrossIdeal.τ Cert.CrossIdeal.sig) → Buf (Elt Ideal) ℓ) (g : Dev Cert.CrossIdeal.nD → PrngReg)
    (m' : (ℓ : Loc Cert.CrossRefIdeal.nD Cert.CrossRefIdeal.τ Cert.CrossRefIdeal.sig) → Buf (Elt Ideal) ℓ) (g' : Dev Cert.CrossRefIdeal.nD → PrngReg), Pre_CrossIdeal m →
    (∀ c : Dev Cert.CrossIdeal.nD,
      m' ((c.tc : Thread Cert.CrossRefIdeal.nD Cert.CrossRefIdeal.τ).loc Cert.CrossRefIdeal.main_arg0) = m ((c.tc : Thread Cert.CrossIdeal.nD Cert.CrossIdeal.τ).loc Cert.CrossIdeal.main_arg0)
      ∧ m' ((c.tc : Thread Cert.CrossRefIdeal.nD Cert.CrossRefIdeal.τ).loc Cert.CrossRefIdeal.main_arg1) = m ((c.tc : Thread Cert.CrossIdeal.nD Cert.CrossIdeal.τ).loc Cert.CrossIdeal.main_arg1)
      ∧ m' ((c.tc : Thread Cert.CrossRefIdeal.nD Cert.CrossRefIdeal.τ).loc Cert.CrossRefIdeal.main_arg2) = m ((c.tc : Thread Cert.CrossIdeal.nD Cert.CrossIdeal.τ).loc Cert.CrossIdeal.main_arg2)
      ∧ m' ((c.tc : Thread Cert.CrossRefIdeal.nD Cert.CrossRefIdeal.τ).loc Cert.CrossRefIdeal.main_arg3) = m ((c.tc : Thread Cert.CrossIdeal.nD Cert.CrossIdeal.τ).loc Cert.CrossIdeal.main_arg3)
      ∧ m' ((c.tc : Thread Cert.CrossRefIdeal.nD Cert.CrossRefIdeal.τ).loc Cert.CrossRefIdeal.main_arg4) = m ((c.tc : Thread Cert.CrossIdeal.nD Cert.CrossIdeal.τ).loc Cert.CrossIdeal.main_arg4)) →
    ∃ (v0 : (c : Dev Cert.CrossIdeal.nD) → Buf (Elt Ideal) ((c.tc : Thread Cert.CrossIdeal.nD Cert.CrossIdeal.τ).loc Cert.CrossIdeal.main_v3)),
      θ_run (Cert.CrossIdeal.defs (F := Ideal)) (onTc (τ := Cert.CrossIdeal.τ) (Cert.CrossIdeal.main (F := Ideal))) ⟨m, fun _ => 0, g⟩ (fun r => ∀ c : Dev Cert.CrossIdeal.nD,
          r.2.mem ((c.tc : Thread Cert.CrossIdeal.nD Cert.CrossIdeal.τ).loc Cert.CrossIdeal.main_v3) = v0 c
          ∧ r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
          ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
          ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
          ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
          ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4))
      ∧ θ_run (Cert.CrossRefIdeal.defs (F := Ideal)) (onTc (τ := Cert.CrossRefIdeal.τ) (Cert.CrossRefIdeal.main (F := Ideal))) ⟨m', fun _ => 0, g'⟩ (fun r => ∀ c : Dev Cert.CrossRefIdeal.nD,
          r.2.mem ((c.tc : Thread Cert.CrossRefIdeal.nD Cert.CrossRefIdeal.τ).loc Cert.CrossRefIdeal.main_v40) = v0 c
          ∧ r.2.mem ((c.tc : Thread Cert.CrossRefIdeal.nD Cert.CrossRefIdeal.τ).loc Cert.CrossRefIdeal.main_arg0) = m' ((c.tc : Thread Cert.CrossRefIdeal.nD Cert.CrossRefIdeal.τ).loc Cert.CrossRefIdeal.main_arg0)
          ∧ r.2.mem ((c.tc : Thread Cert.CrossRefIdeal.nD Cert.CrossRefIdeal.τ).loc Cert.CrossRefIdeal.main_arg1) = m' ((c.tc : Thread Cert.CrossRefIdeal.nD Cert.CrossRefIdeal.τ).loc Cert.CrossRefIdeal.main_arg1)
          ∧ r.2.mem ((c.tc : Thread Cert.CrossRefIdeal.nD Cert.CrossRefIdeal.τ).loc Cert.CrossRefIdeal.main_arg2) = m' ((c.tc : Thread Cert.CrossRefIdeal.nD Cert.CrossRefIdeal.τ).loc Cert.CrossRefIdeal.main_arg2)
          ∧ r.2.mem ((c.tc : Thread Cert.CrossRefIdeal.nD Cert.CrossRefIdeal.τ).loc Cert.CrossRefIdeal.main_arg3) = m' ((c.tc : Thread Cert.CrossRefIdeal.nD Cert.CrossRefIdeal.τ).loc Cert.CrossRefIdeal.main_arg3)
          ∧ r.2.mem ((c.tc : Thread Cert.CrossRefIdeal.nD Cert.CrossRefIdeal.τ).loc Cert.CrossRefIdeal.main_arg4) = m' ((c.tc : Thread Cert.CrossRefIdeal.nD Cert.CrossRefIdeal.τ).loc Cert.CrossRefIdeal.main_arg4))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)) →
    ∃ (v0 : (c : Dev Cert.MemKvIdeal.nD) → Buf (Elt Ideal) ((c.tc : Thread Cert.MemKvIdeal.nD Cert.MemKvIdeal.τ).loc Cert.MemKvIdeal.main_v2)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v2) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v13) = v0 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)) →
    ∃ (v0 : (c : Dev Cert.ConvIdeal.nD) → Buf (Elt Ideal) ((c.tc : Thread Cert.ConvIdeal.nD Cert.ConvIdeal.τ).loc Cert.ConvIdeal.main_v3_0)) (v1 : (c : Dev Cert.ConvIdeal.nD) → Buf (Elt Ideal) ((c.tc : Thread Cert.ConvIdeal.nD Cert.ConvIdeal.τ).loc Cert.ConvIdeal.main_v3_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v3_0) = v0 c
          ∧ r.2.mem ((c.tc : Thread Cert.ConvIdeal.nD Cert.ConvIdeal.τ).loc Cert.ConvIdeal.main_v3_1) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v44) = v0 c
          ∧ r.2.mem ((c.tc : Thread Cert.ConvRefIdeal.nD Cert.ConvRefIdeal.τ).loc Cert.ConvRefIdeal.main_v45) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v29_0)) (v1 : (c : Dev Cert.ProjIdeal.nD) → Buf (Elt Ideal) ((c.tc : Thread Cert.ProjIdeal.nD Cert.ProjIdeal.τ).loc Cert.ProjIdeal.main_v29_1)) (v2 : (c : Dev Cert.ProjIdeal.nD) → Buf (Elt Ideal) ((c.tc : Thread Cert.ProjIdeal.nD Cert.ProjIdeal.τ).loc Cert.ProjIdeal.main_v29_2)) (v3 : (c : Dev Cert.ProjIdeal.nD) → Buf (Elt Ideal) ((c.tc : Thread Cert.ProjIdeal.nD Cert.ProjIdeal.τ).loc Cert.ProjIdeal.main_v29_3)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v29_0) = v0 c
          ∧ r.2.mem ((c.tc : Thread Cert.ProjIdeal.nD Cert.ProjIdeal.τ).loc Cert.ProjIdeal.main_v29_1) = v1 c
          ∧ r.2.mem ((c.tc : Thread Cert.ProjIdeal.nD Cert.ProjIdeal.τ).loc Cert.ProjIdeal.main_v29_2) = v2 c
          ∧ r.2.mem ((c.tc : Thread Cert.ProjIdeal.nD Cert.ProjIdeal.τ).loc Cert.ProjIdeal.main_v29_3) = v3 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v36) = v0 c
          ∧ r.2.mem ((c.tc : Thread Cert.ProjRefIdeal.nD Cert.ProjRefIdeal.τ).loc Cert.ProjRefIdeal.main_v37) = v1 c
          ∧ r.2.mem ((c.tc : Thread Cert.ProjRefIdeal.nD Cert.ProjRefIdeal.τ).loc Cert.ProjRefIdeal.main_v44) = v2 c
          ∧ r.2.mem ((c.tc : Thread Cert.ProjRefIdeal.nD Cert.ProjRefIdeal.τ).loc Cert.ProjRefIdeal.main_v46) = v3 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v1) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v1) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_LastS_LastSIdeal : Prop :=
  True

def algebraic_LastSIdeal_LastSRefIdeal [hLastSIdeal : Cert.LastSIdeal.Facts] [hLastSRefIdeal : Cert.LastSRefIdeal.Facts] : Prop :=
  ∀ (m : (ℓ : Loc Cert.LastSIdeal.nD Cert.LastSIdeal.τ Cert.LastSIdeal.sig) → Buf (Elt Ideal) ℓ) (g : Dev Cert.LastSIdeal.nD → PrngReg)
    (m' : (ℓ : Loc Cert.LastSRefIdeal.nD Cert.LastSRefIdeal.τ Cert.LastSRefIdeal.sig) → Buf (Elt Ideal) ℓ) (g' : Dev Cert.LastSRefIdeal.nD → PrngReg), Pre_LastSIdeal m →
    (∀ c : Dev Cert.LastSIdeal.nD,
      m' ((c.tc : Thread Cert.LastSRefIdeal.nD Cert.LastSRefIdeal.τ).loc Cert.LastSRefIdeal.main_arg0) = m ((c.tc : Thread Cert.LastSIdeal.nD Cert.LastSIdeal.τ).loc Cert.LastSIdeal.main_arg0)
      ∧ m' ((c.tc : Thread Cert.LastSRefIdeal.nD Cert.LastSRefIdeal.τ).loc Cert.LastSRefIdeal.main_arg1) = m ((c.tc : Thread Cert.LastSIdeal.nD Cert.LastSIdeal.τ).loc Cert.LastSIdeal.main_arg1)
      ∧ m' ((c.tc : Thread Cert.LastSRefIdeal.nD Cert.LastSRefIdeal.τ).loc Cert.LastSRefIdeal.main_arg2) = m ((c.tc : Thread Cert.LastSIdeal.nD Cert.LastSIdeal.τ).loc Cert.LastSIdeal.main_arg2)
      ∧ m' ((c.tc : Thread Cert.LastSRefIdeal.nD Cert.LastSRefIdeal.τ).loc Cert.LastSRefIdeal.main_arg3) = m ((c.tc : Thread Cert.LastSIdeal.nD Cert.LastSIdeal.τ).loc Cert.LastSIdeal.main_arg3)
      ∧ m' ((c.tc : Thread Cert.LastSRefIdeal.nD Cert.LastSRefIdeal.τ).loc Cert.LastSRefIdeal.main_arg4) = m ((c.tc : Thread Cert.LastSIdeal.nD Cert.LastSIdeal.τ).loc Cert.LastSIdeal.main_arg4)) →
    ∃ (v0 : (c : Dev Cert.LastSIdeal.nD) → Buf (Elt Ideal) ((c.tc : Thread Cert.LastSIdeal.nD Cert.LastSIdeal.τ).loc Cert.LastSIdeal.main_v4)),
      θ_run (Cert.LastSIdeal.defs (F := Ideal)) (onTc (τ := Cert.LastSIdeal.τ) (Cert.LastSIdeal.main (F := Ideal))) ⟨m, fun _ => 0, g⟩ (fun r => ∀ c : Dev Cert.LastSIdeal.nD,
          r.2.mem ((c.tc : Thread Cert.LastSIdeal.nD Cert.LastSIdeal.τ).loc Cert.LastSIdeal.main_v4) = v0 c
          ∧ r.2.mem ((c.tc : Thread Cert.LastSIdeal.nD Cert.LastSIdeal.τ).loc Cert.LastSIdeal.main_arg0) = m ((c.tc : Thread Cert.LastSIdeal.nD Cert.LastSIdeal.τ).loc Cert.LastSIdeal.main_arg0)
          ∧ r.2.mem ((c.tc : Thread Cert.LastSIdeal.nD Cert.LastSIdeal.τ).loc Cert.LastSIdeal.main_arg1) = m ((c.tc : Thread Cert.LastSIdeal.nD Cert.LastSIdeal.τ).loc Cert.LastSIdeal.main_arg1)
          ∧ r.2.mem ((c.tc : Thread Cert.LastSIdeal.nD Cert.LastSIdeal.τ).loc Cert.LastSIdeal.main_arg2) = m ((c.tc : Thread Cert.LastSIdeal.nD Cert.LastSIdeal.τ).loc Cert.LastSIdeal.main_arg2)
          ∧ r.2.mem ((c.tc : Thread Cert.LastSIdeal.nD Cert.LastSIdeal.τ).loc Cert.LastSIdeal.main_arg3) = m ((c.tc : Thread Cert.LastSIdeal.nD Cert.LastSIdeal.τ).loc Cert.LastSIdeal.main_arg3)
          ∧ r.2.mem ((c.tc : Thread Cert.LastSIdeal.nD Cert.LastSIdeal.τ).loc Cert.LastSIdeal.main_arg4) = m ((c.tc : Thread Cert.LastSIdeal.nD Cert.LastSIdeal.τ).loc Cert.LastSIdeal.main_arg4))
      ∧ θ_run (Cert.LastSRefIdeal.defs (F := Ideal)) (onTc (τ := Cert.LastSRefIdeal.τ) (Cert.LastSRefIdeal.main (F := Ideal))) ⟨m', fun _ => 0, g'⟩ (fun r => ∀ c : Dev Cert.LastSRefIdeal.nD,
          r.2.mem ((c.tc : Thread Cert.LastSRefIdeal.nD Cert.LastSRefIdeal.τ).loc Cert.LastSRefIdeal.main_v34) = v0 c
          ∧ r.2.mem ((c.tc : Thread Cert.LastSRefIdeal.nD Cert.LastSRefIdeal.τ).loc Cert.LastSRefIdeal.main_arg0) = m' ((c.tc : Thread Cert.LastSRefIdeal.nD Cert.LastSRefIdeal.τ).loc Cert.LastSRefIdeal.main_arg0)
          ∧ r.2.mem ((c.tc : Thread Cert.LastSRefIdeal.nD Cert.LastSRefIdeal.τ).loc Cert.LastSRefIdeal.main_arg1) = m' ((c.tc : Thread Cert.LastSRefIdeal.nD Cert.LastSRefIdeal.τ).loc Cert.LastSRefIdeal.main_arg1)
          ∧ r.2.mem ((c.tc : Thread Cert.LastSRefIdeal.nD Cert.LastSRefIdeal.τ).loc Cert.LastSRefIdeal.main_arg2) = m' ((c.tc : Thread Cert.LastSRefIdeal.nD Cert.LastSRefIdeal.τ).loc Cert.LastSRefIdeal.main_arg2)
          ∧ r.2.mem ((c.tc : Thread Cert.LastSRefIdeal.nD Cert.LastSRefIdeal.τ).loc Cert.LastSRefIdeal.main_arg3) = m' ((c.tc : Thread Cert.LastSRefIdeal.nD Cert.LastSRefIdeal.τ).loc Cert.LastSRefIdeal.main_arg3)
          ∧ r.2.mem ((c.tc : Thread Cert.LastSRefIdeal.nD Cert.LastSRefIdeal.τ).loc Cert.LastSRefIdeal.main_arg4) = m' ((c.tc : Thread Cert.LastSRefIdeal.nD Cert.LastSRefIdeal.τ).loc Cert.LastSRefIdeal.main_arg4))

def preserves_ConvS_ConvSIdeal : Prop :=
  True

def algebraic_ConvSIdeal_ConvSRefIdeal [hConvSIdeal : Cert.ConvSIdeal.Facts] [hConvSRefIdeal : Cert.ConvSRefIdeal.Facts] : Prop :=
  ∀ (m : (ℓ : Loc Cert.ConvSIdeal.nD Cert.ConvSIdeal.τ Cert.ConvSIdeal.sig) → Buf (Elt Ideal) ℓ) (g : Dev Cert.ConvSIdeal.nD → PrngReg)
    (m' : (ℓ : Loc Cert.ConvSRefIdeal.nD Cert.ConvSRefIdeal.τ Cert.ConvSRefIdeal.sig) → Buf (Elt Ideal) ℓ) (g' : Dev Cert.ConvSRefIdeal.nD → PrngReg), Pre_ConvSIdeal m →
    (∀ c : Dev Cert.ConvSIdeal.nD,
      m' ((c.tc : Thread Cert.ConvSRefIdeal.nD Cert.ConvSRefIdeal.τ).loc Cert.ConvSRefIdeal.main_arg0) = m ((c.tc : Thread Cert.ConvSIdeal.nD Cert.ConvSIdeal.τ).loc Cert.ConvSIdeal.main_arg0)
      ∧ m' ((c.tc : Thread Cert.ConvSRefIdeal.nD Cert.ConvSRefIdeal.τ).loc Cert.ConvSRefIdeal.main_arg1) = m ((c.tc : Thread Cert.ConvSIdeal.nD Cert.ConvSIdeal.τ).loc Cert.ConvSIdeal.main_arg1)
      ∧ m' ((c.tc : Thread Cert.ConvSRefIdeal.nD Cert.ConvSRefIdeal.τ).loc Cert.ConvSRefIdeal.main_arg2) = m ((c.tc : Thread Cert.ConvSIdeal.nD Cert.ConvSIdeal.τ).loc Cert.ConvSIdeal.main_arg2)
      ∧ m' ((c.tc : Thread Cert.ConvSRefIdeal.nD Cert.ConvSRefIdeal.τ).loc Cert.ConvSRefIdeal.main_arg3) = m ((c.tc : Thread Cert.ConvSIdeal.nD Cert.ConvSIdeal.τ).loc Cert.ConvSIdeal.main_arg3)
      ∧ m' ((c.tc : Thread Cert.ConvSRefIdeal.nD Cert.ConvSRefIdeal.τ).loc Cert.ConvSRefIdeal.main_arg4) = m ((c.tc : Thread Cert.ConvSIdeal.nD Cert.ConvSIdeal.τ).loc Cert.ConvSIdeal.main_arg4)
      ∧ m' ((c.tc : Thread Cert.ConvSRefIdeal.nD Cert.ConvSRefIdeal.τ).loc Cert.ConvSRefIdeal.main_arg5) = m ((c.tc : Thread Cert.ConvSIdeal.nD Cert.ConvSIdeal.τ).loc Cert.ConvSIdeal.main_arg5)) →
    ∃ (v0 : (c : Dev Cert.ConvSIdeal.nD) → Buf (Elt Ideal) ((c.tc : Thread Cert.ConvSIdeal.nD Cert.ConvSIdeal.τ).loc Cert.ConvSIdeal.main_v4_0)) (v1 : (c : Dev Cert.ConvSIdeal.nD) → Buf (Elt Ideal) ((c.tc : Thread Cert.ConvSIdeal.nD Cert.ConvSIdeal.τ).loc Cert.ConvSIdeal.main_v4_1)),
      θ_run (Cert.ConvSIdeal.defs (F := Ideal)) (onTc (τ := Cert.ConvSIdeal.τ) (Cert.ConvSIdeal.main (F := Ideal))) ⟨m, fun _ => 0, g⟩ (fun r => ∀ c : Dev Cert.ConvSIdeal.nD,
          r.2.mem ((c.tc : Thread Cert.ConvSIdeal.nD Cert.ConvSIdeal.τ).loc Cert.ConvSIdeal.main_v4_0) = v0 c
          ∧ r.2.mem ((c.tc : Thread Cert.ConvSIdeal.nD Cert.ConvSIdeal.τ).loc Cert.ConvSIdeal.main_v4_1) = v1 c
          ∧ r.2.mem ((c.tc : Thread Cert.ConvSIdeal.nD Cert.ConvSIdeal.τ).loc Cert.ConvSIdeal.main_arg0) = m ((c.tc : Thread Cert.ConvSIdeal.nD Cert.ConvSIdeal.τ).loc Cert.ConvSIdeal.main_arg0)
          ∧ r.2.mem ((c.tc : Thread Cert.ConvSIdeal.nD Cert.ConvSIdeal.τ).loc Cert.ConvSIdeal.main_arg1) = m ((c.tc : Thread Cert.ConvSIdeal.nD Cert.ConvSIdeal.τ).loc Cert.ConvSIdeal.main_arg1)
          ∧ r.2.mem ((c.tc : Thread Cert.ConvSIdeal.nD Cert.ConvSIdeal.τ).loc Cert.ConvSIdeal.main_arg2) = m ((c.tc : Thread Cert.ConvSIdeal.nD Cert.ConvSIdeal.τ).loc Cert.ConvSIdeal.main_arg2)
          ∧ r.2.mem ((c.tc : Thread Cert.ConvSIdeal.nD Cert.ConvSIdeal.τ).loc Cert.ConvSIdeal.main_arg3) = m ((c.tc : Thread Cert.ConvSIdeal.nD Cert.ConvSIdeal.τ).loc Cert.ConvSIdeal.main_arg3)
          ∧ r.2.mem ((c.tc : Thread Cert.ConvSIdeal.nD Cert.ConvSIdeal.τ).loc Cert.ConvSIdeal.main_arg4) = m ((c.tc : Thread Cert.ConvSIdeal.nD Cert.ConvSIdeal.τ).loc Cert.ConvSIdeal.main_arg4)
          ∧ r.2.mem ((c.tc : Thread Cert.ConvSIdeal.nD Cert.ConvSIdeal.τ).loc Cert.ConvSIdeal.main_arg5) = m ((c.tc : Thread Cert.ConvSIdeal.nD Cert.ConvSIdeal.τ).loc Cert.ConvSIdeal.main_arg5))
      ∧ θ_run (Cert.ConvSRefIdeal.defs (F := Ideal)) (onTc (τ := Cert.ConvSRefIdeal.τ) (Cert.ConvSRefIdeal.main (F := Ideal))) ⟨m', fun _ => 0, g'⟩ (fun r => ∀ c : Dev Cert.ConvSRefIdeal.nD,
          r.2.mem ((c.tc : Thread Cert.ConvSRefIdeal.nD Cert.ConvSRefIdeal.τ).loc Cert.ConvSRefIdeal.main_v43) = v0 c
          ∧ r.2.mem ((c.tc : Thread Cert.ConvSRefIdeal.nD Cert.ConvSRefIdeal.τ).loc Cert.ConvSRefIdeal.main_v45) = v1 c
          ∧ r.2.mem ((c.tc : Thread Cert.ConvSRefIdeal.nD Cert.ConvSRefIdeal.τ).loc Cert.ConvSRefIdeal.main_arg0) = m' ((c.tc : Thread Cert.ConvSRefIdeal.nD Cert.ConvSRefIdeal.τ).loc Cert.ConvSRefIdeal.main_arg0)
          ∧ r.2.mem ((c.tc : Thread Cert.ConvSRefIdeal.nD Cert.ConvSRefIdeal.τ).loc Cert.ConvSRefIdeal.main_arg1) = m' ((c.tc : Thread Cert.ConvSRefIdeal.nD Cert.ConvSRefIdeal.τ).loc Cert.ConvSRefIdeal.main_arg1)
          ∧ r.2.mem ((c.tc : Thread Cert.ConvSRefIdeal.nD Cert.ConvSRefIdeal.τ).loc Cert.ConvSRefIdeal.main_arg2) = m' ((c.tc : Thread Cert.ConvSRefIdeal.nD Cert.ConvSRefIdeal.τ).loc Cert.ConvSRefIdeal.main_arg2)
          ∧ r.2.mem ((c.tc : Thread Cert.ConvSRefIdeal.nD Cert.ConvSRefIdeal.τ).loc Cert.ConvSRefIdeal.main_arg3) = m' ((c.tc : Thread Cert.ConvSRefIdeal.nD Cert.ConvSRefIdeal.τ).loc Cert.ConvSRefIdeal.main_arg3)
          ∧ r.2.mem ((c.tc : Thread Cert.ConvSRefIdeal.nD Cert.ConvSRefIdeal.τ).loc Cert.ConvSRefIdeal.main_arg4) = m' ((c.tc : Thread Cert.ConvSRefIdeal.nD Cert.ConvSRefIdeal.τ).loc Cert.ConvSRefIdeal.main_arg4)
          ∧ r.2.mem ((c.tc : Thread Cert.ConvSRefIdeal.nD Cert.ConvSRefIdeal.τ).loc Cert.ConvSRefIdeal.main_arg5) = m' ((c.tc : Thread Cert.ConvSRefIdeal.nD Cert.ConvSRefIdeal.τ).loc Cert.ConvSRefIdeal.main_arg5))

def preserves_ProjS_ProjSIdeal : Prop :=
  True

def algebraic_ProjSIdeal_ProjSRefIdeal [hProjSIdeal : Cert.ProjSIdeal.Facts] [hProjSRefIdeal : Cert.ProjSRefIdeal.Facts] : Prop :=
  ∀ (m : (ℓ : Loc Cert.ProjSIdeal.nD Cert.ProjSIdeal.τ Cert.ProjSIdeal.sig) → Buf (Elt Ideal) ℓ) (g : Dev Cert.ProjSIdeal.nD → PrngReg)
    (m' : (ℓ : Loc Cert.ProjSRefIdeal.nD Cert.ProjSRefIdeal.τ Cert.ProjSRefIdeal.sig) → Buf (Elt Ideal) ℓ) (g' : Dev Cert.ProjSRefIdeal.nD → PrngReg), Pre_ProjSIdeal m →
    (∀ c : Dev Cert.ProjSIdeal.nD,
      m' ((c.tc : Thread Cert.ProjSRefIdeal.nD Cert.ProjSRefIdeal.τ).loc Cert.ProjSRefIdeal.main_arg0) = m ((c.tc : Thread Cert.ProjSIdeal.nD Cert.ProjSIdeal.τ).loc Cert.ProjSIdeal.main_arg0)
      ∧ m' ((c.tc : Thread Cert.ProjSRefIdeal.nD Cert.ProjSRefIdeal.τ).loc Cert.ProjSRefIdeal.main_arg1) = m ((c.tc : Thread Cert.ProjSIdeal.nD Cert.ProjSIdeal.τ).loc Cert.ProjSIdeal.main_arg1)
      ∧ m' ((c.tc : Thread Cert.ProjSRefIdeal.nD Cert.ProjSRefIdeal.τ).loc Cert.ProjSRefIdeal.main_arg2) = m ((c.tc : Thread Cert.ProjSIdeal.nD Cert.ProjSIdeal.τ).loc Cert.ProjSIdeal.main_arg2)
      ∧ m' ((c.tc : Thread Cert.ProjSRefIdeal.nD Cert.ProjSRefIdeal.τ).loc Cert.ProjSRefIdeal.main_arg3) = m ((c.tc : Thread Cert.ProjSIdeal.nD Cert.ProjSIdeal.τ).loc Cert.ProjSIdeal.main_arg3)) →
    ∃ (v0 : (c : Dev Cert.ProjSIdeal.nD) → Buf (Elt Ideal) ((c.tc : Thread Cert.ProjSIdeal.nD Cert.ProjSIdeal.τ).loc Cert.ProjSIdeal.main_v29_0)) (v1 : (c : Dev Cert.ProjSIdeal.nD) → Buf (Elt Ideal) ((c.tc : Thread Cert.ProjSIdeal.nD Cert.ProjSIdeal.τ).loc Cert.ProjSIdeal.main_v29_1)) (v2 : (c : Dev Cert.ProjSIdeal.nD) → Buf (Elt Ideal) ((c.tc : Thread Cert.ProjSIdeal.nD Cert.ProjSIdeal.τ).loc Cert.ProjSIdeal.main_v29_2)),
      θ_run (Cert.ProjSIdeal.defs (F := Ideal)) (onTc (τ := Cert.ProjSIdeal.τ) (Cert.ProjSIdeal.main (F := Ideal))) ⟨m, fun _ => 0, g⟩ (fun r => ∀ c : Dev Cert.ProjSIdeal.nD,
          r.2.mem ((c.tc : Thread Cert.ProjSIdeal.nD Cert.ProjSIdeal.τ).loc Cert.ProjSIdeal.main_v29_0) = v0 c
          ∧ r.2.mem ((c.tc : Thread Cert.ProjSIdeal.nD Cert.ProjSIdeal.τ).loc Cert.ProjSIdeal.main_v29_1) = v1 c
          ∧ r.2.mem ((c.tc : Thread Cert.ProjSIdeal.nD Cert.ProjSIdeal.τ).loc Cert.ProjSIdeal.main_v29_2) = v2 c
          ∧ r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
          ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1)
          ∧ r.2.mem ((c.tc : Thread Cert.ProjSIdeal.nD Cert.ProjSIdeal.τ).loc Cert.ProjSIdeal.main_arg2) = m ((c.tc : Thread Cert.ProjSIdeal.nD Cert.ProjSIdeal.τ).loc Cert.ProjSIdeal.main_arg2)
          ∧ r.2.mem ((c.tc : Thread Cert.ProjSIdeal.nD Cert.ProjSIdeal.τ).loc Cert.ProjSIdeal.main_arg3) = m ((c.tc : Thread Cert.ProjSIdeal.nD Cert.ProjSIdeal.τ).loc Cert.ProjSIdeal.main_arg3))
      ∧ θ_run (Cert.ProjSRefIdeal.defs (F := Ideal)) (onTc (τ := Cert.ProjSRefIdeal.τ) (Cert.ProjSRefIdeal.main (F := Ideal))) ⟨m', fun _ => 0, g'⟩ (fun r => ∀ c : Dev Cert.ProjSRefIdeal.nD,
          r.2.mem ((c.tc : Thread Cert.ProjSRefIdeal.nD Cert.ProjSRefIdeal.τ).loc Cert.ProjSRefIdeal.main_v20) = v0 c
          ∧ r.2.mem ((c.tc : Thread Cert.ProjSRefIdeal.nD Cert.ProjSRefIdeal.τ).loc Cert.ProjSRefIdeal.main_v21) = v1 c
          ∧ r.2.mem ((c.tc : Thread Cert.ProjSRefIdeal.nD Cert.ProjSRefIdeal.τ).loc Cert.ProjSRefIdeal.main_v28) = v2 c
          ∧ r.2.mem ((c.tc : Thread Cert.ProjSRefIdeal.nD Cert.ProjSRefIdeal.τ).loc Cert.ProjSRefIdeal.main_arg0) = m' ((c.tc : Thread Cert.ProjSRefIdeal.nD Cert.ProjSRefIdeal.τ).loc Cert.ProjSRefIdeal.main_arg0)
          ∧ r.2.mem ((c.tc : Thread Cert.ProjSRefIdeal.nD Cert.ProjSRefIdeal.τ).loc Cert.ProjSRefIdeal.main_arg1) = m' ((c.tc : Thread Cert.ProjSRefIdeal.nD Cert.ProjSRefIdeal.τ).loc Cert.ProjSRefIdeal.main_arg1)
          ∧ r.2.mem ((c.tc : Thread Cert.ProjSRefIdeal.nD Cert.ProjSRefIdeal.τ).loc Cert.ProjSRefIdeal.main_arg2) = m' ((c.tc : Thread Cert.ProjSRefIdeal.nD Cert.ProjSRefIdeal.τ).loc Cert.ProjSRefIdeal.main_arg2)
          ∧ r.2.mem ((c.tc : Thread Cert.ProjSRefIdeal.nD Cert.ProjSRefIdeal.τ).loc Cert.ProjSRefIdeal.main_arg3) = m' ((c.tc : Thread Cert.ProjSRefIdeal.nD Cert.ProjSRefIdeal.τ).loc Cert.ProjSRefIdeal.main_arg3))

def preserves_Pool_PoolIdeal : Prop :=
  True

def algebraic_PoolIdeal_PoolRefIdeal [hPoolIdeal : Cert.PoolIdeal.Facts] [hPoolRefIdeal : Cert.PoolRefIdeal.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)
      ∧ m' ((c.tc : Thread Cert.PoolRefIdeal.nD Cert.PoolRefIdeal.τ).loc Cert.PoolRefIdeal.main_arg3) = m ((c.tc : Thread Cert.PoolIdeal.nD Cert.PoolIdeal.τ).loc Cert.PoolIdeal.main_arg3)) →
    ∃ (v0 : (c : Dev Cert.PoolIdeal.nD) → Buf (Elt Ideal) ((c.tc : Thread Cert.PoolIdeal.nD Cert.PoolIdeal.τ).loc Cert.PoolIdeal.main_v3_0)) (v1 : (c : Dev Cert.PoolIdeal.nD) → Buf (Elt Ideal) ((c.tc : Thread Cert.PoolIdeal.nD Cert.PoolIdeal.τ).loc Cert.PoolIdeal.main_v3_1)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v3_0) = v0 c
          ∧ r.2.mem ((c.tc : Thread Cert.PoolIdeal.nD Cert.PoolIdeal.τ).loc Cert.PoolIdeal.main_v3_1) = v1 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
          ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v116) = v0 c
          ∧ r.2.mem ((c.tc : Thread Cert.PoolRefIdeal.nD Cert.PoolRefIdeal.τ).loc Cert.PoolRefIdeal.main_v114) = v1 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2)
          ∧ r.2.mem ((c.tc : Thread Cert.PoolRefIdeal.nD Cert.PoolRefIdeal.τ).loc Cert.PoolRefIdeal.main_arg3) = m' ((c.tc : Thread Cert.PoolRefIdeal.nD Cert.PoolRefIdeal.τ).loc Cert.PoolRefIdeal.main_arg3))

def preserves_PoolS_PoolSIdeal : Prop :=
  True

def algebraic_PoolSIdeal_PoolSRefIdeal [hPoolSIdeal : Cert.PoolSIdeal.Facts] [hPoolSRefIdeal : Cert.PoolSRefIdeal.Facts] : Prop :=
  ∀ (m : (ℓ : Loc Cert.PoolSIdeal.nD Cert.PoolSIdeal.τ Cert.PoolSIdeal.sig) → Buf (Elt Ideal) ℓ) (g : Dev Cert.PoolSIdeal.nD → PrngReg)
    (m' : (ℓ : Loc Cert.PoolSRefIdeal.nD Cert.PoolSRefIdeal.τ Cert.PoolSRefIdeal.sig) → Buf (Elt Ideal) ℓ) (g' : Dev Cert.PoolSRefIdeal.nD → PrngReg), Pre_PoolSIdeal m →
    (∀ c : Dev Cert.PoolSIdeal.nD,
      m' ((c.tc : Thread Cert.PoolSRefIdeal.nD Cert.PoolSRefIdeal.τ).loc Cert.PoolSRefIdeal.main_arg0) = m ((c.tc : Thread Cert.PoolSIdeal.nD Cert.PoolSIdeal.τ).loc Cert.PoolSIdeal.main_arg0)
      ∧ m' ((c.tc : Thread Cert.PoolSRefIdeal.nD Cert.PoolSRefIdeal.τ).loc Cert.PoolSRefIdeal.main_arg1) = m ((c.tc : Thread Cert.PoolSIdeal.nD Cert.PoolSIdeal.τ).loc Cert.PoolSIdeal.main_arg1)
      ∧ m' ((c.tc : Thread Cert.PoolSRefIdeal.nD Cert.PoolSRefIdeal.τ).loc Cert.PoolSRefIdeal.main_arg2) = m ((c.tc : Thread Cert.PoolSIdeal.nD Cert.PoolSIdeal.τ).loc Cert.PoolSIdeal.main_arg2)
      ∧ m' ((c.tc : Thread Cert.PoolSRefIdeal.nD Cert.PoolSRefIdeal.τ).loc Cert.PoolSRefIdeal.main_arg3) = m ((c.tc : Thread Cert.PoolSIdeal.nD Cert.PoolSIdeal.τ).loc Cert.PoolSIdeal.main_arg3)
      ∧ m' ((c.tc : Thread Cert.PoolSRefIdeal.nD Cert.PoolSRefIdeal.τ).loc Cert.PoolSRefIdeal.main_arg4) = m ((c.tc : Thread Cert.PoolSIdeal.nD Cert.PoolSIdeal.τ).loc Cert.PoolSIdeal.main_arg4)) →
    ∃ (v0 : (c : Dev Cert.PoolSIdeal.nD) → Buf (Elt Ideal) ((c.tc : Thread Cert.PoolSIdeal.nD Cert.PoolSIdeal.τ).loc Cert.PoolSIdeal.main_v4_0)) (v1 : (c : Dev Cert.PoolSIdeal.nD) → Buf (Elt Ideal) ((c.tc : Thread Cert.PoolSIdeal.nD Cert.PoolSIdeal.τ).loc Cert.PoolSIdeal.main_v4_1)),
      θ_run (Cert.PoolSIdeal.defs (F := Ideal)) (onTc (τ := Cert.PoolSIdeal.τ) (Cert.PoolSIdeal.main (F := Ideal))) ⟨m, fun _ => 0, g⟩ (fun r => ∀ c : Dev Cert.PoolSIdeal.nD,
          r.2.mem ((c.tc : Thread Cert.PoolSIdeal.nD Cert.PoolSIdeal.τ).loc Cert.PoolSIdeal.main_v4_0) = v0 c
          ∧ r.2.mem ((c.tc : Thread Cert.PoolSIdeal.nD Cert.PoolSIdeal.τ).loc Cert.PoolSIdeal.main_v4_1) = v1 c
          ∧ r.2.mem ((c.tc : Thread Cert.PoolSIdeal.nD Cert.PoolSIdeal.τ).loc Cert.PoolSIdeal.main_arg0) = m ((c.tc : Thread Cert.PoolSIdeal.nD Cert.PoolSIdeal.τ).loc Cert.PoolSIdeal.main_arg0)
          ∧ r.2.mem ((c.tc : Thread Cert.PoolSIdeal.nD Cert.PoolSIdeal.τ).loc Cert.PoolSIdeal.main_arg1) = m ((c.tc : Thread Cert.PoolSIdeal.nD Cert.PoolSIdeal.τ).loc Cert.PoolSIdeal.main_arg1)
          ∧ r.2.mem ((c.tc : Thread Cert.PoolSIdeal.nD Cert.PoolSIdeal.τ).loc Cert.PoolSIdeal.main_arg2) = m ((c.tc : Thread Cert.PoolSIdeal.nD Cert.PoolSIdeal.τ).loc Cert.PoolSIdeal.main_arg2)
          ∧ r.2.mem ((c.tc : Thread Cert.PoolSIdeal.nD Cert.PoolSIdeal.τ).loc Cert.PoolSIdeal.main_arg3) = m ((c.tc : Thread Cert.PoolSIdeal.nD Cert.PoolSIdeal.τ).loc Cert.PoolSIdeal.main_arg3)
          ∧ r.2.mem ((c.tc : Thread Cert.PoolSIdeal.nD Cert.PoolSIdeal.τ).loc Cert.PoolSIdeal.main_arg4) = m ((c.tc : Thread Cert.PoolSIdeal.nD Cert.PoolSIdeal.τ).loc Cert.PoolSIdeal.main_arg4))
      ∧ θ_run (Cert.PoolSRefIdeal.defs (F := Ideal)) (onTc (τ := Cert.PoolSRefIdeal.τ) (Cert.PoolSRefIdeal.main (F := Ideal))) ⟨m', fun _ => 0, g'⟩ (fun r => ∀ c : Dev Cert.PoolSRefIdeal.nD,
          r.2.mem ((c.tc : Thread Cert.PoolSRefIdeal.nD Cert.PoolSRefIdeal.τ).loc Cert.PoolSRefIdeal.main_v117) = v0 c
          ∧ r.2.mem ((c.tc : Thread Cert.PoolSRefIdeal.nD Cert.PoolSRefIdeal.τ).loc Cert.PoolSRefIdeal.main_v118) = v1 c
          ∧ r.2.mem ((c.tc : Thread Cert.PoolSRefIdeal.nD Cert.PoolSRefIdeal.τ).loc Cert.PoolSRefIdeal.main_arg0) = m' ((c.tc : Thread Cert.PoolSRefIdeal.nD Cert.PoolSRefIdeal.τ).loc Cert.PoolSRefIdeal.main_arg0)
          ∧ r.2.mem ((c.tc : Thread Cert.PoolSRefIdeal.nD Cert.PoolSRefIdeal.τ).loc Cert.PoolSRefIdeal.main_arg1) = m' ((c.tc : Thread Cert.PoolSRefIdeal.nD Cert.PoolSRefIdeal.τ).loc Cert.PoolSRefIdeal.main_arg1)
          ∧ r.2.mem ((c.tc : Thread Cert.PoolSRefIdeal.nD Cert.PoolSRefIdeal.τ).loc Cert.PoolSRefIdeal.main_arg2) = m' ((c.tc : Thread Cert.PoolSRefIdeal.nD Cert.PoolSRefIdeal.τ).loc Cert.PoolSRefIdeal.main_arg2)
          ∧ r.2.mem ((c.tc : Thread Cert.PoolSRefIdeal.nD Cert.PoolSRefIdeal.τ).loc Cert.PoolSRefIdeal.main_arg3) = m' ((c.tc : Thread Cert.PoolSRefIdeal.nD Cert.PoolSRefIdeal.τ).loc Cert.PoolSRefIdeal.main_arg3)
          ∧ r.2.mem ((c.tc : Thread Cert.PoolSRefIdeal.nD Cert.PoolSRefIdeal.τ).loc Cert.PoolSRefIdeal.main_arg4) = m' ((c.tc : Thread Cert.PoolSRefIdeal.nD Cert.PoolSRefIdeal.τ).loc Cert.PoolSRefIdeal.main_arg4))

def preserves_NsaPrompt_NsaPromptIdeal : Prop :=
  True

def Claim : Prop :=
  ∃ (hFfn : Cert.Ffn.Facts) (hFfnIdeal : Cert.FfnIdeal.Facts) (hFfnRefIdeal : Cert.FfnRefIdeal.Facts) (hLast : Cert.Last.Facts) (hLastIdeal : Cert.LastIdeal.Facts) (hLastRefIdeal : Cert.LastRefIdeal.Facts) (hCross : Cert.Cross.Facts) (hCrossIdeal : Cert.CrossIdeal.Facts) (hCrossRefIdeal : Cert.CrossRefIdeal.Facts) (hMemKv : Cert.MemKv.Facts) (hMemKvIdeal : Cert.MemKvIdeal.Facts) (hMemKvRefIdeal : Cert.MemKvRefIdeal.Facts) (hConv : Cert.Conv.Facts) (hConvIdeal : Cert.ConvIdeal.Facts) (hConvRefIdeal : Cert.ConvRefIdeal.Facts) (hProj : Cert.Proj.Facts) (hProjIdeal : Cert.ProjIdeal.Facts) (hProjRefIdeal : Cert.ProjRefIdeal.Facts) (hOut : Cert.Out.Facts) (hOutIdeal : Cert.OutIdeal.Facts) (hOutRefIdeal : Cert.OutRefIdeal.Facts) (hLastS : Cert.LastS.Facts) (hLastSIdeal : Cert.LastSIdeal.Facts) (hLastSRefIdeal : Cert.LastSRefIdeal.Facts) (hConvS : Cert.ConvS.Facts) (hConvSIdeal : Cert.ConvSIdeal.Facts) (hConvSRefIdeal : Cert.ConvSRefIdeal.Facts) (hProjS : Cert.ProjS.Facts) (hProjSIdeal : Cert.ProjSIdeal.Facts) (hProjSRefIdeal : Cert.ProjSRefIdeal.Facts) (hPool : Cert.Pool.Facts) (hPoolIdeal : Cert.PoolIdeal.Facts) (hPoolRefIdeal : Cert.PoolRefIdeal.Facts) (hPoolS : Cert.PoolS.Facts) (hPoolSIdeal : Cert.PoolSIdeal.Facts) (hPoolSRefIdeal : Cert.PoolSRefIdeal.Facts) (hNsaPrompt : Cert.NsaPrompt.Facts) (hNsaPromptIdeal : Cert.NsaPromptIdeal.Facts),
    quiescent_Ffn (hFfn := hFfn)
    ∧ quiescent_FfnIdeal (hFfnIdeal := hFfnIdeal)
    ∧ quiescent_FfnRefIdeal (hFfnRefIdeal := hFfnRefIdeal)
    ∧ quiescent_Last (hLast := hLast)
    ∧ quiescent_LastIdeal (hLastIdeal := hLastIdeal)
    ∧ quiescent_LastRefIdeal (hLastRefIdeal := hLastRefIdeal)
    ∧ quiescent_Cross (hCross := hCross)
    ∧ quiescent_CrossIdeal (hCrossIdeal := hCrossIdeal)
    ∧ quiescent_CrossRefIdeal (hCrossRefIdeal := hCrossRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_Conv (hConv := hConv)
    ∧ quiescent_ConvIdeal (hConvIdeal := hConvIdeal)
    ∧ quiescent_ConvRefIdeal (hConvRefIdeal := hConvRefIdeal)
    ∧ quiescent_Proj (hProj := hProj)
    ∧ quiescent_ProjIdeal (hProjIdeal := hProjIdeal)
    ∧ quiescent_ProjRefIdeal (hProjRefIdeal := hProjRefIdeal)
    ∧ quiescent_Out (hOut := hOut)
    ∧ quiescent_OutIdeal (hOutIdeal := hOutIdeal)
    ∧ quiescent_OutRefIdeal (hOutRefIdeal := hOutRefIdeal)
    ∧ quiescent_LastS (hLastS := hLastS)
    ∧ quiescent_LastSIdeal (hLastSIdeal := hLastSIdeal)
    ∧ quiescent_LastSRefIdeal (hLastSRefIdeal := hLastSRefIdeal)
    ∧ quiescent_ConvS (hConvS := hConvS)
    ∧ quiescent_ConvSIdeal (hConvSIdeal := hConvSIdeal)
    ∧ quiescent_ConvSRefIdeal (hConvSRefIdeal := hConvSRefIdeal)
    ∧ quiescent_ProjS (hProjS := hProjS)
    ∧ quiescent_ProjSIdeal (hProjSIdeal := hProjSIdeal)
    ∧ quiescent_ProjSRefIdeal (hProjSRefIdeal := hProjSRefIdeal)
    ∧ quiescent_Pool (hPool := hPool)
    ∧ quiescent_PoolIdeal (hPoolIdeal := hPoolIdeal)
    ∧ quiescent_PoolRefIdeal (hPoolRefIdeal := hPoolRefIdeal)
    ∧ quiescent_PoolS (hPoolS := hPoolS)
    ∧ quiescent_PoolSIdeal (hPoolSIdeal := hPoolSIdeal)
    ∧ quiescent_PoolSRefIdeal (hPoolSRefIdeal := hPoolSRefIdeal)
    ∧ quiescent_NsaPrompt (hNsaPrompt := hNsaPrompt)
    ∧ quiescent_NsaPromptIdeal (hNsaPromptIdeal := hNsaPromptIdeal)
    ∧ preserves_Ffn_FfnIdeal
    ∧ algebraic_FfnIdeal_FfnRefIdeal (hFfnIdeal := hFfnIdeal) (hFfnRefIdeal := hFfnRefIdeal)
    ∧ preserves_Last_LastIdeal
    ∧ algebraic_LastIdeal_LastRefIdeal (hLastIdeal := hLastIdeal) (hLastRefIdeal := hLastRefIdeal)
    ∧ preserves_Cross_CrossIdeal
    ∧ algebraic_CrossIdeal_CrossRefIdeal (hCrossIdeal := hCrossIdeal) (hCrossRefIdeal := hCrossRefIdeal)
    ∧ preserves_MemKv_MemKvIdeal
    ∧ algebraic_MemKvIdeal_MemKvRefIdeal (hMemKvIdeal := hMemKvIdeal) (hMemKvRefIdeal := hMemKvRefIdeal)
    ∧ preserves_Conv_ConvIdeal
    ∧ algebraic_ConvIdeal_ConvRefIdeal (hConvIdeal := hConvIdeal) (hConvRefIdeal := hConvRefIdeal)
    ∧ preserves_Proj_ProjIdeal
    ∧ algebraic_ProjIdeal_ProjRefIdeal (hProjIdeal := hProjIdeal) (hProjRefIdeal := hProjRefIdeal)
    ∧ preserves_Out_OutIdeal
    ∧ algebraic_OutIdeal_OutRefIdeal (hOutIdeal := hOutIdeal) (hOutRefIdeal := hOutRefIdeal)
    ∧ preserves_LastS_LastSIdeal
    ∧ algebraic_LastSIdeal_LastSRefIdeal (hLastSIdeal := hLastSIdeal) (hLastSRefIdeal := hLastSRefIdeal)
    ∧ preserves_ConvS_ConvSIdeal
    ∧ algebraic_ConvSIdeal_ConvSRefIdeal (hConvSIdeal := hConvSIdeal) (hConvSRefIdeal := hConvSRefIdeal)
    ∧ preserves_ProjS_ProjSIdeal
    ∧ algebraic_ProjSIdeal_ProjSRefIdeal (hProjSIdeal := hProjSIdeal) (hProjSRefIdeal := hProjSRefIdeal)
    ∧ preserves_Pool_PoolIdeal
    ∧ algebraic_PoolIdeal_PoolRefIdeal (hPoolIdeal := hPoolIdeal) (hPoolRefIdeal := hPoolRefIdeal)
    ∧ preserves_PoolS_PoolSIdeal
    ∧ algebraic_PoolSIdeal_PoolSRefIdeal (hPoolSIdeal := hPoolSIdeal) (hPoolSRefIdeal := hPoolSRefIdeal)
    ∧ preserves_NsaPrompt_NsaPromptIdeal
-- ==== Ffn.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S512x1024 : Shape := ⟨2, ![512, 1024]⟩
abbrev S1024x1408 : Shape := ⟨2, ![1024, 1408]⟩
abbrev S1408x1024 : Shape := ⟨2, ![1408, 1024]⟩
abbrev S512 : Shape := ⟨1, ![512]⟩
abbrev S512x1 : Shape := ⟨2, ![512, 1]⟩
abbrev S512x1408 : Shape := ⟨2, ![512, 1408]⟩

abbrev nBuf : Space → Nat
  | .hbm => 8
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024x5632, .bf16⟩
  | .hbm, ⟨5, _⟩ => ⟨S2816x1024, .bf16⟩
  | .hbm, ⟨6, _⟩ => ⟨S1x1024, .f32⟩
  | .hbm, ⟨7, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1408x1024, .bf16⟩
  | .local _ .vmem, ⟨8, _⟩ => ⟨S1408x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32 : BitVec 32 := 1#32
  let v22 : BitVec 1 := Scalar.cmpi .eq arg1 c1_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnRefIdeal.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S16384x2816 : Shape := ⟨2, ![16384, 2816]⟩

abbrev nBuf : Space → Nat
  | .hbm => 38
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x5632, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S_, .f32⟩
  | .hbm, ⟨26, _⟩ => ⟨S16384x2816, .f32⟩
  | .hbm, ⟨27, _⟩ => ⟨S16384x2816, .f32⟩
  | .hbm, ⟨28, _⟩ => ⟨S_, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x1024, .f32⟩
  | .hbm, ⟨34, _⟩ => ⟨S_, .f32⟩
  | .hbm, ⟨35, _⟩ => ⟨S16384x1024, .f32⟩
  | .hbm, ⟨36, _⟩ => ⟨S16384x1024, .f32⟩
  | .hbm, ⟨37, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩

abbrev nD : Nat := 1
abbrev τ : Topo := Topo.v7x

variable {F : FTy → Type} [FloatOps F]
-- ==== Last.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S512x1024 : Shape := ⟨2, ![512, 1024]⟩
abbrev S1024x1408 : Shape := ⟨2, ![1024, 1408]⟩
abbrev S1408x1024 : Shape := ⟨2, ![1408, 1024]⟩
abbrev S512 : Shape := ⟨1, ![512]⟩
abbrev S512x1 : Shape := ⟨2, ![512, 1]⟩
abbrev S512x1408 : Shape := ⟨2, ![512, 1408]⟩

abbrev nBuf : Space → Nat
  | .hbm => 10
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S1024x5632, .bf16⟩
  | .hbm, ⟨6, _⟩ => ⟨S2816x1024, .bf16⟩
  | .hbm, ⟨7, _⟩ => ⟨S1x1024, .f32⟩
  | .hbm, ⟨8, _⟩ => ⟨S1x1024, .f32⟩
  | .hbm, ⟨9, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1408x1024, .bf16⟩
  | .local _ .vmem, ⟨8, _⟩ => ⟨S1408x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32 : BitVec 32 := 1#32
  let v22 : BitVec 1 := Scalar.cmpi .eq arg1 c1_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== LastIdeal.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S512x1024 : Shape := ⟨2, ![512, 1024]⟩
abbrev S1024x1408 : Shape := ⟨2, ![1024, 1408]⟩
abbrev S1408x1024 : Shape := ⟨2, ![1408, 1024]⟩
abbrev S512 : Shape := ⟨1, ![512]⟩
abbrev S512x1 : Shape := ⟨2, ![512, 1]⟩
abbrev S512x1408 : Shape := ⟨2, ![512, 1408]⟩

abbrev nBuf : Space → Nat
  | .hbm => 10
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S1024x5632, .bf16⟩
  | .hbm, ⟨6, _⟩ => ⟨S2816x1024, .bf16⟩
  | .hbm, ⟨7, _⟩ => ⟨S1x1024, .f32⟩
  | .hbm, ⟨8, _⟩ => ⟨S1x1024, .f32⟩
  | .hbm, ⟨9, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1408x1024, .bf16⟩
  | .local _ .vmem, ⟨8, _⟩ => ⟨S1408x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32 : BitVec 32 := 1#32
  let v22 : BitVec 1 := Scalar.cmpi .eq arg1 c1_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== LastRefIdeal.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S16384x2816 : Shape := ⟨2, ![16384, 2816]⟩

abbrev nBuf : Space → Nat
  | .hbm => 55
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x5632, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S16384x2816, .f32⟩
  | .hbm, ⟨26, _⟩ => ⟨S_, .f32⟩
  | .hbm, ⟨27, _⟩ => ⟨S16384x2816, .f32⟩
  | .hbm, ⟨28, _⟩ => ⟨S16384x2816, .f32⟩
  | .hbm, ⟨29, _⟩ => ⟨S_, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x1024, .f32⟩
  | .hbm, ⟨35, _⟩ => ⟨S_, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S_, .f32⟩
  | .hbm, ⟨41, _⟩ => ⟨S16384, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S16384x1, .f32⟩
  | .hbm, ⟨50, _⟩ => ⟨S16384x1024, .f32⟩
  | .hbm, ⟨51, _⟩ => ⟨S16384x1024, .f32⟩
  | .hbm, ⟨52, _⟩ => ⟨S1x1024, .f32⟩
  | .hbm, ⟨53, _⟩ => ⟨S16384x1024, .f32⟩
  | .hbm, ⟨54, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩

abbrev nD : Nat := 1
abbrev τ : Topo := Topo.v7x

variable {F : FTy → Type} [FloatOps F]
-- ==== Cross.lean ====
abbrev S16384x1024 : Shape := ⟨2, ![16384, 1024]⟩
abbrev S1024 : Shape := ⟨1, ![1024]⟩
abbrev S1024x1024 : Shape := ⟨2, ![1024, 1024]⟩
abbrev S1024x2048 : Shape := ⟨2, ![1024, 2048]⟩
abbrev S1x1024 : Shape := ⟨2, ![1, 1024]⟩
abbrev S512x1024 : Shape := ⟨2, ![512, 1024]⟩
abbrev S256x2048 : Shape := ⟨2, ![256, 2048]⟩
abbrev S512 : Shape := ⟨1, ![512]⟩
abbrev S512x1 : Shape := ⟨2, ![512, 1]⟩
abbrev S256x256 : Shape := ⟨2, ![256, 256]⟩
abbrev S512x256 : Shape := ⟨2, ![512, 256]⟩

abbrev nBuf : Space → Nat
  | .hbm => 9
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1024, .f32⟩
  | .hbm, ⟨3, _⟩ => ⟨S1024x2048, .f32⟩
  | .hbm, ⟨4, _⟩ => ⟨S1024x1024, .f32⟩
  | .hbm, ⟨5, _⟩ => ⟨S1024x1024, .bf16⟩
  | .hbm, ⟨6, _⟩ => ⟨S1024x1024, .bf16⟩
  | .hbm, ⟨7, _⟩ => ⟨S1x1024, .f32⟩
  | .hbm, ⟨8, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S256x2048, .f32⟩
  | .local _ .vmem, ⟨5, _⟩ => ⟨S256x2048, .f32⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== CrossRefIdeal.lean ====
abbrev S16384x1024 : Shape := ⟨2, ![16384, 1024]⟩
abbrev S1024 : Shape := ⟨1, ![1024]⟩
abbrev S1024x1024 : Shape := ⟨2, ![1024, 1024]⟩
abbrev S1024x2048 : Shape := ⟨2, ![1024, 2048]⟩
abbrev S4x4096x1024 : Shape := ⟨3, ![4, 4096, 1024]⟩
abbrev S4x256x2x4x256 : Shape := ⟨5, ![4, 256, 2, 4, 256]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x4x256 : Shape := ⟨4, ![4, 4096, 4, 256]⟩
abbrev S4x256x1x4x256 : Shape := ⟨5, ![4, 256, 1, 4, 256]⟩
abbrev S4x256x4x256 : Shape := ⟨4, ![4, 256, 4, 256]⟩
abbrev S4x4x4096x256 : Shape := ⟨4, ![4, 4, 4096, 256]⟩
abbrev S4x4x4096 : Shape := ⟨3, ![4, 4, 4096]⟩
abbrev S4x4x4096x1 : Shape := ⟨4, ![4, 4, 4096, 1]⟩
abbrev S4x4x256x4096 : Shape := ⟨4, ![4, 4, 256, 4096]⟩

abbrev nBuf : Space → Nat
  | .hbm => 53
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1024, .f32⟩
  | .hbm, ⟨3, _⟩ => ⟨S1024x2048, .f32⟩
  | .hbm, ⟨4, _⟩ => ⟨S1024x1024, .f32⟩
  | .hbm, ⟨5, _⟩ => ⟨S4x4096x1024, .f32⟩
  | .hbm, ⟨6, _⟩ => ⟨S4x256x2x4x256, .f32⟩
  | .hbm, ⟨7, _⟩ => ⟨S4x4096x1024, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S4x4096x1, .f32⟩
  | .hbm, ⟨18, _⟩ => ⟨S4x4096x1024, .f32⟩
  | .hbm, ⟨19, _⟩ => ⟨S4x4096x1024, .f32⟩
  | .hbm, ⟨20, _⟩ => ⟨S1x1x1024, .f32⟩
  | .hbm, ⟨21, _⟩ => ⟨S4x4096x1024, .f32⟩
  | .hbm, ⟨22, _⟩ => ⟨S4x4096x1024, .f32⟩
  | .hbm, ⟨23, _⟩ => ⟨S4x4096x1024, .f32⟩
  | .hbm, ⟨24, _⟩ => ⟨S4x4096x4x256, .f32⟩
  | .hbm, ⟨25, _⟩ => ⟨S4x256x1x4x256, .f32⟩
  | .hbm, ⟨26, _⟩ => ⟨S4x256x4x256, .f32⟩
  | .hbm, ⟨27, _⟩ => ⟨S4x4x4096x256, .f32⟩
  | .hbm, ⟨28, _⟩ => ⟨S_, .f32⟩
  | .hbm, ⟨29, _⟩ => ⟨S4x4x4096x256, .f32⟩
  | .hbm, ⟨30, _⟩ => ⟨S4x4x4096x256, .f32⟩
  | .hbm, ⟨31, _⟩ => ⟨S_, .f32⟩
  | .hbm, ⟨32, _⟩ => ⟨S4x4x4096, .f32⟩
  | .hbm, ⟨33, _⟩ => ⟨S_, .f32⟩
  | .hbm, ⟨34, _⟩ => ⟨S4x4x4096, .f32⟩
  | .hbm, ⟨35, _⟩ => ⟨S4x4x4096, .f32⟩
  | .hbm, ⟨36, _⟩ => ⟨S4x4x4096x1, .f32⟩
  | .hbm, ⟨37, _⟩ => ⟨S4x4x4096x256, .f32⟩
  | .hbm, ⟨38, _⟩ => ⟨S4x4x4096x256, .f32⟩
  | .hbm, ⟨39, _⟩ => ⟨S4x4x4096x256, .f32⟩
  | .hbm, ⟨40, _⟩ => ⟨S_, .f32⟩
  | .hbm, ⟨41, _⟩ => ⟨S4x4x4096, .f32⟩
  | .hbm, ⟨42, _⟩ => ⟨S4x4x4096x1, .f32⟩
  | .hbm, ⟨43, _⟩ => ⟨S4x4x4096x256, .f32⟩
  | .hbm, ⟨44, _⟩ => ⟨S4x4x4096x256, .f32⟩
  | .hbm, ⟨45, _⟩ => ⟨S4x256x1x4x256, .f32⟩
  | .hbm, ⟨46, _⟩ => ⟨S4x256x4x256, .f32⟩
  | .hbm, ⟨47, _⟩ => ⟨S4x4x256x4096, .f32⟩
  | .hbm, ⟨48, _⟩ => ⟨S4x4096x4x256, .f32⟩
  | .hbm, ⟨49, _⟩ => ⟨S4x4096x1024, .f32⟩
  | .hbm, ⟨50, _⟩ => ⟨S4x4096x1024, .f32⟩
  | .hbm, ⟨51, _⟩ => ⟨S4x4096x1024, .f32⟩
  | .hbm, ⟨52, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩

abbrev nD : Nat := 1
abbrev τ : Topo := Topo.v7x

variable {F : FTy → Type} [FloatOps F]
-- ==== MemKv.lean ====
abbrev S1024x1024 : Shape := ⟨2, ![1024, 1024]⟩
abbrev S1024 : Shape := ⟨1, ![1024]⟩
abbrev S1024x2048 : Shape := ⟨2, ![1024, 2048]⟩
abbrev S1x1024 : Shape := ⟨2, ![1, 1024]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 6
  | .smem => 0
  | _ => 0

abbrev bufTy : (tb : Table) → Fin (tcTables nBuf tb) → BufTy
  | .hbm, ⟨0, _⟩ => ⟨S1024x1024, .f32⟩
  | .hbm, ⟨1, _⟩ => ⟨S1024, .f32⟩
  | .hbm, ⟨2, _⟩ => ⟨S1024x2048, .f32⟩
  | .hbm, ⟨3, _⟩ => ⟨S1024x2048, .bf16⟩
  | .hbm, ⟨4, _⟩ => ⟨S1x1024, .f32⟩
  | .hbm, ⟨5, _⟩ => ⟨S1024x2048, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S512x2048, .f32⟩
  | .local _ .vmem, ⟨5, _⟩ => ⟨S512x2048, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MemKvRefIdeal.lean ====
abbrev S1024x1024 : Shape := ⟨2, ![1024, 1024]⟩
abbrev S1024 : Shape := ⟨1, ![1024]⟩
abbrev S1024x2048 : Shape := ⟨2, ![1024, 2048]⟩
abbrev S_ : Shape := ⟨0, ![]⟩
abbrev S1024x1 : Shape := ⟨2, ![1024, 1]⟩
abbrev S1x1024 : Shape := ⟨2, ![1, 1024]⟩

abbrev nBuf : Space → Nat
  | .hbm => 20
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024, .f32⟩
  | .hbm, ⟨2, _⟩ => ⟨S1024x2048, .f32⟩
  | .hbm, ⟨3, _⟩ => ⟨S1024x1024, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S_, .f32⟩
  | .hbm, ⟨8, _⟩ => ⟨S1024x1, .f32⟩
  | .hbm, ⟨9, _⟩ => ⟨S1024x1, .f32⟩
  | .hbm, ⟨10, _⟩ => ⟨S_, .f32⟩
  | .hbm, ⟨11, _⟩ => ⟨S1024x1, .f32⟩
  | .hbm, ⟨12, _⟩ => ⟨S1024x1, .f32⟩
  | .hbm, ⟨13, _⟩ => ⟨S1024x1, .f32⟩
  | .hbm, ⟨14, _⟩ => ⟨S1024x1024, .f32⟩
  | .hbm, ⟨15, _⟩ => ⟨S1024x1024, .f32⟩
  | .hbm, ⟨16, _⟩ => ⟨S1x1024, .f32⟩
  | .hbm, ⟨17, _⟩ => ⟨S1024x1024, .f32⟩
  | .hbm, ⟨18, _⟩ => ⟨S1024x1024, .f32⟩
  | .hbm, ⟨19, _⟩ => ⟨S1024x2048, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Conv.lean ====
abbrev S16384x1024 : Shape := ⟨2, ![16384, 1024]⟩
abbrev S1024 : Shape := ⟨1, ![1024]⟩
abbrev S1024x3072 : Shape := ⟨2, ![1024, 3072]⟩
abbrev S3x1024 : Shape := ⟨2, ![3, 1024]⟩
abbrev S1024x1024 : Shape := ⟨2, ![1024, 1024]⟩
abbrev S1x1024 : Shape := ⟨2, ![1, 1024]⟩
abbrev S4x2x1024 : Shape := ⟨3, ![4, 2, 1024]⟩
abbrev S512x1024 : Shape := ⟨2, ![512, 1024]⟩
abbrev S1x2x1024 : Shape := ⟨3, ![1, 2, 1024]⟩
abbrev S8x1024 : Shape := ⟨2, ![8, 1024]⟩
abbrev S512 : Shape := ⟨1, ![512]⟩
abbrev S512x1 : Shape := ⟨2, ![512, 1]⟩
abbrev S512x3072 : Shape := ⟨2, ![512, 3072]⟩
abbrev S2x1024 : Shape := ⟨2, ![2, 1024]⟩

abbrev nBuf : Space → Nat
  | .hbm => 10
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3072, .f32⟩
  | .hbm, ⟨3, _⟩ => ⟨S3x1024, .f32⟩
  | .hbm, ⟨4, _⟩ => ⟨S1024x1024, .f32⟩
  | .hbm, ⟨5, _⟩ => ⟨S1024x3072, .bf16⟩
  | .hbm, ⟨6, _⟩ => ⟨S1024x1024, .bf16⟩
  | .hbm, ⟨7, _⟩ => ⟨S1x1024, .f32⟩
  | .hbm, ⟨8, _⟩ => ⟨S16384x1024, .f32⟩
  | .hbm, ⟨9, _⟩ => ⟨S4x2x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S3x1024, .f32⟩
  | .local _ .vmem, ⟨5, _⟩ => ⟨S1024x1024, .bf16⟩
  | .local _ .vmem, ⟨6, _⟩ => ⟨S512x1024, .f32⟩
  | .local _ .vmem, ⟨7, _⟩ => ⟨S512x1024, .f32⟩
  | .local _ .vmem, ⟨8, _⟩ => ⟨S1x2x1024, .f32⟩
  | .local _ .vmem, ⟨9, _⟩ => ⟨S1x2x1024, .f32⟩
  | .local _ .vmem, ⟨10, _⟩ => ⟨S8x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v71 : BitVec 1 := Scalar.cmpi .eq arg1 c7_i32
  let v72 : BitVec 32 := Scalar.extui v71
  let c0_i32_23 : BitVec 32 := 0#32
  let v73 : BitVec 1 := Scalar.cmpi .ne v72 c0_i32_23
  v73

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ConvRefIdeal.lean ====
abbrev S16384x1024 : Shape := ⟨2, ![16384, 1024]⟩
abbrev S1024 : Shape := ⟨1, ![1024]⟩
abbrev S1024x3072 : Shape := ⟨2, ![1024, 3072]⟩
abbrev S3x1024 : Shape := ⟨2, ![3, 1024]⟩
abbrev S1024x1024 : Shape := ⟨2, ![1024, 1024]⟩
abbrev S4x4096x1024 : Shape := ⟨3, ![4, 4096, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x3072 : Shape := ⟨3, ![4, 4096, 3072]⟩
abbrev S4x2x1024 : Shape := ⟨3, ![4, 2, 1024]⟩
abbrev S4x4098x1024 : Shape := ⟨3, ![4, 4098, 1024]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3072, .f32⟩
  | .hbm, ⟨3, _⟩ => ⟨S3x1024, .f32⟩
  | .hbm, ⟨4, _⟩ => ⟨S1024x1024, .f32⟩
  | .hbm, ⟨5, _⟩ => ⟨S4x4096x1024, .f32⟩
  | .hbm, ⟨6, _⟩ => ⟨S4x4096x1024, .f32⟩
  | .hbm, ⟨7, _⟩ => ⟨S_, .f32⟩
  | .hbm, ⟨8, _⟩ => ⟨S4x4096, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S4x4096x1, .f32⟩
  | .hbm, ⟨17, _⟩ => ⟨S4x4096x1024, .f32⟩
  | .hbm, ⟨18, _⟩ => ⟨S4x4096x1024, .f32⟩
  | .hbm, ⟨19, _⟩ => ⟨S1x1x1024, .f32⟩
  | .hbm, ⟨20, _⟩ => ⟨S4x4096x1024, .f32⟩
  | .hbm, ⟨21, _⟩ => ⟨S4x4096x1024, .f32⟩
  | .hbm, ⟨22, _⟩ => ⟨S4x4096x3072, .f32⟩
  | .hbm, ⟨23, _⟩ => ⟨S4x4096x1024, .f32⟩
  | .hbm, ⟨24, _⟩ => ⟨S4x4096x1024, .f32⟩
  | .hbm, ⟨25, _⟩ => ⟨S4x4096x1024, .f32⟩
  | .hbm, ⟨26, _⟩ => ⟨S4x4096x1024, .f32⟩
  | .hbm, ⟨27, _⟩ => ⟨S_, .f32⟩
  | .hbm, ⟨28, _⟩ => ⟨S4x2x1024, .f32⟩
  | .hbm, ⟨29, _⟩ => ⟨S4x4098x1024, .f32⟩
  | .hbm, ⟨30, _⟩ => ⟨S1x1024, .f32⟩
  | .hbm, ⟨31, _⟩ => ⟨S1024, .f32⟩
  | .hbm, ⟨32, _⟩ => ⟨S4x4096x1024, .f32⟩
  | .hbm, ⟨33, _⟩ => ⟨S1x1x1024, .f32⟩
  | .hbm, ⟨34, _⟩ => ⟨S4x4096x1024, .f32⟩
  | .hbm, ⟨35, _⟩ => ⟨S4x4096x1024, .f32⟩
  | .hbm, ⟨36, _⟩ => ⟨S1x1024, .f32⟩
  | .hbm, ⟨37, _⟩ => ⟨S1024, .f32⟩
  | .hbm, ⟨38, _⟩ => ⟨S4x4096x1024, .f32⟩
  | .hbm, ⟨39, _⟩ => ⟨S1x1x1024, .f32⟩
  | .hbm, ⟨40, _⟩ => ⟨S4x4096x1024, .f32⟩
  | .hbm, ⟨41, _⟩ => ⟨S4x4096x1024, .f32⟩
  | .hbm, ⟨42, _⟩ => ⟨S4x4096x1024, .f32⟩
  | .hbm, ⟨43, _⟩ => ⟨S1x1024, .f32⟩
  | .hbm, ⟨44, _⟩ => ⟨S1024, .f32⟩
  | .hbm, ⟨45, _⟩ => ⟨S4x4096x1024, .f32⟩
  | .hbm, ⟨46, _⟩ => ⟨S1x1x1024, .f32⟩
  | .hbm, ⟨47, _⟩ => ⟨S4x4096x1024, .f32⟩
  | .hbm, ⟨48, _⟩ => ⟨S4x4096x1024, .f32⟩
  | .hbm, ⟨49, _⟩ => ⟨S4x4096x1024, .f32⟩
  | .hbm, ⟨50, _⟩ => ⟨S4x4096x1024, .f32⟩
  | .hbm, ⟨51, _⟩ => ⟨S4x4096x1024, .f32⟩
  | .hbm, ⟨52, _⟩ => ⟨S4x4096x1024, .f32⟩
  | .hbm, ⟨53, _⟩ => ⟨S16384x1024, .f32⟩
  | .hbm, ⟨54, _⟩ => ⟨S4x2x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩

abbrev nD : Nat := 1
abbrev τ : Topo := Topo.v7x

variable {F : FTy → Type} [FloatOps F]
-- ==== Proj.lean ====
abbrev S16384x1024 : Shape := ⟨2, ![16384, 1024]⟩
abbrev S1024 : Shape := ⟨1, ![1024]⟩
abbrev S1024x2608 : Shape := ⟨2, ![1024, 2608]⟩
abbrev S2x64x64 : Shape := ⟨3, ![2, 64, 64]⟩
abbrev S1024x1024 : Shape := ⟨2, ![1024, 1024]⟩
abbrev S1024x1536 : Shape := ⟨2, ![1024, 1536]⟩
abbrev S1024x3x2x4x64 : Shape := ⟨5, ![1024, 3, 2, 4, 64]⟩
abbrev S1024x3x4x2x64 : Shape := ⟨5, ![1024, 3, 4, 2, 64]⟩
abbrev S1024x48 : Shape := ⟨2, ![1024, 48]⟩
abbrev S1024x4x12 : Shape := ⟨3, ![1024, 4, 12]⟩
abbrev S_ : Shape := ⟨0, ![]⟩
abbrev S1024x4x128 : Shape := ⟨3, ![1024, 4, 128]⟩
abbrev S1024x512 : Shape := ⟨2, ![1024, 512]⟩
abbrev S1x64x64 : Shape := ⟨3, ![1, 64, 64]⟩
abbrev S64x64 : Shape := ⟨2, ![64, 64]⟩
abbrev S64x128 : Shape := ⟨2, ![64, 128]⟩
abbrev S1x64x1x64 : Shape := ⟨4, ![1, 64, 1, 64]⟩
abbrev S1x64x4x64 : Shape := ⟨4, ![1, 64, 4, 64]⟩
abbrev S64x256 : Shape := ⟨2, ![64, 256]⟩
abbrev S64x512 : Shape := ⟨2, ![64, 512]⟩
abbrev S1x1024 : Shape := ⟨2, ![1, 1024]⟩
abbrev S12x16384x128 : Shape := ⟨3, ![12, 16384, 128]⟩
abbrev S4x16384x128 : Shape := ⟨3, ![4, 16384, 128]⟩
abbrev S4x256x128 : Shape := ⟨3, ![4, 256, 128]⟩
abbrev S4x4x5120x128 : Shape := ⟨4, ![4, 4, 5120, 128]⟩
abbrev S512x1024 : Shape := ⟨2, ![512, 1024]⟩
abbrev S12x512x128 : Shape := ⟨3, ![12, 512, 128]⟩
abbrev S4x512x128 : Shape := ⟨3, ![4, 512, 128]⟩
abbrev S4x8x128 : Shape := ⟨3, ![4, 8, 128]⟩
abbrev S4x1x512x128 : Shape := ⟨4, ![4, 1, 512, 128]⟩
abbrev S512 : Shape := ⟨1, ![512]⟩
abbrev S512x1 : Shape := ⟨2, ![512, 1]⟩
abbrev S512x1536 : Shape := ⟨2, ![512, 1536]⟩
abbrev S512x128 : Shape := ⟨2, ![512, 128]⟩
abbrev S1x512x128 : Shape := ⟨3, ![1, 512, 128]⟩
abbrev S512x512 : Shape := ⟨2, ![512, 512]⟩
abbrev S1x64x128 : Shape := ⟨3, ![1, 64, 128]⟩
abbrev S8x64x128 : Shape := ⟨3, ![8, 64, 128]⟩
abbrev S8x128 : Shape := ⟨2, ![8, 128]⟩
abbrev S1x8x128 : Shape := ⟨3, ![1, 8, 128]⟩
abbrev S1x1x512x128 : Shape := ⟨4, ![1, 1, 512, 128]⟩

abbrev nBuf : Space → Nat
  | .hbm => 43
  | .vmem => 23
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2608, .f32⟩
  | .hbm, ⟨3, _⟩ => ⟨S2x64x64, .f32⟩
  | .hbm, ⟨4, _⟩ => ⟨S1024x1024, .f32⟩
  | .hbm, ⟨5, _⟩ => ⟨S1024x1024, .bf16⟩
  | .hbm, ⟨6, _⟩ => ⟨S1024x1536, .f32⟩
  | .hbm, ⟨7, _⟩ => ⟨S1024x3x2x4x64, .f32⟩
  | .hbm, ⟨8, _⟩ => ⟨S1024x3x4x2x64, .f32⟩
  | .hbm, ⟨9, _⟩ => ⟨S1024x1536, .f32⟩
  | .hbm, ⟨10, _⟩ => ⟨S1024x1536, .bf16⟩
  | .hbm, ⟨11, _⟩ => ⟨S1024x48, .f32⟩
  | .hbm, ⟨12, _⟩ => ⟨S1024x4x12, .f32⟩
  | .hbm, ⟨13, _⟩ => ⟨S_, .i32⟩
  | .hbm, ⟨14, _⟩ => ⟨S_, .f32⟩
  | .hbm, ⟨15, _⟩ => ⟨S1024x4x128, .f32⟩
  | .hbm, ⟨16, _⟩ => ⟨S1024x512, .f32⟩
  | .hbm, ⟨17, _⟩ => ⟨S1x64x64, .f32⟩
  | .hbm, ⟨18, _⟩ => ⟨S64x64, .f32⟩
  | .hbm, ⟨19, _⟩ => ⟨S1x64x64, .f32⟩
  | .hbm, ⟨20, _⟩ => ⟨S64x64, .f32⟩
  | .hbm, ⟨21, _⟩ => ⟨S64x128, .f32⟩
  | .hbm, ⟨22, _⟩ => ⟨S1x64x64, .f32⟩
  | .hbm, ⟨23, _⟩ => ⟨S64x64, .f32⟩
  | .hbm, ⟨24, _⟩ => ⟨S1x64x1x64, .f32⟩
  | .hbm, ⟨25, _⟩ => ⟨S1x64x4x64, .f32⟩
  | .hbm, ⟨26, _⟩ => ⟨S64x256, .f32⟩
  | .hbm, ⟨27, _⟩ => ⟨S1x64x64, .f32⟩
  | .hbm, ⟨28, _⟩ => ⟨S64x64, .f32⟩
  | .hbm, ⟨29, _⟩ => ⟨S1x64x1x64, .f32⟩
  | .hbm, ⟨30, _⟩ => ⟨S1x64x4x64, .f32⟩
  | .hbm, ⟨31, _⟩ => ⟨S64x256, .f32⟩
  | .hbm, ⟨32, _⟩ => ⟨S64x512, .f32⟩
  | .hbm, ⟨33, _⟩ => ⟨S1024x512, .bf16⟩
  | .hbm, ⟨34, _⟩ => ⟨S1x1024, .f32⟩
  | .hbm, ⟨35, _⟩ => ⟨S16384x1024, .f32⟩
  | .hbm, ⟨36, _⟩ => ⟨S12x16384x128, .f32⟩
  | .hbm, ⟨37, _⟩ => ⟨S4x16384x128, .f32⟩
  | .hbm, ⟨38, _⟩ => ⟨S4x256x128, .f32⟩
  | .hbm, ⟨39, _⟩ => ⟨S4x4x5120x128, .bf16⟩
  | .hbm, ⟨40, _⟩ => ⟨S4x4x5120x128, .bf16⟩
  | .hbm, ⟨41, _⟩ => ⟨S4x4x5120x128, .bf16⟩
  | .hbm, ⟨42, _⟩ => ⟨S4x4x5120x128, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1536, .bf16⟩
  | .local _ .vmem, ⟨5, _⟩ => ⟨S1024x512, .bf16⟩
  | .local _ .vmem, ⟨6, _⟩ => ⟨S64x128, .f32⟩
  | .local _ .vmem, ⟨7, _⟩ => ⟨S512x1024, .f32⟩
  | .local _ .vmem, ⟨8, _⟩ => ⟨S512x1024, .f32⟩
  | .local _ .vmem, ⟨9, _⟩ => ⟨S12x512x128, .f32⟩
  | .local _ .vmem, ⟨10, _⟩ => ⟨S12x512x128, .f32⟩
  | .local _ .vmem, ⟨11, _⟩ => ⟨S4x512x128, .f32⟩
  | .local _ .vmem, ⟨12, _⟩ => ⟨S4x512x128, .f32⟩
  | .local _ .vmem, ⟨13, _⟩ => ⟨S4x8x128, .f32⟩
  | .local _ .vmem, ⟨14, _⟩ => ⟨S4x8x128, .f32⟩
  | .local _ .vmem, ⟨15, _⟩ => ⟨S4x1x512x128, .bf16⟩
  | .local _ .vmem, ⟨16, _⟩ => ⟨S4x1x512x128, .bf16⟩
  | .local _ .vmem, ⟨17, _⟩ => ⟨S4x1x512x128, .bf16⟩
  | .local _ .vmem, ⟨18, _⟩ => ⟨S4x1x512x128, .bf16⟩
  | .local _ .vmem, ⟨19, _⟩ => ⟨S4x1x512x128, .bf16⟩
  | .local _ .vmem, ⟨20, _⟩ => ⟨S4x1x512x128, .bf16⟩
  | .local _ .vmem, ⟨21, _⟩ => ⟨S4x1x512x128, .bf16⟩
  | .local _ .vmem, ⟨22, _⟩ => ⟨S4x1x512x128, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_call0_v0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29_0 : Ref sig .tc := ⟨.hbm, 35, rfl⟩
abbrev main_v29_1 : Ref sig .tc := ⟨.hbm, 36, rfl⟩
abbrev main_v29_2 : Ref sig .tc := ⟨.hbm, 37, rfl⟩
abbrev main_v29_3 : Ref sig .tc := ⟨.hbm, 38, rfl⟩
abbrev main_v29_4 : Ref sig .tc := ⟨.hbm, 39, rfl⟩
abbrev main_v29_5 : Ref sig .tc := ⟨.hbm, 40, rfl⟩
abbrev main_v29_6 : Ref sig .tc := ⟨.hbm, 41, rfl⟩
abbrev main_v29_7 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨2, ![4, 10], ![false, false]⟩

def k0_cond1 (i : grid0.Coords) : BitVec 1 :=
  let arg1 : BitVec 32 := BitVec.ofNat 32 (i 1).val
  let c2_i32 : BitVec 32 := 2#32
  let v0 : BitVec 32 := Scalar.subi arg1 c2_i32
  let c0_i32 : BitVec 32 := 0#32
  let v1 : BitVec 1 := Scalar.cmpi .sge v0 c0_i32
  let v2 : BitVec 32 := Scalar.extui v1
  let c0_i32_0 : BitVec 32 := 0#32
  let v3 : BitVec 1 := Scalar.cmpi .ne v2 c0_i32_0
  v3

def k0_cond2 (i : grid0.Coords) : BitVec 1 :=
  let arg1 : BitVec 32 := BitVec.ofNat 32 (i 1).val
  let c2_i32 : BitVec 32 := 2#32
  let v0 : BitVec 32 := Scalar.subi arg1 c2_i32
  let c0_i32_1 : BitVec 32 := 0#32
  let v4 : BitVec 1 := Scalar.cmpi .slt v0 c0_i32_1
  let v5 : BitVec 32 := Scalar.extui v4
  let c0_i32_2 : BitVec 32 := 0#32
  let v6 : BitVec 1 := Scalar.cmpi .ne v5 c0_i32_2
  v6

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c2_i32 : BitVec 32 := 2#32
  let v1 : BitVec 32 := Scalar.subi arg1 c2_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c2_i32 : BitVec 32 := 2#32
  let v1 : BitVec 32 := Scalar.subi arg1 c2_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_7 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c2_i32 : BitVec 32 := 2#32
  let v1 : BitVec 32 := Scalar.subi arg1 c2_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  let c0_i32_2 : BitVec 32 := 0#32
  ![c0_i32_0.toNat, v3.toNat, c0_i32_1.toNat]

def cc0_transform_8 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c2_i32 : BitVec 32 := 2#32
  let v1 : BitVec 32 := Scalar.subi arg1 c2_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  let c0_i32_2 : BitVec 32 := 0#32
  ![c0_i32_0.toNat, v3.toNat, c0_i32_1.toNat]

def cc0_transform_9 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c2_i32 : BitVec 32 := 2#32
  let v1 : BitVec 32 := Scalar.subi arg1 c2_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  let c0_i32_2 : BitVec 32 := 0#32
  ![c0_i32_0.toNat, v3.toNat, c0_i32_1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S12x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S4x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S4x8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S4x1x512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S4x1x512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S4x1x512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S4x1x512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ProjRefIdeal.lean ====
abbrev S16384x1024 : Shape := ⟨2, ![16384, 1024]⟩
abbrev S1024 : Shape := ⟨1, ![1024]⟩
abbrev S1024x2608 : Shape := ⟨2, ![1024, 2608]⟩
abbrev S2x64x64 : Shape := ⟨3, ![2, 64, 64]⟩
abbrev S4x4096x1024 : Shape := ⟨3, ![4, 4096, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x2608 : Shape := ⟨3, ![4, 4096, 2608]⟩
abbrev S4x4096x1536 : Shape := ⟨3, ![4, 4096, 1536]⟩
abbrev S4x4096x6x4x64 : Shape := ⟨5, ![4, 4096, 6, 4, 64]⟩
abbrev S4x64x64x6x4x64 : Shape := ⟨6, ![4, 64, 64, 6, 4, 64]⟩
abbrev S4x64x64x1x4x64 : Shape := ⟨6, ![4, 64, 64, 1, 4, 64]⟩
abbrev S4x64x64x4x64 : Shape := ⟨5, ![4, 64, 64, 4, 64]⟩
abbrev S1x64x64 : Shape := ⟨3, ![1, 64, 64]⟩
abbrev S64x64 : Shape := ⟨2, ![64, 64]⟩
abbrev S64x4x64x4 : Shape := ⟨4, ![64, 4, 64, 4]⟩
abbrev S4x4x64x64 : Shape := ⟨4, ![4, 4, 64, 64]⟩
abbrev S16384x3x2x4x64 : Shape := ⟨5, ![16384, 3, 2, 4, 64]⟩
abbrev S3x4x16384x2x64 : Shape := ⟨5, ![3, 4, 16384, 2, 64]⟩
abbrev S4x4096x48 : Shape := ⟨3, ![4, 4096, 48]⟩
abbrev S16384x4x12 : Shape := ⟨3, ![16384, 4, 12]⟩
abbrev S16384x4x128 : Shape := ⟨3, ![16384, 4, 128]⟩
abbrev S12x16384x128 : Shape := ⟨3, ![12, 16384, 128]⟩
abbrev S4x16384x128 : Shape := ⟨3, ![4, 16384, 128]⟩
abbrev S4x4x64x128 : Shape := ⟨4, ![4, 4, 64, 128]⟩
abbrev S4x256x128 : Shape := ⟨3, ![4, 256, 128]⟩

abbrev nBuf : Space → Nat
  | .hbm => 58
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2608, .f32⟩
  | .hbm, ⟨3, _⟩ => ⟨S2x64x64, .f32⟩
  | .hbm, ⟨4, _⟩ => ⟨S4x4096x1024, .f32⟩
  | .hbm, ⟨5, _⟩ => ⟨S4x4096x1024, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x1024, .f32⟩
  | .hbm, ⟨17, _⟩ => ⟨S4x4096x1024, .f32⟩
  | .hbm, ⟨18, _⟩ => ⟨S1x1x1024, .f32⟩
  | .hbm, ⟨19, _⟩ => ⟨S4x4096x1024, .f32⟩
  | .hbm, ⟨20, _⟩ => ⟨S4x4096x1024, .f32⟩
  | .hbm, ⟨21, _⟩ => ⟨S4x4096x2608, .f32⟩
  | .hbm, ⟨22, _⟩ => ⟨S4x4096x1024, .f32⟩
  | .hbm, ⟨23, _⟩ => ⟨S4x4096x1536, .f32⟩
  | .hbm, ⟨24, _⟩ => ⟨S4x4096x6x4x64, .f32⟩
  | .hbm, ⟨25, _⟩ => ⟨S4x64x64x6x4x64, .f32⟩
  | .hbm, ⟨26, _⟩ => ⟨S4x64x64x1x4x64, .f32⟩
  | .hbm, ⟨27, _⟩ => ⟨S4x64x64x4x64, .f32⟩
  | .hbm, ⟨28, _⟩ => ⟨S1x64x64, .f32⟩
  | .hbm, ⟨29, _⟩ => ⟨S64x64, .f32⟩
  | .hbm, ⟨30, _⟩ => ⟨S64x4x64x4, .f32⟩
  | .hbm, ⟨31, _⟩ => ⟨S4x4x64x64, .f32⟩
  | .hbm, ⟨32, _⟩ => ⟨S4x64x64x1x4x64, .f32⟩
  | .hbm, ⟨33, _⟩ => ⟨S4x64x64x4x64, .f32⟩
  | .hbm, ⟨34, _⟩ => ⟨S1x64x64, .f32⟩
  | .hbm, ⟨35, _⟩ => ⟨S64x64, .f32⟩
  | .hbm, ⟨36, _⟩ => ⟨S64x4x64x4, .f32⟩
  | .hbm, ⟨37, _⟩ => ⟨S4x4x64x64, .f32⟩
  | .hbm, ⟨38, _⟩ => ⟨S16384x3x2x4x64, .f32⟩
  | .hbm, ⟨39, _⟩ => ⟨S3x4x16384x2x64, .f32⟩
  | .hbm, ⟨40, _⟩ => ⟨S4x4096x48, .f32⟩
  | .hbm, ⟨41, _⟩ => ⟨S16384x4x12, .f32⟩
  | .hbm, ⟨42, _⟩ => ⟨S_, .i32⟩
  | .hbm, ⟨43, _⟩ => ⟨S_, .f32⟩
  | .hbm, ⟨44, _⟩ => ⟨S16384x4x128, .f32⟩
  | .hbm, ⟨45, _⟩ => ⟨S16384x1024, .f32⟩
  | .hbm, ⟨46, _⟩ => ⟨S12x16384x128, .f32⟩
  | .hbm, ⟨47, _⟩ => ⟨S4x16384x128, .f32⟩
  | .hbm, ⟨48, _⟩ => ⟨S4x16384x128, .f32⟩
  | .hbm, ⟨49, _⟩ => ⟨S4x16384x128, .f32⟩
  | .hbm, ⟨50, _⟩ => ⟨S_, .f32⟩
  | .hbm, ⟨51, _⟩ => ⟨S4x16384x128, .f32⟩
  | .hbm, ⟨52, _⟩ => ⟨S4x16384x128, .f32⟩
  | .hbm, ⟨53, _⟩ => ⟨S_, .f32⟩
  | .hbm, ⟨54, _⟩ => ⟨S4x16384x128, .f32⟩
  | .hbm, ⟨55, _⟩ => ⟨S4x16384x128, .f32⟩
  | .hbm, ⟨56, _⟩ => ⟨S4x4x64x128, .f32⟩
  | .hbm, ⟨57, _⟩ => ⟨S4x256x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_c : Ref sig .tc := ⟨.hbm, 42, rfl⟩
abbrev main_call0_v0 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_2 : Ref sig .tc := ⟨.hbm, 50, rfl⟩
abbrev main_v41 : Ref sig .tc := ⟨.hbm, 51, rfl⟩
abbrev main_v42 : Ref sig .tc := ⟨.hbm, 52, rfl⟩
abbrev main_cst_3 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩

abbrev nD : Nat := 1
abbrev τ : Topo := Topo.v7x

variable {F : FTy → Type} [FloatOps F]
-- ==== Out.lean ====
abbrev S16384x1024 : Shape := ⟨2, ![16384, 1024]⟩
abbrev S1024x1024 : Shape := ⟨2, ![1024, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S1024x1024, .bf16⟩
  | .hbm, ⟨4, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OutRefIdeal.lean ====
abbrev S16384x1024 : Shape := ⟨2, ![16384, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S16384x1024, .f32⟩
  | .hbm, ⟨4, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== LastS.lean ====
abbrev S128x1024 : Shape := ⟨2, ![128, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S1024x1408 : Shape := ⟨2, ![1024, 1408]⟩
abbrev S1408x1024 : Shape := ⟨2, ![1408, 1024]⟩
abbrev S128 : Shape := ⟨1, ![128]⟩
abbrev S128x1 : Shape := ⟨2, ![128, 1]⟩
abbrev S128x1408 : Shape := ⟨2, ![128, 1408]⟩

abbrev nBuf : Space → Nat
  | .hbm => 10
  | .vmem => 12
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S1024x5632, .bf16⟩
  | .hbm, ⟨6, _⟩ => ⟨S2816x1024, .bf16⟩
  | .hbm, ⟨7, _⟩ => ⟨S1x1024, .f32⟩
  | .hbm, ⟨8, _⟩ => ⟨S1x1024, .f32⟩
  | .hbm, ⟨9, _⟩ => ⟨S128x1024, .f32⟩
  | .local _ .vmem, ⟨0, _⟩ => ⟨S128x1024, .f32⟩
  | .local _ .vmem, ⟨1, _⟩ => ⟨S1x1024, .f32⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1408x1024, .bf16⟩
  | .local _ .vmem, ⟨7, _⟩ => ⟨S1408x1024, .bf16⟩
  | .local _ .vmem, ⟨8, _⟩ => ⟨S1x1024, .f32⟩
  | .local _ .vmem, ⟨9, _⟩ => ⟨S128x1024, .f32⟩
  | .local _ .vmem, ⟨10, _⟩ => ⟨S128x1024, .bf16⟩
  | .local _ .vmem, ⟨11, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨2, ![1, 2], ![false, false]⟩

def k0_cond2 (i : grid0.Coords) : BitVec 1 :=
  let arg1 : BitVec 32 := BitVec.ofNat 32 (i 1).val
  let c1_i32 : BitVec 32 := 1#32
  let v22 : BitVec 1 := Scalar.cmpi .eq arg1 c1_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== LastSRefIdeal.lean ====
abbrev S128x1024 : Shape := ⟨2, ![128, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S128 : Shape := ⟨1, ![128]⟩
abbrev S128x1 : Shape := ⟨2, ![128, 1]⟩
abbrev S1x1024 : Shape := ⟨2, ![1, 1024]⟩
abbrev S128x5632 : Shape := ⟨2, ![128, 5632]⟩
abbrev S128x2816 : Shape := ⟨2, ![128, 2816]⟩

abbrev nBuf : Space → Nat
  | .hbm => 55
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S128x1024, .f32⟩
  | .hbm, ⟨6, _⟩ => ⟨S_, .f32⟩
  | .hbm, ⟨7, _⟩ => ⟨S128, .f32⟩
  | .hbm, ⟨8, _⟩ => ⟨S128x1, .f32⟩
  | .hbm, ⟨9, _⟩ => ⟨S_, .f32⟩
  | .hbm, ⟨10, _⟩ => ⟨S128x1, .f32⟩
  | .hbm, ⟨11, _⟩ => ⟨S128x1, .f32⟩
  | .hbm, ⟨12, _⟩ => ⟨S_, .f32⟩
  | .hbm, ⟨13, _⟩ => ⟨S128x1, .f32⟩
  | .hbm, ⟨14, _⟩ => ⟨S128x1, .f32⟩
  | .hbm, ⟨15, _⟩ => ⟨S128x1, .f32⟩
  | .hbm, ⟨16, _⟩ => ⟨S128x1024, .f32⟩
  | .hbm, ⟨17, _⟩ => ⟨S128x1024, .f32⟩
  | .hbm, ⟨18, _⟩ => ⟨S1x1024, .f32⟩
  | .hbm, ⟨19, _⟩ => ⟨S128x1024, .f32⟩
  | .hbm, ⟨20, _⟩ => ⟨S128x1024, .f32⟩
  | .hbm, ⟨21, _⟩ => ⟨S128x5632, .f32⟩
  | .hbm, ⟨22, _⟩ => ⟨S128x2816, .f32⟩
  | .hbm, ⟨23, _⟩ => ⟨S128x2816, .f32⟩
  | .hbm, ⟨24, _⟩ => ⟨S128x2816, .f32⟩
  | .hbm, ⟨25, _⟩ => ⟨S128x2816, .f32⟩
  | .hbm, ⟨26, _⟩ => ⟨S_, .f32⟩
  | .hbm, ⟨27, _⟩ => ⟨S128x2816, .f32⟩
  | .hbm, ⟨28, _⟩ => ⟨S128x2816, .f32⟩
  | .hbm, ⟨29, _⟩ => ⟨S_, .f32⟩
  | .hbm, ⟨30, _⟩ => ⟨S128x2816, .f32⟩
  | .hbm, ⟨31, _⟩ => ⟨S128x2816, .f32⟩
  | .hbm, ⟨32, _⟩ => ⟨S128x2816, .f32⟩
  | .hbm, ⟨33, _⟩ => ⟨S128x2816, .f32⟩
  | .hbm, ⟨34, _⟩ => ⟨S128x1024, .f32⟩
  | .hbm, ⟨35, _⟩ => ⟨S_, .f32⟩
  | .hbm, ⟨36, _⟩ => ⟨S128x1024, .f32⟩
  | .hbm, ⟨37, _⟩ => ⟨S128x1024, .f32⟩
  | .hbm, ⟨38, _⟩ => ⟨S128x1024, .f32⟩
  | .hbm, ⟨39, _⟩ => ⟨S128x1024, .f32⟩
  | .hbm, ⟨40, _⟩ => ⟨S_, .f32⟩
  | .hbm, ⟨41, _⟩ => ⟨S128, .f32⟩
  | .hbm, ⟨42, _⟩ => ⟨S128x1, .f32⟩
  | .hbm, ⟨43, _⟩ => ⟨S_, .f32⟩
  | .hbm, ⟨44, _⟩ => ⟨S128x1, .f32⟩
  | .hbm, ⟨45, _⟩ => ⟨S128x1, .f32⟩
  | .hbm, ⟨46, _⟩ => ⟨S_, .f32⟩
  | .hbm, ⟨47, _⟩ => ⟨S128x1, .f32⟩
  | .hbm, ⟨48, _⟩ => ⟨S128x1, .f32⟩
  | .hbm, ⟨49, _⟩ => ⟨S128x1, .f32⟩
  | .hbm, ⟨50, _⟩ => ⟨S128x1024, .f32⟩
  | .hbm, ⟨51, _⟩ => ⟨S128x1024, .f32⟩
  | .hbm, ⟨52, _⟩ => ⟨S1x1024, .f32⟩
  | .hbm, ⟨53, _⟩ => ⟨S128x1024, .f32⟩
  | .hbm, ⟨54, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩

abbrev nD : Nat := 1
abbrev τ : Topo := Topo.v7x

variable {F : FTy → Type} [FloatOps F]
-- ==== ConvS.lean ====
abbrev S128x1024 : Shape := ⟨2, ![128, 1024]⟩
abbrev S1024 : Shape := ⟨1, ![1024]⟩
abbrev S128x2x1024 : Shape := ⟨3, ![128, 2, 1024]⟩
abbrev S1024x3072 : Shape := ⟨2, ![1024, 3072]⟩
abbrev S3x1024 : Shape := ⟨2, ![3, 1024]⟩
abbrev S1024x1024 : Shape := ⟨2, ![1024, 1024]⟩
abbrev S1x1024 : Shape := ⟨2, ![1, 1024]⟩
abbrev S128x2048 : Shape := ⟨2, ![128, 2048]⟩
abbrev S128 : Shape := ⟨1, ![128]⟩
abbrev S128x1 : Shape := ⟨2, ![128, 1]⟩
abbrev S128x3072 : Shape := ⟨2, ![128, 3072]⟩

abbrev nBuf : Space → Nat
  | .hbm => 12
  | .vmem => 8
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S128x2x1024, .f32⟩
  | .hbm, ⟨3, _⟩ => ⟨S1024x3072, .f32⟩
  | .hbm, ⟨4, _⟩ => ⟨S3x1024, .f32⟩
  | .hbm, ⟨5, _⟩ => ⟨S1024x1024, .f32⟩
  | .hbm, ⟨6, _⟩ => ⟨S1024x3072, .bf16⟩
  | .hbm, ⟨7, _⟩ => ⟨S1024x1024, .bf16⟩
  | .hbm, ⟨8, _⟩ => ⟨S1x1024, .f32⟩
  | .hbm, ⟨9, _⟩ => ⟨S128x2048, .f32⟩
  | .hbm, ⟨10, _⟩ => ⟨S128x1024, .f32⟩
  | .hbm, ⟨11, _⟩ => ⟨S128x2048, .f32⟩
  | .local _ .vmem, ⟨0, _⟩ => ⟨S128x1024, .f32⟩
  | .local _ .vmem, ⟨1, _⟩ => ⟨S1x1024, .f32⟩
  | .local _ .vmem, ⟨2, _⟩ => ⟨S128x2048, .f32⟩
  | .local _ .vmem, ⟨3, _⟩ => ⟨S1024x3072, .bf16⟩
  | .local _ .vmem, ⟨4, _⟩ => ⟨S3x1024, .f32⟩
  | .local _ .vmem, ⟨5, _⟩ => ⟨S1024x1024, .bf16⟩
  | .local _ .vmem, ⟨6, _⟩ => ⟨S128x1024, .f32⟩
  | .local _ .vmem, ⟨7, _⟩ => ⟨S128x2048, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ConvSRefIdeal.lean ====
abbrev S128x1024 : Shape := ⟨2, ![128, 1024]⟩
abbrev S1024 : Shape := ⟨1, ![1024]⟩
abbrev S128x2x1024 : Shape := ⟨3, ![128, 2, 1024]⟩
abbrev S1024x3072 : Shape := ⟨2, ![1024, 3072]⟩
abbrev S3x1024 : Shape := ⟨2, ![3, 1024]⟩
abbrev S1024x1024 : Shape := ⟨2, ![1024, 1024]⟩
abbrev S128x1x1024 : Shape := ⟨3, ![128, 1, 1024]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S128x1x3072 : Shape := ⟨3, ![128, 1, 3072]⟩
abbrev S128x3x1024 : Shape := ⟨3, ![128, 3, 1024]⟩
abbrev S1x1024 : Shape := ⟨2, ![1, 1024]⟩
abbrev S128x2048 : Shape := ⟨2, ![128, 2048]⟩

abbrev nBuf : Space → Nat
  | .hbm => 55
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S128x2x1024, .f32⟩
  | .hbm, ⟨3, _⟩ => ⟨S1024x3072, .f32⟩
  | .hbm, ⟨4, _⟩ => ⟨S3x1024, .f32⟩
  | .hbm, ⟨5, _⟩ => ⟨S1024x1024, .f32⟩
  | .hbm, ⟨6, _⟩ => ⟨S128x1x1024, .f32⟩
  | .hbm, ⟨7, _⟩ => ⟨S128x1x1024, .f32⟩
  | .hbm, ⟨8, _⟩ => ⟨S_, .f32⟩
  | .hbm, ⟨9, _⟩ => ⟨S128x1, .f32⟩
  | .hbm, ⟨10, _⟩ => ⟨S128x1x1, .f32⟩
  | .hbm, ⟨11, _⟩ => ⟨S_, .f32⟩
  | .hbm, ⟨12, _⟩ => ⟨S128x1x1, .f32⟩
  | .hbm, ⟨13, _⟩ => ⟨S128x1x1, .f32⟩
  | .hbm, ⟨14, _⟩ => ⟨S_, .f32⟩
  | .hbm, ⟨15, _⟩ => ⟨S128x1x1, .f32⟩
  | .hbm, ⟨16, _⟩ => ⟨S128x1x1, .f32⟩
  | .hbm, ⟨17, _⟩ => ⟨S128x1x1, .f32⟩
  | .hbm, ⟨18, _⟩ => ⟨S128x1x1024, .f32⟩
  | .hbm, ⟨19, _⟩ => ⟨S128x1x1024, .f32⟩
  | .hbm, ⟨20, _⟩ => ⟨S1x1x1024, .f32⟩
  | .hbm, ⟨21, _⟩ => ⟨S128x1x1024, .f32⟩
  | .hbm, ⟨22, _⟩ => ⟨S128x1x1024, .f32⟩
  | .hbm, ⟨23, _⟩ => ⟨S128x1x3072, .f32⟩
  | .hbm, ⟨24, _⟩ => ⟨S128x1x1024, .f32⟩
  | .hbm, ⟨25, _⟩ => ⟨S128x1x1024, .f32⟩
  | .hbm, ⟨26, _⟩ => ⟨S128x1x1024, .f32⟩
  | .hbm, ⟨27, _⟩ => ⟨S128x1x1024, .f32⟩
  | .hbm, ⟨28, _⟩ => ⟨S128x3x1024, .f32⟩
  | .hbm, ⟨29, _⟩ => ⟨S1x1024, .f32⟩
  | .hbm, ⟨30, _⟩ => ⟨S1024, .f32⟩
  | .hbm, ⟨31, _⟩ => ⟨S128x1x1024, .f32⟩
  | .hbm, ⟨32, _⟩ => ⟨S1x1x1024, .f32⟩
  | .hbm, ⟨33, _⟩ => ⟨S128x1x1024, .f32⟩
  | .hbm, ⟨34, _⟩ => ⟨S128x1x1024, .f32⟩
  | .hbm, ⟨35, _⟩ => ⟨S1x1024, .f32⟩
  | .hbm, ⟨36, _⟩ => ⟨S1024, .f32⟩
  | .hbm, ⟨37, _⟩ => ⟨S128x1x1024, .f32⟩
  | .hbm, ⟨38, _⟩ => ⟨S1x1x1024, .f32⟩
  | .hbm, ⟨39, _⟩ => ⟨S128x1x1024, .f32⟩
  | .hbm, ⟨40, _⟩ => ⟨S128x1x1024, .f32⟩
  | .hbm, ⟨41, _⟩ => ⟨S128x1x1024, .f32⟩
  | .hbm, ⟨42, _⟩ => ⟨S1x1024, .f32⟩
  | .hbm, ⟨43, _⟩ => ⟨S1024, .f32⟩
  | .hbm, ⟨44, _⟩ => ⟨S128x1x1024, .f32⟩
  | .hbm, ⟨45, _⟩ => ⟨S1x1x1024, .f32⟩
  | .hbm, ⟨46, _⟩ => ⟨S128x1x1024, .f32⟩
  | .hbm, ⟨47, _⟩ => ⟨S128x1x1024, .f32⟩
  | .hbm, ⟨48, _⟩ => ⟨S128x1x1024, .f32⟩
  | .hbm, ⟨49, _⟩ => ⟨S128x1x1024, .f32⟩
  | .hbm, ⟨50, _⟩ => ⟨S128x1x1024, .f32⟩
  | .hbm, ⟨51, _⟩ => ⟨S128x1x1024, .f32⟩
  | .hbm, ⟨52, _⟩ => ⟨S128x1024, .f32⟩
  | .hbm, ⟨53, _⟩ => ⟨S128x2x1024, .f32⟩
  | .hbm, ⟨54, _⟩ => ⟨S128x2048, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩

abbrev nD : Nat := 1
abbrev τ : Topo := Topo.v7x

variable {F : FTy → Type} [FloatOps F]
-- ==== ProjS.lean ====
abbrev S128x1024 : Shape := ⟨2, ![128, 1024]⟩
abbrev S1024 : Shape := ⟨1, ![1024]⟩
abbrev S1024x2608 : Shape := ⟨2, ![1024, 2608]⟩
abbrev S2x64x64 : Shape := ⟨3, ![2, 64, 64]⟩
abbrev S1024x1024 : Shape := ⟨2, ![1024, 1024]⟩
abbrev S1024x1536 : Shape := ⟨2, ![1024, 1536]⟩
abbrev S1024x3x2x4x64 : Shape := ⟨5, ![1024, 3, 2, 4, 64]⟩
abbrev S1024x3x4x2x64 : Shape := ⟨5, ![1024, 3, 4, 2, 64]⟩
abbrev S1024x48 : Shape := ⟨2, ![1024, 48]⟩
abbrev S1024x4x12 : Shape := ⟨3, ![1024, 4, 12]⟩
abbrev S_ : Shape := ⟨0, ![]⟩
abbrev S1024x4x128 : Shape := ⟨3, ![1024, 4, 128]⟩
abbrev S1024x512 : Shape := ⟨2, ![1024, 512]⟩
abbrev S1x64x64 : Shape := ⟨3, ![1, 64, 64]⟩
abbrev S64x64 : Shape := ⟨2, ![64, 64]⟩
abbrev S64x128 : Shape := ⟨2, ![64, 128]⟩
abbrev S1x64x1x64 : Shape := ⟨4, ![1, 64, 1, 64]⟩
abbrev S1x64x4x64 : Shape := ⟨4, ![1, 64, 4, 64]⟩
abbrev S64x256 : Shape := ⟨2, ![64, 256]⟩
abbrev S64x512 : Shape := ⟨2, ![64, 512]⟩
abbrev S1x1024 : Shape := ⟨2, ![1, 1024]⟩
abbrev S12x128x128 : Shape := ⟨3, ![12, 128, 128]⟩
abbrev S4x128x128 : Shape := ⟨3, ![4, 128, 128]⟩
abbrev S128 : Shape := ⟨1, ![128]⟩
abbrev S128x1 : Shape := ⟨2, ![128, 1]⟩
abbrev S128x1536 : Shape := ⟨2, ![128, 1536]⟩
abbrev S128x128 : Shape := ⟨2, ![128, 128]⟩
abbrev S1x128x128 : Shape := ⟨3, ![1, 128, 128]⟩
abbrev S128x512 : Shape := ⟨2, ![128, 512]⟩

abbrev nBuf : Space → Nat
  | .hbm => 38
  | .vmem => 8
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x2608, .f32⟩
  | .hbm, ⟨3, _⟩ => ⟨S2x64x64, .f32⟩
  | .hbm, ⟨4, _⟩ => ⟨S1024x1024, .f32⟩
  | .hbm, ⟨5, _⟩ => ⟨S1024x1024, .bf16⟩
  | .hbm, ⟨6, _⟩ => ⟨S1024x1536, .f32⟩
  | .hbm, ⟨7, _⟩ => ⟨S1024x3x2x4x64, .f32⟩
  | .hbm, ⟨8, _⟩ => ⟨S1024x3x4x2x64, .f32⟩
  | .hbm, ⟨9, _⟩ => ⟨S1024x1536, .f32⟩
  | .hbm, ⟨10, _⟩ => ⟨S1024x1536, .bf16⟩
  | .hbm, ⟨11, _⟩ => ⟨S1024x48, .f32⟩
  | .hbm, ⟨12, _⟩ => ⟨S1024x4x12, .f32⟩
  | .hbm, ⟨13, _⟩ => ⟨S_, .i32⟩
  | .hbm, ⟨14, _⟩ => ⟨S_, .f32⟩
  | .hbm, ⟨15, _⟩ => ⟨S1024x4x128, .f32⟩
  | .hbm, ⟨16, _⟩ => ⟨S1024x512, .f32⟩
  | .hbm, ⟨17, _⟩ => ⟨S1x64x64, .f32⟩
  | .hbm, ⟨18, _⟩ => ⟨S64x64, .f32⟩
  | .hbm, ⟨19, _⟩ => ⟨S1x64x64, .f32⟩
  | .hbm, ⟨20, _⟩ => ⟨S64x64, .f32⟩
  | .hbm, ⟨21, _⟩ => ⟨S64x128, .f32⟩
  | .hbm, ⟨22, _⟩ => ⟨S1x64x64, .f32⟩
  | .hbm, ⟨23, _⟩ => ⟨S64x64, .f32⟩
  | .hbm, ⟨24, _⟩ => ⟨S1x64x1x64, .f32⟩
  | .hbm, ⟨25, _⟩ => ⟨S1x64x4x64, .f32⟩
  | .hbm, ⟨26, _⟩ => ⟨S64x256, .f32⟩
  | .hbm, ⟨27, _⟩ => ⟨S1x64x64, .f32⟩
  | .hbm, ⟨28, _⟩ => ⟨S64x64, .f32⟩
  | .hbm, ⟨29, _⟩ => ⟨S1x64x1x64, .f32⟩
  | .hbm, ⟨30, _⟩ => ⟨S1x64x4x64, .f32⟩
  | .hbm, ⟨31, _⟩ => ⟨S64x256, .f32⟩
  | .hbm, ⟨32, _⟩ => ⟨S64x512, .f32⟩
  | .hbm, ⟨33, _⟩ => ⟨S1024x512, .bf16⟩
  | .hbm, ⟨34, _⟩ => ⟨S1x1024, .f32⟩
  | .hbm, ⟨35, _⟩ => ⟨S128x1024, .f32⟩
  | .hbm, ⟨36, _⟩ => ⟨S12x128x128, .f32⟩
  | .hbm, ⟨37, _⟩ => ⟨S4x128x128, .f32⟩
  | .local _ .vmem, ⟨0, _⟩ => ⟨S128x1024, .f32⟩
  | .local _ .vmem, ⟨1, _⟩ => ⟨S1x1024, .f32⟩
  | .local _ .vmem, ⟨2, _⟩ => ⟨S1024x1024, .bf16⟩
  | .local _ .vmem, ⟨3, _⟩ => ⟨S1024x1536, .bf16⟩
  | .local _ .vmem, ⟨4, _⟩ => ⟨S1024x512, .bf16⟩
  | .local _ .vmem, ⟨5, _⟩ => ⟨S128x1024, .f32⟩
  | .local _ .vmem, ⟨6, _⟩ => ⟨S12x128x128, .f32⟩
  | .local _ .vmem, ⟨7, _⟩ => ⟨S4x128x128, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_call0_v0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29_0 : Ref sig .tc := ⟨.hbm, 35, rfl⟩
abbrev main_v29_1 : Ref sig .tc := ⟨.hbm, 36, rfl⟩
abbrev main_v29_2 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg1 : BitVec 32 := BitVec.ofNat 32 (i 1).val
  let c0_i32 : BitVec 32 := 0#32
  let v0 : BitVec 32 := Scalar.subi arg1 c0_i32
  let c0_i32_0 : BitVec 32 := 0#32
  let v1 : BitVec 1 := Scalar.cmpi .sge v0 c0_i32_0
  let v2 : BitVec 32 := Scalar.extui v1
  let c0_i32_1 : BitVec 32 := 0#32
  let v3 : BitVec 1 := Scalar.cmpi .ne v2 c0_i32_1
  v3

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.subi arg1 c0_i32
  let c0_i32_0 : BitVec 32 := 0#32
  let v2 : BitVec 32 := Scalar.maxsi v1 c0_i32_0
  let v3 : BitVec 32 := Scalar.addi v0 v2
  let c0_i32_1 : BitVec 32 := 0#32
  let c0_i32_2 : BitVec 32 := 0#32
  ![v3.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.subi arg1 c0_i32
  let c0_i32_0 : BitVec 32 := 0#32
  let v2 : BitVec 32 := Scalar.maxsi v1 c0_i32_0
  let v3 : BitVec 32 := Scalar.addi v0 v2
  let c0_i32_1 : BitVec 32 := 0#32
  let c0_i32_2 : BitVec 32 := 0#32
  ![v3.toNat, c0_i32_1.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.subi arg1 c0_i32
  let c0_i32_0 : BitVec 32 := 0#32
  let v2 : BitVec 32 := Scalar.maxsi v1 c0_i32_0
  let v3 : BitVec 32 := Scalar.addi v0 v2
  let c0_i32_1 : BitVec 32 := 0#32
  let c0_i32_2 : BitVec 32 := 0#32
  let c0_i32_3 : BitVec 32 := 0#32
  ![c0_i32_1.toNat, v3.toNat, c0_i32_2.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.subi arg1 c0_i32
  let c0_i32_0 : BitVec 32 := 0#32
  let v2 : BitVec 32 := Scalar.maxsi v1 c0_i32_0
  let v3 : BitVec 32 := Scalar.addi v0 v2
  let c0_i32_1 : BitVec 32 := 0#32
  let c0_i32_2 : BitVec 32 := 0#32
  let c0_i32_3 : BitVec 32 := 0#32
  ![c0_i32_1.toNat, v3.toNat, c0_i32_2.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S12x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== ProjSRefIdeal.lean ====
abbrev S128x1024 : Shape := ⟨2, ![128, 1024]⟩
abbrev S1024 : Shape := ⟨1, ![1024]⟩
abbrev S1024x2608 : Shape := ⟨2, ![1024, 2608]⟩
abbrev S2x64x64 : Shape := ⟨3, ![2, 64, 64]⟩
abbrev S_ : Shape := ⟨0, ![]⟩
abbrev S128 : Shape := ⟨1, ![128]⟩
abbrev S128x1 : Shape := ⟨2, ![128, 1]⟩
abbrev S1x1024 : Shape := ⟨2, ![1, 1024]⟩
abbrev S128x2608 : Shape := ⟨2, ![128, 2608]⟩
abbrev S128x1536 : Shape := ⟨2, ![128, 1536]⟩
abbrev S128x3x2x4x64 : Shape := ⟨5, ![128, 3, 2, 4, 64]⟩
abbrev S3x4x128x2x64 : Shape := ⟨5, ![3, 4, 128, 2, 64]⟩
abbrev S128x48 : Shape := ⟨2, ![128, 48]⟩
abbrev S128x4x12 : Shape := ⟨3, ![128, 4, 12]⟩
abbrev S128x4x128 : Shape := ⟨3, ![128, 4, 128]⟩
abbrev S12x128x128 : Shape := ⟨3, ![12, 128, 128]⟩
abbrev S4x128x128 : Shape := ⟨3, ![4, 128, 128]⟩

abbrev nBuf : Space → Nat
  | .hbm => 40
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x2608, .f32⟩
  | .hbm, ⟨3, _⟩ => ⟨S2x64x64, .f32⟩
  | .hbm, ⟨4, _⟩ => ⟨S128x1024, .f32⟩
  | .hbm, ⟨5, _⟩ => ⟨S_, .f32⟩
  | .hbm, ⟨6, _⟩ => ⟨S128, .f32⟩
  | .hbm, ⟨7, _⟩ => ⟨S128x1, .f32⟩
  | .hbm, ⟨8, _⟩ => ⟨S_, .f32⟩
  | .hbm, ⟨9, _⟩ => ⟨S128x1, .f32⟩
  | .hbm, ⟨10, _⟩ => ⟨S128x1, .f32⟩
  | .hbm, ⟨11, _⟩ => ⟨S_, .f32⟩
  | .hbm, ⟨12, _⟩ => ⟨S128x1, .f32⟩
  | .hbm, ⟨13, _⟩ => ⟨S128x1, .f32⟩
  | .hbm, ⟨14, _⟩ => ⟨S128x1, .f32⟩
  | .hbm, ⟨15, _⟩ => ⟨S128x1024, .f32⟩
  | .hbm, ⟨16, _⟩ => ⟨S128x1024, .f32⟩
  | .hbm, ⟨17, _⟩ => ⟨S1x1024, .f32⟩
  | .hbm, ⟨18, _⟩ => ⟨S128x1024, .f32⟩
  | .hbm, ⟨19, _⟩ => ⟨S128x1024, .f32⟩
  | .hbm, ⟨20, _⟩ => ⟨S128x2608, .f32⟩
  | .hbm, ⟨21, _⟩ => ⟨S128x1536, .f32⟩
  | .hbm, ⟨22, _⟩ => ⟨S128x3x2x4x64, .f32⟩
  | .hbm, ⟨23, _⟩ => ⟨S3x4x128x2x64, .f32⟩
  | .hbm, ⟨24, _⟩ => ⟨S128x48, .f32⟩
  | .hbm, ⟨25, _⟩ => ⟨S128x4x12, .f32⟩
  | .hbm, ⟨26, _⟩ => ⟨S_, .i32⟩
  | .hbm, ⟨27, _⟩ => ⟨S_, .f32⟩
  | .hbm, ⟨28, _⟩ => ⟨S128x4x128, .f32⟩
  | .hbm, ⟨29, _⟩ => ⟨S128x1024, .f32⟩
  | .hbm, ⟨30, _⟩ => ⟨S12x128x128, .f32⟩
  | .hbm, ⟨31, _⟩ => ⟨S4x128x128, .f32⟩
  | .hbm, ⟨32, _⟩ => ⟨S4x128x128, .f32⟩
  | .hbm, ⟨33, _⟩ => ⟨S4x128x128, .f32⟩
  | .hbm, ⟨34, _⟩ => ⟨S_, .f32⟩
  | .hbm, ⟨35, _⟩ => ⟨S4x128x128, .f32⟩
  | .hbm, ⟨36, _⟩ => ⟨S4x128x128, .f32⟩
  | .hbm, ⟨37, _⟩ => ⟨S_, .f32⟩
  | .hbm, ⟨38, _⟩ => ⟨S4x128x128, .f32⟩
  | .hbm, ⟨39, _⟩ => ⟨S4x128x128, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c : Ref sig .tc := ⟨.hbm, 26, rfl⟩
abbrev main_call0_v0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Pool.lean ====
abbrev S16384x1024 : Shape := ⟨2, ![16384, 1024]⟩
abbrev S1024 : Shape := ⟨1, ![1024]⟩
abbrev S4x256x256 : Shape := ⟨3, ![4, 256, 256]⟩
abbrev S1x1024 : Shape := ⟨2, ![1, 1024]⟩
abbrev S4x15x1024 : Shape := ⟨3, ![4, 15, 1024]⟩
abbrev S512x1024 : Shape := ⟨2, ![512, 1024]⟩
abbrev S1x15x1024 : Shape := ⟨3, ![1, 15, 1024]⟩
abbrev S16x1024 : Shape := ⟨2, ![16, 1024]⟩
abbrev S512 : Shape := ⟨1, ![512]⟩
abbrev S512x1 : Shape := ⟨2, ![512, 1]⟩
abbrev S528x1024 : Shape := ⟨2, ![528, 1024]⟩
abbrev S512x256 : Shape := ⟨2, ![512, 256]⟩
abbrev S1x256x256 : Shape := ⟨3, ![1, 256, 256]⟩
abbrev S256x256 : Shape := ⟨2, ![256, 256]⟩
abbrev S15x1024 : Shape := ⟨2, ![15, 1024]⟩

abbrev nBuf : Space → Nat
  | .hbm => 9
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S4x256x256, .f32⟩
  | .hbm, ⟨3, _⟩ => ⟨S1024, .f32⟩
  | .hbm, ⟨4, _⟩ => ⟨S4x256x256, .bf16⟩
  | .hbm, ⟨5, _⟩ => ⟨S1x1024, .f32⟩
  | .hbm, ⟨6, _⟩ => ⟨S1x1024, .f32⟩
  | .hbm, ⟨7, _⟩ => ⟨S16384x1024, .f32⟩
  | .hbm, ⟨8, _⟩ => ⟨S4x15x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x256x256, .bf16⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S1x15x1024, .f32⟩
  | .local _ .vmem, ⟨8, _⟩ => ⟨S1x15x1024, .f32⟩
  | .local _ .vmem, ⟨9, _⟩ => ⟨S16x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v95 : BitVec 1 := Scalar.cmpi .eq arg1 c7_i32
  let v96 : BitVec 32 := Scalar.extui v95
  let c0_i32_34 : BitVec 32 := 0#32
  let v97 : BitVec 1 := Scalar.cmpi .ne v96 c0_i32_34
  v97

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x15x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== PoolRefIdeal.lean ====
abbrev S16384x1024 : Shape := ⟨2, ![16384, 1024]⟩
abbrev S1024 : Shape := ⟨1, ![1024]⟩
abbrev S4x256x256 : Shape := ⟨3, ![4, 256, 256]⟩
abbrev S4x4096x1024 : Shape := ⟨3, ![4, 4096, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x15x1024 : Shape := ⟨3, ![4, 15, 1024]⟩
abbrev S4096 : Shape := ⟨1, ![4096]⟩
abbrev S4x4111x1024 : Shape := ⟨3, ![4, 4111, 1024]⟩
abbrev S4x4096x256 : Shape := ⟨3, ![4, 4096, 256]⟩
abbrev S1x4096x1 : Shape := ⟨3, ![1, 4096, 1]⟩
abbrev S4x4096x4x256 : Shape := ⟨4, ![4, 4096, 4, 256]⟩
abbrev S4x256x4x4096 : Shape := ⟨4, ![4, 256, 4, 4096]⟩

abbrev nBuf : Space → Nat
  | .hbm => 133
  | .vmem => 0
  | .smem => 0
  | _ => 0

abbrev hbmTy0_0 (i : Nat) : BufTy := match i % 128 with
  | 0 => ⟨S16384x1024, .f32⟩
  | 1 => ⟨S1024, .f32⟩
  | 2 => ⟨S4x256x256, .f32⟩
  | 3 => ⟨S1024, .f32⟩
  | 4 => ⟨S4x4096x1024, .f32⟩
  | 5 => ⟨S4x4096x1024, .f32⟩
  | 6 => ⟨S_, .f32⟩
  | 7 => ⟨S4x4096, .f32⟩
  | 8 => ⟨S4x4096x1, .f32⟩
  | 9 => ⟨S_, .f32⟩
  | 10 => ⟨S4x4096x1, .f32⟩
  | 11 => ⟨S4x4096x1, .f32⟩
  | 12 => ⟨S_, .f32⟩
  | 13 => ⟨S4x4096x1, .f32⟩
  | 14 => ⟨S4x4096x1, .f32⟩
  | 15 => ⟨S4x4096x1, .f32⟩
  | 16 => ⟨S4x4096x1024, .f32⟩
  | 17 => ⟨S4x4096x1024, .f32⟩
  | 18 => ⟨S1x1x1024, .f32⟩
  | 19 => ⟨S4x4096x1024, .f32⟩
  | 20 => ⟨S4x4096x1024, .f32⟩
  | 21 => ⟨S_, .f32⟩
  | 22 => ⟨S4x15x1024, .f32⟩
  | 23 => ⟨S4096, .i32⟩
  | 24 => ⟨S4x4111x1024, .f32⟩
  | 25 => ⟨S4x4096x256, .f32⟩
  | 26 => ⟨S4x4096x256, .f32⟩
  | 27 => ⟨S4x4096x256, .f32⟩
  | 28 => ⟨S_, .i32⟩
  | 29 => ⟨S4096, .i32⟩
  | 30 => ⟨S4096, .i32⟩
  | 31 => ⟨S_, .i32⟩
  | 32 => ⟨S4096, .i32⟩
  | 33 => ⟨S4096, .i32⟩
  | 34 => ⟨S4096, .f32⟩
  | 35 => ⟨S1x4096x1, .f32⟩
  | 36 => ⟨S4x4096x256, .f32⟩
  | 37 => ⟨S4x4096x256, .f32⟩
  | 38 => ⟨S4x4096x256, .f32⟩
  | 39 => ⟨S4x4096x256, .f32⟩
  | 40 => ⟨S4x4096x256, .f32⟩
  | 41 => ⟨S4x4096x256, .f32⟩
  | 42 => ⟨S4x4096x256, .f32⟩
  | 43 => ⟨S4x4096x256, .f32⟩
  | 44 => ⟨S4x4096x256, .f32⟩
  | 45 => ⟨S_, .i32⟩
  | 46 => ⟨S4096, .i32⟩
  | 47 => ⟨S4096, .i32⟩
  | 48 => ⟨S_, .i32⟩
  | 49 => ⟨S4096, .i32⟩
  | 50 => ⟨S4096, .i32⟩
  | 51 => ⟨S4096, .f32⟩
  | 52 => ⟨S1x4096x1, .f32⟩
  | 53 => ⟨S4x4096x256, .f32⟩
  | 54 => ⟨S4x4096x256, .f32⟩
  | 55 => ⟨S4x4096x256, .f32⟩
  | 56 => ⟨S4x4096x256, .f32⟩
  | 57 => ⟨S4x4096x256, .f32⟩
  | 58 => ⟨S4x4096x256, .f32⟩
  | 59 => ⟨S4x4096x256, .f32⟩
  | 60 => ⟨S4x4096x256, .f32⟩
  | 61 => ⟨S4x4096x256, .f32⟩
  | 62 => ⟨S4x4096x256, .f32⟩
  | 63 => ⟨S4x4096x256, .f32⟩
  | 64 => ⟨S4x4096x256, .f32⟩
  | 65 => ⟨S4x4096x256, .f32⟩
  | 66 => ⟨S4x4096x256, .f32⟩
  | 67 => ⟨S4x4096x256, .f32⟩
  | 68 => ⟨S4x4096x256, .f32⟩
  | 69 => ⟨S4x4096x256, .f32⟩
  | 70 => ⟨S_, .i32⟩
  | 71 => ⟨S4096, .i32⟩
  | 72 => ⟨S4096, .i32⟩
  | 73 => ⟨S_, .i32⟩
  | 74 => ⟨S4096, .i32⟩
  | 75 => ⟨S4096, .i32⟩
  | 76 => ⟨S4096, .f32⟩
  | 77 => ⟨S1x4096x1, .f32⟩
  | 78 => ⟨S4x4096x256, .f32⟩
  | 79 => ⟨S4x4096x256, .f32⟩
  | 80 => ⟨S4x4096x256, .f32⟩
  | 81 => ⟨S4x4096x256, .f32⟩
  | 82 => ⟨S4x4096x256, .f32⟩
  | 83 => ⟨S4x4096x256, .f32⟩
  | 84 => ⟨S4x4096x256, .f32⟩
  | 85 => ⟨S4x4096x256, .f32⟩
  | 86 => ⟨S4x4096x256, .f32⟩
  | 87 => ⟨S4x4096x256, .f32⟩
  | 88 => ⟨S4x4096x256, .f32⟩
  | 89 => ⟨S4x4096x256, .f32⟩
  | 90 => ⟨S4x4096x256, .f32⟩
  | 91 => ⟨S4x4096x256, .f32⟩
  | 92 => ⟨S4x4096x256, .f32⟩
  | 93 => ⟨S4x4096x256, .f32⟩
  | 94 => ⟨S4x4096x256, .f32⟩
  | 95 => ⟨S4x4096x256, .f32⟩
  | 96 => ⟨S4x4096x256, .f32⟩
  | 97 => ⟨S4x4096x256, .f32⟩
  | 98 => ⟨S4x4096x256, .f32⟩
  | 99 => ⟨S4x4096x256, .f32⟩
  | 100 => ⟨S4x4096x256, .f32⟩
  | 101 => ⟨S4x4096x256, .f32⟩
  | 102 => ⟨S4x4096x256, .f32⟩
  | 103 => ⟨S4x4096x256, .f32⟩
  | 104 => ⟨S4x4096x256, .f32⟩
  | 105 => ⟨S4x4096x256, .f32⟩
  | 106 => ⟨S4x4096x256, .f32⟩
  | 107 => ⟨S4x4096x256, .f32⟩
  | 108 => ⟨S4x4096x256, .f32⟩
  | 109 => ⟨S4x4096x256, .f32⟩
  | 110 => ⟨S4x4096x256, .f32⟩
  | 111 => ⟨S_, .i32⟩
  | 112 => ⟨S4096, .i32⟩
  | 113 => ⟨S4096, .i32⟩
  | 114 => ⟨S_, .i32⟩
  | 115 => ⟨S4096, .i32⟩
  | 116 => ⟨S4096, .i32⟩
  | 117 => ⟨S4096, .f32⟩
  | 118 => ⟨S1x4096x1, .f32⟩
  | 119 => ⟨S4x4096x256, .f32⟩
  | 120 => ⟨S4x4096x256, .f32⟩
  | 121 => ⟨S4x4096x1024, .f32⟩
  | 122 => ⟨S4x4096x1024, .f32⟩
  | 123 => ⟨S4x4096x4x256, .f32⟩
  | 124 => ⟨S4x256x4x4096, .f32⟩
  | 125 => ⟨S4x4096x4x256, .f32⟩
  | 126 => ⟨S4x4096x1024, .f32⟩
  | 127 => ⟨S1x1x1024, .f32⟩
  | _ => ⟨S16384x1024, .f32⟩

abbrev hbmTy0_1 (i : Nat) : BufTy := match i % 128 with
  | 0 => ⟨S4x4096x1024, .f32⟩
  | 1 => ⟨S4x4096x1024, .f32⟩
  | 2 => ⟨S4x15x1024, .f32⟩
  | 3 => ⟨S4x4096x1024, .f32⟩
  | 4 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_c_4 : Ref sig .tc := ⟨.hbm, 45, rfl⟩
abbrev main_v35 : Ref sig .tc := ⟨.hbm, 46, rfl⟩
abbrev main_v36 : Ref sig .tc := ⟨.hbm, 47, rfl⟩
abbrev main_c_5 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_c_6 : Ref sig .tc := ⟨.hbm, 70, rfl⟩
abbrev main_v58 : Ref sig .tc := ⟨.hbm, 71, rfl⟩
abbrev main_v59 : Ref sig .tc := ⟨.hbm, 72, rfl⟩
abbrev main_c_7 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_c_8 : Ref sig .tc := ⟨.hbm, 111, rfl⟩
abbrev main_v97 : Ref sig .tc := ⟨.hbm, 112, rfl⟩
abbrev main_v98 : Ref sig .tc := ⟨.hbm, 113, rfl⟩
abbrev main_c_9 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩

abbrev nD : Nat := 1
abbrev τ : Topo := Topo.v7x

variable {F : FTy → Type} [FloatOps F]
-- ==== PoolS.lean ====
abbrev S128x1024 : Shape := ⟨2, ![128, 1024]⟩
abbrev S1024 : Shape := ⟨1, ![1024]⟩
abbrev S128x15x1024 : Shape := ⟨3, ![128, 15, 1024]⟩
abbrev S4x256x256 : Shape := ⟨3, ![4, 256, 256]⟩
abbrev S1x1024 : Shape := ⟨2, ![1, 1024]⟩
abbrev S128x15360 : Shape := ⟨2, ![128, 15360]⟩
abbrev S128 : Shape := ⟨1, ![128]⟩
abbrev S128x1 : Shape := ⟨2, ![128, 1]⟩
abbrev S128x256 : Shape := ⟨2, ![128, 256]⟩
abbrev S1x256x256 : Shape := ⟨3, ![1, 256, 256]⟩
abbrev S256x256 : Shape := ⟨2, ![256, 256]⟩
abbrev S128x14336 : Shape := ⟨2, ![128, 14336]⟩

abbrev nBuf : Space → Nat
  | .hbm => 11
  | .vmem => 7
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S128x15x1024, .f32⟩
  | .hbm, ⟨3, _⟩ => ⟨S4x256x256, .f32⟩
  | .hbm, ⟨4, _⟩ => ⟨S1024, .f32⟩
  | .hbm, ⟨5, _⟩ => ⟨S4x256x256, .bf16⟩
  | .hbm, ⟨6, _⟩ => ⟨S1x1024, .f32⟩
  | .hbm, ⟨7, _⟩ => ⟨S128x15360, .f32⟩
  | .hbm, ⟨8, _⟩ => ⟨S1x1024, .f32⟩
  | .hbm, ⟨9, _⟩ => ⟨S128x1024, .f32⟩
  | .hbm, ⟨10, _⟩ => ⟨S128x15360, .f32⟩
  | .local _ .vmem, ⟨0, _⟩ => ⟨S128x1024, .f32⟩
  | .local _ .vmem, ⟨1, _⟩ => ⟨S1x1024, .f32⟩
  | .local _ .vmem, ⟨2, _⟩ => ⟨S128x15360, .f32⟩
  | .local _ .vmem, ⟨3, _⟩ => ⟨S4x256x256, .bf16⟩
  | .local _ .vmem, ⟨4, _⟩ => ⟨S1x1024, .f32⟩
  | .local _ .vmem, ⟨5, _⟩ => ⟨S128x1024, .f32⟩
  | .local _ .vmem, ⟨6, _⟩ => ⟨S128x15360, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x15360 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x15360 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== PoolSRefIdeal.lean ====
abbrev S128x1024 : Shape := ⟨2, ![128, 1024]⟩
abbrev S1024 : Shape := ⟨1, ![1024]⟩
abbrev S128x15x1024 : Shape := ⟨3, ![128, 15, 1024]⟩
abbrev S4x256x256 : Shape := ⟨3, ![4, 256, 256]⟩
abbrev S128x1x1024 : Shape := ⟨3, ![128, 1, 1024]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S1 : Shape := ⟨1, ![1]⟩
abbrev S128x16x1024 : Shape := ⟨3, ![128, 16, 1024]⟩
abbrev S128x1x256 : Shape := ⟨3, ![128, 1, 256]⟩
abbrev S1x1x1 : Shape := ⟨3, ![1, 1, 1]⟩
abbrev S128x1x4x256 : Shape := ⟨4, ![128, 1, 4, 256]⟩
abbrev S4x256x128x1 : Shape := ⟨4, ![4, 256, 128, 1]⟩
abbrev S128x15360 : Shape := ⟨2, ![128, 15360]⟩

abbrev nBuf : Space → Nat
  | .hbm => 136
  | .vmem => 0
  | .smem => 0
  | _ => 0

abbrev hbmTy0_0 (i : Nat) : BufTy := match i % 128 with
  | 0 => ⟨S128x1024, .f32⟩
  | 1 => ⟨S1024, .f32⟩
  | 2 => ⟨S128x15x1024, .f32⟩
  | 3 => ⟨S4x256x256, .f32⟩
  | 4 => ⟨S1024, .f32⟩
  | 5 => ⟨S128x1x1024, .f32⟩
  | 6 => ⟨S128x1x1024, .f32⟩
  | 7 => ⟨S_, .f32⟩
  | 8 => ⟨S128x1, .f32⟩
  | 9 => ⟨S128x1x1, .f32⟩
  | 10 => ⟨S_, .f32⟩
  | 11 => ⟨S128x1x1, .f32⟩
  | 12 => ⟨S128x1x1, .f32⟩
  | 13 => ⟨S_, .f32⟩
  | 14 => ⟨S128x1x1, .f32⟩
  | 15 => ⟨S128x1x1, .f32⟩
  | 16 => ⟨S128x1x1, .f32⟩
  | 17 => ⟨S128x1x1024, .f32⟩
  | 18 => ⟨S128x1x1024, .f32⟩
  | 19 => ⟨S1x1x1024, .f32⟩
  | 20 => ⟨S128x1x1024, .f32⟩
  | 21 => ⟨S128x1x1024, .f32⟩
  | 22 => ⟨S1, .i32⟩
  | 23 => ⟨S_, .i32⟩
  | 24 => ⟨S1, .i32⟩
  | 25 => ⟨S1, .i32⟩
  | 26 => ⟨S128x16x1024, .f32⟩
  | 27 => ⟨S128x1x256, .f32⟩
  | 28 => ⟨S128x1x256, .f32⟩
  | 29 => ⟨S128x1x256, .f32⟩
  | 30 => ⟨S_, .i32⟩
  | 31 => ⟨S1, .i32⟩
  | 32 => ⟨S1, .i32⟩
  | 33 => ⟨S_, .i32⟩
  | 34 => ⟨S1, .i32⟩
  | 35 => ⟨S1, .i32⟩
  | 36 => ⟨S1, .f32⟩
  | 37 => ⟨S1x1x1, .f32⟩
  | 38 => ⟨S128x1x256, .f32⟩
  | 39 => ⟨S128x1x256, .f32⟩
  | 40 => ⟨S128x1x256, .f32⟩
  | 41 => ⟨S128x1x256, .f32⟩
  | 42 => ⟨S128x1x256, .f32⟩
  | 43 => ⟨S128x1x256, .f32⟩
  | 44 => ⟨S128x1x256, .f32⟩
  | 45 => ⟨S128x1x256, .f32⟩
  | 46 => ⟨S128x1x256, .f32⟩
  | 47 => ⟨S_, .i32⟩
  | 48 => ⟨S1, .i32⟩
  | 49 => ⟨S1, .i32⟩
  | 50 => ⟨S_, .i32⟩
  | 51 => ⟨S1, .i32⟩
  | 52 => ⟨S1, .i32⟩
  | 53 => ⟨S1, .f32⟩
  | 54 => ⟨S1x1x1, .f32⟩
  | 55 => ⟨S128x1x256, .f32⟩
  | 56 => ⟨S128x1x256, .f32⟩
  | 57 => ⟨S128x1x256, .f32⟩
  | 58 => ⟨S128x1x256, .f32⟩
  | 59 => ⟨S128x1x256, .f32⟩
  | 60 => ⟨S128x1x256, .f32⟩
  | 61 => ⟨S128x1x256, .f32⟩
  | 62 => ⟨S128x1x256, .f32⟩
  | 63 => ⟨S128x1x256, .f32⟩
  | 64 => ⟨S128x1x256, .f32⟩
  | 65 => ⟨S128x1x256, .f32⟩
  | 66 => ⟨S128x1x256, .f32⟩
  | 67 => ⟨S128x1x256, .f32⟩
  | 68 => ⟨S128x1x256, .f32⟩
  | 69 => ⟨S128x1x256, .f32⟩
  | 70 => ⟨S128x1x256, .f32⟩
  | 71 => ⟨S128x1x256, .f32⟩
  | 72 => ⟨S_, .i32⟩
  | 73 => ⟨S1, .i32⟩
  | 74 => ⟨S1, .i32⟩
  | 75 => ⟨S_, .i32⟩
  | 76 => ⟨S1, .i32⟩
  | 77 => ⟨S1, .i32⟩
  | 78 => ⟨S1, .f32⟩
  | 79 => ⟨S1x1x1, .f32⟩
  | 80 => ⟨S128x1x256, .f32⟩
  | 81 => ⟨S128x1x256, .f32⟩
  | 82 => ⟨S128x1x256, .f32⟩
  | 83 => ⟨S128x1x256, .f32⟩
  | 84 => ⟨S128x1x256, .f32⟩
  | 85 => ⟨S128x1x256, .f32⟩
  | 86 => ⟨S128x1x256, .f32⟩
  | 87 => ⟨S128x1x256, .f32⟩
  | 88 => ⟨S128x1x256, .f32⟩
  | 89 => ⟨S128x1x256, .f32⟩
  | 90 => ⟨S128x1x256, .f32⟩
  | 91 => ⟨S128x1x256, .f32⟩
  | 92 => ⟨S128x1x256, .f32⟩
  | 93 => ⟨S128x1x256, .f32⟩
  | 94 => ⟨S128x1x256, .f32⟩
  | 95 => ⟨S128x1x256, .f32⟩
  | 96 => ⟨S128x1x256, .f32⟩
  | 97 => ⟨S128x1x256, .f32⟩
  | 98 => ⟨S128x1x256, .f32⟩
  | 99 => ⟨S128x1x256, .f32⟩
  | 100 => ⟨S128x1x256, .f32⟩
  | 101 => ⟨S128x1x256, .f32⟩
  | 102 => ⟨S128x1x256, .f32⟩
  | 103 => ⟨S128x1x256, .f32⟩
  | 104 => ⟨S128x1x256, .f32⟩
  | 105 => ⟨S128x1x256, .f32⟩
  | 106 => ⟨S128x1x256, .f32⟩
  | 107 => ⟨S128x1x256, .f32⟩
  | 108 => ⟨S128x1x256, .f32⟩
  | 109 => ⟨S128x1x256, .f32⟩
  | 110 => ⟨S128x1x256, .f32⟩
  | 111 => ⟨S128x1x256, .f32⟩
  | 112 => ⟨S128x1x256, .f32⟩
  | 113 => ⟨S_, .i32⟩
  | 114 => ⟨S1, .i32⟩
  | 115 => ⟨S1, .i32⟩
  | 116 => ⟨S_, .i32⟩
  | 117 => ⟨S1, .i32⟩
  | 118 => ⟨S1, .i32⟩
  | 119 => ⟨S1, .f32⟩
  | 120 => ⟨S1x1x1, .f32⟩
  | 121 => ⟨S128x1x256, .f32⟩
  | 122 => ⟨S128x1x256, .f32⟩
  | 123 => ⟨S128x1x1024, .f32⟩
  | 124 => ⟨S128x1x1024, .f32⟩
  | 125 => ⟨S128x1x4x256, .f32⟩
  | 126 => ⟨S4x256x128x1, .f32⟩
  | 127 => ⟨S128x1x4x256, .f32⟩
  | _ => ⟨S128x1024, .f32⟩

abbrev hbmTy0_1 (i : Nat) : BufTy := match i % 128 with
  | 0 => ⟨S128x1x1024, .f32⟩
  | 1 => ⟨S1x1x1024, .f32⟩
  | 2 => ⟨S128x1x1024, .f32⟩
  | 3 => ⟨S128x1x1024, .f32⟩
  | 4 => ⟨S128x15x1024, .f32⟩
  | 5 => ⟨S128x1x1024, .f32⟩
  | 6 => ⟨S128x1024, .f32⟩
  | 7 => ⟨S128x15360, .f32⟩
  | _ => ⟨S128x1024, .f32⟩

abbrev hbmTy (i : Nat) : BufTy := match i / 128 with
  | 0 => hbmTy0_0 i
  | 1 => hbmTy0_1 i
  | _ => ⟨S128x1024, .f32⟩

abbrev bufTy : (tb : Table) → Fin (tcTables nBuf tb) → BufTy
  | .hbm, ⟨i, _⟩ => hbmTy i
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_2 : Ref sig .tc := ⟨.hbm, 30, rfl⟩
abbrev main_v21 : Ref sig .tc := ⟨.hbm, 31, rfl⟩
abbrev main_v22 : Ref sig .tc := ⟨.hbm, 32, rfl⟩
abbrev main_c_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_c_4 : Ref sig .tc := ⟨.hbm, 47, rfl⟩
abbrev main_v36 : Ref sig .tc := ⟨.hbm, 48, rfl⟩
abbrev main_v37 : Ref sig .tc := ⟨.hbm, 49, rfl⟩
abbrev main_c_5 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_c_6 : Ref sig .tc := ⟨.hbm, 72, rfl⟩
abbrev main_v59 : Ref sig .tc := ⟨.hbm, 73, rfl⟩
abbrev main_v60 : Ref sig .tc := ⟨.hbm, 74, rfl⟩
abbrev main_c_7 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_c_8 : Ref sig .tc := ⟨.hbm, 113, rfl⟩
abbrev main_v98 : Ref sig .tc := ⟨.hbm, 114, rfl⟩
abbrev main_v99 : Ref sig .tc := ⟨.hbm, 115, rfl⟩
abbrev main_c_9 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩

abbrev nD : Nat := 1
abbrev τ : Topo := Topo.v7x

variable {F : FTy → Type} [FloatOps F]
-- ==== NsaPrompt.lean ====
abbrev S16384x1024 : Shape := ⟨2, ![16384, 1024]⟩
abbrev S4x16384x128 : Shape := ⟨3, ![4, 16384, 128]⟩
abbrev S4x256x128 : Shape := ⟨3, ![4, 256, 128]⟩
abbrev S4x4x5120x128 : Shape := ⟨4, ![4, 4, 5120, 128]⟩
abbrev S4x256x256 : Shape := ⟨3, ![4, 256, 256]⟩
abbrev S4x256x640 : Shape := ⟨3, ![4, 256, 640]⟩
abbrev S4x3x256x64 : Shape := ⟨4, ![4, 3, 256, 64]⟩
abbrev S4x8x256 : Shape := ⟨3, ![4, 8, 256]⟩
abbrev S64x1024 : Shape := ⟨2, ![64, 1024]⟩
abbrev S4x64x128 : Shape := ⟨3, ![4, 64, 128]⟩
abbrev S1x1x5120x128 : Shape := ⟨4, ![1, 1, 5120, 128]⟩
abbrev S64x128 : Shape := ⟨2, ![64, 128]⟩
abbrev S256x64 : Shape := ⟨2, ![256, 64]⟩
abbrev S64x256 : Shape := ⟨2, ![64, 256]⟩
abbrev S256x128 : Shape := ⟨2, ![256, 128]⟩
abbrev S1x64x128 : Shape := ⟨3, ![1, 64, 128]⟩
abbrev S1x1x256x64 : Shape := ⟨4, ![1, 1, 256, 64]⟩
abbrev S1x8x256 : Shape := ⟨3, ![1, 8, 256]⟩
abbrev S8x256 : Shape := ⟨2, ![8, 256]⟩
abbrev S1x256 : Shape := ⟨2, ![1, 256]⟩
abbrev S1024x64 : Shape := ⟨2, ![1024, 64]⟩
abbrev S1024 : Shape := ⟨1, ![1024]⟩
abbrev S1024x1 : Shape := ⟨2, ![1024, 1]⟩
abbrev S1x1024 : Shape := ⟨2, ![1, 1024]⟩
abbrev S64x512 : Shape := ⟨2, ![64, 512]⟩
abbrev S512 : Shape := ⟨1, ![512]⟩
abbrev S1x512 : Shape := ⟨2, ![1, 512]⟩
abbrev S128x128 : Shape := ⟨2, ![128, 128]⟩
abbrev S64 : Shape := ⟨1, ![64]⟩
abbrev S64x1 : Shape := ⟨2, ![64, 1]⟩
abbrev S1x640 : Shape := ⟨2, ![1, 640]⟩
abbrev S1x1x640x128 : Shape := ⟨4, ![1, 1, 640, 128]⟩
abbrev S640x128 : Shape := ⟨2, ![640, 128]⟩
abbrev S256x640 : Shape := ⟨2, ![256, 640]⟩
abbrev S1x256x640 : Shape := ⟨3, ![1, 256, 640]⟩
abbrev S1024x640 : Shape := ⟨2, ![1024, 640]⟩
abbrev S1x1x1024x128 : Shape := ⟨4, ![1, 1, 1024, 128]⟩
abbrev S1024x128 : Shape := ⟨2, ![1024, 128]⟩
abbrev S256x1024 : Shape := ⟨2, ![256, 1024]⟩
abbrev S1024x1024 : Shape := ⟨2, ![1024, 1024]⟩
abbrev S256x1 : Shape := ⟨2, ![256, 1]⟩
abbrev S1x1x256x128 : Shape := ⟨4, ![1, 1, 256, 128]⟩
abbrev S256x256 : Shape := ⟨2, ![256, 256]⟩
abbrev S1x256x256 : Shape := ⟨3, ![1, 256, 256]⟩
abbrev S256 : Shape := ⟨1, ![256]⟩

abbrev nBuf : Space → Nat
  | .hbm => 12
  | .vmem => 44
  | .smem => 0
  | _ => 0

abbrev bufTy : (tb : Table) → Fin (tcTables nBuf tb) → BufTy
  | .hbm, ⟨0, _⟩ => ⟨S16384x1024, .f32⟩
  | .hbm, ⟨1, _⟩ => ⟨S4x16384x128, .f32⟩
  | .hbm, ⟨2, _⟩ => ⟨S4x256x128, .f32⟩
  | .hbm, ⟨3, _⟩ => ⟨S4x4x5120x128, .bf16⟩
  | .hbm, ⟨4, _⟩ => ⟨S4x4x5120x128, .bf16⟩
  | .hbm, ⟨5, _⟩ => ⟨S4x4x5120x128, .bf16⟩
  | .hbm, ⟨6, _⟩ => ⟨S4x4x5120x128, .bf16⟩
  | .hbm, ⟨7, _⟩ => ⟨S4x256x256, .f32⟩
  | .hbm, ⟨8, _⟩ => ⟨S4x256x640, .f32⟩
  | .hbm, ⟨9, _⟩ => ⟨S4x3x256x64, .f32⟩
  | .hbm, ⟨10, _⟩ => ⟨S4x8x256, .f32⟩
  | .hbm, ⟨11, _⟩ => ⟨S16384x1024, .f32⟩
  | .local _ .vmem, ⟨0, _⟩ => ⟨S64x1024, .f32⟩
  | .local _ .vmem, ⟨1, _⟩ => ⟨S64x1024, .f32⟩
  | .local _ .vmem, ⟨2, _⟩ => ⟨S4x64x128, .f32⟩
  | .local _ .vmem, ⟨3, _⟩ => ⟨S4x64x128, .f32⟩
  | .local _ .vmem, ⟨4, _⟩ => ⟨S4x64x128, .f32⟩
  | .local _ .vmem, ⟨5, _⟩ => ⟨S4x64x128, .f32⟩
  | .local _ .vmem, ⟨6, _⟩ => ⟨S1x1x5120x128, .bf16⟩
  | .local _ .vmem, ⟨7, _⟩ => ⟨S1x1x5120x128, .bf16⟩
  | .local _ .vmem, ⟨8, _⟩ => ⟨S1x1x5120x128, .bf16⟩
  | .local _ .vmem, ⟨9, _⟩ => ⟨S1x1x5120x128, .bf16⟩
  | .local _ .vmem, ⟨10, _⟩ => ⟨S1x1x5120x128, .bf16⟩
  | .local _ .vmem, ⟨11, _⟩ => ⟨S1x1x5120x128, .bf16⟩
  | .local _ .vmem, ⟨12, _⟩ => ⟨S1x1x5120x128, .bf16⟩
  | .local _ .vmem, ⟨13, _⟩ => ⟨S1x1x5120x128, .bf16⟩
  | .local _ .vmem, ⟨14, _⟩ => ⟨S1x1x5120x128, .bf16⟩
  | .local _ .vmem, ⟨15, _⟩ => ⟨S1x1x5120x128, .bf16⟩
  | .local _ .vmem, ⟨16, _⟩ => ⟨S1x1x5120x128, .bf16⟩
  | .local _ .vmem, ⟨17, _⟩ => ⟨S1x1x5120x128, .bf16⟩
  | .local _ .vmem, ⟨18, _⟩ => ⟨S1x1x5120x128, .bf16⟩
  | .local _ .vmem, ⟨19, _⟩ => ⟨S1x1x5120x128, .bf16⟩
  | .local _ .vmem, ⟨20, _⟩ => ⟨S1x1x5120x128, .bf16⟩
  | .local _ .vmem, ⟨21, _⟩ => ⟨S1x1x5120x128, .bf16⟩
  | .local _ .vmem, ⟨22, _⟩ => ⟨S1x1x5120x128, .bf16⟩
  | .local _ .vmem, ⟨23, _⟩ => ⟨S1x1x5120x128, .bf16⟩
  | .local _ .vmem, ⟨24, _⟩ => ⟨S1x1x5120x128, .bf16⟩
  | .local _ .vmem, ⟨25, _⟩ => ⟨S1x1x5120x128, .bf16⟩
  | .local _ .vmem, ⟨26, _⟩ => ⟨S1x1x5120x128, .bf16⟩
  | .local _ .vmem, ⟨27, _⟩ => ⟨S1x1x5120x128, .bf16⟩
  | .local _ .vmem, ⟨28, _⟩ => ⟨S1x1x5120x128, .bf16⟩
  | .local _ .vmem, ⟨29, _⟩ => ⟨S1x1x5120x128, .bf16⟩
  | .local _ .vmem, ⟨30, _⟩ => ⟨S1x1x5120x128, .bf16⟩
  | .local _ .vmem, ⟨31, _⟩ => ⟨S1x1x5120x128, .bf16⟩
  | .local _ .vmem, ⟨32, _⟩ => ⟨S1x1x5120x128, .bf16⟩
  | .local _ .vmem, ⟨33, _⟩ => ⟨S1x1x5120x128, .bf16⟩
  | .local _ .vmem, ⟨34, _⟩ => ⟨S1x1x5120x128, .bf16⟩
  | .local _ .vmem, ⟨35, _⟩ => ⟨S1x1x5120x128, .bf16⟩
  | .local _ .vmem, ⟨36, _⟩ => ⟨S1x1x5120x128, .bf16⟩
  | .local _ .vmem, ⟨37, _⟩ => ⟨S1x1x5120x128, .bf16⟩
  | .local _ .vmem, ⟨38, _⟩ => ⟨S4x256x256, .f32⟩
  | .local _ .vmem, ⟨39, _⟩ => ⟨S4x256x640, .f32⟩
  | .local _ .vmem, ⟨40, _⟩ => ⟨S4x3x256x64, .f32⟩
  | .local _ .vmem, ⟨41, _⟩ => ⟨S4x8x256, .f32⟩
  | .local _ .vmem, ⟨42, _⟩ => ⟨S64x1024, .f32⟩
  | .local _ .vmem, ⟨43, _⟩ => ⟨S64x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg20_0 : Ref sig .tc := ⟨.vmem, 39, rfl⟩
abbrev cc0_stg21_0 : Ref sig .tc := ⟨.vmem, 40, rfl⟩
abbrev cc0_stg22_0 : Ref sig .tc := ⟨.vmem, 41, rfl⟩
abbrev cc0_stg23_0 : Ref sig .tc := ⟨.vmem, 42, rfl⟩
abbrev cc0_stg23_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem20_0 : DmaSem sig := 39
abbrev cc0_sem21_0 : DmaSem sig := 40
abbrev cc0_sem22_0 : DmaSem sig := 41
abbrev cc0_sem23_0 : DmaSem sig := 42
abbrev cc0_sem23_1 : DmaSem sig := 43

abbrev nD : Nat := 1
abbrev τ : Topo := Topo.v7x

variable {F : FTy → Type} [FloatOps F]

abbrev grid0 : Pipeline.Grid := ⟨3, ![4, 1, 64], ![false, false, false]⟩

def k0_mult1 (i : grid0.Coords) : BitVec 32 :=
  let arg2 : BitVec 32 := BitVec.ofNat 32 (i 2).val
  let c1_i32_359 : BitVec 32 := 1#32
  let v876 : BitVec 32 := Scalar.addi arg2 c1_i32_359
  let c64_i32_360 : BitVec 32 := 64#32
  let v877 : BitVec 32 := Scalar.muli v876 c64_i32_360
  let c384_i32 : BitVec 32 := 384#32
  let v878 : BitVec 32 := Scalar.addi v877 c384_i32
  v878
def k0_off1 (i : grid0.Coords) : Fin 4 → Nat :=
  let c0_365 : Index := 0#32
  let c0_366 : Index := 0#32
  let arg2 : BitVec 32 := BitVec.ofNat 32 (i 2).val
  let c1_i32_359 : BitVec 32 := 1#32
  let v876 : BitVec 32 := Scalar.addi arg2 c1_i32_359
  let c64_i32_360 : BitVec 32 := 64#32
  let v877 : BitVec 32 := Scalar.muli v876 c64_i32_360
  let c384_i32 : BitVec 32 := 384#32
  let v878 : BitVec 32 := Scalar.addi v877 c384_i32
  let v879 : BitVec 32 := v878
  let v889 : Index := Scalar.indexCast v879
  let c0_367 : Index := 0#32
  ![0, 0, v889.toNat, 0]
@[reducible] def k0_t1_loop (i : grid0.Coords) : Scf.Loop 32 :=
  let c0_i32_430 : BitVec 32 := 0#32
  let arg2 : BitVec 32 := BitVec.ofNat 32 (i 2).val
  let c3_i32_414 : BitVec 32 := 3#32
  let v954 : BitVec 32 := Scalar.subi arg2 c3_i32_414
  let c0_i32_415 : BitVec 32 := 0#32
  let v955 : BitVec 32 := Scalar.maxsi v954 c0_i32_415
  let c16_i32_421 : BitVec 32 := 16#32
  let v961 : BitVec 32 := Scalar.addi v955 c16_i32_421
  let c1_i32_422 : BitVec 32 := 1#32
  let v962 : BitVec 32 := Scalar.subi v961 c1_i32_422
  let c0_i32_424 : BitVec 32 := 0#32
  let v964 : BitVec 1 := Scalar.cmpi .sgt v962 c0_i32_424
  let v965 : BitVec 32 := Scalar.extui v964
  let c0_i32_425 : BitVec 32 := 0#32
  let v966 : BitVec 1 := Scalar.cmpi .slt v962 c0_i32_425
  let v967 : BitVec 32 := Scalar.extui v966
  let v968 : BitVec 32 := Scalar.subi v965 v967
  let c16_i32_423 : BitVec 32 := 16#32
  let c0_i32_426 : BitVec 32 := 0#32
  let v969 : BitVec 1 := Scalar.cmpi .sgt c16_i32_423 c0_i32_426
  let v970 : BitVec 32 := Scalar.extui v969
  let c0_i32_427 : BitVec 32 := 0#32
  let v971 : BitVec 1 := Scalar.cmpi .slt c16_i32_423 c0_i32_427
  let v972 : BitVec 32 := Scalar.extui v971
  let v973 : BitVec 32 := Scalar.subi v970 v972
  let v974 : BitVec 1 := Scalar.cmpi .ne v968 v973
  let v975 : BitVec 32 := Scalar.remsi v962 c16_i32_423
  let c0_i32_428 : BitVec 32 := 0#32
  let v976 : BitVec 1 := Scalar.cmpi .ne v975 c0_i32_428
  let v977 : BitVec 1 := Scalar.andi v974 v976
  let v963 : BitVec 32 := Scalar.divsi v962 c16_i32_423
  let c1_i32_429 : BitVec 32 := 1#32
  let v978 : BitVec 32 := Scalar.subi v963 c1_i32_429
  let v979 : BitVec 32 := Scalar.select v977 v978 v963
  let v980 : BitVec 32 := Scalar.subi v979 c0_i32_430
  let c1_i32_431 : BitVec 32 := 1#32
  let v982 : BitVec 32 := Scalar.divsi v980 c1_i32_431
  let v983 : BitVec 32 := Scalar.muli v982 c1_i32_431
  let v984 : BitVec 32 := Scalar.addi c0_i32_430 v983
  let c1_i32_432 : BitVec 32 := 1#32
  ⟨c0_i32_430, v984, c1_i32_432⟩
def k0_mult2 (i : grid0.Coords) (k0_t1 : Fin (k0_t1_loop i).trips) : BitVec 32 :=
  let c1024_i32_671 : BitVec 32 := 1024#32
  let c0_i32_430 : BitVec 32 := 0#32
  let c1_i32_432 : BitVec 32 := 1#32
  let arg27 : BitVec 32 := Scf.iv c0_i32_430 c1_i32_432 k0_t1
  let c1024_i32 : BitVec 32 := 1024#32
  let v1615 : BitVec 32 := Scalar.muli arg27 c1024_i32
  let v1616 : BitVec 32 := Scalar.addi c1024_i32_671 v1615
  v1616
def k0_off2 (i : grid0.Coords) (k0_t1 : Fin (k0_t1_loop i).trips) : Fin 4 → Nat :=
  let c0_672 : Index := 0#32
  let c0_673 : Index := 0#32
  let c1024_i32_671 : BitVec 32 := 1024#32
  let c0_i32_430 : BitVec 32 := 0#32
  let c1_i32_432 : BitVec 32 := 1#32
  let arg27 : BitVec 32 := Scf.iv c0_i32_430 c1_i32_432 k0_t1
  let c1024_i32 : BitVec 32 := 1024#32
  let v1615 : BitVec 32 := Scalar.muli arg27 c1024_i32
  let v1616 : BitVec 32 := Scalar.addi c1024_i32_671 v1615
  let v1617 : BitVec 32 := v1616
  let v1618 : Index := Scalar.indexCast v1617
  let c0_674 : Index := 0#32
  ![0, 0, v1618.toNat, 0]
@[reducible] def k0_t2_loop (i : grid0.Coords) : Scf.Loop 32 :=
  let c0_i32_430 : BitVec 32 := 0#32
  let arg2 : BitVec 32 := BitVec.ofNat 32 (i 2).val
  let c3_i32_414 : BitVec 32 := 3#32
  let v954 : BitVec 32 := Scalar.subi arg2 c3_i32_414
  let c0_i32_415 : BitVec 32 := 0#32
  let v955 : BitVec 32 := Scalar.maxsi v954 c0_i32_415
  let c16_i32_421 : BitVec 32 := 16#32
  let v961 : BitVec 32 := Scalar.addi v955 c16_i32_421
  let c1_i32_422 : BitVec 32 := 1#32
  let v962 : BitVec 32 := Scalar.subi v961 c1_i32_422
  let c0_i32_424 : BitVec 32 := 0#32
  let v964 : BitVec 1 := Scalar.cmpi .sgt v962 c0_i32_424
  let v965 : BitVec 32 := Scalar.extui v964
  let c0_i32_425 : BitVec 32 := 0#32
  let v966 : BitVec 1 := Scalar.cmpi .slt v962 c0_i32_425
  let v967 : BitVec 32 := Scalar.extui v966
  let v968 : BitVec 32 := Scalar.subi v965 v967
  let c16_i32_423 : BitVec 32 := 16#32
  let c0_i32_426 : BitVec 32 := 0#32
  let v969 : BitVec 1 := Scalar.cmpi .sgt c16_i32_423 c0_i32_426
  let v970 : BitVec 32 := Scalar.extui v969
  let c0_i32_427 : BitVec 32 := 0#32
  let v971 : BitVec 1 := Scalar.cmpi .slt c16_i32_423 c0_i32_427
  let v972 : BitVec 32 := Scalar.extui v971
  let v973 : BitVec 32 := Scalar.subi v970 v972
  let v974 : BitVec 1 := Scalar.cmpi .ne v968 v973
  let v975 : BitVec 32 := Scalar.remsi v962 c16_i32_423
  let c0_i32_428 : BitVec 32 := 0#32
  let v976 : BitVec 1 := Scalar.cmpi .ne v975 c0_i32_428
  let v977 : BitVec 1 := Scalar.andi v974 v976
  let v963 : BitVec 32 := Scalar.divsi v962 c16_i32_423
  let c1_i32_429 : BitVec 32 := 1#32
  let v978 : BitVec 32 := Scalar.subi v963 c1_i32_429
  let v979 : BitVec 32 := Scalar.select v977 v978 v963
  let v980 : BitVec 32 := Scalar.subi v979 c0_i32_430
  let c1_i32_431 : BitVec 32 := 1#32
  let v982 : BitVec 32 := Scalar.divsi v980 c1_i32_431
  let v983 : BitVec 32 := Scalar.muli v982 c1_i32_431
  let v984 : BitVec 32 := Scalar.addi c0_i32_430 v983
  let v981 : BitVec 32 := Scalar.addi c0_i32_430 v980
  let c1_i32_433 : BitVec 32 := 1#32
  ⟨v984, v981, c1_i32_433⟩
def k0_mult3 (i : grid0.Coords) (k0_t2 : Fin (k0_t2_loop i).trips) : BitVec 32 :=
  let c1024_i32_671 : BitVec 32 := 1024#32
  let c0_i32_430 : BitVec 32 := 0#32
  let arg2 : BitVec 32 := BitVec.ofNat 32 (i 2).val
  let c3_i32_414 : BitVec 32 := 3#32
  let v954 : BitVec 32 := Scalar.subi arg2 c3_i32_414
  let c0_i32_415 : BitVec 32 := 0#32
  let v955 : BitVec 32 := Scalar.maxsi v954 c0_i32_415
  let c16_i32_421 : BitVec 32 := 16#32
  let v961 : BitVec 32 := Scalar.addi v955 c16_i32_421
  let c1_i32_422 : BitVec 32 := 1#32
  let v962 : BitVec 32 := Scalar.subi v961 c1_i32_422
  let c0_i32_424 : BitVec 32 := 0#32
  let v964 : BitVec 1 := Scalar.cmpi .sgt v962 c0_i32_424
  let v965 : BitVec 32 := Scalar.extui v964
  let c0_i32_425 : BitVec 32 := 0#32
  let v966 : BitVec 1 := Scalar.cmpi .slt v962 c0_i32_425
  let v967 : BitVec 32 := Scalar.extui v966
  let v968 : BitVec 32 := Scalar.subi v965 v967
  let c16_i32_423 : BitVec 32 := 16#32
  let c0_i32_426 : BitVec 32 := 0#32
  let v969 : BitVec 1 := Scalar.cmpi .sgt c16_i32_423 c0_i32_426
  let v970 : BitVec 32 := Scalar.extui v969
  let c0_i32_427 : BitVec 32 := 0#32
  let v971 : BitVec 1 := Scalar.cmpi .slt c16_i32_423 c0_i32_427
  let v972 : BitVec 32 := Scalar.extui v971
  let v973 : BitVec 32 := Scalar.subi v970 v972
  let v974 : BitVec 1 := Scalar.cmpi .ne v968 v973
  let v975 : BitVec 32 := Scalar.remsi v962 c16_i32_423
  let c0_i32_428 : BitVec 32 := 0#32
  let v976 : BitVec 1 := Scalar.cmpi .ne v975 c0_i32_428
  let v977 : BitVec 1 := Scalar.andi v974 v976
  let v963 : BitVec 32 := Scalar.divsi v962 c16_i32_423
  let c1_i32_429 : BitVec 32 := 1#32
  let v978 : BitVec 32 := Scalar.subi v963 c1_i32_429
  let v979 : BitVec 32 := Scalar.select v977 v978 v963
  let v980 : BitVec 32 := Scalar.subi v979 c0_i32_430
  let c1_i32_431 : BitVec 32 := 1#32
  let v982 : BitVec 32 := Scalar.divsi v980 c1_i32_431
  let v983 : BitVec 32 := Scalar.muli v982 c1_i32_431
  let v984 : BitVec 32 := Scalar.addi c0_i32_430 v983
  let c1_i32_433 : BitVec 32 := 1#32
  let arg27 : BitVec 32 := Scf.iv v984 c1_i32_433 k0_t2
  let c1024_i32 : BitVec 32 := 1024#32
  let v1615 : BitVec 32 := Scalar.muli arg27 c1024_i32
  let v1616 : BitVec 32 := Scalar.addi c1024_i32_671 v1615
  v1616
def k0_off3 (i : grid0.Coords) (k0_t2 : Fin (k0_t2_loop i).trips) : Fin 4 → Nat :=
  let c0_672 : Index := 0#32
  let c0_673 : Index := 0#32
  let c1024_i32_671 : BitVec 32 := 1024#32
  let c0_i32_430 : BitVec 32 := 0#32
  let arg2 : BitVec 32 := BitVec.ofNat 32 (i 2).val
  let c3_i32_414 : BitVec 32 := 3#32
  let v954 : BitVec 32 := Scalar.subi arg2 c3_i32_414
  let c0_i32_415 : BitVec 32 := 0#32
  let v955 : BitVec 32 := Scalar.maxsi v954 c0_i32_415
  let c16_i32_421 : BitVec 32 := 16#32
  let v961 : BitVec 32 := Scalar.addi v955 c16_i32_421
  let c1_i32_422 : BitVec 32 := 1#32
  let v962 : BitVec 32 := Scalar.subi v961 c1_i32_422
  let c0_i32_424 : BitVec 32 := 0#32
  let v964 : BitVec 1 := Scalar.cmpi .sgt v962 c0_i32_424
  let v965 : BitVec 32 := Scalar.extui v964
  let c0_i32_425 : BitVec 32 := 0#32
  let v966 : BitVec 1 := Scalar.cmpi .slt v962 c0_i32_425
  let v967 : BitVec 32 := Scalar.extui v966
  let v968 : BitVec 32 := Scalar.subi v965 v967
  let c16_i32_423 : BitVec 32 := 16#32
  let c0_i32_426 : BitVec 32 := 0#32
  let v969 : BitVec 1 := Scalar.cmpi .sgt c16_i32_423 c0_i32_426
  let v970 : BitVec 32 := Scalar.extui v969
  let c0_i32_427 : BitVec 32 := 0#32
  let v971 : BitVec 1 := Scalar.cmpi .slt c16_i32_423 c0_i32_427
  let v972 : BitVec 32 := Scalar.extui v971
  let v973 : BitVec 32 := Scalar.subi v970 v972
  let v974 : BitVec 1 := Scalar.cmpi .ne v968 v973
  let v975 : BitVec 32 := Scalar.remsi v962 c16_i32_423
  let c0_i32_428 : BitVec 32 := 0#32
  let v976 : BitVec 1 := Scalar.cmpi .ne v975 c0_i32_428
  let v977 : BitVec 1 := Scalar.andi v974 v976
  let v963 : BitVec 32 := Scalar.divsi v962 c16_i32_423
  let c1_i32_429 : BitVec 32 := 1#32
  let v978 : BitVec 32 := Scalar.subi v963 c1_i32_429
  let v979 : BitVec 32 := Scalar.select v977 v978 v963
  let v980 : BitVec 32 := Scalar.subi v979 c0_i32_430
  let c1_i32_431 : BitVec 32 := 1#32
  let v982 : BitVec 32 := Scalar.divsi v980 c1_i32_431
  let v983 : BitVec 32 := Scalar.muli v982 c1_i32_431
  let v984 : BitVec 32 := Scalar.addi c0_i32_430 v983
  let c1_i32_433 : BitVec 32 := 1#32
  let arg27 : BitVec 32 := Scf.iv v984 c1_i32_433 k0_t2
  let c1024_i32 : BitVec 32 := 1024#32
  let v1615 : BitVec 32 := Scalar.muli arg27 c1024_i32
  let v1616 : BitVec 32 := Scalar.addi c1024_i32_671 v1615
  let v1617 : BitVec 32 := v1616
  let v1618 : Index := Scalar.indexCast v1617
  let c0_674 : Index := 0#32
  ![0, 0, v1618.toNat, 0]
def k0_mult4 (i : grid0.Coords) : BitVec 32 :=
  let arg2 : BitVec 32 := BitVec.ofNat 32 (i 2).val
  let c1_i32_435 : BitVec 32 := 1#32
  let v995 : BitVec 32 := Scalar.addi arg2 c1_i32_435
  let c64_i32_436 : BitVec 32 := 64#32
  let v996 : BitVec 32 := Scalar.muli v995 c64_i32_436
  let c768_i32 : BitVec 32 := 768#32
  let v997 : BitVec 32 := Scalar.addi v996 c768_i32
  v997
def k0_off4 (i : grid0.Coords) : Fin 4 → Nat :=
  let c0_437 : Index := 0#32
  let c0_438 : Index := 0#32
  let arg2 : BitVec 32 := BitVec.ofNat 32 (i 2).val
  let c1_i32_435 : BitVec 32 := 1#32
  let v995 : BitVec 32 := Scalar.addi arg2 c1_i32_435
  let c64_i32_436 : BitVec 32 := 64#32
  let v996 : BitVec 32 := Scalar.muli v995 c64_i32_436
  let c768_i32 : BitVec 32 := 768#32
  let v997 : BitVec 32 := Scalar.addi v996 c768_i32
  let v998 : BitVec 32 := v997
  let v999 : Index := Scalar.indexCast v998
  let c0_439 : Index := 0#32
  ![0, 0, v999.toNat, 0]
def k0_mult5 (i : grid0.Coords) : BitVec 32 :=
  let arg2 : BitVec 32 := BitVec.ofNat 32 (i 2).val
  let c1_i32_488 : BitVec 32 := 1#32
  let v1150 : BitVec 32 := Scalar.addi arg2 c1_i32_488
  let c64_i32_489 : BitVec 32 := 64#32
  let v1151 : BitVec 32 := Scalar.muli v1150 c64_i32_489
  let c768_i32_490 : BitVec 32 := 768#32
  let v1152 : BitVec 32 := Scalar.addi v1151 c768_i32_490
  v1152
def k0_mult6 (i : grid0.Coords) : BitVec 32 :=
  let arg2 : BitVec 32 := BitVec.ofNat 32 (i 2).val
  let c1_i32_549 : BitVec 32 := 1#32
  let v1305 : BitVec 32 := Scalar.addi arg2 c1_i32_549
  let c64_i32_550 : BitVec 32 := 64#32
  let v1306 : BitVec 32 := Scalar.muli v1305 c64_i32_550
  let c768_i32_551 : BitVec 32 := 768#32
  let v1307 : BitVec 32 := Scalar.addi v1306 c768_i32_551
  v1307
def k0_mult7 (i : grid0.Coords) : BitVec 32 :=
  let arg2 : BitVec 32 := BitVec.ofNat 32 (i 2).val
  let c1_i32_610 : BitVec 32 := 1#32
  let v1460 : BitVec 32 := Scalar.addi arg2 c1_i32_610
  let c64_i32_611 : BitVec 32 := 64#32
  let v1461 : BitVec 32 := Scalar.muli v1460 c64_i32_611
  let c768_i32_612 : BitVec 32 := 768#32
  let v1462 : BitVec 32 := Scalar.addi v1461 c768_i32_612
  v1462
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c0_i32 : BitVec 32 := 0#32
  ![v1.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c0_i32 : BitVec 32 := 0#32
  let c0_i32_0 : BitVec 32 := 0#32
  ![arg1.toNat, v1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let c0_i32 : BitVec 32 := 0#32
  let v1 : BitVec 32 := Scalar.addi v0 c0_i32
  let c0_i32_0 : BitVec 32 := 0#32
  let c0_i32_1 : BitVec 32 := 0#32
  let c0_i32_2 : BitVec 32 := 0#32
  ![v1.toNat, arg0.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let c0_i32 : BitVec 32 := 0#32
  let v1 : BitVec 32 := Scalar.addi v0 c0_i32
  let c0_i32_0 : BitVec 32 := 0#32
  let c0_i32_1 : BitVec 32 := 0#32
  let c0_i32_2 : BitVec 32 := 0#32
  ![v1.toNat, arg0.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let c0_i32 : BitVec 32 := 0#32
  let v1 : BitVec 32 := Scalar.addi v0 c0_i32
  let c0_i32_0 : BitVec 32 := 0#32
  let c0_i32_1 : BitVec 32 := 0#32
  let c0_i32_2 : BitVec 32 := 0#32
  ![v1.toNat, arg0.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let c0_i32 : BitVec 32 := 0#32
  let v1 : BitVec 32 := Scalar.addi v0 c0_i32
  let c0_i32_0 : BitVec 32 := 0#32
  let c0_i32_1 : BitVec 32 := 0#32
  let c0_i32_2 : BitVec 32 := 0#32
  ![v1.toNat, arg0.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![v1.toNat, arg0.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![v1.toNat, arg0.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![v1.toNat, arg0.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![v1.toNat, arg0.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let c2_i32 : BitVec 32 := 2#32
  let v1 : BitVec 32 := Scalar.addi v0 c2_i32
  let c0_i32 : BitVec 32 := 0#32
  let c0_i32_0 : BitVec 32 := 0#32
  let c0_i32_1 : BitVec 32 := 0#32
  ![v1.toNat, arg0.toNat, c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let c2_i32 : BitVec 32 := 2#32
  let v1 : BitVec 32 := Scalar.addi v0 c2_i32
  let c0_i32 : BitVec 32 := 0#32
  let c0_i32_0 : BitVec 32 := 0#32
  let c0_i32_1 : BitVec 32 := 0#32
  ![v1.toNat, arg0.toNat, c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let c2_i32 : BitVec 32 := 2#32
  let v1 : BitVec 32 := Scalar.addi v0 c2_i32
  let c0_i32 : BitVec 32 := 0#32
  let c0_i32_0 : BitVec 32 := 0#32
  let c0_i32_1 : BitVec 32 := 0#32
  ![v1.toNat, arg0.toNat, c0_i32.toNat, c0_i32_0.toNat]

def cc0_transform_14 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let c2_i32 : BitVec 32 := 2#32
  let v1 : BitVec 32 := Scalar.addi v0 c2_i32
  let c0_i32 : BitVec 32 := 0#32
  let c0_i32_0 : BitVec 32 := 0#32
  let c0_i32_1 : BitVec 32 := 0#32
  ![v1.toNat, arg0.toNat, c0_i32.toNat, c0_i32_0.toNat]

def cc0_transform_15 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let c3_i32 : BitVec 32 := 3#32
  let v1 : BitVec 32 := Scalar.addi v0 c3_i32
  let c0_i32 : BitVec 32 := 0#32
  let c0_i32_0 : BitVec 32 := 0#32
  let c0_i32_1 : BitVec 32 := 0#32
  ![v1.toNat, arg0.toNat, c0_i32.toNat, c0_i32_0.toNat]

def cc0_transform_16 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let c3_i32 : BitVec 32 := 3#32
  let v1 : BitVec 32 := Scalar.addi v0 c3_i32
  let c0_i32 : BitVec 32 := 0#32
  let c0_i32_0 : BitVec 32 := 0#32
  let c0_i32_1 : BitVec 32 := 0#32
  ![v1.toNat, arg0.toNat, c0_i32.toNat, c0_i32_0.toNat]

def cc0_transform_17 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let c3_i32 : BitVec 32 := 3#32
  let v1 : BitVec 32 := Scalar.addi v0 c3_i32
  let c0_i32 : BitVec 32 := 0#32
  let c0_i32_0 : BitVec 32 := 0#32
  let c0_i32_1 : BitVec 32 := 0#32
  ![v1.toNat, arg0.toNat, c0_i32.toNat, c0_i32_0.toNat]

def cc0_transform_18 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let c3_i32 : BitVec 32 := 3#32
  let v1 : BitVec 32 := Scalar.addi v0 c3_i32
  let c0_i32 : BitVec 32 := 0#32
  let c0_i32_0 : BitVec 32 := 0#32
  let c0_i32_1 : BitVec 32 := 0#32
  ![v1.toNat, arg0.toNat, c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_20 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_21 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_22 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_23 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c0_i32 : BitVec 32 := 0#32
  ![v1.toNat, arg1.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x5120x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x5120x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x5120x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1x5120x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x1x5120x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x1x5120x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x1x5120x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S1x1x5120x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S1x1x5120x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

abbrev stage0_12 : Fin 2 → Memref sig .tc .vmem S1x1x5120x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]

abbrev stage0_13 : Fin 2 → Memref sig .tc .vmem S1x1x5120x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, false]

abbrev stage0_14 : Fin 2 → Memref sig .tc .vmem S1x1x5120x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, false]

abbrev stage0_15 : Fin 2 → Memref sig .tc .vmem S1x1x5120x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, false]

abbrev stage0_16 : Fin 2 → Memref sig .tc .vmem S1x1x5120x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true, false]

abbrev stage0_17 : Fin 2 → Memref sig .tc .vmem S1x1x5120x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true, false]

abbrev stage0_18 : Fin 2 → Memref sig .tc .vmem S1x1x5120x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true, false]

abbrev stage0_19 : Fin 1 → Memref sig .tc .vmem S4x256x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, true, false]

abbrev stage0_20 : Fin 1 → Memref sig .tc .vmem S4x256x640 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, true, false]

abbrev stage0_21 : Fin 1 → Memref sig .tc .vmem S4x3x256x64 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, true, false]

abbrev stage0_22 : Fin 1 → Memref sig .tc .vmem S4x8x256 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false, true, false]

abbrev stage0_23 : Fin 2 → Memref sig .tc .vmem S64x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true, true]
-- ==== Proof.FfnValue.lean ====
/-
  The macaron half-step feed-forward of the prompt rows: `_ffn` computes what the reference computes.
  The kernel walks the 2816 hidden columns in two halves of 1408, adding the second half's product to the first's; the
  reference multiplies by `w_out` once. A sum over 2816 columns is the sum over the first 1408 and the sum over the last 1408,
  and the addition of the extended reals is associative, so nothing is asked of the arguments.
-/
module

public import proofs.«01_k».proof.Proof.Gen.FfnIdeal.Value
public import proofs.«01_k».proof.Proof.Gen.FfnRefIdeal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnIdeal.Value

open Cert.FfnIdeal Cert.FfnIdeal.Gen

variable (m : (ℓ : Loc nD τ sig) → Buf (Elt Ideal) ℓ)

/-! ## The reference's term, in three steps -/

/-- The reference's `rmsnorm(x, g)`. -/
def NORM (x : FVec Ideal S16384x1024 .f32) (g : FVec Ideal S1024 .f32) : FVec Ideal Cert.FfnRefIdeal.S16384x1024 .f32 :=
  mulf (mulf x (broadcastInDim Cert.FfnRefIdeal.S16384x1024 ![0, 1] Cert.FfnRefIdeal.Gen.bcast_S16384x1_S16384x1024_0_1
    (Host.rsqrt (addf (Host.divf (broadcastInDim Cert.FfnRefIdeal.S16384x1 ![0] Cert.FfnRefIdeal.Gen.bcast_S16384_S16384x1_0
      (Host.reduceAdd (mulf x x) (constant Cert.FfnRefIdeal.S_ .f32 0x00000000#32) Cert.FfnRefIdeal.Gen.reducesTo_S16384x1024_S16384_d1 Cert.FfnRefIdeal.Gen.h_S_))
      (broadcastInDim Cert.FfnRefIdeal.S16384x1 ![] Cert.FfnRefIdeal.Gen.bcast_S_S16384x1 (constant Cert.FfnRefIdeal.S_ .f32 0x44800000#32)))
      (broadcastInDim Cert.FfnRefIdeal.S16384x1 ![] Cert.FfnRefIdeal.Gen.bcast_S_S16384x1 (constant Cert.FfnRefIdeal.S_ .f32 0x358637BD#32))))))
    (broadcastInDim Cert.FfnRefIdeal.S16384x1024 ![0, 1] Cert.FfnRefIdeal.Gen.bcast_S1x1024_S16384x1024_0_1
      (broadcastInDim Cert.FfnRefIdeal.S1x1024 ![1] Cert.FfnRefIdeal.Gen.bcast_S1024_S1x1024_1 g))

/-- The reference's `rmsnorm(x, g) @ w_in`: the gate columns, then the up columns. -/
def PROJ (x : FVec Ideal S16384x1024 .f32) (g : FVec Ideal S1024 .f32) (wi : FVec Ideal S1024x5632 .f32) :
    FVec Ideal Cert.FfnRefIdeal.S16384x5632 .f32 :=
  Host.dotGeneral Cert.FfnRefIdeal.dot_S16384x1024_S1024x5632_S16384x5632_1_0_0_1_n_n none (NORM x g) wi

/-- The reference's hidden rows, `silu(gate) · up`. -/
def HID (x : FVec Ideal S16384x1024 .f32) (g : FVec Ideal S1024 .f32) (wi : FVec Ideal S1024x5632 .f32) :
    FVec Ideal Cert.FfnRefIdeal.S16384x2816 .f32 :=
  mulf (mulf (extractStridedSlice Cert.FfnRefIdeal.S16384x2816 ![0, 0] (PROJ x g wi) Cert.FfnRefIdeal.Gen.slices_S16384x5632_S16384x2816_0_0)
    (Host.divf (broadcastInDim Cert.FfnRefIdeal.S16384x2816 ![] Cert.FfnRefIdeal.Gen.bcast_S_S16384x2816 (constant Cert.FfnRefIdeal.S_ .f32 0x3F800000#32))
      (addf (broadcastInDim Cert.FfnRefIdeal.S16384x2816 ![] Cert.FfnRefIdeal.Gen.bcast_S_S16384x2816 (constant Cert.FfnRefIdeal.S_ .f32 0x3F800000#32))
        (Host.exp (Host.negf (extractStridedSlice Cert.FfnRefIdeal.S16384x2816 ![0, 0] (PROJ x g wi) Cert.FfnRefIdeal.Gen.slices_S16384x5632_S16384x2816_0_0))))))
    (extractStridedSlice Cert.FfnRefIdeal.S16384x2816 ![0, 2816] (PROJ x g wi) Cert.FfnRefIdeal.Gen.slices_S16384x5632_S16384x2816_0_2816)

/-- The residual half step: `x + 0.5 · (hidden @ w_out)`. -/
def STEP (x : FVec Ideal S16384x1024 .f32) (g : FVec Ideal S1024 .f32) (wi : FVec Ideal S1024x5632 .f32)
    (wo : FVec Ideal S2816x1024 .f32) : FVec Ideal Cert.FfnRefIdeal.S16384x1024 .f32 :=
  addf x (mulf (broadcastInDim Cert.FfnRefIdeal.S16384x1024 ![] Cert.FfnRefIdeal.Gen.bcast_S_S16384x1024 (constant Cert.FfnRefIdeal.S_ .f32 0x3F000000#32))
    (Host.dotGeneral Cert.FfnRefIdeal.dot_S16384x2816_S2816x1024_S16384x1024_1_0_0_1_n_n none (HID x g wi) wo))

/-- The reference's result: the half step. -/
abbrev REF (x : FVec Ideal S16384x1024 .f32) (g : FVec Ideal S1024 .f32) (wi : FVec Ideal S1024x5632 .f32)
    (wo : FVec Ideal S2816x1024 .f32) : FVec Ideal S16384x1024 .f32 :=
  STEP x g wi wo

/-! ## The reference's steps at an index -/

theorem NORM_at (x : FVec Ideal S16384x1024 .f32) (g : FVec Ideal S1024 .f32) (r : Fin 16384) (k : Fin 1024) :
    NORM x g (ix2 r k) = x (ix2 r k) * Ideal.rsqrt (Ideal.div (∑ l : Fin 1024, x (ix2 r l) * x (ix2 r l))
      (Ideal.ofBits .f32 0x44800000#32) + Ideal.ofBits .f32 0x358637BD#32) * g (ix1 k) := by
  pointwise [NORM]

theorem HID_at (x : FVec Ideal S16384x1024 .f32) (g : FVec Ideal S1024 .f32) (wi : FVec Ideal S1024x5632 .f32)
    (r : Fin 16384) (f : Fin 2816) :
    HID x g wi (ix2 r f)
      = (∑ k : Fin 1024, NORM x g (ix2 r k) * wi (ix2 k ⟨f.val, by omega⟩))
        * Ideal.logistic (∑ k : Fin 1024, NORM x g (ix2 r k) * wi (ix2 k ⟨f.val, by omega⟩))
        * ∑ k : Fin 1024, NORM x g (ix2 r k) * wi (ix2 k ⟨2816 + f.val, by omega⟩) := by
  pointwise [HID, PROJ, Ideal.logistic]

theorem STEP_at (x : FVec Ideal S16384x1024 .f32) (g : FVec Ideal S1024 .f32) (wi : FVec Ideal S1024x5632 .f32)
    (wo : FVec Ideal S2816x1024 .f32) (r : Fin 16384) (k : Fin 1024) :
    STEP x g wi wo (ix2 r k) = x (ix2 r k) + Ideal.ofBits .f32 0x3F000000#32
      * ((∑ f : Fin 1408, HID x g wi (ix2 r ⟨f.val, by omega⟩) * wo (ix2 ⟨f.val, by omega⟩ k))
        + ∑ f : Fin 1408, HID x g wi (ix2 r ⟨1408 + f.val, by omega⟩) * wo (ix2 ⟨1408 + f.val, by omega⟩ k)) := by
  rw [← Fin.sum_univ_two_halves (N := 2816) 1408 1408 rfl fun f => HID x g wi (ix2 r f) * wo (ix2 f k)]
  pointwise [STEP]

/-! ## The arguments, at their types -/

abbrev A0 (c : Dev nD) : FVec Ideal S16384x1024 .f32 := m ((c : Thread nD τ).loc main_arg0)
abbrev A1 (c : Dev nD) : FVec Ideal S1024 .f32 := m ((c : Thread nD τ).loc main_arg1)
abbrev A2 (c : Dev nD) : FVec Ideal S1024x5632 .f32 := m ((c : Thread nD τ).loc main_arg2)
abbrev A3 (c : Dev nD) : FVec Ideal S2816x1024 .f32 := m ((c : Thread nD τ).loc main_arg3)

/-! ## What the kernel holds at each step -/

/-- Where each window's block sits at point `t`: row block `t / 2`, hidden half `t % 2`. -/
theorem idx : ∀ t : Fin cfg0.N, win0_0.index t = ![t.val / 2, 0] ∧ win0_1.index t = ![0, 0] ∧ win0_2.index t = ![0, t.val % 2] ∧ win0_3.index t = ![0, t.val % 2 + 2] ∧ win0_4.index t = ![t.val % 2, 0] ∧ win0_5.index t = ![t.val / 2, 0] :=
  (by decide +kernel : ∀ t : Fin grid0.N, win0_0.index t = ![t.val / 2, 0] ∧ win0_1.index t = ![0, 0] ∧ win0_2.index t = ![0, t.val % 2] ∧ win0_3.index t = ![0, t.val % 2 + 2] ∧ win0_4.index t = ![t.val % 2, 0] ∧ win0_5.index t = ![t.val / 2, 0])

/-- The accumulator after the first half `s` of a row block. -/
def acc1 (c : Dev nD) (s : Fin cfg0.N) : Vec Ideal S512x1024 .f32 :=
  k0_pay3 (k0_pay1 (iblk m c 0 s) (iblk m c 1 s)) (iblk m c 2 s) (iblk m c 3 s) (k0_pay2 (F := Ideal)) (iblk m c 4 s)

/-- The accumulator after the second half `t`, the first half being `s`. -/
def acc2 (c : Dev nD) (t s : Fin cfg0.N) : Vec Ideal S512x1024 .f32 :=
  k0_pay3 (k0_pay1 (iblk m c 0 s) (iblk m c 1 s)) (iblk m c 2 t) (iblk m c 3 t) (acc1 m c s) (iblk m c 4 t)

/-- After the first half, the scratch buffers hold the normalised rows and the first partial product. -/
theorem first_half (c : Dev nD) (s : Fin cfg0.N) (h0 : s.val % 2 = 0) :
    (outsAt0 m c s.val s.isLt).2.1 = k0_pay1 (iblk m c 0 s) (iblk m c 1 s) ∧ (outsAt0 m c s.val s.isLt).2.2 = acc1 m c s := by
  rw [outsAt0_A m c s h0 (by omega)]
  constructor
  · frame_out
  · frame_out; rfl

/-- The normalised rows of block `s`, at an index. -/
theorem norm_block (c : Dev nD) (s : Fin cfg0.N) (r : Fin 16384) (p : Fin 512) (k : Fin 1024) (hr : r.val = s.val / 2 * 512 + p.val) :
    k0_pay1 (iblk m c 0 s) (iblk m c 1 s) (ix2 p k) = NORM (A0 m c) (A1 m c) (ix2 r k) := by
  rw [NORM_at]
  pointwise [k0_pay1]
  blk_point [iblk, V, idx s]

/-- The gated hidden block times its rows of `w_out`, added to the accumulator. -/
theorem half_at (v3 : Vec Ideal S512x1024 .bf16) (wg wu : Vec Ideal S1024x1408 .bf16) (a : Vec Ideal S512x1024 .f32)
    (wo : Vec Ideal S1408x1024 .bf16) (p : Fin 512) (k : Fin 1024) :
    k0_pay3 v3 wg wu a wo (ix2 p k) = a (ix2 p k) + ∑ f : Fin 1408,
      (∑ l : Fin 1024, v3 (ix2 p l) * wg (ix2 l f)) * Ideal.logistic (∑ l : Fin 1024, v3 (ix2 p l) * wg (ix2 l f))
        * (∑ l : Fin 1024, v3 (ix2 p l) * wu (ix2 l f)) * wo (ix2 f k) := by
  pointwise [k0_pay3]

/-- The accumulator starts at zero. -/
theorem zero_at (p : Fin 512) (k : Fin 1024) : (k0_pay2 (F := Ideal)) (ix2 p k) = 0 := by
  pointwise [k0_pay2]

/-- One half's columns of the reference's hidden rows, from the blocks of point `u`, whose half is `u % 2`. -/
theorem hidden_half (c : Dev nD) (s u : Fin cfg0.N) (r : Fin 16384) (p : Fin 512) (k : Fin 1024) (f : Fin 1408) (f' : Fin 2816)
    (hr : r.val = s.val / 2 * 512 + p.val) (hf : f'.val = u.val % 2 * 1408 + f.val) :
    (∑ l : Fin 1024, k0_pay1 (iblk m c 0 s) (iblk m c 1 s) (ix2 p l) * (show Vec Ideal S1024x1408 .bf16 from iblk m c 2 u) (ix2 l f))
      * Ideal.logistic (∑ l : Fin 1024, k0_pay1 (iblk m c 0 s) (iblk m c 1 s) (ix2 p l) * (show Vec Ideal S1024x1408 .bf16 from iblk m c 2 u) (ix2 l f))
      * (∑ l : Fin 1024, k0_pay1 (iblk m c 0 s) (iblk m c 1 s) (ix2 p l) * (show Vec Ideal S1024x1408 .bf16 from iblk m c 3 u) (ix2 l f))
      * (show Vec Ideal S1408x1024 .bf16 from iblk m c 4 u) (ix2 f k)
    = HID (A0 m c) (A1 m c) (A2 m c) (ix2 r f') * (A3 m c) (ix2 f' k) := by
  rw [HID_at _ _ _ r f']
  simp only [norm_block m c s r p _ hr]
  blk_point [iblk, V, idx u]

/-- The accumulator after both halves is the reference's hidden rows times `w_out`, halves added. -/
theorem acc_at (c : Dev nD) (t s : Fin cfg0.N) (hs : s.val % 2 = 0) (ht : t.val = s.val + 1) (r : Fin 16384) (p : Fin 512) (k : Fin 1024)
    (hr : r.val = s.val / 2 * 512 + p.val) :
    (A0 m c) (ix2 r k) + Ideal.ofBits .f32 0x3F000000#32 * acc2 m c t s (ix2 p k) = STEP (A0 m c) (A1 m c) (A2 m c) (A3 m c) (ix2 r k) := by
  have e1 : acc1 m c s (ix2 p k) = ∑ f : Fin 1408, HID (A0 m c) (A1 m c) (A2 m c) (ix2 r ⟨f.val, by omega⟩) * (A3 m c) (ix2 ⟨f.val, by omega⟩ k) := by
    refine (half_at _ _ _ _ _ p k).trans ?_
    rw [zero_at, zero_add]
    exact Finset.sum_congr rfl fun f _ => hidden_half m c s s r p k f ⟨f.val, by omega⟩ hr (by dsimp only; omega)
  have e2 : acc2 m c t s (ix2 p k) = acc1 m c s (ix2 p k)
      + ∑ f : Fin 1408, HID (A0 m c) (A1 m c) (A2 m c) (ix2 r ⟨1408 + f.val, by omega⟩) * (A3 m c) (ix2 ⟨1408 + f.val, by omega⟩ k) := by
    refine (half_at _ _ _ _ _ p k).trans (congrArg _ ?_)
    exact Finset.sum_congr rfl fun f _ => hidden_half m c s t r p k f ⟨1408 + f.val, by omega⟩ hr (by dsimp only; omega)
  rw [STEP_at, e2, e1]

/-- What a row block's last point stores at block index `y` is the reference's result there. -/
theorem point (c : Dev nD) (t s : Fin cfg0.N) (hs : s.val % 2 = 0) (ht : t.val = s.val + 1) (y) :
    k0_pay4 (iblk m c 0 t) (acc2 m c t s) y = REF (A0 m c) (A1 m c) (A2 m c) (A3 m c) (((cfg0.win 5).blk t).view.emb y) := by
  have hN : cfg0.N = 64 := N_0
  idx_vars y
  have e : ((cfg0.win 5).blk t).view.emb (ix2 y0 y1) = ix2 (⟨s.val / 2 * 512 + y0.val, by omega⟩ : Fin 16384) y1 := by
    blk_ext [idx t]
  rw [e]
  unfold REF
  rw [← acc_at m c t s hs ht _ y0 _ rfl]
  generalize acc2 m c t s = a
  pointwise [k0_pay4]
  blk_point [iblk, V, idx t]

/-- The result array after the run is the reference's result. -/
theorem final (c : Dev nD) : (dats m 0 c).arrAt 5 cfg0.N = REF (A0 m c) (A1 m c) (A2 m c) (A3 m c) := by
  refine (dats m 0 c).arrAt_eq_of_covers 5 _ (by decide +kernel) fun t hf y => ?_
  have h1 : t.val % 2 = 1 := (flush0_5 t).mp hf
  have h0 : (t.val - 1) % 2 = 0 := by omega
  have hlt : t.val - 1 < cfg0.N := Nat.lt_of_le_of_lt (Nat.sub_le _ _) t.isLt
  blk_simp
  rw [after0_5, outsAt0_B m c t (by omega) h1]
  frame_out
  rw [(first_half m c ⟨t.val - 1, hlt⟩ h0).1, (first_half m c ⟨t.val - 1, hlt⟩ h0).2]
  simp only [read_unread_whole]
  exact point m c t ⟨t.val - 1, hlt⟩ h0 (by dsimp only; omega) y

end Cert.FfnIdeal.Value

end
-- ==== Proof.FfnClaim.lean ====
/-
  The macaron feed-forward half step: the claim about its values, and the frame of its reference.
-/
module

public import proofs.«01_k».proof.Defs
public import proofs.«01_k».proof.Proof.FfnValue
public import Idealize.ShloMosaic.Lib.Claim

@[expose] public section

set_option maxRecDepth 16384

noncomputable section

open Idealize.ShloMosaic Idealize.SL.Sem

namespace Cert.FfnIdealAlg

/-- The reference runs to the end and leaves its arguments as they were. -/
theorem frame_ref : Cert.quiescent_FfnRefIdeal := by
  intro m g _
  exact (θ_run Cert.FfnRefIdeal.defs _ _).mono
    (fun r h => ⟨fun c => (h c).2, Idealize.ShloMosaic.sem_eq_zero_of_no_sems (by decide) r.2⟩)
    (Cert.FfnRefIdeal.Value.run m g)

/-- On equal arguments the kernel and `x + 0.5 * swiglu(rmsnorm(x, g), w_in, w_out)` end with the same rows. -/
theorem algebraic : Cert.algebraic_FfnIdeal_FfnRefIdeal := by
  pair_intro
  · run_from Cert.FfnIdeal.Gen.run_main m g
  · run_from Cert.FfnRefIdeal.Value.run m' g'
    exact (Cert.FfnIdeal.Value.final m c).symm

end Cert.FfnIdealAlg

end
-- ==== Proof.LastValue.lean ====
/-
  The feed-forward that ends the trunk, with the final norm of the prompt rows: `_ffn` computes what the reference computes.
  The kernel walks the 2816 hidden columns in two halves of 1408, adding the second half's product to the first's; the
  reference multiplies by `w_out` once. A sum over 2816 columns is the sum over the first 1408 and the sum over the last 1408,
  and the addition of the extended reals is associative, so nothing is asked of the arguments.
-/
module

public import proofs.«01_k».proof.Proof.Gen.LastIdeal.Value
public import proofs.«01_k».proof.Proof.Gen.LastRefIdeal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.LastIdeal.Value

open Cert.LastIdeal Cert.LastIdeal.Gen

variable (m : (ℓ : Loc nD τ sig) → Buf (Elt Ideal) ℓ)

/-! ## The reference's term, in three steps -/

/-- The reference's `rmsnorm(x, g)`. -/
def NORM (x : FVec Ideal S16384x1024 .f32) (g : FVec Ideal S1024 .f32) : FVec Ideal Cert.LastRefIdeal.S16384x1024 .f32 :=
  mulf (mulf x (broadcastInDim Cert.LastRefIdeal.S16384x1024 ![0, 1] Cert.LastRefIdeal.Gen.bcast_S16384x1_S16384x1024_0_1
    (Host.rsqrt (addf (Host.divf (broadcastInDim Cert.LastRefIdeal.S16384x1 ![0] Cert.LastRefIdeal.Gen.bcast_S16384_S16384x1_0
      (Host.reduceAdd (mulf x x) (constant Cert.LastRefIdeal.S_ .f32 0x00000000#32) Cert.LastRefIdeal.Gen.reducesTo_S16384x1024_S16384_d1 Cert.LastRefIdeal.Gen.h_S_))
      (broadcastInDim Cert.LastRefIdeal.S16384x1 ![] Cert.LastRefIdeal.Gen.bcast_S_S16384x1 (constant Cert.LastRefIdeal.S_ .f32 0x44800000#32)))
      (broadcastInDim Cert.LastRefIdeal.S16384x1 ![] Cert.LastRefIdeal.Gen.bcast_S_S16384x1 (constant Cert.LastRefIdeal.S_ .f32 0x358637BD#32))))))
    (broadcastInDim Cert.LastRefIdeal.S16384x1024 ![0, 1] Cert.LastRefIdeal.Gen.bcast_S1x1024_S16384x1024_0_1
      (broadcastInDim Cert.LastRefIdeal.S1x1024 ![1] Cert.LastRefIdeal.Gen.bcast_S1024_S1x1024_1 g))

/-- The reference's `rmsnorm(x, g) @ w_in`: the gate columns, then the up columns. -/
def PROJ (x : FVec Ideal S16384x1024 .f32) (g : FVec Ideal S1024 .f32) (wi : FVec Ideal S1024x5632 .f32) :
    FVec Ideal Cert.LastRefIdeal.S16384x5632 .f32 :=
  Host.dotGeneral Cert.LastRefIdeal.dot_S16384x1024_S1024x5632_S16384x5632_1_0_0_1_n_n none (NORM x g) wi

/-- The reference's hidden rows, `silu(gate) · up`. -/
def HID (x : FVec Ideal S16384x1024 .f32) (g : FVec Ideal S1024 .f32) (wi : FVec Ideal S1024x5632 .f32) :
    FVec Ideal Cert.LastRefIdeal.S16384x2816 .f32 :=
  mulf (mulf (extractStridedSlice Cert.LastRefIdeal.S16384x2816 ![0, 0] (PROJ x g wi) Cert.LastRefIdeal.Gen.slices_S16384x5632_S16384x2816_0_0)
    (Host.divf (broadcastInDim Cert.LastRefIdeal.S16384x2816 ![] Cert.LastRefIdeal.Gen.bcast_S_S16384x2816 (constant Cert.LastRefIdeal.S_ .f32 0x3F800000#32))
      (addf (broadcastInDim Cert.LastRefIdeal.S16384x2816 ![] Cert.LastRefIdeal.Gen.bcast_S_S16384x2816 (constant Cert.LastRefIdeal.S_ .f32 0x3F800000#32))
        (Host.exp (Host.negf (extractStridedSlice Cert.LastRefIdeal.S16384x2816 ![0, 0] (PROJ x g wi) Cert.LastRefIdeal.Gen.slices_S16384x5632_S16384x2816_0_0))))))
    (extractStridedSlice Cert.LastRefIdeal.S16384x2816 ![0, 2816] (PROJ x g wi) Cert.LastRefIdeal.Gen.slices_S16384x5632_S16384x2816_0_2816)

/-- The residual half step: `x + 0.5 · (hidden @ w_out)`. -/
def STEP (x : FVec Ideal S16384x1024 .f32) (g : FVec Ideal S1024 .f32) (wi : FVec Ideal S1024x5632 .f32)
    (wo : FVec Ideal S2816x1024 .f32) : FVec Ideal Cert.LastRefIdeal.S16384x1024 .f32 :=
  addf x (mulf (broadcastInDim Cert.LastRefIdeal.S16384x1024 ![] Cert.LastRefIdeal.Gen.bcast_S_S16384x1024 (constant Cert.LastRefIdeal.S_ .f32 0x3F000000#32))
    (Host.dotGeneral Cert.LastRefIdeal.dot_S16384x2816_S2816x1024_S16384x1024_1_0_0_1_n_n none (HID x g wi) wo))

/-- The reference's result: the half step, normalised by the final norm. -/
abbrev REF (x : FVec Ideal S16384x1024 .f32) (g : FVec Ideal S1024 .f32) (wi : FVec Ideal S1024x5632 .f32)
    (wo : FVec Ideal S2816x1024 .f32) (gf : FVec Ideal S1024 .f32) : FVec Ideal S16384x1024 .f32 :=
  NORM (STEP x g wi wo) gf

/-! ## The reference's steps at an index -/

theorem NORM_at (x : FVec Ideal S16384x1024 .f32) (g : FVec Ideal S1024 .f32) (r : Fin 16384) (k : Fin 1024) :
    NORM x g (ix2 r k) = x (ix2 r k) * Ideal.rsqrt (Ideal.div (∑ l : Fin 1024, x (ix2 r l) * x (ix2 r l))
      (Ideal.ofBits .f32 0x44800000#32) + Ideal.ofBits .f32 0x358637BD#32) * g (ix1 k) := by
  pointwise [NORM]

theorem HID_at (x : FVec Ideal S16384x1024 .f32) (g : FVec Ideal S1024 .f32) (wi : FVec Ideal S1024x5632 .f32)
    (r : Fin 16384) (f : Fin 2816) :
    HID x g wi (ix2 r f)
      = (∑ k : Fin 1024, NORM x g (ix2 r k) * wi (ix2 k ⟨f.val, by omega⟩))
        * Ideal.logistic (∑ k : Fin 1024, NORM x g (ix2 r k) * wi (ix2 k ⟨f.val, by omega⟩))
        * ∑ k : Fin 1024, NORM x g (ix2 r k) * wi (ix2 k ⟨2816 + f.val, by omega⟩) := by
  pointwise [HID, PROJ, Ideal.logistic]

theorem STEP_at (x : FVec Ideal S16384x1024 .f32) (g : FVec Ideal S1024 .f32) (wi : FVec Ideal S1024x5632 .f32)
    (wo : FVec Ideal S2816x1024 .f32) (r : Fin 16384) (k : Fin 1024) :
    STEP x g wi wo (ix2 r k) = x (ix2 r k) + Ideal.ofBits .f32 0x3F000000#32
      * ((∑ f : Fin 1408, HID x g wi (ix2 r ⟨f.val, by omega⟩) * wo (ix2 ⟨f.val, by omega⟩ k))
        + ∑ f : Fin 1408, HID x g wi (ix2 r ⟨1408 + f.val, by omega⟩) * wo (ix2 ⟨1408 + f.val, by omega⟩ k)) := by
  rw [← Fin.sum_univ_two_halves (N := 2816) 1408 1408 rfl fun f => HID x g wi (ix2 r f) * wo (ix2 f k)]
  pointwise [STEP]

/-! ## The arguments, at their types -/

abbrev A0 (c : Dev nD) : FVec Ideal S16384x1024 .f32 := m ((c : Thread nD τ).loc main_arg0)
abbrev A1 (c : Dev nD) : FVec Ideal S1024 .f32 := m ((c : Thread nD τ).loc main_arg1)
abbrev A2 (c : Dev nD) : FVec Ideal S1024x5632 .f32 := m ((c : Thread nD τ).loc main_arg2)
abbrev A3 (c : Dev nD) : FVec Ideal S2816x1024 .f32 := m ((c : Thread nD τ).loc main_arg3)
abbrev A4 (c : Dev nD) : FVec Ideal S1024 .f32 := m ((c : Thread nD τ).loc main_arg4)

/-! ## What the kernel holds at each step -/

/-- Where each window's block sits at point `t`: row block `t / 2`, hidden half `t % 2`. -/
theorem idx : ∀ t : Fin cfg0.N, win0_0.index t = ![t.val / 2, 0] ∧ win0_1.index t = ![0, 0] ∧ win0_2.index t = ![0, t.val % 2] ∧ win0_3.index t = ![0, t.val % 2 + 2] ∧ win0_4.index t = ![t.val % 2, 0] ∧ win0_5.index t = ![0, 0] ∧ win0_6.index t = ![t.val / 2, 0] :=
  (by decide +kernel : ∀ t : Fin grid0.N, win0_0.index t = ![t.val / 2, 0] ∧ win0_1.index t = ![0, 0] ∧ win0_2.index t = ![0, t.val % 2] ∧ win0_3.index t = ![0, t.val % 2 + 2] ∧ win0_4.index t = ![t.val % 2, 0] ∧ win0_5.index t = ![0, 0] ∧ win0_6.index t = ![t.val / 2, 0])

/-- The accumulator after the first half `s` of a row block. -/
def acc1 (c : Dev nD) (s : Fin cfg0.N) : Vec Ideal S512x1024 .f32 :=
  k0_pay3 (k0_pay1 (iblk m c 0 s) (iblk m c 1 s)) (iblk m c 2 s) (iblk m c 3 s) (k0_pay2 (F := Ideal)) (iblk m c 4 s)

/-- The accumulator after the second half `t`, the first half being `s`. -/
def acc2 (c : Dev nD) (t s : Fin cfg0.N) : Vec Ideal S512x1024 .f32 :=
  k0_pay3 (k0_pay1 (iblk m c 0 s) (iblk m c 1 s)) (iblk m c 2 t) (iblk m c 3 t) (acc1 m c s) (iblk m c 4 t)

/-- After the first half, the scratch buffers hold the normalised rows and the first partial product. -/
theorem first_half (c : Dev nD) (s : Fin cfg0.N) (h0 : s.val % 2 = 0) :
    (outsAt0 m c s.val s.isLt).2.1 = k0_pay1 (iblk m c 0 s) (iblk m c 1 s) ∧ (outsAt0 m c s.val s.isLt).2.2 = acc1 m c s := by
  rw [outsAt0_A m c s h0 (by omega)]
  constructor
  · frame_out
  · frame_out; rfl

/-- The normalised rows of block `s`, at an index. -/
theorem norm_block (c : Dev nD) (s : Fin cfg0.N) (r : Fin 16384) (p : Fin 512) (k : Fin 1024) (hr : r.val = s.val / 2 * 512 + p.val) :
    k0_pay1 (iblk m c 0 s) (iblk m c 1 s) (ix2 p k) = NORM (A0 m c) (A1 m c) (ix2 r k) := by
  rw [NORM_at]
  pointwise [k0_pay1]
  blk_point [iblk, V, idx s]

/-- The gated hidden block times its rows of `w_out`, added to the accumulator. -/
theorem half_at (v3 : Vec Ideal S512x1024 .bf16) (wg wu : Vec Ideal S1024x1408 .bf16) (a : Vec Ideal S512x1024 .f32)
    (wo : Vec Ideal S1408x1024 .bf16) (p : Fin 512) (k : Fin 1024) :
    k0_pay3 v3 wg wu a wo (ix2 p k) = a (ix2 p k) + ∑ f : Fin 1408,
      (∑ l : Fin 1024, v3 (ix2 p l) * wg (ix2 l f)) * Ideal.logistic (∑ l : Fin 1024, v3 (ix2 p l) * wg (ix2 l f))
        * (∑ l : Fin 1024, v3 (ix2 p l) * wu (ix2 l f)) * wo (ix2 f k) := by
  pointwise [k0_pay3]

/-- The accumulator starts at zero. -/
theorem zero_at (p : Fin 512) (k : Fin 1024) : (k0_pay2 (F := Ideal)) (ix2 p k) = 0 := by
  pointwise [k0_pay2]

/-- One half's columns of the reference's hidden rows, from the blocks of point `u`, whose half is `u % 2`. -/
theorem hidden_half (c : Dev nD) (s u : Fin cfg0.N) (r : Fin 16384) (p : Fin 512) (k : Fin 1024) (f : Fin 1408) (f' : Fin 2816)
    (hr : r.val = s.val / 2 * 512 + p.val) (hf : f'.val = u.val % 2 * 1408 + f.val) :
    (∑ l : Fin 1024, k0_pay1 (iblk m c 0 s) (iblk m c 1 s) (ix2 p l) * (show Vec Ideal S1024x1408 .bf16 from iblk m c 2 u) (ix2 l f))
      * Ideal.logistic (∑ l : Fin 1024, k0_pay1 (iblk m c 0 s) (iblk m c 1 s) (ix2 p l) * (show Vec Ideal S1024x1408 .bf16 from iblk m c 2 u) (ix2 l f))
      * (∑ l : Fin 1024, k0_pay1 (iblk m c 0 s) (iblk m c 1 s) (ix2 p l) * (show Vec Ideal S1024x1408 .bf16 from iblk m c 3 u) (ix2 l f))
      * (show Vec Ideal S1408x1024 .bf16 from iblk m c 4 u) (ix2 f k)
    = HID (A0 m c) (A1 m c) (A2 m c) (ix2 r f') * (A3 m c) (ix2 f' k) := by
  rw [HID_at _ _ _ r f']
  simp only [norm_block m c s r p _ hr]
  blk_point [iblk, V, idx u]

/-- The accumulator after both halves is the reference's hidden rows times `w_out`, halves added. -/
theorem acc_at (c : Dev nD) (t s : Fin cfg0.N) (hs : s.val % 2 = 0) (ht : t.val = s.val + 1) (r : Fin 16384) (p : Fin 512) (k : Fin 1024)
    (hr : r.val = s.val / 2 * 512 + p.val) :
    (A0 m c) (ix2 r k) + Ideal.ofBits .f32 0x3F000000#32 * acc2 m c t s (ix2 p k) = STEP (A0 m c) (A1 m c) (A2 m c) (A3 m c) (ix2 r k) := by
  have e1 : acc1 m c s (ix2 p k) = ∑ f : Fin 1408, HID (A0 m c) (A1 m c) (A2 m c) (ix2 r ⟨f.val, by omega⟩) * (A3 m c) (ix2 ⟨f.val, by omega⟩ k) := by
    refine (half_at _ _ _ _ _ p k).trans ?_
    rw [zero_at, zero_add]
    exact Finset.sum_congr rfl fun f _ => hidden_half m c s s r p k f ⟨f.val, by omega⟩ hr (by dsimp only; omega)
  have e2 : acc2 m c t s (ix2 p k) = acc1 m c s (ix2 p k)
      + ∑ f : Fin 1408, HID (A0 m c) (A1 m c) (A2 m c) (ix2 r ⟨1408 + f.val, by omega⟩) * (A3 m c) (ix2 ⟨1408 + f.val, by omega⟩ k) := by
    refine (half_at _ _ _ _ _ p k).trans (congrArg _ ?_)
    exact Finset.sum_congr rfl fun f _ => hidden_half m c s t r p k f ⟨1408 + f.val, by omega⟩ hr (by dsimp only; omega)
  rw [STEP_at, e2, e1]

/-- What a row block's last point stores at block index `y` is the reference's result there. -/
theorem point (c : Dev nD) (t s : Fin cfg0.N) (hs : s.val % 2 = 0) (ht : t.val = s.val + 1) (y) :
    k0_pay4 (iblk m c 0 t) (acc2 m c t s) (iblk m c 5 t) y = REF (A0 m c) (A1 m c) (A2 m c) (A3 m c) (A4 m c) (((cfg0.win 6).blk t).view.emb y) := by
  have hN : cfg0.N = 64 := N_0
  idx_vars y
  have e : ((cfg0.win 6).blk t).view.emb (ix2 y0 y1) = ix2 (⟨s.val / 2 * 512 + y0.val, by omega⟩ : Fin 16384) y1 := by
    blk_ext [idx t]
  rw [e]
  unfold REF
  rw [NORM_at]
  have ha := fun k => acc_at m c t s hs ht (⟨s.val / 2 * 512 + y0.val, by omega⟩ : Fin 16384) y0 k rfl
  simp only [← ha]
  generalize acc2 m c t s = a
  pointwise [k0_pay4]
  blk_point [iblk, V, idx t]

/-- The result array after the run is the reference's result. -/
theorem final (c : Dev nD) : (dats m 0 c).arrAt 6 cfg0.N = REF (A0 m c) (A1 m c) (A2 m c) (A3 m c) (A4 m c) := by
  refine (dats m 0 c).arrAt_eq_of_covers 6 _ (by decide +kernel) fun t hf y => ?_
  have h1 : t.val % 2 = 1 := (flush0_6 t).mp hf
  have h0 : (t.val - 1) % 2 = 0 := by omega
  have hlt : t.val - 1 < cfg0.N := Nat.lt_of_le_of_lt (Nat.sub_le _ _) t.isLt
  blk_simp
  rw [after0_6, outsAt0_B m c t (by omega) h1]
  frame_out
  rw [(first_half m c ⟨t.val - 1, hlt⟩ h0).1, (first_half m c ⟨t.val - 1, hlt⟩ h0).2]
  simp only [read_unread_whole]
  exact point m c t ⟨t.val - 1, hlt⟩ h0 (by dsimp only; omega) y

end Cert.LastIdeal.Value

end
-- ==== Proof.LastClaim.lean ====
/-
  The last feed-forward half step, with the final norm: the claim about its values, and the frame of its reference.
-/
module

public import proofs.«01_k».proof.Defs
public import proofs.«01_k».proof.Proof.LastValue
public import Idealize.ShloMosaic.Lib.Claim

@[expose] public section

set_option maxRecDepth 16384

noncomputable section

open Idealize.ShloMosaic Idealize.SL.Sem

namespace Cert.LastIdealAlg

/-- The reference runs to the end and leaves its arguments as they were. -/
theorem frame_ref : Cert.quiescent_LastRefIdeal := by
  intro m g _
  exact (θ_run Cert.LastRefIdeal.defs _ _).mono
    (fun r h => ⟨fun c => (h c).2, Idealize.ShloMosaic.sem_eq_zero_of_no_sems (by decide) r.2⟩)
    (Cert.LastRefIdeal.Value.run m g)

/-- On equal arguments the kernel and the normalised half step of the reference end with the same rows. -/
theorem algebraic : Cert.algebraic_LastIdeal_LastRefIdeal := by
  pair_intro
  · run_from Cert.LastIdeal.Gen.run_main m g
  · run_from Cert.LastRefIdeal.Value.run m' g'
    obtain ⟨h0, h1, h2, h3, h4⟩ := hagree c
    refine Eq.trans ?_ (Cert.LastIdeal.Value.final m c).symm
    rw [Cert.LastRefIdeal.Value.res_main_v34, h0, h1, h2, h3, h4]
    rfl

end Cert.LastIdealAlg

end
-- ==== Proof.CrossMath.lean ====
/-
  The cross-attention of the prompt rows over the memory tokens.
  A grid point takes 512 rows of one batch and the 256 memory tokens of that batch.  It projects the normalised
  rows to four heads of queries, scales them by 1/16, takes the softmax of the scores of each head against that
  head's keys, multiplies by the values, lays the heads side by side, applies the output projection and adds the
  rows.  The reference does the same for whole arrays and scales the scores after the product; a positive finite
  factor moves through a sum on the extended reals, so the scores agree and with them everything after.
-/
module

public import proofs.«01_k».proof.Proof.Gen.CrossIdeal.Value
public import proofs.«01_k».proof.Proof.Gen.CrossRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.CrossIdeal.Value

open Cert.CrossIdeal Cert.CrossIdeal.Gen

variable (m : (ℓ : Loc nD τ sig) → Buf (Elt Ideal) ℓ)

/-! ## The reference, in named steps -/

/-- The rows, by batch. -/
def XP (a0 : FVec Ideal S16384x1024 .f32) : FVec Ideal Cert.CrossRefIdeal.S4x4096x1024 .f32 :=
  shapeCast Cert.CrossRefIdeal.S4x4096x1024 a0 Cert.CrossRefIdeal.Gen.shapeCasts_S16384x1024_S4x4096x1024

/-- The normalised rows. -/
def XN (a0 : FVec Ideal S16384x1024 .f32) (a1 : FVec Ideal S1024 .f32) : FVec Ideal Cert.CrossRefIdeal.S4x4096x1024 .f32 :=
  mulf (mulf (XP a0) (broadcastInDim Cert.CrossRefIdeal.S4x4096x1024 ![0, 1, 2] Cert.CrossRefIdeal.Gen.bcast_S4x4096x1_S4x4096x1024_0_1_2 (Host.rsqrt (addf (Host.divf (broadcastInDim Cert.CrossRefIdeal.S4x4096x1 ![0, 1] Cert.CrossRefIdeal.Gen.bcast_S4x4096_S4x4096x1_0_1 (Host.reduceAdd (mulf (XP a0) (XP a0)) (constant Cert.CrossRefIdeal.S_ .f32 0x00000000#32) Cert.CrossRefIdeal.Gen.reducesTo_S4x4096x1024_S4x4096_d2 Cert.CrossRefIdeal.Gen.h_S_)) (broadcastInDim Cert.CrossRefIdeal.S4x4096x1 ![] Cert.CrossRefIdeal.Gen.bcast_S_S4x4096x1 (constant Cert.CrossRefIdeal.S_ .f32 0x44800000#32))) (broadcastInDim Cert.CrossRefIdeal.S4x4096x1 ![] Cert.CrossRefIdeal.Gen.bcast_S_S4x4096x1 (constant Cert.CrossRefIdeal.S_ .f32 0x358637BD#32)))))) (broadcastInDim Cert.CrossRefIdeal.S4x4096x1024 ![0, 1, 2] Cert.CrossRefIdeal.Gen.bcast_S1x1x1024_S4x4096x1024_0_1_2 (broadcastInDim Cert.CrossRefIdeal.S1x1x1024 ![2] Cert.CrossRefIdeal.Gen.bcast_S1024_S1x1x1024_2 a1))

/-- The queries, heads side by side. -/
def QRY (a0 : FVec Ideal S16384x1024 .f32) (a1 : FVec Ideal S1024 .f32) (a2 : FVec Ideal S1024x1024 .f32) : FVec Ideal Cert.CrossRefIdeal.S4x4096x1024 .f32 :=
  Host.dotGeneral Cert.CrossRefIdeal.dot_S4x4096x1024_S1024x1024_S4x4096x1024_2_0_01_1_n_n none (XN a0 a1) a2

/-- The keys of the memory tokens. -/
def KEY (a3 : FVec Ideal S1024x2048 .f32) : FVec Ideal Cert.CrossRefIdeal.S4x256x4x256 .f32 :=
  shapeCast Cert.CrossRefIdeal.S4x256x4x256 (extractStridedSlice Cert.CrossRefIdeal.S4x256x1x4x256 ![0, 0, 0, 0, 0] (shapeCast Cert.CrossRefIdeal.S4x256x2x4x256 a3 Cert.CrossRefIdeal.Gen.shapeCasts_S1024x2048_S4x256x2x4x256) Cert.CrossRefIdeal.Gen.slices_S4x256x2x4x256_S4x256x1x4x256_0_0_0_0_0) Cert.CrossRefIdeal.Gen.shapeCasts_S4x256x1x4x256_S4x256x4x256

/-- The scaled scores. -/
def SC (a0 : FVec Ideal S16384x1024 .f32) (a1 : FVec Ideal S1024 .f32) (a2 : FVec Ideal S1024x1024 .f32) (a3 : FVec Ideal S1024x2048 .f32) : FVec Ideal Cert.CrossRefIdeal.S4x4x4096x256 .f32 :=
  mulf (Host.dotGeneral Cert.CrossRefIdeal.dot_S4x4096x4x256_S4x256x4x256_S4x4x4096x256_3_3_1_1_02_02 none (shapeCast Cert.CrossRefIdeal.S4x4096x4x256 (QRY a0 a1 a2) Cert.CrossRefIdeal.Gen.shapeCasts_S4x4096x1024_S4x4096x4x256) (KEY a3)) (broadcastInDim Cert.CrossRefIdeal.S4x4x4096x256 ![] Cert.CrossRefIdeal.Gen.bcast_S_S4x4x4096x256 (constant Cert.CrossRefIdeal.S_ .f32 0x3D800000#32))

/-- The largest score of each row. -/
def MX (a0 : FVec Ideal S16384x1024 .f32) (a1 : FVec Ideal S1024 .f32) (a2 : FVec Ideal S1024x1024 .f32) (a3 : FVec Ideal S1024x2048 .f32) : FVec Ideal Cert.CrossRefIdeal.S4x4x4096 .f32 :=
  maximumf (broadcastInDim Cert.CrossRefIdeal.S4x4x4096 ![] Cert.CrossRefIdeal.Gen.bcast_S_S4x4x4096 (constant Cert.CrossRefIdeal.S_ .f32 0xFF800000#32)) (Host.reduce FloatOps.maximumf (SC a0 a1 a2 a3) (constant Cert.CrossRefIdeal.S_ .f32 0xFF800000#32) Cert.CrossRefIdeal.Gen.reducesTo_S4x4x4096x256_S4x4x4096_d3 Cert.CrossRefIdeal.Gen.h_S_)

/-- The exponentials. -/
def EX (a0 : FVec Ideal S16384x1024 .f32) (a1 : FVec Ideal S1024 .f32) (a2 : FVec Ideal S1024x1024 .f32) (a3 : FVec Ideal S1024x2048 .f32) : FVec Ideal Cert.CrossRefIdeal.S4x4x4096x256 .f32 :=
  Host.exp (subf (SC a0 a1 a2 a3) (broadcastInDim Cert.CrossRefIdeal.S4x4x4096x256 ![0, 1, 2, 3] Cert.CrossRefIdeal.Gen.bcast_S4x4x4096x1_S4x4x4096x256_0_1_2_3 (broadcastInDim Cert.CrossRefIdeal.S4x4x4096x1 ![0, 1, 2] Cert.CrossRefIdeal.Gen.bcast_S4x4x4096_S4x4x4096x1_0_1_2 (MX a0 a1 a2 a3))))

/-- The softmax. -/
def PR (a0 : FVec Ideal S16384x1024 .f32) (a1 : FVec Ideal S1024 .f32) (a2 : FVec Ideal S1024x1024 .f32) (a3 : FVec Ideal S1024x2048 .f32) : FVec Ideal Cert.CrossRefIdeal.S4x4x4096x256 .f32 :=
  Host.divf (EX a0 a1 a2 a3) (broadcastInDim Cert.CrossRefIdeal.S4x4x4096x256 ![0, 1, 2, 3] Cert.CrossRefIdeal.Gen.bcast_S4x4x4096x1_S4x4x4096x256_0_1_2_3 (broadcastInDim Cert.CrossRefIdeal.S4x4x4096x1 ![0, 1, 2] Cert.CrossRefIdeal.Gen.bcast_S4x4x4096_S4x4x4096x1_0_1_2 (Host.reduceAdd (EX a0 a1 a2 a3) (constant Cert.CrossRefIdeal.S_ .f32 0x00000000#32) Cert.CrossRefIdeal.Gen.reducesTo_S4x4x4096x256_S4x4x4096_d3 Cert.CrossRefIdeal.Gen.h_S_)))

/-- The values of the memory tokens. -/
def VAL (a3 : FVec Ideal S1024x2048 .f32) : FVec Ideal Cert.CrossRefIdeal.S4x256x4x256 .f32 :=
  shapeCast Cert.CrossRefIdeal.S4x256x4x256 (extractStridedSlice Cert.CrossRefIdeal.S4x256x1x4x256 ![0, 0, 1, 0, 0] (shapeCast Cert.CrossRefIdeal.S4x256x2x4x256 a3 Cert.CrossRefIdeal.Gen.shapeCasts_S1024x2048_S4x256x2x4x256) Cert.CrossRefIdeal.Gen.slices_S4x256x2x4x256_S4x256x1x4x256_0_0_1_0_0) Cert.CrossRefIdeal.Gen.shapeCasts_S4x256x1x4x256_S4x256x4x256

/-- The attention output, heads side by side. -/
def OUT (a0 : FVec Ideal S16384x1024 .f32) (a1 : FVec Ideal S1024 .f32) (a2 : FVec Ideal S1024x1024 .f32) (a3 : FVec Ideal S1024x2048 .f32) : FVec Ideal Cert.CrossRefIdeal.S4x4096x1024 .f32 :=
  shapeCast Cert.CrossRefIdeal.S4x4096x1024 (transpose Cert.CrossRefIdeal.S4x4096x4x256 [0, 3, 1, 2] (Host.dotGeneral Cert.CrossRefIdeal.dot_S4x256x4x256_S4x4x4096x256_S4x4x256x4096_1_3_3_2_02_01 none (VAL a3) (PR a0 a1 a2 a3)) Cert.CrossRefIdeal.Gen.transposes_S4x4x256x4096_S4x4096x4x256_0_3_1_2) Cert.CrossRefIdeal.Gen.shapeCasts_S4x4096x4x256_S4x4096x1024

/-- The reference result. -/
def REF (a0 : FVec Ideal S16384x1024 .f32) (a1 : FVec Ideal S1024 .f32) (a2 : FVec Ideal S1024x1024 .f32) (a3 : FVec Ideal S1024x2048 .f32) (a4 : FVec Ideal S1024x1024 .f32) : FVec Ideal Cert.CrossRefIdeal.S16384x1024 .f32 :=
  shapeCast Cert.CrossRefIdeal.S16384x1024 (addf (XP a0) (Host.dotGeneral Cert.CrossRefIdeal.dot_S4x4096x1024_S1024x1024_S4x4096x1024_2_0_01_1_n_n none (OUT a0 a1 a2 a3) a4)) Cert.CrossRefIdeal.Gen.shapeCasts_S4x4096x1024_S16384x1024

/-! ## Softmax attention of one row, as sums -/

/-- The largest of the scores, from minus infinity. -/
def top (s : Fin 256 → EReal) : EReal := Finset.univ.fold max (Ideal.ofBits .f32 0xFF800000#32) s

/-- The softmax of the scores `s` against the column `v`. -/
def soft (s v : Fin 256 → EReal) : EReal :=
  ∑ j, Ideal.div (Ideal.exp (s j - top s)) (∑ l, Ideal.exp (s l - top s)) * v j

theorem max_top (s : Fin 256 → EReal) : max (Ideal.ofBits .f32 0xFF800000#32) (top s) = top s :=
  max_eq_right ((Finset.le_fold_max _).mpr (Or.inl le_rfl))

theorem ofBits_sixteenth : Ideal.ofBits .f32 0x3D800000#32 = (((1 : ℝ) / 16 : ℝ) : EReal) := by
  simp [Ideal.ofBits, Ideal.ieee, -EReal.coe_mul]; norm_num

/-- The factor 1/16 moves out of a sum. -/
theorem scale_sum (a k : Fin 256 → EReal) :
    ∑ e, a e * Ideal.ofBits .f32 0x3D800000#32 * k e = (∑ e, a e * k e) * Ideal.ofBits .f32 0x3D800000#32 := by
  rw [ofBits_sixteenth]
  have h0 : (0 : EReal) ≤ (((1 : ℝ) / 16 : ℝ) : EReal) := by exact_mod_cast (by norm_num : (0 : ℝ) ≤ 1 / 16)
  have h : ∀ S : Finset (Fin 256), ∑ e ∈ S, a e * (((1 : ℝ) / 16 : ℝ) : EReal) * k e
      = (∑ e ∈ S, a e * k e) * (((1 : ℝ) / 16 : ℝ) : EReal) := by
    intro S
    induction S using Finset.induction_on with
    | empty => simp
    | insert x S hx ih =>
      rw [Finset.sum_insert hx, Finset.sum_insert hx, ih,
        EReal.right_distrib_of_nonneg_of_ne_top h0 (EReal.coe_ne_top _), mul_right_comm]
  exact h _

/-! ## The reference's steps at an index -/

theorem XN_at (x : FVec Ideal S16384x1024 .f32) (g : FVec Ideal S1024 .f32) (b : Fin 4) (s : Fin 4096) (r : Fin 16384)
    (hr : r.val = b.val * 4096 + s.val) (k : Fin 1024) :
    XN x g (ix3 b s k) = x (ix2 r k) * Ideal.rsqrt (Ideal.div (∑ l : Fin 1024, x (ix2 r l) * x (ix2 r l))
      (Ideal.ofBits .f32 0x44800000#32) + Ideal.ofBits .f32 0x358637BD#32) * g (ix1 k) := by
  have hx : ∀ l : Fin 1024, XP x (ix3 b s l) = x (ix2 r l) := by
    intro l; pointwise [XP]; blk_ext []
  have h : XN x g (ix3 b s k) = XP x (ix3 b s k) * Ideal.rsqrt (Ideal.div (∑ l : Fin 1024, XP x (ix3 b s l) * XP x (ix3 b s l))
      (Ideal.ofBits .f32 0x44800000#32) + Ideal.ofBits .f32 0x358637BD#32) * g (ix1 k) := by
    pointwise [XN]
  rw [h]; simp only [hx]

theorem QRY_at (x : FVec Ideal S16384x1024 .f32) (g : FVec Ideal S1024 .f32) (wq : FVec Ideal S1024x1024 .f32)
    (b : Fin 4) (s : Fin 4096) (e : Fin 1024) :
    QRY x g wq (ix3 b s e) = ∑ k : Fin 1024, XN x g (ix3 b s k) * wq (ix2 k e) := by
  pointwise [QRY]

theorem KEY_at (kv : FVec Ideal S1024x2048 .f32) (b : Fin 4) (j : Fin 256) (h : Fin 4) (e : Fin 256) :
    KEY kv (ix4 b j h e) = kv (ix2 (⟨b.val * 256 + j.val, by omega⟩ : Fin 1024) (⟨h.val * 256 + e.val, by omega⟩ : Fin 2048)) := by
  pointwise [KEY]; blk_ext []

theorem VAL_at (kv : FVec Ideal S1024x2048 .f32) (b : Fin 4) (j : Fin 256) (h : Fin 4) (e : Fin 256) :
    VAL kv (ix4 b j h e) = kv (ix2 (⟨b.val * 256 + j.val, by omega⟩ : Fin 1024) (⟨1024 + (h.val * 256 + e.val), by omega⟩ : Fin 2048)) := by
  pointwise [VAL]; blk_ext []

theorem SC_at (x : FVec Ideal S16384x1024 .f32) (g : FVec Ideal S1024 .f32) (wq : FVec Ideal S1024x1024 .f32)
    (kv : FVec Ideal S1024x2048 .f32) (b h : Fin 4) (s : Fin 4096) (j : Fin 256) :
    SC x g wq kv (ix4 b h s j)
      = (∑ e : Fin 256, QRY x g wq (ix3 b s (⟨h.val * 256 + e.val, by omega⟩ : Fin 1024)) * KEY kv (ix4 b j h e))
        * Ideal.ofBits .f32 0x3D800000#32 := by
  have hq : ∀ e : Fin 256, shapeCast Cert.CrossRefIdeal.S4x4096x4x256 (QRY x g wq) Cert.CrossRefIdeal.Gen.shapeCasts_S4x4096x1024_S4x4096x4x256 (ix4 b s h e)
      = QRY x g wq (ix3 b s (⟨h.val * 256 + e.val, by omega⟩ : Fin 1024)) := by
    intro e; pointwise []; blk_ext []
  unfold SC
  generalize shapeCast Cert.CrossRefIdeal.S4x4096x4x256 (QRY x g wq) Cert.CrossRefIdeal.Gen.shapeCasts_S4x4096x1024_S4x4096x4x256 = Q at hq
  simp only [← hq]
  pointwise []

/-- A fold by the maximum of the idealized floats is a fold by `max`. -/
theorem fold_maximumf {n : ℕ} (b : Ideal .f32) (v : Fin n → Ideal .f32) (S : Finset (Fin n)) :
    S.fold (FloatOps.maximumf (F := Ideal) (φ := .f32)) b v = S.fold (max : EReal → EReal → EReal) b v := by
  induction S using Finset.induction_on with
  | empty => rw [Finset.fold_empty, Finset.fold_empty]
  | insert x S hx ih =>
    rw [Finset.fold_insert hx, Finset.fold_insert hx, ih]
    exact congrFun (congrFun Ideal.maximumf_eq_max _) _

theorem row_max (X : FVec Ideal Cert.CrossRefIdeal.S4x4x4096x256 .f32) (b h : Fin 4) (s : Fin 4096) :
    Host.reduce (FloatOps.maximumf (F := Ideal) (φ := .f32)) X (constant Cert.CrossRefIdeal.S_ .f32 0xFF800000#32) Cert.CrossRefIdeal.Gen.reducesTo_S4x4x4096x256_S4x4x4096_d3 Cert.CrossRefIdeal.Gen.h_S_ (ix3 b h s)
      = top fun l : Fin 256 => X (ix4 b h s l) := by
  refine (Host.reduce_eq_fold _ _ _ _ _ _).trans ?_
  refine (Shape.ReducesTo.fold_fiber_r4_a3 _ _ _ _ _).trans ?_
  exact fold_maximumf _ _ _

theorem max_const (R : FVec Ideal Cert.CrossRefIdeal.S4x4x4096 .f32) (i : Cert.CrossRefIdeal.S4x4x4096.Idx) :
    maximumf (broadcastInDim Cert.CrossRefIdeal.S4x4x4096 ![] Cert.CrossRefIdeal.Gen.bcast_S_S4x4x4096 (constant Cert.CrossRefIdeal.S_ .f32 0xFF800000#32)) R i
      = max (Ideal.ofBits .f32 0xFF800000#32) (R i) :=
  congrFun (congrFun Ideal.maximumf_eq_max _) _

theorem PR_at (x : FVec Ideal S16384x1024 .f32) (g : FVec Ideal S1024 .f32) (wq : FVec Ideal S1024x1024 .f32)
    (kv : FVec Ideal S1024x2048 .f32) (b h : Fin 4) (s : Fin 4096) (j : Fin 256) :
    PR x g wq kv (ix4 b h s j)
      = Ideal.div (Ideal.exp (SC x g wq kv (ix4 b h s j) - top fun l => SC x g wq kv (ix4 b h s l)))
        (∑ i, Ideal.exp (SC x g wq kv (ix4 b h s i) - top fun l => SC x g wq kv (ix4 b h s l))) := by
  have hm : MX x g wq kv (ix3 b h s) = top fun l => SC x g wq kv (ix4 b h s l) := by
    rw [← max_top]
    unfold MX
    generalize SC x g wq kv = X
    exact (max_const _ _).trans (congrArg (max (Ideal.ofBits .f32 0xFF800000#32)) (row_max X b h s))
  have hE : ∀ i, EX x g wq kv (ix4 b h s i) = Ideal.exp (SC x g wq kv (ix4 b h s i) - MX x g wq kv (ix3 b h s)) := by
    intro i
    unfold EX
    generalize SC x g wq kv = X
    generalize MX x g wq kv = M
    pointwise []
  have hP : PR x g wq kv (ix4 b h s j) = Ideal.div (EX x g wq kv (ix4 b h s j)) (∑ i, EX x g wq kv (ix4 b h s i)) := by
    unfold PR
    generalize EX x g wq kv = E
    pointwise []
  rw [hP]
  simp only [hE, hm]

theorem OUT_at (x : FVec Ideal S16384x1024 .f32) (g : FVec Ideal S1024 .f32) (wq : FVec Ideal S1024x1024 .f32)
    (kv : FVec Ideal S1024x2048 .f32) (b h : Fin 4) (s : Fin 4096) (d : Fin 256) (e : Fin 1024) (he : e.val = h.val * 256 + d.val) :
    OUT x g wq kv (ix3 b s e)
      = soft (fun j => SC x g wq kv (ix4 b h s j)) (fun j => VAL kv (ix4 b j h d)) := by
  have h1 : OUT x g wq kv (ix3 b s e) = transpose Cert.CrossRefIdeal.S4x4096x4x256 [0, 3, 1, 2] (Host.dotGeneral Cert.CrossRefIdeal.dot_S4x256x4x256_S4x4x4096x256_S4x4x256x4096_1_3_3_2_02_01 none (VAL kv) (PR x g wq kv)) Cert.CrossRefIdeal.Gen.transposes_S4x4x256x4096_S4x4096x4x256_0_3_1_2 (ix4 b s h d) := by
    unfold OUT
    generalize transpose Cert.CrossRefIdeal.S4x4096x4x256 [0, 3, 1, 2] (Host.dotGeneral Cert.CrossRefIdeal.dot_S4x256x4x256_S4x4x4096x256_S4x4x256x4096_1_3_3_2_02_01 none (VAL kv) (PR x g wq kv)) Cert.CrossRefIdeal.Gen.transposes_S4x4x256x4096_S4x4096x4x256_0_3_1_2 = T
    pointwise []; blk_ext []
  have h2 : transpose Cert.CrossRefIdeal.S4x4096x4x256 [0, 3, 1, 2] (Host.dotGeneral Cert.CrossRefIdeal.dot_S4x256x4x256_S4x4x4096x256_S4x4x256x4096_1_3_3_2_02_01 none (VAL kv) (PR x g wq kv)) Cert.CrossRefIdeal.Gen.transposes_S4x4x256x4096_S4x4096x4x256_0_3_1_2 (ix4 b s h d)
      = ∑ j : Fin 256, VAL kv (ix4 b j h d) * PR x g wq kv (ix4 b h s j) := by
    pointwise []
  rw [h1, h2]
  unfold soft
  exact Finset.sum_congr rfl fun j _ => by rw [PR_at, mul_comm]

theorem REF_at (x : FVec Ideal S16384x1024 .f32) (g : FVec Ideal S1024 .f32) (wq : FVec Ideal S1024x1024 .f32)
    (kv : FVec Ideal S1024x2048 .f32) (wo : FVec Ideal S1024x1024 .f32) (b : Fin 4) (s : Fin 4096) (r : Fin 16384)
    (hr : r.val = b.val * 4096 + s.val) (k : Fin 1024) :
    REF x g wq kv wo (ix2 r k) = x (ix2 r k) + ∑ e : Fin 1024, OUT x g wq kv (ix3 b s e) * wo (ix2 e k) := by
  have hx : XP x (ix3 b s k) = x (ix2 r k) := by pointwise [XP]; blk_ext []
  have h1 : REF x g wq kv wo (ix2 r k) = addf (XP x) (Host.dotGeneral Cert.CrossRefIdeal.dot_S4x4096x1024_S1024x1024_S4x4096x1024_2_0_01_1_n_n none (OUT x g wq kv) wo) (ix3 b s k) := by
    unfold REF
    generalize addf (XP x) (Host.dotGeneral Cert.CrossRefIdeal.dot_S4x4096x1024_S1024x1024_S4x4096x1024_2_0_01_1_n_n none (OUT x g wq kv) wo) = T
    pointwise []; blk_ext []
  rw [h1, ← hx]
  pointwise []

/-! ## The kernel's payloads at an index -/

theorem pay2_at (x : Vec Ideal S512x1024 .f32) (g : Vec Ideal S1x1024 .f32) (w : Vec Ideal S1024x1024 .bf16) (p : Fin 512) (e : Fin 1024) :
    k0_pay2 x g w (ix2 p e) = (∑ k : Fin 1024, x (ix2 p k) * Ideal.rsqrt (Ideal.div (∑ l : Fin 1024, x (ix2 p l) * x (ix2 p l))
      (Ideal.ofBits .f32 0x44800000#32) + Ideal.ofBits .f32 0x358637BD#32) * g (ix2 (0 : Fin 1) k) * w (ix2 k e)) * Ideal.ofBits .f32 0x3D800000#32 := by
  pointwise [k0_pay2]

theorem pay3_at (x : Vec Ideal S512x1024 .f32) (g : Vec Ideal S1x1024 .f32) (w : Vec Ideal S1024x1024 .bf16) (k v : Vec Ideal S256x256 .f32) (p : Fin 512) (d : Fin 256) :
    k0_pay3 x g w k v (ix2 p d) = soft (fun j => ∑ e : Fin 256, k0_pay2 x g w (ix2 p (⟨e.val, by omega⟩ : Fin 1024)) * k (ix2 j e)) (fun j => v (ix2 j d)) := by
  unfold k0_pay3
  generalize k0_pay2 x g w = Q
  pointwise [soft, top]

theorem pay4_at (Q : FVec Ideal S512x1024 .bf16) (k v : Vec Ideal S256x256 .f32) (p : Fin 512) (d : Fin 256) :
    k0_pay4 Q k v (ix2 p d) = soft (fun j => ∑ e : Fin 256, Q (ix2 p (⟨256 + e.val, by omega⟩ : Fin 1024)) * k (ix2 j e)) (fun j => v (ix2 j d)) := by
  pointwise [k0_pay4, soft, top]

theorem pay5_at (Q : FVec Ideal S512x1024 .bf16) (k v : Vec Ideal S256x256 .f32) (p : Fin 512) (d : Fin 256) :
    k0_pay5 Q k v (ix2 p d) = soft (fun j => ∑ e : Fin 256, Q (ix2 p (⟨512 + e.val, by omega⟩ : Fin 1024)) * k (ix2 j e)) (fun j => v (ix2 j d)) := by
  pointwise [k0_pay5, soft, top]

/-- The four heads side by side, read at one column. -/
def heads (h0 h1 h2 h3 : Fin 256 → EReal) (e : Fin 1024) : EReal :=
  if h : e.val < 256 then h0 ⟨e.val, h⟩ else if h' : e.val - 256 < 256 then h1 ⟨e.val - 256, h'⟩
  else if h'' : e.val - 256 - 256 < 256 then h2 ⟨e.val - 256 - 256, h''⟩ else h3 ⟨e.val - 256 - 256 - 256, by omega⟩

theorem pay1_at (x : Vec Ideal S512x1024 .f32) (a b c : FVec Ideal S512x256 .f32) (Q : FVec Ideal S512x1024 .bf16) (k v : Vec Ideal S256x256 .f32)
    (w : Vec Ideal S1024x1024 .bf16) (p : Fin 512) (k' : Fin 1024) :
    k0_pay1 x a b c (k0_pay6 k) (k0_pay7 v) (k0_pay8 Q) (constant S512x256 .f32 0x00000000#32) w (ix2 p k')
      = x (ix2 p k') + ∑ e : Fin 1024, heads (fun d => a (ix2 p d)) (fun d => b (ix2 p d)) (fun d => c (ix2 p d))
          (fun d => soft (fun j => ∑ e : Fin 256, Q (ix2 p (⟨768 + e.val, by omega⟩ : Fin 1024)) * k (ix2 j e)) (fun j => v (ix2 j d))) e
          * w (ix2 e k') := by
  pointwise [k0_pay1, k0_pay6, k0_pay7, k0_pay8, heads, soft, top]

end Cert.CrossIdeal.Value

end
-- ==== Proof.CrossValue.lean ====
/-
  The cross-attention kernel's output array is the reference's result: each grid point's block, read at an index,
  is the reference's row there, head by head.
-/
module

public import proofs.«01_k».proof.Proof.Gen.CrossIdeal.Value
public import proofs.«01_k».proof.Proof.CrossMath
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.CrossIdeal.Value

open Cert.CrossIdeal Cert.CrossIdeal.Gen

variable (m : (ℓ : Loc nD τ sig) → Buf (Elt Ideal) ℓ)

/-! ## The kernel's blocks against the reference -/

abbrev A0 (c : Dev nD) : FVec Ideal S16384x1024 .f32 := m ((c : Thread nD τ).loc main_arg0)
abbrev A1 (c : Dev nD) : FVec Ideal S1024 .f32 := m ((c : Thread nD τ).loc main_arg1)
abbrev A2 (c : Dev nD) : FVec Ideal S1024x1024 .f32 := m ((c : Thread nD τ).loc main_arg2)
abbrev A3 (c : Dev nD) : FVec Ideal S1024x2048 .f32 := m ((c : Thread nD τ).loc main_arg3)
abbrev A4 (c : Dev nD) : FVec Ideal S1024x1024 .f32 := m ((c : Thread nD τ).loc main_arg4)

/-- Where each window's block sits at point `t`: row block `t` of the rows, memory block `t / 8`. -/
theorem idx : ∀ t : Fin cfg0.N, win0_0.index t = ![t.val, 0] ∧ win0_1.index t = ![0, 0] ∧ win0_2.index t = ![0, 0] ∧ win0_3.index t = ![t.val / 8, 0] ∧ win0_4.index t = ![0, 0] ∧ win0_5.index t = ![t.val, 0] :=
  (by decide +kernel : ∀ t : Fin grid0.N, win0_0.index t = ![t.val, 0] ∧ win0_1.index t = ![0, 0] ∧ win0_2.index t = ![0, 0] ∧ win0_3.index t = ![t.val / 8, 0] ∧ win0_4.index t = ![0, 0] ∧ win0_5.index t = ![t.val, 0])

theorem lt_N (t : Fin cfg0.N) : t.val < 32 := t.isLt

/-- The scaled queries of a block, at an index. -/
theorem query_block (c : Dev nD) (t : Fin cfg0.N) (b : Fin 4) (s : Fin 4096) (p : Fin 512) (e : Fin 1024)
    (hb : b.val = t.val / 8) (hs : s.val = t.val % 8 * 512 + p.val) :
    k0_pay2 (iblk m c 0 t) (iblk m c 1 t) (iblk m c 2 t) (ix2 p e)
      = QRY (A0 m c) (A1 m c) (A2 m c) (ix3 b s e) * Ideal.ofBits .f32 0x3D800000#32 := by
  have hx : ∀ k : Fin 1024, (show Vec Ideal S512x1024 .f32 from iblk m c 0 t) (ix2 p k)
      = A0 m c (ix2 (⟨b.val * 4096 + s.val, by omega⟩ : Fin 16384) k) := by
    intro k; have := lt_N t; blk_point [iblk, V, idx t]
  have hg : ∀ k : Fin 1024, (show Vec Ideal S1x1024 .f32 from iblk m c 1 t) (ix2 (0 : Fin 1) k) = A1 m c (ix1 k) := by
    intro k; blk_point [iblk, V, idx t]
  have hw : ∀ k : Fin 1024, (show Vec Ideal S1024x1024 .bf16 from iblk m c 2 t) (ix2 k e) = A2 m c (ix2 k e) := by
    intro k; blk_point [iblk, V, idx t]
  refine (pay2_at _ _ _ _ _).trans ?_
  rw [QRY_at]
  refine congrArg (· * Ideal.ofBits .f32 0x3D800000#32) (Finset.sum_congr rfl fun k _ => ?_)
  rw [XN_at _ _ b s (⟨b.val * 4096 + s.val, by omega⟩ : Fin 16384) rfl]
  simp only [hx, hg, hw]

/-- One head's scores: queries of the block against the keys of the block's batch. -/
theorem score_block (c : Dev nD) (t : Fin cfg0.N) (b h : Fin 4) (s : Fin 4096) (p : Fin 512) (j : Fin 256)
    (hb : b.val = t.val / 8) (hs : s.val = t.val % 8 * 512 + p.val) (q k : Fin 256 → EReal)
    (hq : ∀ e : Fin 256, q e = QRY (A0 m c) (A1 m c) (A2 m c) (ix3 b s (⟨h.val * 256 + e.val, by omega⟩ : Fin 1024)) * Ideal.ofBits .f32 0x3D800000#32)
    (hk : ∀ e : Fin 256, k e = A3 m c (ix2 (⟨b.val * 256 + j.val, by omega⟩ : Fin 1024) (⟨h.val * 256 + e.val, by omega⟩ : Fin 2048))) :
    ∑ e : Fin 256, q e * k e = SC (A0 m c) (A1 m c) (A2 m c) (A3 m c) (ix4 b h s j) := by
  rw [SC_at]
  simp only [hq, hk, KEY_at]
  exact scale_sum _ _

/-- One head's output. -/
theorem head_block (c : Dev nD) (b h : Fin 4) (s : Fin 4096) (d : Fin 256) (e : Fin 1024) (he : e.val = h.val * 256 + d.val) (sc v : Fin 256 → EReal)
    (hsc : ∀ j, sc j = SC (A0 m c) (A1 m c) (A2 m c) (A3 m c) (ix4 b h s j))
    (hv : ∀ j : Fin 256, v j = A3 m c (ix2 (⟨b.val * 256 + j.val, by omega⟩ : Fin 1024) (⟨1024 + (h.val * 256 + d.val), by omega⟩ : Fin 2048))) :
    soft sc v = OUT (A0 m c) (A1 m c) (A2 m c) (A3 m c) (ix3 b s e) := by
  rw [OUT_at _ _ _ _ b h s d e he]
  have h1 : sc = fun j => SC (A0 m c) (A1 m c) (A2 m c) (A3 m c) (ix4 b h s j) := funext hsc
  have h2 : v = fun j => VAL (A3 m c) (ix4 b j h d) := funext fun j => (hv j).trans (VAL_at _ _ _ _ _).symm
  rw [h1, h2]

/-- What point `t` stores, at an index. -/
theorem point (c : Dev nD) (t : Fin cfg0.N) (p : Fin 512) (k : Fin 1024) (r : Fin 16384) (hr : r.val = t.val * 512 + p.val) :
    k0_pay1 (iblk m c 0 t) (k0_pay3 (iblk m c 0 t) (iblk m c 1 t) (iblk m c 2 t) (View.ld (iblk m c 3 t) r0_3) (View.ld (iblk m c 3 t) r0_4))
      (k0_pay4 (k0_pay2 (iblk m c 0 t) (iblk m c 1 t) (iblk m c 2 t)) (View.ld (iblk m c 3 t) r0_5) (View.ld (iblk m c 3 t) r0_6))
      (k0_pay5 (k0_pay2 (iblk m c 0 t) (iblk m c 1 t) (iblk m c 2 t)) (View.ld (iblk m c 3 t) r0_7) (View.ld (iblk m c 3 t) r0_8))
      (k0_pay6 (View.ld (iblk m c 3 t) r0_9)) (k0_pay7 (View.ld (iblk m c 3 t) r0_10)) (k0_pay8 (k0_pay2 (iblk m c 0 t) (iblk m c 1 t) (iblk m c 2 t)))
      (constant S512x256 .f32 0x00000000#32) (iblk m c 4 t) (ix2 p k)
      = REF (A0 m c) (A1 m c) (A2 m c) (A3 m c) (A4 m c) (ix2 r k) := by
  have hN := lt_N t
  have hx : (show Vec Ideal S512x1024 .f32 from iblk m c 0 t) (ix2 p k) = A0 m c (ix2 r k) := by
    blk_point [iblk, V, idx t]
  have hw : ∀ e : Fin 1024, (show Vec Ideal S1024x1024 .bf16 from iblk m c 4 t) (ix2 e k) = A4 m c (ix2 e k) := by
    intro e; blk_point [iblk, V, idx t]
  obtain ⟨b, hb⟩ : ∃ b : Fin 4, b.val = t.val / 8 := ⟨⟨t.val / 8, by omega⟩, rfl⟩
  obtain ⟨s, hs⟩ : ∃ s : Fin 4096, s.val = t.val % 8 * 512 + p.val := ⟨⟨t.val % 8 * 512 + p.val, by omega⟩, rfl⟩
  rw [REF_at _ _ _ _ _ b s r (by omega)]
  refine (pay1_at _ _ _ _ _ _ _ _ _ _).trans ?_
  refine congrArg₂ (· + ·) hx (Finset.sum_congr rfl fun e _ => congrArg₂ (· * ·) ?_ (hw e))
  have hq := query_block m c t b s p
  unfold heads
  split_ifs with h0 h1 h2
  · refine (pay3_at _ _ _ _ _ _ _).trans (head_block m c b 0 s ⟨e.val, h0⟩ e (by simp) _ _ (fun j => ?_) (fun j => ?_))
    · exact score_block m c t b 0 s p j hb hs _ _ (fun e => by rw [hq _ hb hs]; simp) (fun e => by blk_point [iblk, V, idx t])
    · blk_point [iblk, V, idx t]
  · refine (pay4_at _ _ _ _ _).trans (head_block m c b 1 s ⟨e.val - 256, h1⟩ e (by simp; omega) _ _ (fun j => ?_) (fun j => ?_))
    · exact score_block m c t b 1 s p j hb hs _ _ (fun e => by rw [hq _ hb hs]; simp) (fun e => by blk_point [iblk, V, idx t])
    · blk_point [iblk, V, idx t]
  · refine (pay5_at _ _ _ _ _).trans (head_block m c b 2 s ⟨e.val - 256 - 256, h2⟩ e (by simp; omega) _ _ (fun j => ?_) (fun j => ?_))
    · exact score_block m c t b 2 s p j hb hs _ _ (fun e => by rw [hq _ hb hs]; simp) (fun e => by blk_point [iblk, V, idx t])
    · blk_point [iblk, V, idx t]
  · refine head_block m c b 3 s ⟨e.val - 256 - 256 - 256, by omega⟩ e (by simp; omega) _ _ (fun j => ?_) (fun j => ?_)
    · exact score_block m c t b 3 s p j hb hs _ _ (fun e => by rw [hq _ hb hs]; simp) (fun e => by blk_point [iblk, V, idx t])
    · blk_point [iblk, V, idx t]

/-- After the run the output array is the reference's result. -/
theorem final (c : Dev nD) : (dats m 0 c).arrAt 5 cfg0.N = REF (A0 m c) (A1 m c) (A2 m c) (A3 m c) (A4 m c) := by
  refine (dats m 0 c).arrAt_eq_of_covers 5 _ (by decide +kernel) fun t _ y => ?_
  blk_simp
  rw [after0_5]
  unfold_out out0_5
  frame_out
  idx_vars y
  have hN := lt_N t
  have he : ((View.whole main_v3).slice (win0_5.rect t)).emb (ix2 y0 y1) = ix2 (⟨t.val * 512 + y0.val, by omega⟩ : Fin 16384) y1 := by
    blk_ext [idx t]
  rw [he]
  exact point m c t y0 y1 _ rfl

end Cert.CrossIdeal.Value

end
-- ==== Proof.CrossClaim.lean ====
/-
  The cross-attention of the prompt rows: the claim about its values, and the frame of its reference.
-/
module

public import proofs.«01_k».proof.Defs
public import proofs.«01_k».proof.Proof.CrossValue
public import Idealize.ShloMosaic.Lib.Claim

@[expose] public section

set_option maxRecDepth 16384

noncomputable section

open Idealize.ShloMosaic Idealize.SL.Sem

namespace Cert.CrossIdealAlg

/-- The reference runs to the end and leaves its arguments as they were. -/
theorem frame_ref : Cert.quiescent_CrossRefIdeal := by
  intro m g _
  exact (θ_run Cert.CrossRefIdeal.defs _ _).mono
    (fun r h => ⟨fun c => (h c).2, Idealize.ShloMosaic.sem_eq_zero_of_no_sems (by decide) r.2⟩)
    (Cert.CrossRefIdeal.Value.run m g)

/-- On equal arguments the kernel and the softmax attention of the reference end with the same rows. -/
theorem algebraic : Cert.algebraic_CrossIdeal_CrossRefIdeal := by
  pair_intro
  · run_from Cert.CrossIdeal.Gen.run_main m g
  · run_from Cert.CrossRefIdeal.Value.run m' g'
    obtain ⟨h0, h1, h2, h3, h4⟩ := hagree c
    refine Eq.trans ?_ (Cert.CrossIdeal.Value.final m c).symm
    rw [Cert.CrossRefIdeal.Value.res_main_v40, h0, h1, h2, h3, h4]
    rfl

end Cert.CrossIdealAlg

end
-- ==== Proof.MemKvValue.lean ====
/-
  The memory keys and values: `rmsnorm(mem, g) @ w` block by block is the same product taken whole.
  Each grid point computes a block of 512 rows of the result from the same 512 rows of `mem`, and a row of the
  result depends only on that row, so the two programs spell the same sum at every index.
-/
module

public import proofs.«01_k».proof.Proof.Gen.MemKvIdeal.Value
public import proofs.«01_k».proof.Proof.Gen.MemKvRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MemKvIdeal.Value

open Cert.MemKvIdeal Cert.MemKvIdeal.Gen

variable (m : (ℓ : Loc nD τ sig) → Buf (Elt Ideal) ℓ)

/-- The reference's result as a function of its three arguments. -/
abbrev REF (x : FVec Ideal S1024x1024 .f32) (g : FVec Ideal S1024 .f32) (w : FVec Ideal S1024x2048 .f32) :
    FVec Ideal S1024x2048 .f32 :=
  Host.dotGeneral Cert.MemKvRefIdeal.dot_S1024x1024_S1024x2048_S1024x2048_1_0_0_1_n_n none
    (mulf (mulf x (broadcastInDim Cert.MemKvRefIdeal.S1024x1024 ![0, 1] Cert.MemKvRefIdeal.Gen.bcast_S1024x1_S1024x1024_0_1
      (Host.rsqrt (addf (Host.divf (broadcastInDim Cert.MemKvRefIdeal.S1024x1 ![0] Cert.MemKvRefIdeal.Gen.bcast_S1024_S1024x1_0
        (Host.reduceAdd (mulf x x) (constant Cert.MemKvRefIdeal.S_ .f32 0x00000000#32)
          Cert.MemKvRefIdeal.Gen.reducesTo_S1024x1024_S1024_d1 Cert.MemKvRefIdeal.Gen.h_S_))
        (broadcastInDim Cert.MemKvRefIdeal.S1024x1 ![] Cert.MemKvRefIdeal.Gen.bcast_S_S1024x1 (constant Cert.MemKvRefIdeal.S_ .f32 0x44800000#32)))
        (broadcastInDim Cert.MemKvRefIdeal.S1024x1 ![] Cert.MemKvRefIdeal.Gen.bcast_S_S1024x1 (constant Cert.MemKvRefIdeal.S_ .f32 0x358637BD#32))))))
      (broadcastInDim Cert.MemKvRefIdeal.S1024x1024 ![0, 1] Cert.MemKvRefIdeal.Gen.bcast_S1x1024_S1024x1024_0_1
        (broadcastInDim Cert.MemKvRefIdeal.S1x1024 ![1] Cert.MemKvRefIdeal.Gen.bcast_S1024_S1x1024_1 g))) w

/-- Where each window's block sits: point `t` has rows `512·t …` of `mem` and of the result, and all of `g` and `w`. -/
theorem idx : ∀ t : Fin cfg0.N, win0_0.index t = ![t.val, 0] ∧ win0_1.index t = ![0, 0] ∧ win0_2.index t = ![0, 0]
    ∧ win0_3.index t = ![t.val, 0] :=
  (by decide +kernel : ∀ t : Fin grid0.N, win0_0.index t = ![t.val, 0] ∧ win0_1.index t = ![0, 0] ∧ win0_2.index t = ![0, 0]
    ∧ win0_3.index t = ![t.val, 0])

/-- What point `t` stores at block index `y` is the reference's result at the array index that `y` stands for. -/
theorem point (c : Dev nD) (t : Fin cfg0.N) (y) : k0_pay1 (iblk m c 0 t) (iblk m c 1 t) (iblk m c 2 t) y
    = REF (m ((c : Thread nD τ).loc main_arg0)) (m ((c : Thread nD τ).loc main_arg1)) (m ((c : Thread nD τ).loc main_arg2))
        (((cfg0.win 3).blk t).view.emb y) := by
  pointwise [k0_pay1, REF]
  blk_point [iblk, V, idx t]

/-- The result array after the run is the reference's result. -/
theorem final (c : Dev nD) : (dats m 0 c).arrAt 3 cfg0.N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.MemKvIdeal.Value

end
-- ==== Proof.MemKvClaim.lean ====
/-
  The memory keys and values: the claim about its values, and the frame of its reference.
-/
module

public import proofs.«01_k».proof.Defs
public import proofs.«01_k».proof.Proof.MemKvValue
public import Idealize.ShloMosaic.Lib.Claim

@[expose] public section

set_option maxRecDepth 16384

noncomputable section

open Idealize.ShloMosaic Idealize.SL.Sem

namespace Cert.MemKvIdealAlg

/-- The reference runs to the end and leaves its arguments as they were. -/
theorem frame_ref : Cert.quiescent_MemKvRefIdeal := by
  intro m g _
  exact (θ_run Cert.MemKvRefIdeal.defs _ _).mono
    (fun r h => ⟨fun c => (h c).2, Idealize.ShloMosaic.sem_eq_zero_of_no_sems (by decide) r.2⟩)
    (Cert.MemKvRefIdeal.Value.run m g)

/-- On equal arguments the kernel and `rmsnorm(mem, g) @ w` end with the same array. -/
theorem algebraic : Cert.algebraic_MemKvIdeal_MemKvRefIdeal := by
  pair_intro
  · run_from Cert.MemKvIdeal.Gen.run_main m g
  · run_from Cert.MemKvRefIdeal.Value.run m' g'
    exact (Cert.MemKvIdeal.Value.final m c).symm

end Cert.MemKvIdealAlg

end
-- ==== Proof.ConvMath.lean ====
/-
  The short convolution of the prompt rows: the reference's arrays and what the kernel stores, read at one index.
-/
module

public import proofs.«01_k».proof.Proof.Gen.ConvIdeal.Value
public import proofs.«01_k».proof.Proof.Gen.ConvRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ConvIdeal.Value

open Cert.ConvIdeal Cert.ConvIdeal.Gen

/-- The rows, by batch. -/
def XP (a0 : FVec Ideal S16384x1024 .f32) : FVec Ideal Cert.ConvRefIdeal.S4x4096x1024 .f32 :=
  shapeCast Cert.ConvRefIdeal.S4x4096x1024 a0 Cert.ConvRefIdeal.Gen.shapeCasts_S16384x1024_S4x4096x1024

/-- The normalised rows. -/
def XN (a0 : FVec Ideal S16384x1024 .f32) (a1 : FVec Ideal S1024 .f32) : FVec Ideal Cert.ConvRefIdeal.S4x4096x1024 .f32 :=
  mulf (mulf (XP a0) (broadcastInDim Cert.ConvRefIdeal.S4x4096x1024 ![0, 1, 2] Cert.ConvRefIdeal.Gen.bcast_S4x4096x1_S4x4096x1024_0_1_2 (Host.rsqrt (addf (Host.divf (broadcastInDim Cert.ConvRefIdeal.S4x4096x1 ![0, 1] Cert.ConvRefIdeal.Gen.bcast_S4x4096_S4x4096x1_0_1 (Host.reduceAdd (mulf (XP a0) (XP a0)) (constant Cert.ConvRefIdeal.S_ .f32 0x00000000#32) Cert.ConvRefIdeal.Gen.reducesTo_S4x4096x1024_S4x4096_d2 Cert.ConvRefIdeal.Gen.h_S_)) (broadcastInDim Cert.ConvRefIdeal.S4x4096x1 ![] Cert.ConvRefIdeal.Gen.bcast_S_S4x4096x1 (constant Cert.ConvRefIdeal.S_ .f32 0x44800000#32))) (broadcastInDim Cert.ConvRefIdeal.S4x4096x1 ![] Cert.ConvRefIdeal.Gen.bcast_S_S4x4096x1 (constant Cert.ConvRefIdeal.S_ .f32 0x358637BD#32)))))) (broadcastInDim Cert.ConvRefIdeal.S4x4096x1024 ![0, 1, 2] Cert.ConvRefIdeal.Gen.bcast_S1x1x1024_S4x4096x1024_0_1_2 (broadcastInDim Cert.ConvRefIdeal.S1x1x1024 ![2] Cert.ConvRefIdeal.Gen.bcast_S1024_S1x1x1024_2 a1))

/-- The three projections side by side. -/
def PROJ (a0 : FVec Ideal S16384x1024 .f32) (a1 : FVec Ideal S1024 .f32) (a2 : FVec Ideal S1024x3072 .f32) : FVec Ideal Cert.ConvRefIdeal.S4x4096x3072 .f32 :=
  Host.dotGeneral Cert.ConvRefIdeal.dot_S4x4096x1024_S1024x3072_S4x4096x3072_2_0_01_1_n_n none (XN a0 a1) a2

/-- The gated input of the convolution. -/
def UU (a0 : FVec Ideal S16384x1024 .f32) (a1 : FVec Ideal S1024 .f32) (a2 : FVec Ideal S1024x3072 .f32) : FVec Ideal Cert.ConvRefIdeal.S4x4096x1024 .f32 :=
  mulf (extractStridedSlice Cert.ConvRefIdeal.S4x4096x1024 ![0, 0, 1024] (PROJ a0 a1 a2) Cert.ConvRefIdeal.Gen.slices_S4x4096x3072_S4x4096x1024_0_0_1024) (extractStridedSlice Cert.ConvRefIdeal.S4x4096x1024 ![0, 0, 0] (PROJ a0 a1 a2) Cert.ConvRefIdeal.Gen.slices_S4x4096x3072_S4x4096x1024_0_0_0)

/-- The gated input behind two rows of zeros. -/
def UC (a0 : FVec Ideal S16384x1024 .f32) (a1 : FVec Ideal S1024 .f32) (a2 : FVec Ideal S1024x3072 .f32) : FVec Ideal Cert.ConvRefIdeal.S4x4098x1024 .f32 :=
  concatenate Cert.ConvRefIdeal.S4x4098x1024 1 [⟨Cert.ConvRefIdeal.S4x2x1024, (broadcastInDim Cert.ConvRefIdeal.S4x2x1024 ![] Cert.ConvRefIdeal.Gen.bcast_S_S4x2x1024 (constant Cert.ConvRefIdeal.S_ .f32 0x00000000#32))⟩, ⟨Cert.ConvRefIdeal.S4x4096x1024, UU a0 a1 a2⟩] Cert.ConvRefIdeal.Gen.concatenates_S4x2x1024_S4x4096x1024_S4x4098x1024_d1

/-- The short convolution along the sequence. -/
def CV (a0 : FVec Ideal S16384x1024 .f32) (a1 : FVec Ideal S1024 .f32) (a2 : FVec Ideal S1024x3072 .f32) (a3 : FVec Ideal S3x1024 .f32) : FVec Ideal Cert.ConvRefIdeal.S4x4096x1024 .f32 :=
  addf (addf (mulf (broadcastInDim Cert.ConvRefIdeal.S4x4096x1024 ![0, 1, 2] Cert.ConvRefIdeal.Gen.bcast_S1x1x1024_S4x4096x1024_0_1_2 (broadcastInDim Cert.ConvRefIdeal.S1x1x1024 ![2] Cert.ConvRefIdeal.Gen.bcast_S1024_S1x1x1024_2 (shapeCast Cert.ConvRefIdeal.S1024 (extractStridedSlice Cert.ConvRefIdeal.S1x1024 ![0, 0] a3 Cert.ConvRefIdeal.Gen.slices_S3x1024_S1x1024_0_0) Cert.ConvRefIdeal.Gen.shapeCasts_S1x1024_S1024))) (extractStridedSlice Cert.ConvRefIdeal.S4x4096x1024 ![0, 0, 0] (UC a0 a1 a2) Cert.ConvRefIdeal.Gen.slices_S4x4098x1024_S4x4096x1024_0_0_0)) (mulf (broadcastInDim Cert.ConvRefIdeal.S4x4096x1024 ![0, 1, 2] Cert.ConvRefIdeal.Gen.bcast_S1x1x1024_S4x4096x1024_0_1_2 (broadcastInDim Cert.ConvRefIdeal.S1x1x1024 ![2] Cert.ConvRefIdeal.Gen.bcast_S1024_S1x1x1024_2 (shapeCast Cert.ConvRefIdeal.S1024 (extractStridedSlice Cert.ConvRefIdeal.S1x1024 ![1, 0] a3 Cert.ConvRefIdeal.Gen.slices_S3x1024_S1x1024_1_0) Cert.ConvRefIdeal.Gen.shapeCasts_S1x1024_S1024))) (extractStridedSlice Cert.ConvRefIdeal.S4x4096x1024 ![0, 1, 0] (UC a0 a1 a2) Cert.ConvRefIdeal.Gen.slices_S4x4098x1024_S4x4096x1024_0_1_0))) (mulf (broadcastInDim Cert.ConvRefIdeal.S4x4096x1024 ![0, 1, 2] Cert.ConvRefIdeal.Gen.bcast_S1x1x1024_S4x4096x1024_0_1_2 (broadcastInDim Cert.ConvRefIdeal.S1x1x1024 ![2] Cert.ConvRefIdeal.Gen.bcast_S1024_S1x1x1024_2 (shapeCast Cert.ConvRefIdeal.S1024 (extractStridedSlice Cert.ConvRefIdeal.S1x1024 ![2, 0] a3 Cert.ConvRefIdeal.Gen.slices_S3x1024_S1x1024_2_0) Cert.ConvRefIdeal.Gen.shapeCasts_S1x1024_S1024))) (extractStridedSlice Cert.ConvRefIdeal.S4x4096x1024 ![0, 2, 0] (UC a0 a1 a2) Cert.ConvRefIdeal.Gen.slices_S4x4098x1024_S4x4096x1024_0_2_0))

/-- The convolution, gated. -/
def GV (a0 : FVec Ideal S16384x1024 .f32) (a1 : FVec Ideal S1024 .f32) (a2 : FVec Ideal S1024x3072 .f32) (a3 : FVec Ideal S3x1024 .f32) : FVec Ideal Cert.ConvRefIdeal.S4x4096x1024 .f32 :=
  mulf (extractStridedSlice Cert.ConvRefIdeal.S4x4096x1024 ![0, 0, 2048] (PROJ a0 a1 a2) Cert.ConvRefIdeal.Gen.slices_S4x4096x3072_S4x4096x1024_0_0_2048) (CV a0 a1 a2 a3)

/-- The first result: the rows with the projected convolution added. -/
def REF (a0 : FVec Ideal S16384x1024 .f32) (a1 : FVec Ideal S1024 .f32) (a2 : FVec Ideal S1024x3072 .f32) (a3 : FVec Ideal S3x1024 .f32) (a4 : FVec Ideal S1024x1024 .f32) : FVec Ideal Cert.ConvRefIdeal.S16384x1024 .f32 :=
  shapeCast Cert.ConvRefIdeal.S16384x1024 (addf (XP a0) (Host.dotGeneral Cert.ConvRefIdeal.dot_S4x4096x1024_S1024x1024_S4x4096x1024_2_0_01_1_n_n none (GV a0 a1 a2 a3) a4)) Cert.ConvRefIdeal.Gen.shapeCasts_S4x4096x1024_S16384x1024

/-- The second result: the last two rows of the gated input. -/
def STATE (a0 : FVec Ideal S16384x1024 .f32) (a1 : FVec Ideal S1024 .f32) (a2 : FVec Ideal S1024x3072 .f32) : FVec Ideal Cert.ConvRefIdeal.S4x2x1024 .f32 :=
  extractStridedSlice Cert.ConvRefIdeal.S4x2x1024 ![0, 4096, 0] (UC a0 a1 a2) Cert.ConvRefIdeal.Gen.slices_S4x4098x1024_S4x2x1024_0_4096_0

/-! ## The reference's steps at an index -/

theorem XN_at (x : FVec Ideal S16384x1024 .f32) (g : FVec Ideal S1024 .f32) (b : Fin 4) (s : Fin 4096) (r : Fin 16384)
    (hr : r.val = b.val * 4096 + s.val) (k : Fin 1024) :
    XN x g (ix3 b s k) = x (ix2 r k) * Ideal.rsqrt (Ideal.div (∑ l : Fin 1024, x (ix2 r l) * x (ix2 r l))
      (Ideal.ofBits .f32 0x44800000#32) + Ideal.ofBits .f32 0x358637BD#32) * g (ix1 k) := by
  have hx : ∀ l : Fin 1024, XP x (ix3 b s l) = x (ix2 r l) := by
    intro l; pointwise [XP]; blk_ext []
  have h : XN x g (ix3 b s k) = XP x (ix3 b s k) * Ideal.rsqrt (Ideal.div (∑ l : Fin 1024, XP x (ix3 b s l) * XP x (ix3 b s l))
      (Ideal.ofBits .f32 0x44800000#32) + Ideal.ofBits .f32 0x358637BD#32) * g (ix1 k) := by
    pointwise [XN]
  rw [h]; simp only [hx]

theorem PROJ_at (x : FVec Ideal S16384x1024 .f32) (g : FVec Ideal S1024 .f32) (w : FVec Ideal S1024x3072 .f32)
    (b : Fin 4) (s : Fin 4096) (e : Fin 3072) :
    PROJ x g w (ix3 b s e) = ∑ k : Fin 1024, XN x g (ix3 b s k) * w (ix2 k e) := by
  pointwise [PROJ]

theorem UU_at (x : FVec Ideal S16384x1024 .f32) (g : FVec Ideal S1024 .f32) (w : FVec Ideal S1024x3072 .f32)
    (b : Fin 4) (s : Fin 4096) (k : Fin 1024) :
    UU x g w (ix3 b s k) = PROJ x g w (ix3 b s (⟨1024 + k.val, by omega⟩ : Fin 3072)) * PROJ x g w (ix3 b s (⟨k.val, by omega⟩ : Fin 3072)) := by
  unfold UU
  generalize PROJ x g w = P
  pointwise []

/-- Row `i` of the gated input behind two rows of zeros. -/
theorem UC_at (x : FVec Ideal S16384x1024 .f32) (g : FVec Ideal S1024 .f32) (w : FVec Ideal S1024x3072 .f32)
    (b : Fin 4) (i : Fin 4098) (k : Fin 1024) :
    UC x g w (ix3 b i k) = if h : i.val < 2 then 0 else UU x g w (ix3 b (⟨i.val - 2, by omega⟩ : Fin 4096) k) := by
  unfold UC
  generalize UU x g w = U
  pointwise []

theorem STATE_at (x : FVec Ideal S16384x1024 .f32) (g : FVec Ideal S1024 .f32) (w : FVec Ideal S1024x3072 .f32)
    (b : Fin 4) (i : Fin 2) (k : Fin 1024) :
    STATE x g w (ix3 b i k) = UU x g w (ix3 b (⟨i.val + 4094, by omega⟩ : Fin 4096) k) := by
  have h : STATE x g w (ix3 b i k) = UC x g w (ix3 b (⟨i.val + 4096, by omega⟩ : Fin 4098) k) := by
    unfold STATE
    generalize UC x g w = U
    pointwise []; blk_ext []
  rw [h, UC_at, dif_neg (by dsimp only; omega)]
  rfl

theorem CV_at (x : FVec Ideal S16384x1024 .f32) (g : FVec Ideal S1024 .f32) (w : FVec Ideal S1024x3072 .f32) (cw : FVec Ideal S3x1024 .f32)
    (b : Fin 4) (s : Fin 4096) (k : Fin 1024) :
    CV x g w cw (ix3 b s k) = cw (ix2 (0 : Fin 3) k) * UC x g w (ix3 b (⟨s.val, by omega⟩ : Fin 4098) k)
      + cw (ix2 (1 : Fin 3) k) * UC x g w (ix3 b (⟨1 + s.val, by omega⟩ : Fin 4098) k)
      + cw (ix2 (2 : Fin 3) k) * UC x g w (ix3 b (⟨2 + s.val, by omega⟩ : Fin 4098) k) := by
  unfold CV
  generalize UC x g w = U
  pointwise []

theorem GV_at (x : FVec Ideal S16384x1024 .f32) (g : FVec Ideal S1024 .f32) (w : FVec Ideal S1024x3072 .f32) (cw : FVec Ideal S3x1024 .f32)
    (b : Fin 4) (s : Fin 4096) (k : Fin 1024) :
    GV x g w cw (ix3 b s k) = PROJ x g w (ix3 b s (⟨2048 + k.val, by omega⟩ : Fin 3072)) * CV x g w cw (ix3 b s k) := by
  unfold GV
  generalize PROJ x g w = P
  generalize CV x g w cw = C
  pointwise []

theorem REF_at (x : FVec Ideal S16384x1024 .f32) (g : FVec Ideal S1024 .f32) (w : FVec Ideal S1024x3072 .f32) (cw : FVec Ideal S3x1024 .f32)
    (wo : FVec Ideal S1024x1024 .f32) (b : Fin 4) (s : Fin 4096) (r : Fin 16384) (hr : r.val = b.val * 4096 + s.val) (k : Fin 1024) :
    REF x g w cw wo (ix2 r k) = x (ix2 r k) + ∑ e : Fin 1024, GV x g w cw (ix3 b s e) * wo (ix2 e k) := by
  have hx : XP x (ix3 b s k) = x (ix2 r k) := by pointwise [XP]; blk_ext []
  have h1 : REF x g w cw wo (ix2 r k) = addf (XP x) (Host.dotGeneral Cert.ConvRefIdeal.dot_S4x4096x1024_S1024x1024_S4x4096x1024_2_0_01_1_n_n none (GV x g w cw) wo) (ix3 b s k) := by
    unfold REF
    generalize addf (XP x) (Host.dotGeneral Cert.ConvRefIdeal.dot_S4x4096x1024_S1024x1024_S4x4096x1024_2_0_01_1_n_n none (GV x g w cw) wo) = T
    pointwise []; blk_ext []
  rw [h1, ← hx]
  pointwise []

/-! ## The kernel's payloads at an index -/

theorem pay5_at (x : Vec Ideal S512x1024 .f32) (g : Vec Ideal S1x1024 .f32) (w : Vec Ideal S1024x3072 .bf16) (p : Fin 512) (e : Fin 3072) :
    k0_pay5 x g w (ix2 p e) = ∑ k : Fin 1024, x (ix2 p k) * Ideal.rsqrt (Ideal.div (∑ l : Fin 1024, x (ix2 p l) * x (ix2 p l))
      (Ideal.ofBits .f32 0x44800000#32) + Ideal.ofBits .f32 0x358637BD#32) * g (ix2 (0 : Fin 1) k) * w (ix2 k e) := by
  pointwise [k0_pay5]

theorem pay6_at (x : Vec Ideal S512x1024 .f32) (g : Vec Ideal S1x1024 .f32) (w : Vec Ideal S1024x3072 .bf16) (p : Fin 512) (k : Fin 1024) :
    k0_pay6 x g w (ix2 p k) = k0_pay5 x g w (ix2 p (⟨1024 + k.val, by omega⟩ : Fin 3072)) * k0_pay5 x g w (ix2 p (⟨k.val, by omega⟩ : Fin 3072)) := by
  unfold k0_pay6
  generalize k0_pay5 x g w = P
  pointwise []

theorem pay7_at (x : Vec Ideal S512x1024 .f32) (g : Vec Ideal S1x1024 .f32) (w : Vec Ideal S1024x3072 .bf16) (p : Fin 512) (k : Fin 1024) :
    k0_pay7 x g w (ix2 p k) = k0_pay5 x g w (ix2 p (⟨2048 + k.val, by omega⟩ : Fin 3072)) := by
  unfold k0_pay7
  generalize k0_pay5 x g w = P
  pointwise []

/-- A select on a row number being a given number. -/
theorem select_row (p : Fin 512) (q : ℕ) (hq : q < 512) (a b : EReal) :
    Scalar.select (IntOp.cmpi CmpIPredicate.eq (BitVec.ofNat 32 p.val) (BitVec.ofNat 32 q)) a b = if p.val = q then a else b := by
  have h : (BitVec.ofNat 32 p.val = BitVec.ofNat 32 q) ↔ p.val = q := by
    constructor
    · intro h
      have := congrArg BitVec.toNat h
      simp only [BitVec.toNat_ofNat] at this
      omega
    · intro h; rw [h]
  by_cases e : p.val = q
  · simp [Scalar.select, IntOp.cmpi, e]
  · have e' := fun x => e (h.mp x)
    have e2 : (BitVec.ofNat 32 p.val == BitVec.ofNat 32 q) = false := beq_eq_false_iff_ne.mpr e'
    simp [Scalar.select, IntOp.cmpi, e, e2]

/-- The row before: the last carried row for the block's first row. -/
theorem pay8_at (x : Vec Ideal S512x1024 .f32) (g : Vec Ideal S1x1024 .f32) (w : Vec Ideal S1024x3072 .bf16) (C : Vec Ideal S8x1024 .f32) (p : Fin 512) (k : Fin 1024) :
    k0_pay8 x g w C (ix2 p k) = if h : p.val = 0 then C (ix2 (7 : Fin 8) k) else k0_pay6 x g w (ix2 (⟨p.val - 1, by omega⟩ : Fin 512) k) := by
  unfold k0_pay8
  generalize k0_pay6 x g w = U
  pointwise []
  rw [select_row p 0 (by omega)]
  by_cases h : p.val = 0
  · rw [if_pos h, dif_pos h]
  · rw [if_neg h, dif_neg h]
    congr 2
    exact Fin.ext (by dsimp only; omega)

/-- The row two before. -/
def two (C : Vec Ideal S8x1024 .f32) (U : FVec Ideal S512x1024 .f32) : FVec Ideal S512x1024 .f32 :=
  select k0_pay9 (broadcastTo S512x1024 (shapeCast S1x1024 (k0_pay10 C) shapeCasts_S1x1024_S1x1024) broadcasts_S1x1024_S512x1024)
    (select (cmpi .eq (iota .tc S512x1024 32 [0] iota_S512x1024_d0_w32) k0_pay11)
      (broadcastTo S512x1024 (shapeCast S1x1024 (extractStridedSlice S1x1024 ![7, 0] C slices_S8x1024_o7_0_S1x1024) shapeCasts_S1x1024_S1x1024) broadcasts_S1x1024_S512x1024)
      (dynamicRotate 0 2#32 none U rotates_S512x1024_d0))

theorem two_at (C : Vec Ideal S8x1024 .f32) (U : FVec Ideal S512x1024 .f32) (p : Fin 512) (k : Fin 1024) :
    two C U (ix2 p k) = if h : p.val = 0 then C (ix2 (6 : Fin 8) k) else if h : p.val = 1 then C (ix2 (7 : Fin 8) k) else U (ix2 (⟨p.val - 2, by omega⟩ : Fin 512) k) := by
  pointwise [two, k0_pay9, k0_pay10, k0_pay11]
  rw [select_row p 0 (by omega), select_row p 1 (by omega)]
  by_cases h : p.val = 0
  · rw [if_pos h, dif_pos h]
  · rw [if_neg h, dif_neg h]
    by_cases h' : p.val = 1
    · rw [if_pos h', dif_pos h']
    · rw [if_neg h', dif_neg h']
      congr 2
      exact Fin.ext (by dsimp only; omega)

theorem pay1_at (x : Vec Ideal S512x1024 .f32) (U B O : FVec Ideal S512x1024 .f32) (C : Vec Ideal S8x1024 .f32) (cw : Vec Ideal S3x1024 .f32) (wo : Vec Ideal S1024x1024 .bf16) (p : Fin 512) (k : Fin 1024) :
    k0_pay1 x U B C (iota .tc S512x1024 32 [0] iota_S512x1024_d0_w32) O k0_pay9 (k0_pay10 C) k0_pay11 cw wo (ix2 p k)
      = x (ix2 p k) + ∑ e : Fin 1024, B (ix2 p e) * (cw (ix2 (0 : Fin 3) e) * two C U (ix2 p e) + cw (ix2 (1 : Fin 3) e) * O (ix2 p e) + cw (ix2 (2 : Fin 3) e) * U (ix2 p e)) * wo (ix2 e k) := by
  unfold k0_pay1
  change (addf x _ : FVec Ideal S512x1024 .f32) (ix2 p k) = _
  generalize hT : two C U = T
  unfold two at hT
  simp only [hT]
  pointwise []

theorem pay2_at (U : FVec Ideal S512x1024 .f32) (j : Fin 8) (k : Fin 1024) :
    k0_pay2 U (ix2 j k) = U (ix2 (⟨504 + j.val, by omega⟩ : Fin 512) k) := by
  pointwise [k0_pay2]

theorem pay3_at (U : FVec Ideal S512x1024 .f32) (b : Fin 1) (j : Fin 2) (k : Fin 1024) :
    k0_pay3 U (ix3 b j k) = U (ix2 (⟨510 + j.val, by omega⟩ : Fin 512) k) := by
  pointwise [k0_pay3]; blk_ext []

theorem pay4_at (j : Fin 8) (k : Fin 1024) : k0_pay4 (F := Ideal) (ix2 j k) = 0 := by
  pointwise [k0_pay4]

end Cert.ConvIdeal.Value

end
-- ==== Proof.ConvValue.lean ====
/-
  The short convolution kernel's two output arrays are the reference's two results: the two rows carried from one
  block to the next are the two rows of the gated input before the block, or zeros at the start of a sequence.
-/
module

public import proofs.«01_k».proof.Proof.ConvMath
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ConvIdeal.Value

open Cert.ConvIdeal Cert.ConvIdeal.Gen

variable (m : (ℓ : Loc nD τ sig) → Buf (Elt Ideal) ℓ)

abbrev A0 (c : Dev nD) : FVec Ideal S16384x1024 .f32 := m ((c : Thread nD τ).loc main_arg0)
abbrev A1 (c : Dev nD) : FVec Ideal S1024 .f32 := m ((c : Thread nD τ).loc main_arg1)
abbrev A2 (c : Dev nD) : FVec Ideal S1024x3072 .f32 := m ((c : Thread nD τ).loc main_arg2)
abbrev A3 (c : Dev nD) : FVec Ideal S3x1024 .f32 := m ((c : Thread nD τ).loc main_arg3)
abbrev A4 (c : Dev nD) : FVec Ideal S1024x1024 .f32 := m ((c : Thread nD τ).loc main_arg4)

/-- Where each window's block sits at point `t`: row block `t` of the rows, and the state of batch `t / 8`. -/
theorem idx : ∀ t : Fin cfg0.N, win0_0.index t = ![t.val, 0] ∧ win0_1.index t = ![0, 0] ∧ win0_2.index t = ![0, 0] ∧ win0_3.index t = ![0, 0] ∧ win0_4.index t = ![0, 0] ∧ win0_5.index t = ![t.val, 0] ∧ win0_6.index t = ![t.val / 8, 0, 0] :=
  (by decide +kernel : ∀ t : Fin grid0.N, win0_0.index t = ![t.val, 0] ∧ win0_1.index t = ![0, 0] ∧ win0_2.index t = ![0, 0] ∧ win0_3.index t = ![0, 0] ∧ win0_4.index t = ![0, 0] ∧ win0_5.index t = ![t.val, 0] ∧ win0_6.index t = ![t.val / 8, 0, 0])

theorem lt_N (t : Fin cfg0.N) : t.val < 32 := t.isLt

/-- The gated input of block `t`, as the kernel forms it. -/
abbrev gated (c : Dev nD) (t : Fin cfg0.N) : FVec Ideal S512x1024 .f32 := k0_pay6 (iblk m c 0 t) (iblk m c 1 t) (iblk m c 2 t)

/-! ## What a point leaves -/

/-- After point `t` the scratch holds the last eight rows of the block's gated input. -/
theorem scratch (c : Dev nD) (t : Fin cfg0.N) :
    (outsAt0 m c t.val t.isLt).2.2 = k0_pay2 (gated m c t) := by
  by_cases h0 : t.val % 8 = 0
  · rw [outsAt0_A m c t h0 (by omega)]
    frame_out
  · by_cases h1 : t.val % 8 = 7
    · rw [outsAt0_C m c t h0 h1]
      frame_out
    · rw [outsAt0_B m c t h0 h1]
      frame_out

/-- The rows carried into point `t`: zeros at the start of a sequence, the last rows of the block before otherwise. -/
def carry (c : Dev nD) (t : Fin cfg0.N) : Vec Ideal S8x1024 .f32 :=
  if t.val % 8 = 0 then k0_pay4 (F := Ideal)
  else k0_pay2 (gated m c ⟨t.val - 1, Nat.lt_of_le_of_lt (Nat.sub_le _ _) t.isLt⟩)

/-- What point `t` stores as rows. -/
def rows (c : Dev nD) (t : Fin cfg0.N) (C : Vec Ideal S8x1024 .f32) : FVec Ideal S512x1024 .f32 :=
  k0_pay1 (iblk m c 0 t) (gated m c t) (k0_pay7 (iblk m c 0 t) (iblk m c 1 t) (iblk m c 2 t)) C
    (iota .tc S512x1024 32 [0] iota_S512x1024_d0_w32) (k0_pay8 (iblk m c 0 t) (iblk m c 1 t) (iblk m c 2 t) C)
    k0_pay9 (k0_pay10 C) k0_pay11 (iblk m c 3 t) (iblk m c 4 t)

theorem stored_rows (c : Dev nD) (t : Fin cfg0.N) : (outsAt0 m c t.val t.isLt).1 = rows m c t (carry m c t) := by
  have hs := scratch m c ⟨t.val - 1, Nat.lt_of_le_of_lt (Nat.sub_le _ _) t.isLt⟩
  by_cases h0 : t.val % 8 = 0
  · rw [outsAt0_A m c t h0 (by omega), carry, if_pos h0]
    frame_out
    rfl
  · rw [carry, if_neg h0, ← hs]
    by_cases h1 : t.val % 8 = 7
    · rw [outsAt0_C m c t h0 h1]
      frame_out
      simp only [read_unread_whole]
      rfl
    · rw [outsAt0_B m c t h0 h1]
      frame_out
      simp only [read_unread_whole]
      rfl

theorem stored_state (c : Dev nD) (t : Fin cfg0.N) (h1 : t.val % 8 = 7) : (outsAt0 m c t.val t.isLt).2.1 = k0_pay3 (gated m c t) := by
  rw [outsAt0_C m c t (by omega) h1]
  frame_out

/-! ## The kernel's blocks against the reference -/

/-- The projections of a block, at an index. -/
theorem proj_block (c : Dev nD) (t : Fin cfg0.N) (b : Fin 4) (s : Fin 4096) (p : Fin 512) (e : Fin 3072)
    (hb : b.val = t.val / 8) (hs : s.val = t.val % 8 * 512 + p.val) :
    k0_pay5 (iblk m c 0 t) (iblk m c 1 t) (iblk m c 2 t) (ix2 p e) = PROJ (A0 m c) (A1 m c) (A2 m c) (ix3 b s e) := by
  have hx : ∀ k : Fin 1024, (show Vec Ideal S512x1024 .f32 from iblk m c 0 t) (ix2 p k)
      = A0 m c (ix2 (⟨b.val * 4096 + s.val, by omega⟩ : Fin 16384) k) := by
    intro k; have := lt_N t; blk_point [iblk, V, idx t]
  have hg : ∀ k : Fin 1024, (show Vec Ideal S1x1024 .f32 from iblk m c 1 t) (ix2 (0 : Fin 1) k) = A1 m c (ix1 k) := by
    intro k; blk_point [iblk, V, idx t]
  have hw : ∀ k : Fin 1024, (show Vec Ideal S1024x3072 .bf16 from iblk m c 2 t) (ix2 k e) = A2 m c (ix2 k e) := by
    intro k; blk_point [iblk, V, idx t]
  refine (pay5_at _ _ _ _ _).trans ?_
  rw [PROJ_at]
  refine Finset.sum_congr rfl fun k _ => ?_
  rw [XN_at _ _ b s (⟨b.val * 4096 + s.val, by omega⟩ : Fin 16384) rfl]
  simp only [hx, hg, hw]

/-- The gated input of a block, at an index. -/
theorem gated_block (c : Dev nD) (t : Fin cfg0.N) (b : Fin 4) (s : Fin 4096) (p : Fin 512) (k : Fin 1024)
    (hb : b.val = t.val / 8) (hs : s.val = t.val % 8 * 512 + p.val) :
    gated m c t (ix2 p k) = UU (A0 m c) (A1 m c) (A2 m c) (ix3 b s k) := by
  rw [UU_at]
  exact (pay6_at _ _ _ _ _).trans (congrArg₂ (· * ·) (proj_block m c t b s p _ hb hs) (proj_block m c t b s p _ hb hs))

/-- The two last carried rows are the rows of the gated input before the block. -/
theorem carry_block (c : Dev nD) (t : Fin cfg0.N) (b : Fin 4) (i : Fin 4098) (j : Fin 8) (k : Fin 1024) (hj : 6 ≤ j.val)
    (hb : b.val = t.val / 8) (hi : i.val = t.val % 8 * 512 + (j.val - 6)) :
    carry m c t (ix2 j k) = UC (A0 m c) (A1 m c) (A2 m c) (ix3 b i k) := by
  have hN := lt_N t
  have hj8 := j.isLt
  rw [UC_at]
  by_cases h0 : t.val % 8 = 0
  · rw [carry, if_pos h0, dif_pos (by omega), pay4_at]
  · rw [carry, if_neg h0, dif_neg (by omega), pay2_at]
    exact gated_block m c _ b _ _ k (by dsimp only; omega) (by dsimp only; omega)

/-- What point `t` stores as rows, at an index. -/
theorem point (c : Dev nD) (t : Fin cfg0.N) (p : Fin 512) (k : Fin 1024) (r : Fin 16384) (hr : r.val = t.val * 512 + p.val) :
    rows m c t (carry m c t) (ix2 p k) = REF (A0 m c) (A1 m c) (A2 m c) (A3 m c) (A4 m c) (ix2 r k) := by
  have hN := lt_N t
  have hx : (show Vec Ideal S512x1024 .f32 from iblk m c 0 t) (ix2 p k) = A0 m c (ix2 r k) := by
    blk_point [iblk, V, idx t]
  have hw : ∀ e : Fin 1024, (show Vec Ideal S1024x1024 .bf16 from iblk m c 4 t) (ix2 e k) = A4 m c (ix2 e k) := by
    intro e; blk_point [iblk, V, idx t]
  have hc : ∀ (i : Fin 3) (e : Fin 1024), (show Vec Ideal S3x1024 .f32 from iblk m c 3 t) (ix2 i e) = A3 m c (ix2 i e) := by
    intro i e; blk_point [iblk, V, idx t]
  obtain ⟨b, hb⟩ : ∃ b : Fin 4, b.val = t.val / 8 := ⟨⟨t.val / 8, by omega⟩, rfl⟩
  obtain ⟨s, hs⟩ : ∃ s : Fin 4096, s.val = t.val % 8 * 512 + p.val := ⟨⟨t.val % 8 * 512 + p.val, by omega⟩, rfl⟩
  have hu : ∀ e, gated m c t (ix2 p e) = UC (A0 m c) (A1 m c) (A2 m c) (ix3 b (⟨2 + s.val, by omega⟩ : Fin 4098) e) := by
    intro e
    rw [UC_at, dif_neg (by dsimp only; omega)]
    exact gated_block m c t b _ p e hb (by dsimp only; omega)
  have h1 : ∀ e, k0_pay8 (iblk m c 0 t) (iblk m c 1 t) (iblk m c 2 t) (carry m c t) (ix2 p e)
      = UC (A0 m c) (A1 m c) (A2 m c) (ix3 b (⟨1 + s.val, by omega⟩ : Fin 4098) e) := by
    intro e
    refine (pay8_at _ _ _ _ _ _).trans ?_
    by_cases h : p.val = 0
    · rw [dif_pos h]
      exact carry_block m c t b _ 7 e (by decide) hb (by dsimp only; simp; omega)
    · rw [dif_neg h, UC_at, dif_neg (by dsimp only; omega)]
      exact gated_block m c t b _ _ e hb (by dsimp only; omega)
  have h2 : ∀ e, two (carry m c t) (gated m c t) (ix2 p e)
      = UC (A0 m c) (A1 m c) (A2 m c) (ix3 b (⟨s.val, by omega⟩ : Fin 4098) e) := by
    intro e
    refine (two_at _ _ _ _).trans ?_
    by_cases h : p.val = 0
    · rw [dif_pos h]
      exact carry_block m c t b _ 6 e (by decide) hb (by dsimp only; simp; omega)
    · rw [dif_neg h]
      by_cases h' : p.val = 1
      · rw [dif_pos h']
        exact carry_block m c t b _ 7 e (by decide) hb (by dsimp only; simp; omega)
      · rw [dif_neg h', UC_at, dif_neg (by dsimp only; omega)]
        exact gated_block m c t b _ _ e hb (by dsimp only; omega)
  rw [REF_at _ _ _ _ _ b s r (by omega)]
  refine (pay1_at _ _ _ _ _ _ _ _ _).trans ?_
  refine congrArg₂ (· + ·) hx (Finset.sum_congr rfl fun e _ => congrArg₂ (· * ·) ?_ (hw e))
  rw [GV_at, CV_at]
  refine congrArg₂ (· * ·) ((pay7_at _ _ _ _ _).trans (proj_block m c t b s p _ hb hs)) ?_
  rw [hu, h1, h2]
  exact congrArg₂ (· + ·) (congrArg₂ (· + ·) (congrArg (· * _) (hc 0 e)) (congrArg (· * _) (hc 1 e))) (congrArg (· * _) (hc 2 e))

/-- After the run the array of rows is the reference's first result. -/
theorem final_rows (c : Dev nD) : (dats m 0 c).arrAt 5 cfg0.N = REF (A0 m c) (A1 m c) (A2 m c) (A3 m c) (A4 m c) := by
  refine (dats m 0 c).arrAt_eq_of_covers 5 _ (by decide +kernel) fun t _ y => ?_
  blk_simp
  rw [after0_5, stored_rows]
  idx_vars y
  have hN := lt_N t
  have he : ((View.whole main_v3_0).slice (win0_5.rect t)).emb (ix2 y0 y1) = ix2 (⟨t.val * 512 + y0.val, by omega⟩ : Fin 16384) y1 := by
    blk_ext [idx t]
  rw [he]
  exact point m c t y0 y1 _ rfl

/-- After the run the state array is the reference's second result. -/
theorem final_state (c : Dev nD) : (dats m 0 c).arrAt 6 cfg0.N = STATE (A0 m c) (A1 m c) (A2 m c) := by
  refine (dats m 0 c).arrAt_eq_of_covers 6 _ (by decide +kernel) fun t hf y => ?_
  have h7 : t.val % 8 = 7 := (flush0_6 t).mp hf
  blk_simp
  rw [after0_6, stored_state m c t h7]
  idx_vars y
  have hN := lt_N t
  have he : ((View.whole main_v3_1).slice (win0_6.rect t)).emb (ix3 y0 y1 y2) = ix3 (⟨t.val / 8, by omega⟩ : Fin 4) y1 y2 := by
    blk_ext [idx t]
  rw [he, STATE_at]
  refine (pay3_at _ _ _ _).trans (gated_block m c t _ _ _ _ rfl ?_)
  dsimp only
  omega

end Cert.ConvIdeal.Value

end
-- ==== Proof.ConvClaim.lean ====
/-
  The short convolution of the prompt rows: the claim about its values, and the frame of its reference.
-/
module

public import proofs.«01_k».proof.Defs
public import proofs.«01_k».proof.Proof.ConvValue
public import Idealize.ShloMosaic.Lib.Claim

@[expose] public section

set_option maxRecDepth 16384

noncomputable section

open Idealize.ShloMosaic Idealize.SL.Sem

namespace Cert.ConvIdealAlg

/-- The reference runs to the end and leaves its arguments as they were. -/
theorem frame_ref : Cert.quiescent_ConvRefIdeal := by
  intro m g _
  exact (θ_run Cert.ConvRefIdeal.defs _ _).mono
    (fun r h => ⟨fun c => (h c).2.2, Idealize.ShloMosaic.sem_eq_zero_of_no_sems (by decide) r.2⟩)
    (Cert.ConvRefIdeal.Value.run m g)

/-- On equal arguments the kernel and the convolution of the reference end with the same rows and the same state. -/
theorem algebraic : Cert.algebraic_ConvIdeal_ConvRefIdeal := by
  pair_intro
  · run_from Cert.ConvIdeal.Gen.run_main m g
  · run_from Cert.ConvRefIdeal.Value.run m' g'
    · obtain ⟨h0, h1, h2, h3, h4⟩ := hagree c
      refine Eq.trans ?_ (Cert.ConvIdeal.Value.final_rows m c).symm
      rw [Cert.ConvRefIdeal.Value.res_main_v44, h0, h1, h2, h3, h4]
      rfl
    · exact (Cert.ConvIdeal.Value.final_state m c).symm

end Cert.ConvIdealAlg

end
-- ==== Proof.ProjMath.lean ====
/-
  The sparse attention's projections: the reference's four results, read at one index as sums over the normalised row.
-/
module

public import proofs.«01_k».proof.Proof.Gen.ProjIdeal.Value
public import proofs.«01_k».proof.Proof.Gen.ProjRefIdeal.Run
public import Idealize.ShloMosaic.Lib.Pipeline.ValueKit
public import Idealize.ShloMosaic.Lib.Pointwise
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.ProjIdeal.Value

open Cert.ProjIdeal Cert.ProjIdeal.Gen

/-- The normalised rows, by batch. -/
def XN (a0 : FVec Ideal S16384x1024 .f32) (a1 : FVec Ideal S1024 .f32) : FVec Ideal Cert.ProjRefIdeal.S4x4096x1024 .f32 :=
  mulf (mulf (shapeCast Cert.ProjRefIdeal.S4x4096x1024 a0 Cert.ProjRefIdeal.Gen.shapeCasts_S16384x1024_S4x4096x1024) (broadcastInDim Cert.ProjRefIdeal.S4x4096x1024 ![0, 1, 2] Cert.ProjRefIdeal.Gen.bcast_S4x4096x1_S4x4096x1024_0_1_2 (Host.rsqrt (addf (Host.divf (broadcastInDim Cert.ProjRefIdeal.S4x4096x1 ![0, 1] Cert.ProjRefIdeal.Gen.bcast_S4x4096_S4x4096x1_0_1 (Host.reduceAdd (mulf (shapeCast Cert.ProjRefIdeal.S4x4096x1024 a0 Cert.ProjRefIdeal.Gen.shapeCasts_S16384x1024_S4x4096x1024) (shapeCast Cert.ProjRefIdeal.S4x4096x1024 a0 Cert.ProjRefIdeal.Gen.shapeCasts_S16384x1024_S4x4096x1024)) (constant Cert.ProjRefIdeal.S_ .f32 0x00000000#32) Cert.ProjRefIdeal.Gen.reducesTo_S4x4096x1024_S4x4096_d2 Cert.ProjRefIdeal.Gen.h_S_)) (broadcastInDim Cert.ProjRefIdeal.S4x4096x1 ![] Cert.ProjRefIdeal.Gen.bcast_S_S4x4096x1 (constant Cert.ProjRefIdeal.S_ .f32 0x44800000#32))) (broadcastInDim Cert.ProjRefIdeal.S4x4096x1 ![] Cert.ProjRefIdeal.Gen.bcast_S_S4x4096x1 (constant Cert.ProjRefIdeal.S_ .f32 0x358637BD#32)))))) (broadcastInDim Cert.ProjRefIdeal.S4x4096x1024 ![0, 1, 2] Cert.ProjRefIdeal.Gen.bcast_S1x1x1024_S4x4096x1024_0_1_2 (broadcastInDim Cert.ProjRefIdeal.S1x1x1024 ![2] Cert.ProjRefIdeal.Gen.bcast_S1024_S1x1x1024_2 a1))

/-- All the projections of the rows, side by side. -/
def PP (a0 : FVec Ideal S16384x1024 .f32) (a1 : FVec Ideal S1024 .f32) (a2 : FVec Ideal S1024x2608 .f32) : FVec Ideal Cert.ProjRefIdeal.S4x4096x2608 .f32 :=
  Host.dotGeneral Cert.ProjRefIdeal.dot_S4x4096x1024_S1024x2608_S4x4096x2608_2_0_01_1_n_n none (XN a0 a1) a2

/-- The six key and value projections, by group. -/
def KV (a0 : FVec Ideal S16384x1024 .f32) (a1 : FVec Ideal S1024 .f32) (a2 : FVec Ideal S1024x2608 .f32) : FVec Ideal Cert.ProjRefIdeal.S4x4096x6x4x64 .f32 :=
  shapeCast Cert.ProjRefIdeal.S4x4096x6x4x64 (extractStridedSlice Cert.ProjRefIdeal.S4x4096x1536 ![0, 0, 1024] (PP a0 a1 a2) Cert.ProjRefIdeal.Gen.slices_S4x4096x2608_S4x4096x1536_0_0_1024) Cert.ProjRefIdeal.Gen.shapeCasts_S4x4096x1536_S4x4096x6x4x64

/-- The compressed keys: each block of keys summed under its weights. -/
def KC (a0 : FVec Ideal S16384x1024 .f32) (a1 : FVec Ideal S1024 .f32) (a2 : FVec Ideal S1024x2608 .f32) (a3 : FVec Ideal S2x64x64 .f32) : FVec Ideal Cert.ProjRefIdeal.S4x4x64x64 .f32 :=
  transpose Cert.ProjRefIdeal.S4x4x64x64 [3, 1, 2, 0] (Host.dotGeneral Cert.ProjRefIdeal.dot_S64x64_S4x64x64x4x64_S64x4x64x4_0_2_n_013_1_4 none (shapeCast Cert.ProjRefIdeal.S64x64 (extractStridedSlice Cert.ProjRefIdeal.S1x64x64 ![0, 0, 0] a3 Cert.ProjRefIdeal.Gen.slices_S2x64x64_S1x64x64_0_0_0) Cert.ProjRefIdeal.Gen.shapeCasts_S1x64x64_S64x64) (shapeCast Cert.ProjRefIdeal.S4x64x64x4x64 (extractStridedSlice Cert.ProjRefIdeal.S4x64x64x1x4x64 ![0, 0, 0, 0, 0, 0] (shapeCast Cert.ProjRefIdeal.S4x64x64x6x4x64 (KV a0 a1 a2) Cert.ProjRefIdeal.Gen.shapeCasts_S4x4096x6x4x64_S4x64x64x6x4x64) Cert.ProjRefIdeal.Gen.slices_S4x64x64x6x4x64_S4x64x64x1x4x64_0_0_0_0_0_0) Cert.ProjRefIdeal.Gen.shapeCasts_S4x64x64x1x4x64_S4x64x64x4x64)) Cert.ProjRefIdeal.Gen.transposes_S64x4x64x4_S4x4x64x64_3_1_2_0

/-- The compressed values: each block of values summed under its weights. -/
def VC (a0 : FVec Ideal S16384x1024 .f32) (a1 : FVec Ideal S1024 .f32) (a2 : FVec Ideal S1024x2608 .f32) (a3 : FVec Ideal S2x64x64 .f32) : FVec Ideal Cert.ProjRefIdeal.S4x4x64x64 .f32 :=
  transpose Cert.ProjRefIdeal.S4x4x64x64 [3, 1, 2, 0] (Host.dotGeneral Cert.ProjRefIdeal.dot_S64x64_S4x64x64x4x64_S64x4x64x4_0_2_n_013_1_4 none (shapeCast Cert.ProjRefIdeal.S64x64 (extractStridedSlice Cert.ProjRefIdeal.S1x64x64 ![1, 0, 0] a3 Cert.ProjRefIdeal.Gen.slices_S2x64x64_S1x64x64_1_0_0) Cert.ProjRefIdeal.Gen.shapeCasts_S1x64x64_S64x64) (shapeCast Cert.ProjRefIdeal.S4x64x64x4x64 (extractStridedSlice Cert.ProjRefIdeal.S4x64x64x1x4x64 ![0, 0, 0, 1, 0, 0] (shapeCast Cert.ProjRefIdeal.S4x64x64x6x4x64 (KV a0 a1 a2) Cert.ProjRefIdeal.Gen.shapeCasts_S4x4096x6x4x64_S4x64x64x6x4x64) Cert.ProjRefIdeal.Gen.slices_S4x64x64x6x4x64_S4x64x64x1x4x64_0_0_0_1_0_0) Cert.ProjRefIdeal.Gen.shapeCasts_S4x64x64x1x4x64_S4x64x64x4x64)) Cert.ProjRefIdeal.Gen.transposes_S64x4x64x4_S4x4x64x64_3_1_2_0

/-- The logits of the gates, by group. -/
def LG (a0 : FVec Ideal S16384x1024 .f32) (a1 : FVec Ideal S1024 .f32) (a2 : FVec Ideal S1024x2608 .f32) : FVec Ideal Cert.ProjRefIdeal.S16384x4x12 .f32 :=
  shapeCast Cert.ProjRefIdeal.S16384x4x12 (extractStridedSlice Cert.ProjRefIdeal.S4x4096x48 ![0, 0, 2560] (PP a0 a1 a2) Cert.ProjRefIdeal.Gen.slices_S4x4096x2608_S4x4096x48_0_0_2560) Cert.ProjRefIdeal.Gen.shapeCasts_S4x4096x48_S16384x4x12

/-- The logits of the gates behind which zeros fill the lanes. -/
def LP (a0 : FVec Ideal S16384x1024 .f32) (a1 : FVec Ideal S1024 .f32) (a2 : FVec Ideal S1024x2608 .f32) : FVec Ideal Cert.ProjRefIdeal.S16384x4x128 .f32 :=
  pad Cert.ProjRefIdeal.S16384x4x128 ![0, 0, 0] ![0, 0, 116] ![0, 0, 0] (LG a0 a1 a2) (sitofp .f32 (constantI Cert.ProjRefIdeal.S_ 32 0#32)) Cert.ProjRefIdeal.Gen.pads_S16384x4x12_S16384x4x128_000_000_01160 Cert.ProjRefIdeal.Gen.h_S_

/-- The first result: the queries. -/
def RQ (a0 : FVec Ideal S16384x1024 .f32) (a1 : FVec Ideal S1024 .f32) (a2 : FVec Ideal S1024x2608 .f32) : FVec Ideal Cert.ProjRefIdeal.S16384x1024 .f32 :=
  shapeCast Cert.ProjRefIdeal.S16384x1024 (extractStridedSlice Cert.ProjRefIdeal.S4x4096x1024 ![0, 0, 0] (PP a0 a1 a2) Cert.ProjRefIdeal.Gen.slices_S4x4096x2608_S4x4096x1024_0_0_0) Cert.ProjRefIdeal.Gen.shapeCasts_S4x4096x1024_S16384x1024

/-- The second result: keys beside values, by branch and group. -/
def RKV (a0 : FVec Ideal S16384x1024 .f32) (a1 : FVec Ideal S1024 .f32) (a2 : FVec Ideal S1024x2608 .f32) : FVec Ideal Cert.ProjRefIdeal.S12x16384x128 .f32 :=
  shapeCast Cert.ProjRefIdeal.S12x16384x128 (transpose Cert.ProjRefIdeal.S3x4x16384x2x64 [1, 3, 0, 2, 4] (shapeCast Cert.ProjRefIdeal.S16384x3x2x4x64 (KV a0 a1 a2) Cert.ProjRefIdeal.Gen.shapeCasts_S4x4096x6x4x64_S16384x3x2x4x64) Cert.ProjRefIdeal.Gen.transposes_S16384x3x2x4x64_S3x4x16384x2x64_1_3_0_2_4) Cert.ProjRefIdeal.Gen.shapeCasts_S3x4x16384x2x64_S12x16384x128

/-- The third result: the gates. -/
def RG (a0 : FVec Ideal S16384x1024 .f32) (a1 : FVec Ideal S1024 .f32) (a2 : FVec Ideal S1024x2608 .f32) : FVec Ideal Cert.ProjRefIdeal.S4x16384x128 .f32 :=
  Host.divf (broadcastInDim Cert.ProjRefIdeal.S4x16384x128 ![] Cert.ProjRefIdeal.Gen.bcast_S_S4x16384x128 (constant Cert.ProjRefIdeal.S_ .f32 0x3F800000#32)) (addf (broadcastInDim Cert.ProjRefIdeal.S4x16384x128 ![] Cert.ProjRefIdeal.Gen.bcast_S_S4x16384x128 (constant Cert.ProjRefIdeal.S_ .f32 0x3F800000#32)) (Host.exp (Host.negf (transpose Cert.ProjRefIdeal.S4x16384x128 [1, 0, 2] (LP a0 a1 a2) Cert.ProjRefIdeal.Gen.transposes_S16384x4x128_S4x16384x128_1_0_2))))

/-- The fourth result: the compressed keys beside the compressed values. -/
def RC (a0 : FVec Ideal S16384x1024 .f32) (a1 : FVec Ideal S1024 .f32) (a2 : FVec Ideal S1024x2608 .f32) (a3 : FVec Ideal S2x64x64 .f32) : FVec Ideal Cert.ProjRefIdeal.S4x256x128 .f32 :=
  shapeCast Cert.ProjRefIdeal.S4x256x128 (concatenate Cert.ProjRefIdeal.S4x4x64x128 3 [⟨Cert.ProjRefIdeal.S4x4x64x64, KC a0 a1 a2 a3⟩, ⟨Cert.ProjRefIdeal.S4x4x64x64, VC a0 a1 a2 a3⟩] Cert.ProjRefIdeal.Gen.concatenates_S4x4x64x64_S4x4x64x64_S4x4x64x128_d3) Cert.ProjRefIdeal.Gen.shapeCasts_S4x4x64x128_S4x256x128

/-- Entry `e` of row `r`'s projection: the normalised row times the weights' column. -/
def PF (x : FVec Ideal S16384x1024 .f32) (g : FVec Ideal S1024 .f32) (w : FVec Ideal S1024x2608 .f32) (r : Fin 16384) (e : Fin 2608) : EReal :=
  ∑ k : Fin 1024, x (ix2 r k) * Ideal.rsqrt (Ideal.div (∑ l : Fin 1024, x (ix2 r l) * x (ix2 r l))
      (Ideal.ofBits .f32 0x44800000#32) + Ideal.ofBits .f32 0x358637BD#32) * g (ix1 k) * w (ix2 k e)

theorem XN_at (x : FVec Ideal S16384x1024 .f32) (g : FVec Ideal S1024 .f32) (b : Fin 4) (s : Fin 4096) (r : Fin 16384)
    (hr : r.val = b.val * 4096 + s.val) (k : Fin 1024) :
    XN x g (ix3 b s k) = x (ix2 r k) * Ideal.rsqrt (Ideal.div (∑ l : Fin 1024, x (ix2 r l) * x (ix2 r l))
      (Ideal.ofBits .f32 0x44800000#32) + Ideal.ofBits .f32 0x358637BD#32) * g (ix1 k) := by
  have hx : ∀ l : Fin 1024, shapeCast Cert.ProjRefIdeal.S4x4096x1024 x Cert.ProjRefIdeal.Gen.shapeCasts_S16384x1024_S4x4096x1024 (ix3 b s l) = x (ix2 r l) := by
    intro l; pointwise []; blk_ext []
  unfold XN
  generalize shapeCast Cert.ProjRefIdeal.S4x4096x1024 x Cert.ProjRefIdeal.Gen.shapeCasts_S16384x1024_S4x4096x1024 = X at hx
  pointwise []
  simp only [hx]

theorem PP_at (x : FVec Ideal S16384x1024 .f32) (g : FVec Ideal S1024 .f32) (w : FVec Ideal S1024x2608 .f32)
    (b : Fin 4) (s : Fin 4096) (r : Fin 16384) (hr : r.val = b.val * 4096 + s.val) (e : Fin 2608) :
    PP x g w (ix3 b s e) = PF x g w r e := by
  have h : PP x g w (ix3 b s e) = ∑ k : Fin 1024, XN x g (ix3 b s k) * w (ix2 k e) := by
    unfold PP; generalize XN x g = X; pointwise []
  rw [h]
  exact Finset.sum_congr rfl fun k _ => congrArg (· * w (ix2 k e)) (XN_at x g b s r hr k)

theorem RQ_at (x : FVec Ideal S16384x1024 .f32) (g : FVec Ideal S1024 .f32) (w : FVec Ideal S1024x2608 .f32)
    (r : Fin 16384) (k : Fin 1024) : RQ x g w (ix2 r k) = PF x g w r (⟨k.val, by omega⟩ : Fin 2608) := by
  have h : RQ x g w (ix2 r k) = PP x g w (ix3 (⟨r.val / 4096, by omega⟩ : Fin 4) (⟨r.val % 4096, by omega⟩ : Fin 4096) (⟨k.val, by omega⟩ : Fin 2608)) := by
    unfold RQ; generalize PP x g w = P; pointwise []; blk_ext []
  rw [h]
  exact PP_at x g w _ _ r (by dsimp only; omega) _

theorem KV_at (x : FVec Ideal S16384x1024 .f32) (g : FVec Ideal S1024 .f32) (w : FVec Ideal S1024x2608 .f32)
    (b : Fin 4) (s : Fin 4096) (r : Fin 16384) (hr : r.val = b.val * 4096 + s.val) (j : Fin 6) (h : Fin 4) (d : Fin 64) :
    KV x g w (ix5 b s j h d) = PF x g w r (⟨1024 + (j.val * 4 + h.val) * 64 + d.val, by omega⟩ : Fin 2608) := by
  have h : KV x g w (ix5 b s j h d) = PP x g w (ix3 b s (⟨1024 + (j.val * 4 + h.val) * 64 + d.val, by omega⟩ : Fin 2608)) := by
    unfold KV; generalize PP x g w = P; pointwise []; blk_ext []
  rw [h]
  exact PP_at x g w _ _ r hr _

theorem RKV_at (x : FVec Ideal S16384x1024 .f32) (g : FVec Ideal S1024 .f32) (w : FVec Ideal S1024x2608 .f32)
    (j : Fin 12) (r : Fin 16384) (l : Fin 128) :
    RKV x g w (ix3 j r l) = PF x g w r (⟨1024 + ((j.val / 4 * 2 + l.val / 64) * 4 + j.val % 4) * 64 + l.val % 64, by omega⟩ : Fin 2608) := by
  have h : RKV x g w (ix3 j r l) = KV x g w (ix5 (⟨r.val / 4096, by omega⟩ : Fin 4) (⟨r.val % 4096, by omega⟩ : Fin 4096)
      (⟨j.val / 4 * 2 + l.val / 64, by omega⟩ : Fin 6) (⟨j.val % 4, by omega⟩ : Fin 4) (⟨l.val % 64, by omega⟩ : Fin 64)) := by
    unfold RKV; generalize KV x g w = P; pointwise []; blk_ext []
  rw [h]
  exact KV_at x g w _ _ r (by dsimp only; omega) _ _ _

theorem LG_at (x : FVec Ideal S16384x1024 .f32) (g : FVec Ideal S1024 .f32) (w : FVec Ideal S1024x2608 .f32)
    (r : Fin 16384) (h : Fin 4) (l : Fin 12) :
    LG x g w (ix3 r h l) = PF x g w r (⟨2560 + h.val * 12 + l.val, by omega⟩ : Fin 2608) := by
  have h : LG x g w (ix3 r h l) = PP x g w (ix3 (⟨r.val / 4096, by omega⟩ : Fin 4) (⟨r.val % 4096, by omega⟩ : Fin 4096) (⟨2560 + h.val * 12 + l.val, by omega⟩ : Fin 2608)) := by
    unfold LG; generalize PP x g w = P; pointwise []; blk_ext []
  rw [h]
  exact PP_at x g w _ _ r (by dsimp only; omega) _

theorem LP_at (x : FVec Ideal S16384x1024 .f32) (g : FVec Ideal S1024 .f32) (w : FVec Ideal S1024x2608 .f32)
    (r : Fin 16384) (h : Fin 4) (l : Fin 128) :
    LP x g w (ix3 r h l) = if hl : l.val < 12 then LG x g w (ix3 r h (⟨l.val, hl⟩ : Fin 12)) else 0 := by
  unfold LP; generalize LG x g w = P; pointwise []
  have h0 : (FloatOps.sitofp FTy.f32 0#32 : Ideal .f32) = 0 := Idealize.ShloMosaic.sitofp_zero
  rw [h0]

theorem RG_at (x : FVec Ideal S16384x1024 .f32) (g : FVec Ideal S1024 .f32) (w : FVec Ideal S1024x2608 .f32)
    (h : Fin 4) (r : Fin 16384) (l : Fin 128) :
    RG x g w (ix3 h r l) = Ideal.logistic (LP x g w (ix3 r h l)) := by
  unfold RG; generalize LP x g w = P; pointwise []
  rfl

theorem KC_at (x : FVec Ideal S16384x1024 .f32) (g : FVec Ideal S1024 .f32) (w : FVec Ideal S1024x2608 .f32) (c : FVec Ideal S2x64x64 .f32)
    (h b : Fin 4) (n d : Fin 64) :
    KC x g w c (ix4 h b n d) = ∑ i : Fin 64, c (ix3 (0 : Fin 2) i d) * PF x g w (⟨(b.val * 64 + n.val) * 64 + i.val, by omega⟩ : Fin 16384) (⟨1024 + h.val * 64 + d.val, by omega⟩ : Fin 2608) := by
  have e : KC x g w c (ix4 h b n d) = ∑ i : Fin 64, c (ix3 (0 : Fin 2) i d) * KV x g w (ix5 b (⟨n.val * 64 + i.val, by omega⟩ : Fin 4096) (0 : Fin 6) h d) := by
    unfold KC; generalize KV x g w = P; pointwise []
  rw [e]
  refine Finset.sum_congr rfl fun i _ => congrArg (c (ix3 (0 : Fin 2) i d) * ·) ?_
  refine (KV_at x g w b _ (⟨(b.val * 64 + n.val) * 64 + i.val, by omega⟩ : Fin 16384) (by dsimp only; omega) _ _ _).trans ?_
  congr 1; exact Fin.ext (by simp)

theorem VC_at (x : FVec Ideal S16384x1024 .f32) (g : FVec Ideal S1024 .f32) (w : FVec Ideal S1024x2608 .f32) (c : FVec Ideal S2x64x64 .f32)
    (h b : Fin 4) (n d : Fin 64) :
    VC x g w c (ix4 h b n d) = ∑ i : Fin 64, c (ix3 (1 : Fin 2) i d) * PF x g w (⟨(b.val * 64 + n.val) * 64 + i.val, by omega⟩ : Fin 16384) (⟨1024 + (4 + h.val) * 64 + d.val, by omega⟩ : Fin 2608) := by
  have e : VC x g w c (ix4 h b n d) = ∑ i : Fin 64, c (ix3 (1 : Fin 2) i d) * KV x g w (ix5 b (⟨n.val * 64 + i.val, by omega⟩ : Fin 4096) (1 : Fin 6) h d) := by
    unfold VC; generalize KV x g w = P; pointwise []
  rw [e]
  refine Finset.sum_congr rfl fun i _ => congrArg (c (ix3 (1 : Fin 2) i d) * ·) ?_
  refine (KV_at x g w b _ (⟨(b.val * 64 + n.val) * 64 + i.val, by omega⟩ : Fin 16384) (by dsimp only; omega) _ _ _).trans ?_
  congr 1

theorem RC_at (x : FVec Ideal S16384x1024 .f32) (g : FVec Ideal S1024 .f32) (w : FVec Ideal S1024x2608 .f32) (c : FVec Ideal S2x64x64 .f32)
    (h : Fin 4) (n : Fin 256) (l : Fin 128) :
    RC x g w c (ix3 h n l) = if hl : l.val < 64 then KC x g w c (ix4 h (⟨n.val / 64, by omega⟩ : Fin 4) (⟨n.val % 64, by omega⟩ : Fin 64) (⟨l.val, hl⟩ : Fin 64))
      else VC x g w c (ix4 h (⟨n.val / 64, by omega⟩ : Fin 4) (⟨n.val % 64, by omega⟩ : Fin 64) (⟨l.val - 64, by omega⟩ : Fin 64)) := by
  unfold RC
  generalize KC x g w c = K
  generalize VC x g w c = Z
  pointwise []

/-! ## The kernel's payloads at an index -/

/-- A block's projection by weights `w`, at an index. -/
def BF (x : FVec Ideal S512x1024 .f32) (g : FVec Ideal S1x1024 .f32) (w : Fin 1024 → EReal) (p : Fin 512) : EReal :=
  ∑ k : Fin 1024, x (ix2 p k) * Ideal.rsqrt (Ideal.div (∑ l : Fin 1024, x (ix2 p l) * x (ix2 p l))
      (Ideal.ofBits .f32 0x44800000#32) + Ideal.ofBits .f32 0x358637BD#32) * g (ix2 (0 : Fin 1) k) * w k

theorem pay13_at (x : Vec Ideal S512x1024 .f32) (g : Vec Ideal S1x1024 .f32) (w : Vec Ideal S1024x1024 .bf16) (p : Fin 512) (e : Fin 1024) :
    k0_pay13 x g w (ix2 p e) = BF x g (fun k => w (ix2 k e)) p := by
  unfold BF
  pointwise [k0_pay13, k0_pay12]

theorem pay14_at (x : Vec Ideal S512x1024 .f32) (g : Vec Ideal S1x1024 .f32) (w : Vec Ideal S1024x1536 .bf16) (p : Fin 512) (e : Fin 1536) :
    k0_pay14 x g w (ix2 p e) = BF x g (fun k => w (ix2 k e)) p := by
  unfold BF
  pointwise [k0_pay14, k0_pay12]

theorem pay29_at (x : Vec Ideal S512x1024 .f32) (g : Vec Ideal S1x1024 .f32) (w : Vec Ideal S1024x512 .bf16) (p : Fin 512) (e : Fin 512) :
    k0_pay29 (k0_pay12 x g) w (ix2 p e) = Ideal.logistic (BF x g (fun k => w (ix2 k e)) p) := by
  unfold BF
  pointwise [k0_pay29, k0_pay12]

/-- One group's compressed blocks: 64 rows of 128 columns summed under the weights. -/
def CF (T : FVec Ideal S512x1536 .f32) (w : FVec Ideal S64x128 .f32) (h : Fin 4) (j : Fin 8) (l : Fin 128) : EReal :=
  ∑ i : Fin 64, T (ix2 (⟨j.val * 64 + i.val, by omega⟩ : Fin 512) (⟨h.val * 128 + l.val, by omega⟩ : Fin 1536)) * w (ix2 i l)

theorem comp0_at (T : FVec Ideal S512x1536 .f32) (w : FVec Ideal S64x128 .f32) (j : Fin 8) (l : Fin 128) :
    k0_pay37 T w (ix3 (0 : Fin 1) j l) = CF T w 0 j l := by
  unfold CF
  pointwise [k0_pay37, k0_pay36]
  blk_ext []

theorem comp1_at (T : FVec Ideal S512x1536 .f32) (w : FVec Ideal S64x128 .f32) (j : Fin 8) (l : Fin 128) :
    k0_pay45 (k0_pay44 T (k0_pay36 w)) (ix3 (0 : Fin 1) j l) = CF T w 1 j l := by
  unfold CF
  pointwise [k0_pay45, k0_pay44, k0_pay36]
  blk_ext []

theorem comp2_at (T : FVec Ideal S512x1536 .f32) (w : FVec Ideal S64x128 .f32) (j : Fin 8) (l : Fin 128) :
    k0_pay53 (k0_pay52 T (k0_pay36 w)) (ix3 (0 : Fin 1) j l) = CF T w 2 j l := by
  unfold CF
  pointwise [k0_pay53, k0_pay52, k0_pay36]
  blk_ext []

theorem comp3_at (T : FVec Ideal S512x1536 .f32) (w : FVec Ideal S64x128 .f32) (j : Fin 8) (l : Fin 128) :
    k0_pay1 (k0_pay60 T (k0_pay36 w)) (ix3 (0 : Fin 1) j l) = CF T w 3 j l := by
  unfold CF
  pointwise [k0_pay1, k0_pay60, k0_pay36]
  blk_ext []

end Cert.ProjIdeal.Value

end
-- ==== Proof.ProjValue.lean ====
/-
  The projection kernel's four claimed arrays are the reference's four results.
-/
module

public import proofs.«01_k».proof.Proof.ProjMath
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjIdeal.Value

open Cert.ProjIdeal Cert.ProjIdeal.Gen

variable (m : (ℓ : Loc nD τ sig) → Buf (Elt Ideal) ℓ)

abbrev A0 (c : Dev nD) : FVec Ideal S16384x1024 .f32 := m ((c : Thread nD τ).loc main_arg0)
abbrev A1 (c : Dev nD) : FVec Ideal S1024 .f32 := m ((c : Thread nD τ).loc main_arg1)
abbrev A2 (c : Dev nD) : FVec Ideal S1024x2608 .f32 := m ((c : Thread nD τ).loc main_arg2)
abbrev A3 (c : Dev nD) : FVec Ideal S2x64x64 .f32 := m ((c : Thread nD τ).loc main_arg3)

theorem lt_N (t : Fin cfg0.N) : t.val < 40 := t.isLt

theorem idx : ∀ t : Fin cfg0.N, win0_0.index t = ![t.val / 10 * 8 + (t.val % 10 - 2), 0] ∧ win0_1.index t = ![0, 0] ∧ win0_2.index t = ![0, 0]
    ∧ win0_3.index t = ![0, 0] ∧ win0_4.index t = ![0, 0] ∧ win0_5.index t = ![0, 0] ∧ win0_6.index t = ![t.val / 10 * 8 + (t.val % 10 - 2), 0]
    ∧ win0_7.index t = ![0, t.val / 10 * 8 + (t.val % 10 - 2), 0] ∧ win0_8.index t = ![0, t.val / 10 * 8 + (t.val % 10 - 2), 0] ∧ win0_9.index t = ![0, t.val / 10 * 8 + (t.val % 10 - 2), 0] :=
  (by decide +kernel : ∀ t : Fin grid0.N, win0_0.index t = ![t.val / 10 * 8 + (t.val % 10 - 2), 0] ∧ win0_1.index t = ![0, 0] ∧ win0_2.index t = ![0, 0]
    ∧ win0_3.index t = ![0, 0] ∧ win0_4.index t = ![0, 0] ∧ win0_5.index t = ![0, 0] ∧ win0_6.index t = ![t.val / 10 * 8 + (t.val % 10 - 2), 0]
    ∧ win0_7.index t = ![0, t.val / 10 * 8 + (t.val % 10 - 2), 0] ∧ win0_8.index t = ![0, t.val / 10 * 8 + (t.val % 10 - 2), 0] ∧ win0_9.index t = ![0, t.val / 10 * 8 + (t.val % 10 - 2), 0])

/-- The arrays are written back only at points that compute. -/
theorem flush6 : ∀ t : Fin cfg0.N, (cfg0.win 6).flush t = true → 2 ≤ t.val % 10 :=
  (by decide +kernel : ∀ t : Fin grid0.N, win0_6.flush t = true → 2 ≤ t.val % 10)

theorem flush7 : ∀ t : Fin cfg0.N, (cfg0.win 7).flush t = true → 2 ≤ t.val % 10 :=
  (by decide +kernel : ∀ t : Fin grid0.N, win0_7.flush t = true → 2 ≤ t.val % 10)

theorem flush8 : ∀ t : Fin cfg0.N, (cfg0.win 8).flush t = true → 2 ≤ t.val % 10 :=
  (by decide +kernel : ∀ t : Fin grid0.N, win0_8.flush t = true → 2 ≤ t.val % 10)

theorem flush9 : ∀ t : Fin cfg0.N, (cfg0.win 9).flush t = true → 2 ≤ t.val % 10 :=
  (by decide +kernel : ∀ t : Fin grid0.N, win0_9.flush t = true → 2 ≤ t.val % 10)

theorem hx (c : Dev nD) (t : Fin cfg0.N) (p : Fin 512) (r : Fin 16384) (hr : r.val = (t.val / 10 * 8 + (t.val % 10 - 2)) * 512 + p.val) (k : Fin 1024) :
    (show Vec Ideal S512x1024 .f32 from iblk m c 0 t) (ix2 p k) = A0 m c (ix2 r k) := by
  have hN := lt_N t
  blk_point [iblk, V, idx t]

/-! ## The arrays the kernel is given -/

/-- What the kernel is given as the gain. -/
theorem V_v28 (c : Dev nD) : V m c main_v28 = shapeCast S1x1024 (m ((c : Thread nD τ).loc main_arg1)) shapeCasts_S1024_S1x1024 := by
  unfold_abbrev_sides
  simp only [List.flatten_cons, List.flatten_nil, List.append_nil, List.cons_append, List.nil_append]
  after_results
  all_goals rfl

/-- What the kernel is given as the query weights. -/
theorem V_v1 (c : Dev nD) : V m c main_v1 = truncf (F := Ideal) .bf16 (extractStridedSlice S1024x1024 ![0, 0] (m ((c : Thread nD τ).loc main_arg2)) slices_S1024x2608_S1024x1024_0_0) bitsLt_bf16_f32 := by
  unfold_abbrev_sides
  simp only [List.flatten_cons, List.flatten_nil, List.append_nil, List.cons_append, List.nil_append]
  after_results
  all_goals rfl

/-- What the kernel is given as the key and value weights, by branch and group. -/
theorem V_v6 (c : Dev nD) : V m c main_v6 = truncf (F := Ideal) .bf16 (shapeCast S1024x1536 (transpose S1024x3x4x2x64 [0, 1, 3, 2, 4] (shapeCast S1024x3x2x4x64 (extractStridedSlice S1024x1536 ![0, 1024] (m ((c : Thread nD τ).loc main_arg2)) slices_S1024x2608_S1024x1536_0_1024) shapeCasts_S1024x1536_S1024x3x2x4x64) transposes_S1024x3x2x4x64_S1024x3x4x2x64_0_1_3_2_4) shapeCasts_S1024x3x4x2x64_S1024x1536) bitsLt_bf16_f32 := by
  unfold_abbrev_sides
  simp only [List.flatten_cons, List.flatten_nil, List.append_nil, List.cons_append, List.nil_append]
  after_results
  all_goals rfl

/-- What the kernel is given as the gate weights, a group to each 128 columns. -/
theorem V_v27 (c : Dev nD) : V m c main_v27 = truncf (F := Ideal) .bf16 (shapeCast S1024x512 (pad S1024x4x128 ![0, 0, 0] ![0, 0, 116] ![0, 0, 0] (shapeCast S1024x4x12 (extractStridedSlice S1024x48 ![0, 2560] (m ((c : Thread nD τ).loc main_arg2)) slices_S1024x2608_S1024x48_0_2560) shapeCasts_S1024x48_S1024x4x12) (sitofp .f32 (constantI S_ 32 0#32)) pads_S1024x4x12_S1024x4x128_000_000_01160 h_S_) shapeCasts_S1024x4x128_S1024x512) bitsLt_bf16_f32 := by
  unfold_abbrev_sides
  simp only [List.flatten_cons, List.flatten_nil, List.append_nil, List.cons_append, List.nil_append]
  after_results
  all_goals rfl

/-- What the kernel is given as the weights of a block's rows, keys beside values. -/
theorem V_v15 (c : Dev nD) : V m c main_v15 = concatenate S64x128 1 [⟨S64x64, shapeCast S64x64 (extractStridedSlice S1x64x64 ![0, 0, 0] (m ((c : Thread nD τ).loc main_arg3)) slices_S2x64x64_S1x64x64_0_0_0) shapeCasts_S1x64x64_S64x64⟩, ⟨S64x64, shapeCast S64x64 (extractStridedSlice S1x64x64 ![1, 0, 0] (m ((c : Thread nD τ).loc main_arg3)) slices_S2x64x64_S1x64x64_1_0_0) shapeCasts_S1x64x64_S64x64⟩] concatenates_S64x64_S64x64_S64x128_d1 := by
  unfold_abbrev_sides
  simp only [List.flatten_cons, List.flatten_nil, List.append_nil, List.cons_append, List.nil_append]
  after_results
  all_goals rfl

theorem hg (c : Dev nD) (t : Fin cfg0.N) (k : Fin 1024) :
    (show Vec Ideal S1x1024 .f32 from iblk m c 1 t) (ix2 (0 : Fin 1) k) = A1 m c (ix1 k) := by
  have he : (show Vec Ideal S1x1024 .f32 from iblk m c 1 t) (ix2 (0 : Fin 1) k) = V m c main_v28 (ix2 (0 : Fin 1) k) := by
    blk_point [iblk, idx t]
  rw [he, V_v28]
  pointwise []
  blk_ext []

theorem hwq (c : Dev nD) (t : Fin cfg0.N) (k e : Fin 1024) :
    (show Vec Ideal S1024x1024 .bf16 from iblk m c 2 t) (ix2 k e) = A2 m c (ix2 k (⟨e.val, by omega⟩ : Fin 2608)) := by
  have he : (show Vec Ideal S1024x1024 .bf16 from iblk m c 2 t) (ix2 k e) = V m c main_v1 (ix2 k e) := by
    blk_point [iblk, idx t]
  rw [he, V_v1]
  pointwise []
  blk_ext []

theorem hwkv (c : Dev nD) (t : Fin cfg0.N) (k : Fin 1024) (e : Fin 1536) :
    (show Vec Ideal S1024x1536 .bf16 from iblk m c 3 t) (ix2 k e) = A2 m c (ix2 k (⟨1024 + ((e.val / 128 / 4 * 2 + e.val % 128 / 64) * 4 + e.val / 128 % 4) * 64 + e.val % 128 % 64, by omega⟩ : Fin 2608)) := by
  have he : (show Vec Ideal S1024x1536 .bf16 from iblk m c 3 t) (ix2 k e) = V m c main_v6 (ix2 k e) := by
    blk_point [iblk, idx t]
  rw [he, V_v6]
  pointwise []
  blk_ext []

theorem hwg (c : Dev nD) (t : Fin cfg0.N) (k : Fin 1024) (e : Fin 512) :
    (show Vec Ideal S1024x512 .bf16 from iblk m c 4 t) (ix2 k e) = if h : e.val % 128 < 12 then A2 m c (ix2 k (⟨2560 + e.val / 128 * 12 + e.val % 128, by omega⟩ : Fin 2608)) else 0 := by
  have he : (show Vec Ideal S1024x512 .bf16 from iblk m c 4 t) (ix2 k e) = V m c main_v27 (ix2 k e) := by
    blk_point [iblk, idx t]
  rw [he, V_v27]
  pointwise []
  have h0 : (FloatOps.sitofp FTy.f32 0#32 : Ideal .f32) = 0 := Idealize.ShloMosaic.sitofp_zero
  rw [h0]
  by_cases h : e.val % 128 < 12
  · rw [dif_pos ⟨by omega, h⟩, dif_pos h]
    exact congrArg (fun j : Fin 2608 => A2 m c (ix2 k j)) (Fin.ext (by dsimp only; omega))
  · rw [dif_neg (fun h' => h h'.2), dif_neg h]

theorem hwc (c : Dev nD) (t : Fin cfg0.N) (i : Fin 64) (l : Fin 128) :
    (show Vec Ideal S64x128 .f32 from iblk m c 5 t) (ix2 i l) = if h : l.val < 64 then A3 m c (ix3 (0 : Fin 2) i (⟨l.val, h⟩ : Fin 64)) else A3 m c (ix3 (1 : Fin 2) i (⟨l.val - 64, by omega⟩ : Fin 64)) := by
  have he : (show Vec Ideal S64x128 .f32 from iblk m c 5 t) (ix2 i l) = V m c main_v15 (ix2 i l) := by
    blk_point [iblk, idx t]
  rw [he, V_v15]
  pointwise []

/-- A block's projection is the projection of its rows, when the weights are the reference's column. -/
theorem BF_eq (c : Dev nD) (t : Fin cfg0.N) (p : Fin 512) (r : Fin 16384) (hr : r.val = (t.val / 10 * 8 + (t.val % 10 - 2)) * 512 + p.val)
    (w : Fin 1024 → EReal) (e : Fin 2608) (hw : ∀ k, w k = A2 m c (ix2 k e)) :
    BF (iblk m c 0 t) (iblk m c 1 t) w p = PF (A0 m c) (A1 m c) (A2 m c) r e := by
  unfold BF PF
  refine Finset.sum_congr rfl fun k _ => ?_
  rw [hw k]
  refine congrArg (· * _) (congrArg₂ (· * ·) (congrArg₂ (· * ·) (hx m c t p r hr k) ?_) (hg m c t k))
  exact congrArg Ideal.rsqrt (congrArg (· + _) (congrArg (Ideal.div · _) (Finset.sum_congr rfl fun l _ => congrArg₂ (· * ·) (hx m c t p r hr l) (hx m c t p r hr l))))

/-- A block's projection by zero weights is zero. -/
theorem BF_zero (x : FVec Ideal S512x1024 .f32) (g : FVec Ideal S1x1024 .f32) (w : Fin 1024 → EReal) (hw : ∀ k, w k = 0) (p : Fin 512) : BF x g w p = 0 := by
  unfold BF
  exact Finset.sum_eq_zero fun k _ => by rw [hw k, mul_zero]

theorem keyval (c : Dev nD) (t : Fin cfg0.N) (p : Fin 512) (r : Fin 16384) (hr : r.val = (t.val / 10 * 8 + (t.val % 10 - 2)) * 512 + p.val) (e : Fin 1536) :
    k0_pay14 (F := Ideal) (iblk m c 0 t) (iblk m c 1 t) (iblk m c 3 t) (ix2 p e)
      = PF (A0 m c) (A1 m c) (A2 m c) r (⟨1024 + ((e.val / 128 / 4 * 2 + e.val % 128 / 64) * 4 + e.val / 128 % 4) * 64 + e.val % 128 % 64, by omega⟩ : Fin 2608) :=
  (pay14_at _ _ _ _ _).trans (BF_eq m c t p r hr _ _ fun k => hwkv m c t k e)

theorem gate (c : Dev nD) (t : Fin cfg0.N) (p : Fin 512) (r : Fin 16384) (hr : r.val = (t.val / 10 * 8 + (t.val % 10 - 2)) * 512 + p.val) (h : Fin 4) (l : Fin 128) :
    k0_pay29 (F := Ideal) (k0_pay12 (iblk m c 0 t) (iblk m c 1 t)) (iblk m c 4 t) (ix2 p (⟨h.val * 128 + l.val, by omega⟩ : Fin 512))
      = RG (A0 m c) (A1 m c) (A2 m c) (ix3 h r l) := by
  rw [RG_at, LP_at]
  refine (pay29_at _ _ _ _ _).trans (congrArg Ideal.logistic ?_)
  by_cases hl : l.val < 12
  · rw [dif_pos hl, LG_at]
    refine BF_eq m c t p r hr _ _ fun k => (hwg m c t k _).trans ?_
    rw [dif_pos (by dsimp only; omega)]
    congr 2
    exact Fin.ext (by dsimp only; omega)
  · rw [dif_neg hl]
    refine BF_zero _ _ _ (fun k => (hwg m c t k _).trans ?_) p
    rw [dif_neg (by dsimp only; omega)]

theorem comp (c : Dev nD) (t : Fin cfg0.N) (j : Fin 8) (n : Fin 256) (hn : n.val = (t.val / 10 * 8 + (t.val % 10 - 2)) * 8 + j.val) (h : Fin 4) (l : Fin 128) :
    CF (k0_pay14 (F := Ideal) (iblk m c 0 t) (iblk m c 1 t) (iblk m c 3 t)) (iblk m c 5 t) h j l
      = RC (A0 m c) (A1 m c) (A2 m c) (A3 m c) (ix3 h n l) := by
  have hN := lt_N t
  have hT : ∀ i : Fin 64, k0_pay14 (F := Ideal) (iblk m c 0 t) (iblk m c 1 t) (iblk m c 3 t) (ix2 (⟨j.val * 64 + i.val, by omega⟩ : Fin 512) (⟨h.val * 128 + l.val, by omega⟩ : Fin 1536))
      = PF (A0 m c) (A1 m c) (A2 m c) (⟨(n.val / 64 * 64 + n.val % 64) * 64 + i.val, by omega⟩ : Fin 16384) (⟨1024 + (l.val / 64 * 4 + h.val) * 64 + l.val % 64, by omega⟩ : Fin 2608) := by
    intro i
    refine (keyval m c t _ (⟨(n.val / 64 * 64 + n.val % 64) * 64 + i.val, by omega⟩ : Fin 16384) (by dsimp only; omega) _).trans ?_
    congr 1
    exact Fin.ext (by dsimp only; omega)
  rw [RC_at]
  by_cases hl : l.val < 64
  · rw [dif_pos hl, KC_at]
    refine Finset.sum_congr rfl fun i _ => ?_
    refine (congrArg₂ (· * ·) (hT i) ((hwc m c t i l).trans (dif_pos hl))).trans ((mul_comm _ _).trans (congrArg (A3 m c _ * ·) ?_))
    congr 1
    exact Fin.ext (by dsimp only; omega)
  · rw [dif_neg hl, VC_at]
    refine Finset.sum_congr rfl fun i _ => ?_
    refine (congrArg₂ (· * ·) (hT i) ((hwc m c t i l).trans (dif_neg hl))).trans ((mul_comm _ _).trans (congrArg (A3 m c _ * ·) ?_))
    congr 1
    exact Fin.ext (by dsimp only; omega)

/-- The queries. -/
theorem final6 (c : Dev nD) : (dats m 0 c).arrAt 6 cfg0.N = RQ (A0 m c) (A1 m c) (A2 m c) := by
  refine (dats m 0 c).arrAt_eq_of_covers 6 _ (by decide +kernel) fun t hf y => ?_
  have h2 := flush6 t hf
  have hN := lt_N t
  blk_simp
  rw [after0_6, outsAt0_B m c t h2 (by omega)]
  frame_out
  idx_vars y
  have he : ((View.whole main_v29_0).slice (win0_6.rect t)).emb (ix2 y0 y1) = ix2 (⟨(t.val / 10 * 8 + (t.val % 10 - 2)) * 512 + y0.val, by omega⟩ : Fin 16384) y1 := by
    blk_ext [idx t]
  rw [he, RQ_at]
  exact (pay13_at _ _ _ _ _).trans (BF_eq m c t y0 _ rfl _ _ fun k => hwq m c t k y1)

set_option maxHeartbeats 1600000 in
/-- The keys and values. -/
theorem final7 (c : Dev nD) : (dats m 0 c).arrAt 7 cfg0.N = RKV (A0 m c) (A1 m c) (A2 m c) := by
  refine (dats m 0 c).arrAt_eq_of_covers 7 _ (by decide +kernel) fun t hf y => ?_
  have h2 := flush7 t hf
  have hN := lt_N t
  blk_simp
  rw [after0_7, outsAt0_B m c t h2 (by omega)]
  frame_out
  idx_vars y
  have he : ((View.whole main_v29_1).slice (win0_7.rect t)).emb (ix3 y0 y1 y2) = ix3 y0 (⟨(t.val / 10 * 8 + (t.val % 10 - 2)) * 512 + y1.val, by omega⟩ : Fin 16384) y2 := by
    blk_ext [idx t]
  rw [he, RKV_at]
  refine Eq.trans (b := k0_pay14 (F := Ideal) (iblk m c 0 t) (iblk m c 1 t) (iblk m c 3 t) (ix2 y1 (⟨y0.val * 128 + y2.val, by omega⟩ : Fin 1536))) ?_ ((keyval m c t y1 (⟨(t.val / 10 * 8 + (t.val % 10 - 2)) * 512 + y1.val, by omega⟩ : Fin 16384) rfl _).trans ?_)
  · clear he hf
    canon_tiles x h
    all_goals (change y0.val = _ at h0; change y1.val = _ at h1; change y2.val = _ at h2; open_payloads; pointwise; blk_ext)
  · have q1 : (y0.val * 128 + y2.val) / 128 = y0.val := by omega
    have q2 : (y0.val * 128 + y2.val) % 128 = y2.val := by omega
    exact congrArg (PF _ _ _ _) (Fin.ext (by dsimp only; rw [q1, q2]))

/-- The gates. -/
theorem final8 (c : Dev nD) : (dats m 0 c).arrAt 8 cfg0.N = RG (A0 m c) (A1 m c) (A2 m c) := by
  refine (dats m 0 c).arrAt_eq_of_covers 8 _ (by decide +kernel) fun t hf y => ?_
  have h2 := flush8 t hf
  have hN := lt_N t
  blk_simp
  rw [after0_8, outsAt0_B m c t h2 (by omega)]
  frame_out
  idx_vars y
  have he : ((View.whole main_v29_2).slice (win0_8.rect t)).emb (ix3 y0 y1 y2) = ix3 y0 (⟨(t.val / 10 * 8 + (t.val % 10 - 2)) * 512 + y1.val, by omega⟩ : Fin 16384) y2 := by
    blk_ext [idx t]
  rw [he]
  refine Eq.trans (b := k0_pay29 (F := Ideal) (k0_pay12 (iblk m c 0 t) (iblk m c 1 t)) (iblk m c 4 t) (ix2 y1 (⟨y0.val * 128 + y2.val, by omega⟩ : Fin 512))) ?_ (gate m c t y1 _ rfl y0 y2)
  clear he hf
  canon_tiles x h
  all_goals (change y0.val = _ at h0; change y1.val = _ at h1; change y2.val = _ at h2; open_payloads; pointwise; blk_ext)

/-- The compressed keys and values. -/
theorem final9 (c : Dev nD) : (dats m 0 c).arrAt 9 cfg0.N = RC (A0 m c) (A1 m c) (A2 m c) (A3 m c) := by
  refine (dats m 0 c).arrAt_eq_of_covers 9 _ (by decide +kernel) fun t hf y => ?_
  have h2 := flush9 t hf
  have hN := lt_N t
  blk_simp
  rw [after0_9, outsAt0_B m c t h2 (by omega)]
  frame_out
  idx_vars y
  have he : ((View.whole main_v29_3).slice (win0_9.rect t)).emb (ix3 y0 y1 y2) = ix3 y0 (⟨(t.val / 10 * 8 + (t.val % 10 - 2)) * 8 + y1.val, by omega⟩ : Fin 256) y2 := by
    blk_ext [idx t]
  rw [he]
  refine Eq.trans (b := CF (k0_pay14 (F := Ideal) (iblk m c 0 t) (iblk m c 1 t) (iblk m c 3 t)) (iblk m c 5 t) y0 y1 y2) ?_ (comp m c t y1 _ rfl y0 y2)
  clear he hf
  generalize k0_pay14 (F := Ideal) (iblk m c 0 t) (iblk m c 1 t) (iblk m c 3 t) = T
  canon_tiles x h
  · idx_vars x
    obtain rfl : y1 = x1 := Fin.ext h1
    obtain rfl : y2 = x2 := Fin.ext h2
    obtain rfl : x0 = 0 := Subsingleton.elim _ _
    obtain rfl : y0 = 3 := Fin.ext h0
    exact comp3_at T _ y1 y2
  · idx_vars x
    obtain rfl : y1 = x1 := Fin.ext h1
    obtain rfl : y2 = x2 := Fin.ext h2
    obtain rfl : x0 = 0 := Subsingleton.elim _ _
    obtain rfl : y0 = 2 := Fin.ext h0
    exact comp2_at T _ y1 y2
  · idx_vars x
    obtain rfl : y1 = x1 := Fin.ext h1
    obtain rfl : y2 = x2 := Fin.ext h2
    obtain rfl : x0 = 0 := Subsingleton.elim _ _
    obtain rfl : y0 = 1 := Fin.ext h0
    exact comp1_at T _ y1 y2
  · idx_vars x
    obtain rfl : y1 = x1 := Fin.ext h1
    obtain rfl : y2 = x2 := Fin.ext h2
    obtain rfl : x0 = 0 := Subsingleton.elim _ _
    obtain rfl : y0 = 0 := Fin.ext h0
    exact comp0_at T _ y1 y2

end Cert.ProjIdeal.Value

end
-- ==== Proof.ProjClaim.lean ====
/-
  The sparse attention's projections of the prompt rows: the claim about its values, and the frame of its reference.
-/
module

public import proofs.«01_k».proof.Defs
public import proofs.«01_k».proof.Proof.ProjValue
public import Idealize.ShloMosaic.Lib.Claim

@[expose] public section

set_option maxRecDepth 16384

noncomputable section

open Idealize.ShloMosaic Idealize.SL.Sem

namespace Cert.ProjIdealAlg

/-- The reference runs to the end and leaves its arguments as they were. -/
theorem frame_ref : Cert.quiescent_ProjRefIdeal := by
  intro m g _
  exact (θ_run Cert.ProjRefIdeal.defs _ _).mono
    (fun r h => ⟨fun c => (h c).2.2.2.2, Idealize.ShloMosaic.sem_eq_zero_of_no_sems (by decide) r.2⟩)
    (Cert.ProjRefIdeal.Value.run m g)

set_option maxHeartbeats 2000000 in
/-- On equal arguments the kernel and the reference end with the same queries, keys and values, gates and compressed keys and values. -/
theorem algebraic : Cert.algebraic_ProjIdeal_ProjRefIdeal := by
  pair_intro
  · run_from Cert.ProjIdeal.Gen.run_main m g
    · exact Cert.ProjIdeal.Gen.V_main_arg1 m c
    · exact Cert.ProjIdeal.Gen.V_main_arg2 m c
    · exact Cert.ProjIdeal.Gen.V_main_arg3 m c
  · run_from Cert.ProjRefIdeal.Value.run m' g'
    · exact (Cert.ProjIdeal.Value.final6 m c).symm
    · exact (Cert.ProjIdeal.Value.final7 m c).symm
    · exact (Cert.ProjIdeal.Value.final8 m c).symm
    · obtain ⟨h0, h1, h2, h3⟩ := hagree c
      exact (congrArg (Cert.ProjIdeal.Value.RC (Cert.ProjIdeal.Value.A0 m c) (Cert.ProjIdeal.Value.A1 m c) (Cert.ProjIdeal.Value.A2 m c)) h3).trans (Cert.ProjIdeal.Value.final9 m c).symm

end Cert.ProjIdealAlg

end
-- ==== Proof.OutValue.lean ====
/-
  The sparse attention's output projection: each grid point adds the product of its 512 rows of the attention's output
  with the projection to its 512 rows of the residual, which is the reference's result read on those rows.
-/
module

public import proofs.«01_k».proof.Proof.Gen.OutIdeal.Value
public import proofs.«01_k».proof.Proof.Gen.OutRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutIdeal.Value

open Cert.OutIdeal Cert.OutIdeal.Gen

variable (m : (ℓ : Loc nD τ sig) → Buf (Elt Ideal) ℓ)

abbrev A0 (c : Dev nD) : FVec Ideal S16384x1024 .f32 := m ((c : Thread nD τ).loc main_arg0)
abbrev A1 (c : Dev nD) : FVec Ideal S1024x1024 .f32 := m ((c : Thread nD τ).loc main_arg1)
abbrev A2 (c : Dev nD) : FVec Ideal S16384x1024 .f32 := m ((c : Thread nD τ).loc main_arg2)

/-- The reference's result: the residual plus the projected attention output. -/
def REF (o : FVec Ideal S16384x1024 .f32) (w : FVec Ideal S1024x1024 .f32) (x : FVec Ideal S16384x1024 .f32) : FVec Ideal S16384x1024 .f32 :=
  addf x (Host.dotGeneral Cert.OutRefIdeal.dot_S16384x1024_S1024x1024_S16384x1024_1_0_0_1_n_n none o w)

theorem REF_at (o : FVec Ideal S16384x1024 .f32) (w : FVec Ideal S1024x1024 .f32) (x : FVec Ideal S16384x1024 .f32) (r : Fin 16384) (k : Fin 1024) :
    REF o w x (ix2 r k) = x (ix2 r k) + ∑ e : Fin 1024, o (ix2 r e) * w (ix2 e k) := by
  pointwise [REF]

theorem pay1_at (x o : Vec Ideal S512x1024 .f32) (w : Vec Ideal S1024x1024 .bf16) (p : Fin 512) (k : Fin 1024) :
    k0_pay1 x o w (ix2 p k) = x (ix2 p k) + ∑ e : Fin 1024, o (ix2 p e) * w (ix2 e k) := by
  pointwise [k0_pay1]

/-- Where each window's block sits at point `t`. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, win0_0.index t = ![t.val, 0] ∧ win0_1.index t = ![0, 0] ∧ win0_2.index t = ![t.val, 0] ∧ win0_3.index t = ![t.val, 0])

theorem lt_N (t : Fin cfg0.N) : t.val < 32 := t.isLt

/-- What point `t` stores, at an index. -/
theorem point (c : Dev nD) (t : Fin cfg0.N) (p : Fin 512) (k : Fin 1024) (r : Fin 16384) (hr : r.val = t.val * 512 + p.val) :
    k0_pay1 (iblk m c 2 t) (iblk m c 0 t) (iblk m c 1 t) (ix2 p k) = REF (A0 m c) (A1 m c) (A2 m c) (ix2 r k) := by
  have hN := lt_N t
  have hx : (show Vec Ideal S512x1024 .f32 from iblk m c 2 t) (ix2 p k) = A2 m c (ix2 r k) := by
    blk_point [iblk, V, idx t]
  have ho : ∀ e : Fin 1024, (show Vec Ideal S512x1024 .f32 from iblk m c 0 t) (ix2 p e) = A0 m c (ix2 r e) := by
    intro e; blk_point [iblk, V, idx t]
  have hw : ∀ e : Fin 1024, (show Vec Ideal S1024x1024 .bf16 from iblk m c 1 t) (ix2 e k) = A1 m c (ix2 e k) := by
    intro e; blk_point [iblk, V, idx t]
  rw [REF_at]
  refine (pay1_at _ _ _ _ _).trans ?_
  exact congrArg₂ (· + ·) hx (Finset.sum_congr rfl fun e _ => congrArg₂ (· * ·) (ho e) (hw e))

/-- After the run the output array is the reference's result. -/
theorem final (c : Dev nD) : (dats m 0 c).arrAt 3 cfg0.N = REF (A0 m c) (A1 m c) (A2 m c) := by
  refine (dats m 0 c).arrAt_eq_of_covers 3 _ (by decide +kernel) fun t _ y => ?_
  blk_simp
  rw [after0_3]
  unfold out0_3
  frame_out
  idx_vars y
  have hN := lt_N t
  have he : ((View.whole main_v1).slice (win0_3.rect t)).emb (ix2 y0 y1) = ix2 (⟨t.val * 512 + y0.val, by omega⟩ : Fin 16384) y1 := by
    blk_ext [idx t]
  rw [he]
  exact point m c t y0 y1 _ rfl

end Cert.OutIdeal.Value

end
-- ==== Proof.OutClaim.lean ====
/-
  The sparse attention's output projection: the claim about its values, and the frame of its reference.
-/
module

public import proofs.«01_k».proof.Defs
public import proofs.«01_k».proof.Proof.OutValue
public import Idealize.ShloMosaic.Lib.Claim

@[expose] public section

set_option maxRecDepth 16384

noncomputable section

open Idealize.ShloMosaic Idealize.SL.Sem

namespace Cert.OutIdealAlg

/-- The reference runs to the end and leaves its arguments as they were. -/
theorem frame_ref : Cert.quiescent_OutRefIdeal := by
  intro m g _
  exact (θ_run Cert.OutRefIdeal.defs _ _).mono
    (fun r h => ⟨fun c => (h c).2, Idealize.ShloMosaic.sem_eq_zero_of_no_sems (by decide) r.2⟩)
    (Cert.OutRefIdeal.Value.run m g)

/-- On equal arguments the kernel and `x + o @ w_out` end with the same rows. -/
theorem algebraic : Cert.algebraic_OutIdeal_OutRefIdeal := by
  pair_intro
  · run_from Cert.OutIdeal.Gen.run_main m g
  · run_from Cert.OutRefIdeal.Value.run m' g'
    exact (Cert.OutIdeal.Value.final m c).symm

end Cert.OutIdealAlg

end
-- ==== Proof.LastSValue.lean ====
/-
  The feed-forward that ends the trunk, with the final norm of the sample tokens: `_ffn` computes what the reference computes.
  The kernel walks the 2816 hidden columns in two halves of 1408, adding the second half's product to the first's; the
  reference multiplies by `w_out` once. A sum over 2816 columns is the sum over the first 1408 and the sum over the last 1408,
  and the addition of the extended reals is associative, so nothing is asked of the arguments.
-/
module

public import proofs.«01_k».proof.Proof.Gen.LastSIdeal.Value
public import proofs.«01_k».proof.Proof.Gen.LastSRefIdeal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.LastSIdeal.Value

open Cert.LastSIdeal Cert.LastSIdeal.Gen

variable (m : (ℓ : Loc nD τ sig) → Buf (Elt Ideal) ℓ)

/-! ## The reference's term, in three steps -/

/-- The reference's `rmsnorm(x, g)`. -/
def NORM (x : FVec Ideal S128x1024 .f32) (g : FVec Ideal S1024 .f32) : FVec Ideal Cert.LastSRefIdeal.S128x1024 .f32 :=
  mulf (mulf x (broadcastInDim Cert.LastSRefIdeal.S128x1024 ![0, 1] Cert.LastSRefIdeal.Gen.bcast_S128x1_S128x1024_0_1
    (Host.rsqrt (addf (Host.divf (broadcastInDim Cert.LastSRefIdeal.S128x1 ![0] Cert.LastSRefIdeal.Gen.bcast_S128_S128x1_0
      (Host.reduceAdd (mulf x x) (constant Cert.LastSRefIdeal.S_ .f32 0x00000000#32) Cert.LastSRefIdeal.Gen.reducesTo_S128x1024_S128_d1 Cert.LastSRefIdeal.Gen.h_S_))
      (broadcastInDim Cert.LastSRefIdeal.S128x1 ![] Cert.LastSRefIdeal.Gen.bcast_S_S128x1 (constant Cert.LastSRefIdeal.S_ .f32 0x44800000#32)))
      (broadcastInDim Cert.LastSRefIdeal.S128x1 ![] Cert.LastSRefIdeal.Gen.bcast_S_S128x1 (constant Cert.LastSRefIdeal.S_ .f32 0x358637BD#32))))))
    (broadcastInDim Cert.LastSRefIdeal.S128x1024 ![0, 1] Cert.LastSRefIdeal.Gen.bcast_S1x1024_S128x1024_0_1
      (broadcastInDim Cert.LastSRefIdeal.S1x1024 ![1] Cert.LastSRefIdeal.Gen.bcast_S1024_S1x1024_1 g))

/-- The reference's `rmsnorm(x, g) @ w_in`: the gate columns, then the up columns. -/
def PROJ (x : FVec Ideal S128x1024 .f32) (g : FVec Ideal S1024 .f32) (wi : FVec Ideal S1024x5632 .f32) :
    FVec Ideal Cert.LastSRefIdeal.S128x5632 .f32 :=
  Host.dotGeneral Cert.LastSRefIdeal.dot_S128x1024_S1024x5632_S128x5632_1_0_0_1_n_n none (NORM x g) wi

/-- The reference's hidden rows, `silu(gate) · up`. -/
def HID (x : FVec Ideal S128x1024 .f32) (g : FVec Ideal S1024 .f32) (wi : FVec Ideal S1024x5632 .f32) :
    FVec Ideal Cert.LastSRefIdeal.S128x2816 .f32 :=
  mulf (mulf (extractStridedSlice Cert.LastSRefIdeal.S128x2816 ![0, 0] (PROJ x g wi) Cert.LastSRefIdeal.Gen.slices_S128x5632_S128x2816_0_0)
    (Host.divf (broadcastInDim Cert.LastSRefIdeal.S128x2816 ![] Cert.LastSRefIdeal.Gen.bcast_S_S128x2816 (constant Cert.LastSRefIdeal.S_ .f32 0x3F800000#32))
      (addf (broadcastInDim Cert.LastSRefIdeal.S128x2816 ![] Cert.LastSRefIdeal.Gen.bcast_S_S128x2816 (constant Cert.LastSRefIdeal.S_ .f32 0x3F800000#32))
        (Host.exp (Host.negf (extractStridedSlice Cert.LastSRefIdeal.S128x2816 ![0, 0] (PROJ x g wi) Cert.LastSRefIdeal.Gen.slices_S128x5632_S128x2816_0_0))))))
    (extractStridedSlice Cert.LastSRefIdeal.S128x2816 ![0, 2816] (PROJ x g wi) Cert.LastSRefIdeal.Gen.slices_S128x5632_S128x2816_0_2816)

/-- The residual half step: `x + 0.5 · (hidden @ w_out)`. -/
def STEP (x : FVec Ideal S128x1024 .f32) (g : FVec Ideal S1024 .f32) (wi : FVec Ideal S1024x5632 .f32)
    (wo : FVec Ideal S2816x1024 .f32) : FVec Ideal Cert.LastSRefIdeal.S128x1024 .f32 :=
  addf x (mulf (broadcastInDim Cert.LastSRefIdeal.S128x1024 ![] Cert.LastSRefIdeal.Gen.bcast_S_S128x1024 (constant Cert.LastSRefIdeal.S_ .f32 0x3F000000#32))
    (Host.dotGeneral Cert.LastSRefIdeal.dot_S128x2816_S2816x1024_S128x1024_1_0_0_1_n_n none (HID x g wi) wo))

/-- The reference's result: the half step, normalised by the final norm. -/
abbrev REF (x : FVec Ideal S128x1024 .f32) (g : FVec Ideal S1024 .f32) (wi : FVec Ideal S1024x5632 .f32)
    (wo : FVec Ideal S2816x1024 .f32) (gf : FVec Ideal S1024 .f32) : FVec Ideal S128x1024 .f32 :=
  NORM (STEP x g wi wo) gf

/-! ## The reference's steps at an index -/

theorem NORM_at (x : FVec Ideal S128x1024 .f32) (g : FVec Ideal S1024 .f32) (r : Fin 128) (k : Fin 1024) :
    NORM x g (ix2 r k) = x (ix2 r k) * Ideal.rsqrt (Ideal.div (∑ l : Fin 1024, x (ix2 r l) * x (ix2 r l))
      (Ideal.ofBits .f32 0x44800000#32) + Ideal.ofBits .f32 0x358637BD#32) * g (ix1 k) := by
  pointwise [NORM]

theorem HID_at (x : FVec Ideal S128x1024 .f32) (g : FVec Ideal S1024 .f32) (wi : FVec Ideal S1024x5632 .f32)
    (r : Fin 128) (f : Fin 2816) :
    HID x g wi (ix2 r f)
      = (∑ k : Fin 1024, NORM x g (ix2 r k) * wi (ix2 k ⟨f.val, by omega⟩))
        * Ideal.logistic (∑ k : Fin 1024, NORM x g (ix2 r k) * wi (ix2 k ⟨f.val, by omega⟩))
        * ∑ k : Fin 1024, NORM x g (ix2 r k) * wi (ix2 k ⟨2816 + f.val, by omega⟩) := by
  pointwise [HID, PROJ, Ideal.logistic]

theorem STEP_at (x : FVec Ideal S128x1024 .f32) (g : FVec Ideal S1024 .f32) (wi : FVec Ideal S1024x5632 .f32)
    (wo : FVec Ideal S2816x1024 .f32) (r : Fin 128) (k : Fin 1024) :
    STEP x g wi wo (ix2 r k) = x (ix2 r k) + Ideal.ofBits .f32 0x3F000000#32
      * ((∑ f : Fin 1408, HID x g wi (ix2 r ⟨f.val, by omega⟩) * wo (ix2 ⟨f.val, by omega⟩ k))
        + ∑ f : Fin 1408, HID x g wi (ix2 r ⟨1408 + f.val, by omega⟩) * wo (ix2 ⟨1408 + f.val, by omega⟩ k)) := by
  rw [← Fin.sum_univ_two_halves (N := 2816) 1408 1408 rfl fun f => HID x g wi (ix2 r f) * wo (ix2 f k)]
  pointwise [STEP]

/-! ## The arguments, at their types -/

abbrev A0 (c : Dev nD) : FVec Ideal S128x1024 .f32 := m ((c : Thread nD τ).loc main_arg0)
abbrev A1 (c : Dev nD) : FVec Ideal S1024 .f32 := m ((c : Thread nD τ).loc main_arg1)
abbrev A2 (c : Dev nD) : FVec Ideal S1024x5632 .f32 := m ((c : Thread nD τ).loc main_arg2)
abbrev A3 (c : Dev nD) : FVec Ideal S2816x1024 .f32 := m ((c : Thread nD τ).loc main_arg3)
abbrev A4 (c : Dev nD) : FVec Ideal S1024 .f32 := m ((c : Thread nD τ).loc main_arg4)

/-! ## What the kernel holds at each step -/

/-- Where each window's block sits at point `t`: all the rows, hidden half `t % 2`. -/
theorem idx : ∀ t : Fin cfg0.N, win0_0.index t = ![0, 0] ∧ win0_1.index t = ![0, 0] ∧ win0_2.index t = ![0, t.val % 2] ∧ win0_3.index t = ![0, t.val % 2 + 2] ∧ win0_4.index t = ![t.val % 2, 0] ∧ win0_5.index t = ![0, 0] ∧ win0_6.index t = ![0, 0] :=
  (by decide +kernel : ∀ t : Fin grid0.N, win0_0.index t = ![0, 0] ∧ win0_1.index t = ![0, 0] ∧ win0_2.index t = ![0, t.val % 2] ∧ win0_3.index t = ![0, t.val % 2 + 2] ∧ win0_4.index t = ![t.val % 2, 0] ∧ win0_5.index t = ![0, 0] ∧ win0_6.index t = ![0, 0])

/-- The accumulator after the first half `s` of a row block. -/
def acc1 (c : Dev nD) (s : Fin cfg0.N) : Vec Ideal S128x1024 .f32 :=
  k0_pay3 (k0_pay1 (iblk m c 0 s) (iblk m c 1 s)) (iblk m c 2 s) (iblk m c 3 s) (k0_pay2 (F := Ideal)) (iblk m c 4 s)

/-- The accumulator after the second half `t`, the first half being `s`. -/
def acc2 (c : Dev nD) (t s : Fin cfg0.N) : Vec Ideal S128x1024 .f32 :=
  k0_pay3 (k0_pay1 (iblk m c 0 s) (iblk m c 1 s)) (iblk m c 2 t) (iblk m c 3 t) (acc1 m c s) (iblk m c 4 t)

/-- After the first half, the scratch buffers hold the normalised rows and the first partial product. -/
theorem first_half (c : Dev nD) (s : Fin cfg0.N) (h0 : s.val % 2 = 0) :
    (outsAt0 m c s.val s.isLt).2.1 = k0_pay1 (iblk m c 0 s) (iblk m c 1 s) ∧ (outsAt0 m c s.val s.isLt).2.2 = acc1 m c s := by
  rw [outsAt0_A m c s h0 (by omega)]
  constructor
  · frame_out
  · frame_out; rfl

/-- The normalised rows of block `s`, at an index. -/
theorem norm_block (c : Dev nD) (s : Fin cfg0.N) (r : Fin 128) (p : Fin 128) (k : Fin 1024) (hr : r.val = p.val) :
    k0_pay1 (iblk m c 0 s) (iblk m c 1 s) (ix2 p k) = NORM (A0 m c) (A1 m c) (ix2 r k) := by
  rw [NORM_at]
  pointwise [k0_pay1]
  blk_point [iblk, V, idx s]

/-- The gated hidden block times its rows of `w_out`, added to the accumulator. -/
theorem half_at (v3 : Vec Ideal S128x1024 .bf16) (wg wu : Vec Ideal S1024x1408 .bf16) (a : Vec Ideal S128x1024 .f32)
    (wo : Vec Ideal S1408x1024 .bf16) (p : Fin 128) (k : Fin 1024) :
    k0_pay3 v3 wg wu a wo (ix2 p k) = a (ix2 p k) + ∑ f : Fin 1408,
      (∑ l : Fin 1024, v3 (ix2 p l) * wg (ix2 l f)) * Ideal.logistic (∑ l : Fin 1024, v3 (ix2 p l) * wg (ix2 l f))
        * (∑ l : Fin 1024, v3 (ix2 p l) * wu (ix2 l f)) * wo (ix2 f k) := by
  pointwise [k0_pay3]

/-- The accumulator starts at zero. -/
theorem zero_at (p : Fin 128) (k : Fin 1024) : (k0_pay2 (F := Ideal)) (ix2 p k) = 0 := by
  pointwise [k0_pay2]

/-- One half's columns of the reference's hidden rows, from the blocks of point `u`, whose half is `u % 2`. -/
theorem hidden_half (c : Dev nD) (s u : Fin cfg0.N) (r : Fin 128) (p : Fin 128) (k : Fin 1024) (f : Fin 1408) (f' : Fin 2816)
    (hr : r.val = p.val) (hf : f'.val = u.val % 2 * 1408 + f.val) :
    (∑ l : Fin 1024, k0_pay1 (iblk m c 0 s) (iblk m c 1 s) (ix2 p l) * (show Vec Ideal S1024x1408 .bf16 from iblk m c 2 u) (ix2 l f))
      * Ideal.logistic (∑ l : Fin 1024, k0_pay1 (iblk m c 0 s) (iblk m c 1 s) (ix2 p l) * (show Vec Ideal S1024x1408 .bf16 from iblk m c 2 u) (ix2 l f))
      * (∑ l : Fin 1024, k0_pay1 (iblk m c 0 s) (iblk m c 1 s) (ix2 p l) * (show Vec Ideal S1024x1408 .bf16 from iblk m c 3 u) (ix2 l f))
      * (show Vec Ideal S1408x1024 .bf16 from iblk m c 4 u) (ix2 f k)
    = HID (A0 m c) (A1 m c) (A2 m c) (ix2 r f') * (A3 m c) (ix2 f' k) := by
  rw [HID_at _ _ _ r f']
  simp only [norm_block m c s r p _ hr]
  blk_point [iblk, V, idx u]

/-- The accumulator after both halves is the reference's hidden rows times `w_out`, halves added. -/
theorem acc_at (c : Dev nD) (t s : Fin cfg0.N) (hs : s.val % 2 = 0) (ht : t.val = s.val + 1) (r : Fin 128) (p : Fin 128) (k : Fin 1024)
    (hr : r.val = p.val) :
    (A0 m c) (ix2 r k) + Ideal.ofBits .f32 0x3F000000#32 * acc2 m c t s (ix2 p k) = STEP (A0 m c) (A1 m c) (A2 m c) (A3 m c) (ix2 r k) := by
  have e1 : acc1 m c s (ix2 p k) = ∑ f : Fin 1408, HID (A0 m c) (A1 m c) (A2 m c) (ix2 r ⟨f.val, by omega⟩) * (A3 m c) (ix2 ⟨f.val, by omega⟩ k) := by
    refine (half_at _ _ _ _ _ p k).trans ?_
    rw [zero_at, zero_add]
    exact Finset.sum_congr rfl fun f _ => hidden_half m c s s r p k f ⟨f.val, by omega⟩ hr (by dsimp only; omega)
  have e2 : acc2 m c t s (ix2 p k) = acc1 m c s (ix2 p k)
      + ∑ f : Fin 1408, HID (A0 m c) (A1 m c) (A2 m c) (ix2 r ⟨1408 + f.val, by omega⟩) * (A3 m c) (ix2 ⟨1408 + f.val, by omega⟩ k) := by
    refine (half_at _ _ _ _ _ p k).trans (congrArg _ ?_)
    exact Finset.sum_congr rfl fun f _ => hidden_half m c s t r p k f ⟨1408 + f.val, by omega⟩ hr (by dsimp only; omega)
  rw [STEP_at, e2, e1]

/-- What a row block's last point stores at block index `y` is the reference's result there. -/
theorem point (c : Dev nD) (t s : Fin cfg0.N) (hs : s.val % 2 = 0) (ht : t.val = s.val + 1) (y) :
    k0_pay4 (iblk m c 0 t) (acc2 m c t s) (iblk m c 5 t) y = REF (A0 m c) (A1 m c) (A2 m c) (A3 m c) (A4 m c) (((cfg0.win 6).blk t).view.emb y) := by
  have hN : cfg0.N = 2 := N_0
  idx_vars y
  have e : ((cfg0.win 6).blk t).view.emb (ix2 y0 y1) = ix2 y0 y1 := by
    blk_ext [idx t]
  rw [e]
  unfold REF
  rw [NORM_at]
  have ha := fun k => acc_at m c t s hs ht y0 y0 k rfl
  simp only [← ha]
  generalize acc2 m c t s = a
  pointwise [k0_pay4]
  blk_point [iblk, V, idx t]

/-- The result array after the run is the reference's result. -/
theorem final (c : Dev nD) : (dats m 0 c).arrAt 6 cfg0.N = REF (A0 m c) (A1 m c) (A2 m c) (A3 m c) (A4 m c) := by
  refine (dats m 0 c).arrAt_eq_of_covers 6 _ (by decide +kernel) fun t hf y => ?_
  have h1 : t.val % 2 = 1 := (flush0_6 t).mp hf
  have h0 : (t.val - 1) % 2 = 0 := by omega
  have hlt : t.val - 1 < cfg0.N := Nat.lt_of_le_of_lt (Nat.sub_le _ _) t.isLt
  blk_simp
  rw [after0_6, outsAt0_B m c t (by omega) h1]
  frame_out
  rw [(first_half m c ⟨t.val - 1, hlt⟩ h0).1, (first_half m c ⟨t.val - 1, hlt⟩ h0).2]
  simp only [read_unread_whole]
  exact point m c t ⟨t.val - 1, hlt⟩ h0 (by dsimp only; omega) y

end Cert.LastSIdeal.Value

end
-- ==== Proof.LastSClaim.lean ====
/-
  The last feed-forward half step of the sample rows, with the final norm: the claim about its values, and the frame of its reference.
-/
module

public import proofs.«01_k».proof.Defs
public import proofs.«01_k».proof.Proof.LastSValue
public import Idealize.ShloMosaic.Lib.Claim

@[expose] public section

set_option maxRecDepth 16384

noncomputable section

open Idealize.ShloMosaic Idealize.SL.Sem

namespace Cert.LastSIdealAlg

/-- The reference runs to the end and leaves its arguments as they were. -/
theorem frame_ref : Cert.quiescent_LastSRefIdeal := by
  intro m g _
  exact (θ_run Cert.LastSRefIdeal.defs _ _).mono
    (fun r h => ⟨fun c => (h c).2, Idealize.ShloMosaic.sem_eq_zero_of_no_sems (by decide) r.2⟩)
    (Cert.LastSRefIdeal.Value.run m g)

/-- On equal arguments the kernel and the normalised half step of the reference end with the same rows. -/
theorem algebraic : Cert.algebraic_LastSIdeal_LastSRefIdeal := by
  pair_intro
  · run_from Cert.LastSIdeal.Gen.run_main m g
  · run_from Cert.LastSRefIdeal.Value.run m' g'
    obtain ⟨h0, h1, h2, h3, h4⟩ := hagree c
    refine Eq.trans ?_ (Cert.LastSIdeal.Value.final m c).symm
    rw [Cert.LastSRefIdeal.Value.res_main_v34, h0, h1, h2, h3, h4]
    rfl

end Cert.LastSIdealAlg

end
-- ==== Proof.ConvSValue.lean ====
/-
  The short convolution of the sample tokens: each token is its own sequence, behind the two rows of its state. The
  kernel's rows and new state are the reference's two results.
-/
module

public import proofs.«01_k».proof.Proof.Gen.ConvSIdeal.Value
public import proofs.«01_k».proof.Proof.Gen.ConvSRefIdeal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ConvSIdeal.Value

open Cert.ConvSIdeal Cert.ConvSIdeal.Gen

/-- The rows, one to each sequence. -/
def XP (a0 : FVec Ideal S128x1024 .f32) : FVec Ideal Cert.ConvSRefIdeal.S128x1x1024 .f32 :=
  shapeCast Cert.ConvSRefIdeal.S128x1x1024 a0 Cert.ConvSRefIdeal.Gen.shapeCasts_S128x1024_S128x1x1024

/-- The normalised rows. -/
def XN (a0 : FVec Ideal S128x1024 .f32) (a1 : FVec Ideal S1024 .f32) : FVec Ideal Cert.ConvSRefIdeal.S128x1x1024 .f32 :=
  mulf (mulf (XP a0) (broadcastInDim Cert.ConvSRefIdeal.S128x1x1024 ![0, 1, 2] Cert.ConvSRefIdeal.Gen.bcast_S128x1x1_S128x1x1024_0_1_2 (Host.rsqrt (addf (Host.divf (broadcastInDim Cert.ConvSRefIdeal.S128x1x1 ![0, 1] Cert.ConvSRefIdeal.Gen.bcast_S128x1_S128x1x1_0_1 (Host.reduceAdd (mulf (XP a0) (XP a0)) (constant Cert.ConvSRefIdeal.S_ .f32 0x00000000#32) Cert.ConvSRefIdeal.Gen.reducesTo_S128x1x1024_S128x1_d2 Cert.ConvSRefIdeal.Gen.h_S_)) (broadcastInDim Cert.ConvSRefIdeal.S128x1x1 ![] Cert.ConvSRefIdeal.Gen.bcast_S_S128x1x1 (constant Cert.ConvSRefIdeal.S_ .f32 0x44800000#32))) (broadcastInDim Cert.ConvSRefIdeal.S128x1x1 ![] Cert.ConvSRefIdeal.Gen.bcast_S_S128x1x1 (constant Cert.ConvSRefIdeal.S_ .f32 0x358637BD#32)))))) (broadcastInDim Cert.ConvSRefIdeal.S128x1x1024 ![0, 1, 2] Cert.ConvSRefIdeal.Gen.bcast_S1x1x1024_S128x1x1024_0_1_2 (broadcastInDim Cert.ConvSRefIdeal.S1x1x1024 ![2] Cert.ConvSRefIdeal.Gen.bcast_S1024_S1x1x1024_2 a1))

/-- The three projections side by side. -/
def PROJ (a0 : FVec Ideal S128x1024 .f32) (a1 : FVec Ideal S1024 .f32) (a3 : FVec Ideal S1024x3072 .f32) : FVec Ideal Cert.ConvSRefIdeal.S128x1x3072 .f32 :=
  Host.dotGeneral Cert.ConvSRefIdeal.dot_S128x1x1024_S1024x3072_S128x1x3072_2_0_01_1_n_n none (XN a0 a1) a3

/-- The gated input of the convolution. -/
def UU (a0 : FVec Ideal S128x1024 .f32) (a1 : FVec Ideal S1024 .f32) (a3 : FVec Ideal S1024x3072 .f32) : FVec Ideal Cert.ConvSRefIdeal.S128x1x1024 .f32 :=
  mulf (extractStridedSlice Cert.ConvSRefIdeal.S128x1x1024 ![0, 0, 1024] (PROJ a0 a1 a3) Cert.ConvSRefIdeal.Gen.slices_S128x1x3072_S128x1x1024_0_0_1024) (extractStridedSlice Cert.ConvSRefIdeal.S128x1x1024 ![0, 0, 0] (PROJ a0 a1 a3) Cert.ConvSRefIdeal.Gen.slices_S128x1x3072_S128x1x1024_0_0_0)

/-- The gated input behind the two rows of the state. -/
def UC (a0 : FVec Ideal S128x1024 .f32) (a1 : FVec Ideal S1024 .f32) (a2 : FVec Ideal S128x2x1024 .f32) (a3 : FVec Ideal S1024x3072 .f32) : FVec Ideal Cert.ConvSRefIdeal.S128x3x1024 .f32 :=
  concatenate Cert.ConvSRefIdeal.S128x3x1024 1 [⟨Cert.ConvSRefIdeal.S128x2x1024, a2⟩, ⟨Cert.ConvSRefIdeal.S128x1x1024, (UU a0 a1 a3)⟩] Cert.ConvSRefIdeal.Gen.concatenates_S128x2x1024_S128x1x1024_S128x3x1024_d1

/-- The short convolution. -/
def CV (a0 : FVec Ideal S128x1024 .f32) (a1 : FVec Ideal S1024 .f32) (a2 : FVec Ideal S128x2x1024 .f32) (a3 : FVec Ideal S1024x3072 .f32) (a4 : FVec Ideal S3x1024 .f32) : FVec Ideal Cert.ConvSRefIdeal.S128x1x1024 .f32 :=
  addf (addf (mulf (broadcastInDim Cert.ConvSRefIdeal.S128x1x1024 ![0, 1, 2] Cert.ConvSRefIdeal.Gen.bcast_S1x1x1024_S128x1x1024_0_1_2 (broadcastInDim Cert.ConvSRefIdeal.S1x1x1024 ![2] Cert.ConvSRefIdeal.Gen.bcast_S1024_S1x1x1024_2 (shapeCast Cert.ConvSRefIdeal.S1024 (extractStridedSlice Cert.ConvSRefIdeal.S1x1024 ![0, 0] a4 Cert.ConvSRefIdeal.Gen.slices_S3x1024_S1x1024_0_0) Cert.ConvSRefIdeal.Gen.shapeCasts_S1x1024_S1024))) (extractStridedSlice Cert.ConvSRefIdeal.S128x1x1024 ![0, 0, 0] (UC a0 a1 a2 a3) Cert.ConvSRefIdeal.Gen.slices_S128x3x1024_S128x1x1024_0_0_0)) (mulf (broadcastInDim Cert.ConvSRefIdeal.S128x1x1024 ![0, 1, 2] Cert.ConvSRefIdeal.Gen.bcast_S1x1x1024_S128x1x1024_0_1_2 (broadcastInDim Cert.ConvSRefIdeal.S1x1x1024 ![2] Cert.ConvSRefIdeal.Gen.bcast_S1024_S1x1x1024_2 (shapeCast Cert.ConvSRefIdeal.S1024 (extractStridedSlice Cert.ConvSRefIdeal.S1x1024 ![1, 0] a4 Cert.ConvSRefIdeal.Gen.slices_S3x1024_S1x1024_1_0) Cert.ConvSRefIdeal.Gen.shapeCasts_S1x1024_S1024))) (extractStridedSlice Cert.ConvSRefIdeal.S128x1x1024 ![0, 1, 0] (UC a0 a1 a2 a3) Cert.ConvSRefIdeal.Gen.slices_S128x3x1024_S128x1x1024_0_1_0))) (mulf (broadcastInDim Cert.ConvSRefIdeal.S128x1x1024 ![0, 1, 2] Cert.ConvSRefIdeal.Gen.bcast_S1x1x1024_S128x1x1024_0_1_2 (broadcastInDim Cert.ConvSRefIdeal.S1x1x1024 ![2] Cert.ConvSRefIdeal.Gen.bcast_S1024_S1x1x1024_2 (shapeCast Cert.ConvSRefIdeal.S1024 (extractStridedSlice Cert.ConvSRefIdeal.S1x1024 ![2, 0] a4 Cert.ConvSRefIdeal.Gen.slices_S3x1024_S1x1024_2_0) Cert.ConvSRefIdeal.Gen.shapeCasts_S1x1024_S1024))) (extractStridedSlice Cert.ConvSRefIdeal.S128x1x1024 ![0, 2, 0] (UC a0 a1 a2 a3) Cert.ConvSRefIdeal.Gen.slices_S128x3x1024_S128x1x1024_0_2_0))

/-- The convolution, gated. -/
def GV (a0 : FVec Ideal S128x1024 .f32) (a1 : FVec Ideal S1024 .f32) (a2 : FVec Ideal S128x2x1024 .f32) (a3 : FVec Ideal S1024x3072 .f32) (a4 : FVec Ideal S3x1024 .f32) : FVec Ideal Cert.ConvSRefIdeal.S128x1x1024 .f32 :=
  mulf (extractStridedSlice Cert.ConvSRefIdeal.S128x1x1024 ![0, 0, 2048] (PROJ a0 a1 a3) Cert.ConvSRefIdeal.Gen.slices_S128x1x3072_S128x1x1024_0_0_2048) (CV a0 a1 a2 a3 a4)

/-- The first result: the rows with the projected convolution added. -/
def REF (a0 : FVec Ideal S128x1024 .f32) (a1 : FVec Ideal S1024 .f32) (a2 : FVec Ideal S128x2x1024 .f32) (a3 : FVec Ideal S1024x3072 .f32) (a4 : FVec Ideal S3x1024 .f32) (a5 : FVec Ideal S1024x1024 .f32) : FVec Ideal Cert.ConvSRefIdeal.S128x1024 .f32 :=
  shapeCast Cert.ConvSRefIdeal.S128x1024 (addf (XP a0) (Host.dotGeneral Cert.ConvSRefIdeal.dot_S128x1x1024_S1024x1024_S128x1x1024_2_0_01_1_n_n none (GV a0 a1 a2 a3 a4) a5)) Cert.ConvSRefIdeal.Gen.shapeCasts_S128x1x1024_S128x1024

/-- The second result: the last two rows of the gated input. -/
def STATE (a0 : FVec Ideal S128x1024 .f32) (a1 : FVec Ideal S1024 .f32) (a2 : FVec Ideal S128x2x1024 .f32) (a3 : FVec Ideal S1024x3072 .f32) : FVec Ideal Cert.ConvSRefIdeal.S128x2048 .f32 :=
  shapeCast Cert.ConvSRefIdeal.S128x2048 (extractStridedSlice Cert.ConvSRefIdeal.S128x2x1024 ![0, 1, 0] (UC a0 a1 a2 a3) Cert.ConvSRefIdeal.Gen.slices_S128x3x1024_S128x2x1024_0_1_0) Cert.ConvSRefIdeal.Gen.shapeCasts_S128x2x1024_S128x2048

/-! ## The reference's steps at an index -/

theorem XN_at (x : FVec Ideal S128x1024 .f32) (g : FVec Ideal S1024 .f32) (r : Fin 128) (k : Fin 1024) :
    XN x g (ix3 r (0 : Fin 1) k) = x (ix2 r k) * Ideal.rsqrt (Ideal.div (∑ l : Fin 1024, x (ix2 r l) * x (ix2 r l))
      (Ideal.ofBits .f32 0x44800000#32) + Ideal.ofBits .f32 0x358637BD#32) * g (ix1 k) := by
  have hx : ∀ l : Fin 1024, XP x (ix3 r (0 : Fin 1) l) = x (ix2 r l) := by
    intro l; pointwise [XP]; blk_ext []
  have h : XN x g (ix3 r (0 : Fin 1) k) = XP x (ix3 r (0 : Fin 1) k) * Ideal.rsqrt (Ideal.div (∑ l : Fin 1024, XP x (ix3 r (0 : Fin 1) l) * XP x (ix3 r (0 : Fin 1) l))
      (Ideal.ofBits .f32 0x44800000#32) + Ideal.ofBits .f32 0x358637BD#32) * g (ix1 k) := by
    pointwise [XN]
  rw [h]; simp only [hx]

theorem PROJ_at (x : FVec Ideal S128x1024 .f32) (g : FVec Ideal S1024 .f32) (w : FVec Ideal S1024x3072 .f32)
    (r : Fin 128) (e : Fin 3072) :
    PROJ x g w (ix3 r (0 : Fin 1) e) = ∑ k : Fin 1024, XN x g (ix3 r (0 : Fin 1) k) * w (ix2 k e) := by
  pointwise [PROJ]

theorem UU_at (x : FVec Ideal S128x1024 .f32) (g : FVec Ideal S1024 .f32) (w : FVec Ideal S1024x3072 .f32)
    (r : Fin 128) (k : Fin 1024) :
    UU x g w (ix3 r (0 : Fin 1) k) = PROJ x g w (ix3 r (0 : Fin 1) (⟨1024 + k.val, by omega⟩ : Fin 3072)) * PROJ x g w (ix3 r (0 : Fin 1) (⟨k.val, by omega⟩ : Fin 3072)) := by
  unfold UU
  generalize PROJ x g w = P
  pointwise []

/-- Row `i` of the gated input behind the two rows of the state. -/
theorem UC_at (x : FVec Ideal S128x1024 .f32) (g : FVec Ideal S1024 .f32) (st : FVec Ideal S128x2x1024 .f32) (w : FVec Ideal S1024x3072 .f32)
    (r : Fin 128) (i : Fin 3) (k : Fin 1024) :
    UC x g st w (ix3 r i k) = if h : i.val < 2 then st (ix3 r (⟨i.val, h⟩ : Fin 2) k) else UU x g w (ix3 r (⟨i.val - 2, by omega⟩ : Fin 1) k) := by
  unfold UC
  generalize UU x g w = U
  pointwise []

theorem STATE_at (x : FVec Ideal S128x1024 .f32) (g : FVec Ideal S1024 .f32) (st : FVec Ideal S128x2x1024 .f32) (w : FVec Ideal S1024x3072 .f32)
    (r : Fin 128) (j : Fin 2) (k : Fin 1024) (e : Fin 2048) (he : e.val = j.val * 1024 + k.val) :
    STATE x g st w (ix2 r e) = UC x g st w (ix3 r (⟨1 + j.val, by omega⟩ : Fin 3) k) := by
  unfold STATE
  generalize UC x g st w = U
  pointwise []; blk_ext []

theorem CV_at (x : FVec Ideal S128x1024 .f32) (g : FVec Ideal S1024 .f32) (st : FVec Ideal S128x2x1024 .f32) (w : FVec Ideal S1024x3072 .f32) (cw : FVec Ideal S3x1024 .f32)
    (r : Fin 128) (k : Fin 1024) :
    CV x g st w cw (ix3 r (0 : Fin 1) k) = cw (ix2 (0 : Fin 3) k) * UC x g st w (ix3 r (0 : Fin 3) k)
      + cw (ix2 (1 : Fin 3) k) * UC x g st w (ix3 r (1 : Fin 3) k)
      + cw (ix2 (2 : Fin 3) k) * UC x g st w (ix3 r (2 : Fin 3) k) := by
  unfold CV
  generalize UC x g st w = U
  pointwise []

theorem GV_at (x : FVec Ideal S128x1024 .f32) (g : FVec Ideal S1024 .f32) (st : FVec Ideal S128x2x1024 .f32) (w : FVec Ideal S1024x3072 .f32) (cw : FVec Ideal S3x1024 .f32)
    (r : Fin 128) (k : Fin 1024) :
    GV x g st w cw (ix3 r (0 : Fin 1) k) = PROJ x g w (ix3 r (0 : Fin 1) (⟨2048 + k.val, by omega⟩ : Fin 3072)) * CV x g st w cw (ix3 r (0 : Fin 1) k) := by
  unfold GV
  generalize PROJ x g w = P
  generalize CV x g st w cw = C
  pointwise []

theorem REF_at (x : FVec Ideal S128x1024 .f32) (g : FVec Ideal S1024 .f32) (st : FVec Ideal S128x2x1024 .f32) (w : FVec Ideal S1024x3072 .f32) (cw : FVec Ideal S3x1024 .f32)
    (wo : FVec Ideal S1024x1024 .f32) (r : Fin 128) (k : Fin 1024) :
    REF x g st w cw wo (ix2 r k) = x (ix2 r k) + ∑ e : Fin 1024, GV x g st w cw (ix3 r (0 : Fin 1) e) * wo (ix2 e k) := by
  have hx : XP x (ix3 r (0 : Fin 1) k) = x (ix2 r k) := by pointwise [XP]; blk_ext []
  have h1 : REF x g st w cw wo (ix2 r k) = addf (XP x) (Host.dotGeneral Cert.ConvSRefIdeal.dot_S128x1x1024_S1024x1024_S128x1x1024_2_0_01_1_n_n none (GV x g st w cw) wo) (ix3 r (0 : Fin 1) k) := by
    unfold REF
    generalize addf (XP x) (Host.dotGeneral Cert.ConvSRefIdeal.dot_S128x1x1024_S1024x1024_S128x1x1024_2_0_01_1_n_n none (GV x g st w cw) wo) = T
    pointwise []; blk_ext []
  rw [h1, ← hx]
  pointwise []

/-! ## The kernel's payloads at an index -/

theorem pay3_at (x : Vec Ideal S128x1024 .f32) (g : Vec Ideal S1x1024 .f32) (w : Vec Ideal S1024x3072 .bf16) (p : Fin 128) (e : Fin 3072) :
    k0_pay3 x g w (ix2 p e) = ∑ k : Fin 1024, x (ix2 p k) * Ideal.rsqrt (Ideal.div (∑ l : Fin 1024, x (ix2 p l) * x (ix2 p l))
      (Ideal.ofBits .f32 0x44800000#32) + Ideal.ofBits .f32 0x358637BD#32) * g (ix2 (0 : Fin 1) k) * w (ix2 k e) := by
  pointwise [k0_pay3]

theorem pay4_at (x : Vec Ideal S128x1024 .f32) (g : Vec Ideal S1x1024 .f32) (w : Vec Ideal S1024x3072 .bf16) (p : Fin 128) (k : Fin 1024) :
    k0_pay4 x g w (ix2 p k) = k0_pay3 x g w (ix2 p (⟨1024 + k.val, by omega⟩ : Fin 3072)) * k0_pay3 x g w (ix2 p (⟨k.val, by omega⟩ : Fin 3072)) := by
  unfold k0_pay4
  generalize k0_pay3 x g w = P
  pointwise []

theorem pay6_at (x : Vec Ideal S128x1024 .f32) (g : Vec Ideal S1x1024 .f32) (w : Vec Ideal S1024x3072 .bf16) (st : Vec Ideal S128x2048 .f32) (cw : Vec Ideal S3x1024 .f32) (p : Fin 128) (k : Fin 1024) :
    k0_pay6 x g w st cw (ix2 p k) = k0_pay3 x g w (ix2 p (⟨2048 + k.val, by omega⟩ : Fin 3072))
      * (cw (ix2 (0 : Fin 3) k) * st (ix2 p (⟨k.val, by omega⟩ : Fin 2048)) + cw (ix2 (1 : Fin 3) k) * st (ix2 p (⟨1024 + k.val, by omega⟩ : Fin 2048)) + cw (ix2 (2 : Fin 3) k) * k0_pay4 x g w (ix2 p k)) := by
  unfold k0_pay6
  generalize k0_pay4 x g w = U
  generalize k0_pay3 x g w = P
  pointwise [k0_pay5]

theorem pay1_at (x : Vec Ideal S128x1024 .f32) (B : FVec Ideal S128x1024 .bf16) (wo : Vec Ideal S1024x1024 .bf16) (p : Fin 128) (k : Fin 1024) :
    k0_pay1 x B (k0_pay7 wo) (constant S128x1024 .f32 0x00000000#32) (ix2 p k) = x (ix2 p k) + ∑ e : Fin 1024, B (ix2 p e) * wo (ix2 e k) := by
  pointwise [k0_pay1, k0_pay7]

/-! ## The blocks -/

variable (m : (ℓ : Loc nD τ sig) → Buf (Elt Ideal) ℓ)

abbrev A0 (c : Dev nD) : FVec Ideal S128x1024 .f32 := m ((c : Thread nD τ).loc main_arg0)
abbrev A1 (c : Dev nD) : FVec Ideal S1024 .f32 := m ((c : Thread nD τ).loc main_arg1)
abbrev A2 (c : Dev nD) : FVec Ideal S128x2x1024 .f32 := m ((c : Thread nD τ).loc main_arg2)
abbrev A3 (c : Dev nD) : FVec Ideal S1024x3072 .f32 := m ((c : Thread nD τ).loc main_arg3)
abbrev A4 (c : Dev nD) : FVec Ideal S3x1024 .f32 := m ((c : Thread nD τ).loc main_arg4)
abbrev A5 (c : Dev nD) : FVec Ideal S1024x1024 .f32 := m ((c : Thread nD τ).loc main_arg5)

/-- The one grid point has every array whole. -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] :=
  (by decide +kernel : ∀ t : Fin grid0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0])

theorem proj_block (c : Dev nD) (t : Fin cfg0.N) (r : Fin 128) (e : Fin 3072) :
    k0_pay3 (iblk m c 0 t) (iblk m c 1 t) (iblk m c 3 t) (ix2 r e) = PROJ (A0 m c) (A1 m c) (A3 m c) (ix3 r (0 : Fin 1) e) := by
  have hx : ∀ k : Fin 1024, (show Vec Ideal S128x1024 .f32 from iblk m c 0 t) (ix2 r k) = A0 m c (ix2 r k) := by
    intro k; blk_point [iblk, V, idx t]
  have hg : ∀ k : Fin 1024, (show Vec Ideal S1x1024 .f32 from iblk m c 1 t) (ix2 (0 : Fin 1) k) = A1 m c (ix1 k) := by
    intro k; blk_point [iblk, V, idx t]
  have hw : ∀ k : Fin 1024, (show Vec Ideal S1024x3072 .bf16 from iblk m c 3 t) (ix2 k e) = A3 m c (ix2 k e) := by
    intro k; blk_point [iblk, V, idx t]
  refine (pay3_at _ _ _ _ _).trans ?_
  rw [PROJ_at]
  refine Finset.sum_congr rfl fun k _ => ?_
  rw [XN_at]
  simp only [hx, hg, hw]

theorem gated_block (c : Dev nD) (t : Fin cfg0.N) (r : Fin 128) (k : Fin 1024) :
    k0_pay4 (iblk m c 0 t) (iblk m c 1 t) (iblk m c 3 t) (ix2 r k) = UU (A0 m c) (A1 m c) (A3 m c) (ix3 r (0 : Fin 1) k) := by
  rw [UU_at]
  exact (pay4_at _ _ _ _ _).trans (congrArg₂ (· * ·) (proj_block m c t r _) (proj_block m c t r _))

/-- The state's rows, side by side in the kernel's block. -/
theorem state_block (c : Dev nD) (t : Fin cfg0.N) (r : Fin 128) (j : Fin 2) (k : Fin 1024) (e : Fin 2048) (he : e.val = j.val * 1024 + k.val) :
    (show Vec Ideal S128x2048 .f32 from iblk m c 2 t) (ix2 r e) = A2 m c (ix3 r j k) := by
  blk_point [iblk, V, idx t]

/-- The rows stored, at an index. -/
theorem point (c : Dev nD) (t : Fin cfg0.N) (r : Fin 128) (k : Fin 1024) :
    k0_pay1 (iblk m c 0 t) (k0_pay6 (iblk m c 0 t) (iblk m c 1 t) (iblk m c 3 t) (iblk m c 2 t) (iblk m c 4 t)) (k0_pay7 (iblk m c 5 t))
      (constant S128x1024 .f32 0x00000000#32) (ix2 r k) = REF (A0 m c) (A1 m c) (A2 m c) (A3 m c) (A4 m c) (A5 m c) (ix2 r k) := by
  have hx : (show Vec Ideal S128x1024 .f32 from iblk m c 0 t) (ix2 r k) = A0 m c (ix2 r k) := by
    blk_point [iblk, V, idx t]
  have hw : ∀ e : Fin 1024, (show Vec Ideal S1024x1024 .bf16 from iblk m c 5 t) (ix2 e k) = A5 m c (ix2 e k) := by
    intro e; blk_point [iblk, V, idx t]
  have hc : ∀ (i : Fin 3) (e : Fin 1024), (show Vec Ideal S3x1024 .f32 from iblk m c 4 t) (ix2 i e) = A4 m c (ix2 i e) := by
    intro i e; blk_point [iblk, V, idx t]
  rw [REF_at]
  refine (pay1_at _ _ _ _ _).trans ?_
  refine congrArg₂ (· + ·) hx (Finset.sum_congr rfl fun e _ => congrArg₂ (· * ·) ?_ (hw e))
  rw [GV_at, CV_at, UC_at, UC_at, UC_at, dif_pos (by decide), dif_pos (by decide), dif_neg (by decide)]
  refine (pay6_at _ _ _ _ _ _ _).trans ?_
  refine congrArg₂ (· * ·) (proj_block m c t r _) ?_
  refine congrArg₂ (· + ·) (congrArg₂ (· + ·) (congrArg₂ (· * ·) (hc 0 e) ?_) (congrArg₂ (· * ·) (hc 1 e) ?_)) (congrArg₂ (· * ·) (hc 2 e) (gated_block m c t r e))
  · exact state_block m c t r 0 e _ (by simp)
  · exact state_block m c t r 1 e _ (by simp)

/-- After the run the array of rows is the reference's first result. -/
theorem final_rows (c : Dev nD) : (dats m 0 c).arrAt 6 cfg0.N = REF (A0 m c) (A1 m c) (A2 m c) (A3 m c) (A4 m c) (A5 m c) := by
  refine (dats m 0 c).arrAt_eq_of_covers 6 _ (by decide +kernel) fun t _ y => ?_
  blk_simp
  rw [after0_6]
  unfold out0_6
  frame_out
  idx_vars y
  have he : ((View.whole main_v4_0).slice (win0_6.rect t)).emb (ix2 y0 y1) = ix2 y0 y1 := by
    blk_ext [idx t]
  rw [he]
  exact point m c t y0 y1

/-- After the run the state array is the reference's second result. -/
theorem final_state (c : Dev nD) : (dats m 0 c).arrAt 7 cfg0.N = STATE (A0 m c) (A1 m c) (A2 m c) (A3 m c) := by
  refine (dats m 0 c).arrAt_eq_of_covers 7 _ (by decide +kernel) fun t hf y => ?_
  blk_simp
  rw [after0_7]
  unfold out0_7
  frame_out
  idx_vars y
  have he : ((View.whole main_v4_1).slice (win0_7.rect t)).emb (ix2 y0 y1) = ix2 y0 y1 := by
    blk_ext [idx t]
  rw [he]
  clear he hf
  canon_tiles x h
  · idx_vars x
    obtain rfl : y0 = x0 := Fin.ext h0
    have h1' : y1.val = 1024 + x1.val := h1
    rw [STATE_at _ _ _ _ y0 1 x1 y1 (by simp; omega), UC_at, dif_neg (by simp)]
    exact gated_block m c t y0 x1
  · idx_vars x
    obtain rfl : y0 = x0 := Fin.ext h0
    have h1' : y1.val = x1.val := h1
    rw [STATE_at _ _ _ _ y0 0 x1 y1 (by simp; omega), UC_at, dif_pos (by simp)]
    have h2 : k0_pay2 (F := Ideal) (k0_pay5 (iblk m c 2 t)) (ix2 y0 x1) = (show Vec Ideal S128x2048 .f32 from iblk m c 2 t) (ix2 y0 (⟨1024 + x1.val, by omega⟩ : Fin 2048)) := by
      pointwise [k0_pay2, k0_pay5]
    exact h2.trans (state_block m c t y0 1 x1 _ (by simp))

end Cert.ConvSIdeal.Value

end
-- ==== Proof.ConvSClaim.lean ====
/-
  The short convolution of the sample rows: the claim about its values, and the frame of its reference.
-/
module

public import proofs.«01_k».proof.Defs
public import proofs.«01_k».proof.Proof.ConvSValue
public import Idealize.ShloMosaic.Lib.Claim

@[expose] public section

set_option maxRecDepth 16384

noncomputable section

open Idealize.ShloMosaic Idealize.SL.Sem

namespace Cert.ConvSIdealAlg

/-- The reference runs to the end and leaves its arguments as they were. -/
theorem frame_ref : Cert.quiescent_ConvSRefIdeal := by
  intro m g _
  exact (θ_run Cert.ConvSRefIdeal.defs _ _).mono
    (fun r h => ⟨fun c => (h c).2.2, Idealize.ShloMosaic.sem_eq_zero_of_no_sems (by decide) r.2⟩)
    (Cert.ConvSRefIdeal.Value.run m g)

/-- On equal arguments the kernel and the convolution of the reference end with the same rows and the same state. -/
theorem algebraic : Cert.algebraic_ConvSIdeal_ConvSRefIdeal := by
  pair_intro
  · run_from Cert.ConvSIdeal.Gen.run_main m g
  · run_from Cert.ConvSRefIdeal.Value.run m' g'
    · obtain ⟨h0, h1, h2, h3, h4, h5⟩ := hagree c
      refine Eq.trans ?_ (Cert.ConvSIdeal.Value.final_rows m c).symm
      rw [Cert.ConvSRefIdeal.Value.res_main_v43, h0, h1, h2, h3, h4, h5]
      rfl
    · exact (Cert.ConvSIdeal.Value.final_state m c).symm

end Cert.ConvSIdealAlg

end
-- ==== Proof.ProjSValue.lean ====
/-
  The sparse attention's projections of the sample tokens: the kernel's queries, keys beside values and gates are the
  reference's.
-/
module

public import proofs.«01_k».proof.Proof.Gen.ProjSIdeal.Value
public import proofs.«01_k».proof.Proof.Gen.ProjSRefIdeal.Run
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.ProjSIdeal.Value

open Cert.ProjSIdeal Cert.ProjSIdeal.Gen

/-- The normalised rows. -/
def XN (a0 : FVec Ideal S128x1024 .f32) (a1 : FVec Ideal S1024 .f32) : FVec Ideal Cert.ProjSRefIdeal.S128x1024 .f32 :=
  mulf (mulf a0 (broadcastInDim Cert.ProjSRefIdeal.S128x1024 ![0, 1] Cert.ProjSRefIdeal.Gen.bcast_S128x1_S128x1024_0_1 (Host.rsqrt (addf (Host.divf (broadcastInDim Cert.ProjSRefIdeal.S128x1 ![0] Cert.ProjSRefIdeal.Gen.bcast_S128_S128x1_0 (Host.reduceAdd (mulf a0 a0) (constant Cert.ProjSRefIdeal.S_ .f32 0x00000000#32) Cert.ProjSRefIdeal.Gen.reducesTo_S128x1024_S128_d1 Cert.ProjSRefIdeal.Gen.h_S_)) (broadcastInDim Cert.ProjSRefIdeal.S128x1 ![] Cert.ProjSRefIdeal.Gen.bcast_S_S128x1 (constant Cert.ProjSRefIdeal.S_ .f32 0x44800000#32))) (broadcastInDim Cert.ProjSRefIdeal.S128x1 ![] Cert.ProjSRefIdeal.Gen.bcast_S_S128x1 (constant Cert.ProjSRefIdeal.S_ .f32 0x358637BD#32)))))) (broadcastInDim Cert.ProjSRefIdeal.S128x1024 ![0, 1] Cert.ProjSRefIdeal.Gen.bcast_S1x1024_S128x1024_0_1 (broadcastInDim Cert.ProjSRefIdeal.S1x1024 ![1] Cert.ProjSRefIdeal.Gen.bcast_S1024_S1x1024_1 a1))

/-- All the projections of the rows, side by side. -/
def PP (a0 : FVec Ideal S128x1024 .f32) (a1 : FVec Ideal S1024 .f32) (a2 : FVec Ideal S1024x2608 .f32) : FVec Ideal Cert.ProjSRefIdeal.S128x2608 .f32 :=
  Host.dotGeneral Cert.ProjSRefIdeal.dot_S128x1024_S1024x2608_S128x2608_1_0_0_1_n_n none (XN a0 a1) a2

/-- The logits of the gates, by group. -/
def LG (a0 : FVec Ideal S128x1024 .f32) (a1 : FVec Ideal S1024 .f32) (a2 : FVec Ideal S1024x2608 .f32) : FVec Ideal Cert.ProjSRefIdeal.S128x4x12 .f32 :=
  shapeCast Cert.ProjSRefIdeal.S128x4x12 (extractStridedSlice Cert.ProjSRefIdeal.S128x48 ![0, 2560] (PP a0 a1 a2) Cert.ProjSRefIdeal.Gen.slices_S128x2608_S128x48_0_2560) Cert.ProjSRefIdeal.Gen.shapeCasts_S128x48_S128x4x12

/-- The logits of the gates behind which zeros fill the lanes. -/
def LP (a0 : FVec Ideal S128x1024 .f32) (a1 : FVec Ideal S1024 .f32) (a2 : FVec Ideal S1024x2608 .f32) : FVec Ideal Cert.ProjSRefIdeal.S128x4x128 .f32 :=
  pad Cert.ProjSRefIdeal.S128x4x128 ![0, 0, 0] ![0, 0, 116] ![0, 0, 0] (LG a0 a1 a2) (sitofp .f32 (constantI Cert.ProjSRefIdeal.S_ 32 0#32)) Cert.ProjSRefIdeal.Gen.pads_S128x4x12_S128x4x128_000_000_01160 Cert.ProjSRefIdeal.Gen.h_S_

/-- The first result: the queries. -/
def RQ (a0 : FVec Ideal S128x1024 .f32) (a1 : FVec Ideal S1024 .f32) (a2 : FVec Ideal S1024x2608 .f32) : FVec Ideal Cert.ProjSRefIdeal.S128x1024 .f32 :=
  extractStridedSlice Cert.ProjSRefIdeal.S128x1024 ![0, 0] (PP a0 a1 a2) Cert.ProjSRefIdeal.Gen.slices_S128x2608_S128x1024_0_0

/-- The second result: keys beside values, by branch and group. -/
def RKV (a0 : FVec Ideal S128x1024 .f32) (a1 : FVec Ideal S1024 .f32) (a2 : FVec Ideal S1024x2608 .f32) : FVec Ideal Cert.ProjSRefIdeal.S12x128x128 .f32 :=
  shapeCast Cert.ProjSRefIdeal.S12x128x128 (transpose Cert.ProjSRefIdeal.S3x4x128x2x64 [1, 3, 0, 2, 4] (shapeCast Cert.ProjSRefIdeal.S128x3x2x4x64 (extractStridedSlice Cert.ProjSRefIdeal.S128x1536 ![0, 1024] (PP a0 a1 a2) Cert.ProjSRefIdeal.Gen.slices_S128x2608_S128x1536_0_1024) Cert.ProjSRefIdeal.Gen.shapeCasts_S128x1536_S128x3x2x4x64) Cert.ProjSRefIdeal.Gen.transposes_S128x3x2x4x64_S3x4x128x2x64_1_3_0_2_4) Cert.ProjSRefIdeal.Gen.shapeCasts_S3x4x128x2x64_S12x128x128

/-- The third result: the gates. -/
def RG (a0 : FVec Ideal S128x1024 .f32) (a1 : FVec Ideal S1024 .f32) (a2 : FVec Ideal S1024x2608 .f32) : FVec Ideal Cert.ProjSRefIdeal.S4x128x128 .f32 :=
  Host.divf (broadcastInDim Cert.ProjSRefIdeal.S4x128x128 ![] Cert.ProjSRefIdeal.Gen.bcast_S_S4x128x128 (constant Cert.ProjSRefIdeal.S_ .f32 0x3F800000#32)) (addf (broadcastInDim Cert.ProjSRefIdeal.S4x128x128 ![] Cert.ProjSRefIdeal.Gen.bcast_S_S4x128x128 (constant Cert.ProjSRefIdeal.S_ .f32 0x3F800000#32)) (Host.exp (Host.negf (transpose Cert.ProjSRefIdeal.S4x128x128 [1, 0, 2] (LP a0 a1 a2) Cert.ProjSRefIdeal.Gen.transposes_S128x4x128_S4x128x128_1_0_2))))

/-- Entry `e` of row `r`'s projection: the normalised row times the weights' column. -/
def PF (x : FVec Ideal S128x1024 .f32) (g : FVec Ideal S1024 .f32) (w : FVec Ideal S1024x2608 .f32) (r : Fin 128) (e : Fin 2608) : EReal :=
  ∑ k : Fin 1024, x (ix2 r k) * Ideal.rsqrt (Ideal.div (∑ l : Fin 1024, x (ix2 r l) * x (ix2 r l))
      (Ideal.ofBits .f32 0x44800000#32) + Ideal.ofBits .f32 0x358637BD#32) * g (ix1 k) * w (ix2 k e)

theorem PP_at (x : FVec Ideal S128x1024 .f32) (g : FVec Ideal S1024 .f32) (w : FVec Ideal S1024x2608 .f32) (r : Fin 128) (e : Fin 2608) :
    PP x g w (ix2 r e) = PF x g w r e := by
  have h : PP x g w (ix2 r e) = ∑ k : Fin 1024, XN x g (ix2 r k) * w (ix2 k e) := by
    unfold PP; generalize XN x g = X; pointwise []
  have hn : ∀ k : Fin 1024, XN x g (ix2 r k) = x (ix2 r k) * Ideal.rsqrt (Ideal.div (∑ l : Fin 1024, x (ix2 r l) * x (ix2 r l))
      (Ideal.ofBits .f32 0x44800000#32) + Ideal.ofBits .f32 0x358637BD#32) * g (ix1 k) := by
    intro k; pointwise [XN]
  rw [h]
  exact Finset.sum_congr rfl fun k _ => congrArg (· * w (ix2 k e)) (hn k)

theorem RQ_at (x : FVec Ideal S128x1024 .f32) (g : FVec Ideal S1024 .f32) (w : FVec Ideal S1024x2608 .f32)
    (r : Fin 128) (k : Fin 1024) : RQ x g w (ix2 r k) = PF x g w r (⟨k.val, by omega⟩ : Fin 2608) := by
  have h : RQ x g w (ix2 r k) = PP x g w (ix2 r (⟨k.val, by omega⟩ : Fin 2608)) := by
    unfold RQ; generalize PP x g w = P; pointwise []
  rw [h]
  exact PP_at x g w r _

theorem RKV_at (x : FVec Ideal S128x1024 .f32) (g : FVec Ideal S1024 .f32) (w : FVec Ideal S1024x2608 .f32)
    (j : Fin 12) (r : Fin 128) (l : Fin 128) :
    RKV x g w (ix3 j r l) = PF x g w r (⟨1024 + ((j.val / 4 * 2 + l.val / 64) * 4 + j.val % 4) * 64 + l.val % 64, by omega⟩ : Fin 2608) := by
  have h : RKV x g w (ix3 j r l) = PP x g w (ix2 r (⟨1024 + ((j.val / 4 * 2 + l.val / 64) * 4 + j.val % 4) * 64 + l.val % 64, by omega⟩ : Fin 2608)) := by
    unfold RKV; generalize PP x g w = P; pointwise []; blk_ext []
  rw [h]
  exact PP_at x g w r _

theorem LG_at (x : FVec Ideal S128x1024 .f32) (g : FVec Ideal S1024 .f32) (w : FVec Ideal S1024x2608 .f32)
    (r : Fin 128) (h : Fin 4) (l : Fin 12) :
    LG x g w (ix3 r h l) = PF x g w r (⟨2560 + h.val * 12 + l.val, by omega⟩ : Fin 2608) := by
  have h : LG x g w (ix3 r h l) = PP x g w (ix2 r (⟨2560 + h.val * 12 + l.val, by omega⟩ : Fin 2608)) := by
    unfold LG; generalize PP x g w = P; pointwise []; blk_ext []
  rw [h]
  exact PP_at x g w r _

theorem LP_at (x : FVec Ideal S128x1024 .f32) (g : FVec Ideal S1024 .f32) (w : FVec Ideal S1024x2608 .f32)
    (r : Fin 128) (h : Fin 4) (l : Fin 128) :
    LP x g w (ix3 r h l) = if hl : l.val < 12 then LG x g w (ix3 r h (⟨l.val, hl⟩ : Fin 12)) else 0 := by
  unfold LP; generalize LG x g w = P; pointwise []
  have h0 : (FloatOps.sitofp FTy.f32 0#32 : Ideal .f32) = 0 := Idealize.ShloMosaic.sitofp_zero
  rw [h0]

theorem RG_at (x : FVec Ideal S128x1024 .f32) (g : FVec Ideal S1024 .f32) (w : FVec Ideal S1024x2608 .f32)
    (h : Fin 4) (r : Fin 128) (l : Fin 128) :
    RG x g w (ix3 h r l) = Ideal.logistic (LP x g w (ix3 r h l)) := by
  unfold RG; generalize LP x g w = P; pointwise []
  rfl

/-! ## The kernel's payloads at an index -/

/-- A block's projection by weights `w`, at an index. -/
def BF (x : FVec Ideal S128x1024 .f32) (g : FVec Ideal S1x1024 .f32) (w : Fin 1024 → EReal) (p : Fin 128) : EReal :=
  ∑ k : Fin 1024, x (ix2 p k) * Ideal.rsqrt (Ideal.div (∑ l : Fin 1024, x (ix2 p l) * x (ix2 p l))
      (Ideal.ofBits .f32 0x44800000#32) + Ideal.ofBits .f32 0x358637BD#32) * g (ix2 (0 : Fin 1) k) * w k

theorem pay9_at (x : Vec Ideal S128x1024 .f32) (g : Vec Ideal S1x1024 .f32) (w : Vec Ideal S1024x1024 .bf16) (p : Fin 128) (e : Fin 1024) :
    k0_pay9 x g w (ix2 p e) = BF x g (fun k => w (ix2 k e)) p := by
  unfold BF
  pointwise [k0_pay9, k0_pay8]

theorem pay10_at (x : Vec Ideal S128x1024 .f32) (g : Vec Ideal S1x1024 .f32) (w : Vec Ideal S1024x1536 .bf16) (p : Fin 128) (e : Fin 1536) :
    k0_pay10 x g w (ix2 p e) = BF x g (fun k => w (ix2 k e)) p := by
  unfold BF
  pointwise [k0_pay10, k0_pay8]

theorem pay3_at (x : Vec Ideal S128x1024 .f32) (g : Vec Ideal S1x1024 .f32) (w : Vec Ideal S1024x512 .bf16) (p : Fin 128) (e : Fin 512) :
    k0_pay3 (k0_pay8 x g) w (ix2 p e) = Ideal.logistic (BF x g (fun k => w (ix2 k e)) p) := by
  unfold BF
  pointwise [k0_pay3, k0_pay8]

variable (m : (ℓ : Loc nD τ sig) → Buf (Elt Ideal) ℓ)

abbrev A0 (c : Dev nD) : FVec Ideal S128x1024 .f32 := m ((c : Thread nD τ).loc main_arg0)
abbrev A1 (c : Dev nD) : FVec Ideal S1024 .f32 := m ((c : Thread nD τ).loc main_arg1)
abbrev A2 (c : Dev nD) : FVec Ideal S1024x2608 .f32 := m ((c : Thread nD τ).loc main_arg2)
abbrev A3 (c : Dev nD) : FVec Ideal S2x64x64 .f32 := m ((c : Thread nD τ).loc main_arg3)

/-- The one grid point has every array whole. -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0, 0] ∧ win0_7.index t = ![0, 0, 0] :=
  (by decide +kernel : ∀ t : Fin grid0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0, 0] ∧ win0_7.index t = ![0, 0, 0])

theorem hx (c : Dev nD) (t : Fin cfg0.N) (p : Fin 128) (k : Fin 1024) :
    (show Vec Ideal S128x1024 .f32 from iblk m c 0 t) (ix2 p k) = A0 m c (ix2 p k) := by
  blk_point [iblk, V, idx t]

/-! ## The arrays the kernel is given -/

/-- What the kernel is given as the gain. -/
theorem V_v28 (c : Dev nD) : V m c main_v28 = shapeCast S1x1024 (m ((c : Thread nD τ).loc main_arg1)) shapeCasts_S1024_S1x1024 := by
  unfold_abbrev_sides
  simp only [List.flatten_cons, List.flatten_nil, List.append_nil, List.cons_append, List.nil_append]
  after_results
  all_goals rfl

/-- What the kernel is given as the query weights. -/
theorem V_v1 (c : Dev nD) : V m c main_v1 = truncf (F := Ideal) .bf16 (extractStridedSlice S1024x1024 ![0, 0] (m ((c : Thread nD τ).loc main_arg2)) slices_S1024x2608_S1024x1024_0_0) bitsLt_bf16_f32 := by
  unfold_abbrev_sides
  simp only [List.flatten_cons, List.flatten_nil, List.append_nil, List.cons_append, List.nil_append]
  after_results
  all_goals rfl

/-- What the kernel is given as the key and value weights, by branch and group. -/
theorem V_v6 (c : Dev nD) : V m c main_v6 = truncf (F := Ideal) .bf16 (shapeCast S1024x1536 (transpose S1024x3x4x2x64 [0, 1, 3, 2, 4] (shapeCast S1024x3x2x4x64 (extractStridedSlice S1024x1536 ![0, 1024] (m ((c : Thread nD τ).loc main_arg2)) slices_S1024x2608_S1024x1536_0_1024) shapeCasts_S1024x1536_S1024x3x2x4x64) transposes_S1024x3x2x4x64_S1024x3x4x2x64_0_1_3_2_4) shapeCasts_S1024x3x4x2x64_S1024x1536) bitsLt_bf16_f32 := by
  unfold_abbrev_sides
  simp only [List.flatten_cons, List.flatten_nil, List.append_nil, List.cons_append, List.nil_append]
  after_results
  all_goals rfl

/-- What the kernel is given as the gate weights, a group to each 128 columns. -/
theorem V_v27 (c : Dev nD) : V m c main_v27 = truncf (F := Ideal) .bf16 (shapeCast S1024x512 (pad S1024x4x128 ![0, 0, 0] ![0, 0, 116] ![0, 0, 0] (shapeCast S1024x4x12 (extractStridedSlice S1024x48 ![0, 2560] (m ((c : Thread nD τ).loc main_arg2)) slices_S1024x2608_S1024x48_0_2560) shapeCasts_S1024x48_S1024x4x12) (sitofp .f32 (constantI S_ 32 0#32)) pads_S1024x4x12_S1024x4x128_000_000_01160 h_S_) shapeCasts_S1024x4x128_S1024x512) bitsLt_bf16_f32 := by
  unfold_abbrev_sides
  simp only [List.flatten_cons, List.flatten_nil, List.append_nil, List.cons_append, List.nil_append]
  after_results
  all_goals rfl

theorem hg (c : Dev nD) (t : Fin cfg0.N) (k : Fin 1024) :
    (show Vec Ideal S1x1024 .f32 from iblk m c 1 t) (ix2 (0 : Fin 1) k) = A1 m c (ix1 k) := by
  have he : (show Vec Ideal S1x1024 .f32 from iblk m c 1 t) (ix2 (0 : Fin 1) k) = V m c main_v28 (ix2 (0 : Fin 1) k) := by
    blk_point [iblk, idx t]
  rw [he, V_v28]
  pointwise []
  blk_ext []

theorem hwq (c : Dev nD) (t : Fin cfg0.N) (k e : Fin 1024) :
    (show Vec Ideal S1024x1024 .bf16 from iblk m c 2 t) (ix2 k e) = A2 m c (ix2 k (⟨e.val, by omega⟩ : Fin 2608)) := by
  have he : (show Vec Ideal S1024x1024 .bf16 from iblk m c 2 t) (ix2 k e) = V m c main_v1 (ix2 k e) := by
    blk_point [iblk, idx t]
  rw [he, V_v1]
  pointwise []
  blk_ext []

theorem hwkv (c : Dev nD) (t : Fin cfg0.N) (k : Fin 1024) (e : Fin 1536) :
    (show Vec Ideal S1024x1536 .bf16 from iblk m c 3 t) (ix2 k e) = A2 m c (ix2 k (⟨1024 + ((e.val / 128 / 4 * 2 + e.val % 128 / 64) * 4 + e.val / 128 % 4) * 64 + e.val % 128 % 64, by omega⟩ : Fin 2608)) := by
  have he : (show Vec Ideal S1024x1536 .bf16 from iblk m c 3 t) (ix2 k e) = V m c main_v6 (ix2 k e) := by
    blk_point [iblk, idx t]
  rw [he, V_v6]
  pointwise []
  blk_ext []

theorem hwg (c : Dev nD) (t : Fin cfg0.N) (k : Fin 1024) (e : Fin 512) :
    (show Vec Ideal S1024x512 .bf16 from iblk m c 4 t) (ix2 k e) = if h : e.val % 128 < 12 then A2 m c (ix2 k (⟨2560 + e.val / 128 * 12 + e.val % 128, by omega⟩ : Fin 2608)) else 0 := by
  have he : (show Vec Ideal S1024x512 .bf16 from iblk m c 4 t) (ix2 k e) = V m c main_v27 (ix2 k e) := by
    blk_point [iblk, idx t]
  rw [he, V_v27]
  pointwise []
  have h0 : (FloatOps.sitofp FTy.f32 0#32 : Ideal .f32) = 0 := Idealize.ShloMosaic.sitofp_zero
  rw [h0]
  by_cases h : e.val % 128 < 12
  · rw [dif_pos ⟨by omega, h⟩, dif_pos h]
    exact congrArg (fun j : Fin 2608 => A2 m c (ix2 k j)) (Fin.ext (by dsimp only; omega))
  · rw [dif_neg (fun h' => h h'.2), dif_neg h]

/-- A block's projection is the projection of its rows, when the weights are the reference's column. -/
theorem BF_eq (c : Dev nD) (t : Fin cfg0.N) (p : Fin 128)
    (w : Fin 1024 → EReal) (e : Fin 2608) (hw : ∀ k, w k = A2 m c (ix2 k e)) :
    BF (iblk m c 0 t) (iblk m c 1 t) w p = PF (A0 m c) (A1 m c) (A2 m c) p e := by
  unfold BF PF
  refine Finset.sum_congr rfl fun k _ => ?_
  rw [hw k]
  refine congrArg (· * _) (congrArg₂ (· * ·) (congrArg₂ (· * ·) (hx m c t p k) ?_) (hg m c t k))
  exact congrArg Ideal.rsqrt (congrArg (· + _) (congrArg (Ideal.div · _) (Finset.sum_congr rfl fun l _ => congrArg₂ (· * ·) (hx m c t p l) (hx m c t p l))))

/-- A block's projection by zero weights is zero. -/
theorem BF_zero (x : FVec Ideal S128x1024 .f32) (g : FVec Ideal S1x1024 .f32) (w : Fin 1024 → EReal) (hw : ∀ k, w k = 0) (p : Fin 128) : BF x g w p = 0 := by
  unfold BF
  exact Finset.sum_eq_zero fun k _ => by rw [hw k, mul_zero]

theorem keyval (c : Dev nD) (t : Fin cfg0.N) (p : Fin 128) (e : Fin 1536) :
    k0_pay10 (F := Ideal) (iblk m c 0 t) (iblk m c 1 t) (iblk m c 3 t) (ix2 p e)
      = PF (A0 m c) (A1 m c) (A2 m c) p (⟨1024 + ((e.val / 128 / 4 * 2 + e.val % 128 / 64) * 4 + e.val / 128 % 4) * 64 + e.val % 128 % 64, by omega⟩ : Fin 2608) :=
  (pay10_at _ _ _ _ _).trans (BF_eq m c t p _ _ fun k => hwkv m c t k e)

theorem gate (c : Dev nD) (t : Fin cfg0.N) (p : Fin 128) (h : Fin 4) (l : Fin 128) :
    k0_pay3 (F := Ideal) (k0_pay8 (iblk m c 0 t) (iblk m c 1 t)) (iblk m c 4 t) (ix2 p (⟨h.val * 128 + l.val, by omega⟩ : Fin 512))
      = RG (A0 m c) (A1 m c) (A2 m c) (ix3 h p l) := by
  rw [RG_at, LP_at]
  refine (pay3_at _ _ _ _ _).trans (congrArg Ideal.logistic ?_)
  by_cases hl : l.val < 12
  · rw [dif_pos hl, LG_at]
    refine BF_eq m c t p _ _ fun k => (hwg m c t k _).trans ?_
    rw [dif_pos (by dsimp only; omega)]
    congr 2
    exact Fin.ext (by dsimp only; omega)
  · rw [dif_neg hl]
    refine BF_zero _ _ _ (fun k => (hwg m c t k _).trans ?_) p
    rw [dif_neg (by dsimp only; omega)]

/-- The queries. -/
theorem final5 (c : Dev nD) : (dats m 0 c).arrAt 5 cfg0.N = RQ (A0 m c) (A1 m c) (A2 m c) := by
  refine (dats m 0 c).arrAt_eq_of_covers 5 _ (by decide +kernel) fun t hf y => ?_
  blk_simp
  rw [after0_5]
  unfold outsAt0
  frame_out
  idx_vars y
  have he : ((View.whole main_v29_0).slice (win0_5.rect t)).emb (ix2 y0 y1) = ix2 y0 y1 := by
    blk_ext [idx t]
  rw [he, RQ_at]
  exact (pay9_at _ _ _ _ _).trans (BF_eq m c t y0 _ _ fun k => hwq m c t k y1)

set_option maxHeartbeats 1600000 in
/-- The keys and values. -/
theorem final6 (c : Dev nD) : (dats m 0 c).arrAt 6 cfg0.N = RKV (A0 m c) (A1 m c) (A2 m c) := by
  refine (dats m 0 c).arrAt_eq_of_covers 6 _ (by decide +kernel) fun t hf y => ?_
  blk_simp
  rw [after0_6]
  unfold outsAt0
  frame_out
  idx_vars y
  have he : ((View.whole main_v29_1).slice (win0_6.rect t)).emb (ix3 y0 y1 y2) = ix3 y0 y1 y2 := by
    blk_ext [idx t]
  rw [he, RKV_at]
  refine Eq.trans (b := k0_pay10 (F := Ideal) (iblk m c 0 t) (iblk m c 1 t) (iblk m c 3 t) (ix2 y1 (⟨y0.val * 128 + y2.val, by omega⟩ : Fin 1536))) ?_ ((keyval m c t y1 _).trans ?_)
  · clear he hf
    canon_tiles x h
    all_goals (change y0.val = _ at h0; change y1.val = _ at h1; change y2.val = _ at h2; open_payloads; pointwise; blk_ext)
  · have q1 : (y0.val * 128 + y2.val) / 128 = y0.val := by omega
    have q2 : (y0.val * 128 + y2.val) % 128 = y2.val := by omega
    exact congrArg (PF _ _ _ _) (Fin.ext (by dsimp only; rw [q1, q2]))

/-- The gates. -/
theorem final7 (c : Dev nD) : (dats m 0 c).arrAt 7 cfg0.N = RG (A0 m c) (A1 m c) (A2 m c) := by
  refine (dats m 0 c).arrAt_eq_of_covers 7 _ (by decide +kernel) fun t hf y => ?_
  blk_simp
  rw [after0_7]
  unfold outsAt0
  frame_out
  idx_vars y
  have he : ((View.whole main_v29_2).slice (win0_7.rect t)).emb (ix3 y0 y1 y2) = ix3 y0 y1 y2 := by
    blk_ext [idx t]
  rw [he]
  refine Eq.trans (b := k0_pay3 (F := Ideal) (k0_pay8 (iblk m c 0 t) (iblk m c 1 t)) (iblk m c 4 t) (ix2 y1 (⟨y0.val * 128 + y2.val, by omega⟩ : Fin 512))) ?_ (gate m c t y1 y0 y2)
  clear he hf
  canon_tiles x h
  all_goals (change y0.val = _ at h0; change y1.val = _ at h1; change y2.val = _ at h2; open_payloads; pointwise; blk_ext)

end Cert.ProjSIdeal.Value

end
-- ==== Proof.ProjSClaim.lean ====
/-
  The sparse attention's projections of the sample rows: the claim about its values, and the frame of its reference.
-/
module

public import proofs.«01_k».proof.Defs
public import proofs.«01_k».proof.Proof.ProjSValue
public import Idealize.ShloMosaic.Lib.Claim

@[expose] public section

set_option maxRecDepth 16384

noncomputable section

open Idealize.ShloMosaic Idealize.SL.Sem

namespace Cert.ProjSIdealAlg

/-- The reference runs to the end and leaves its arguments as they were. -/
theorem frame_ref : Cert.quiescent_ProjSRefIdeal := by
  intro m g _
  exact (θ_run Cert.ProjSRefIdeal.defs _ _).mono
    (fun r h => ⟨fun c => (h c).2.2.2, Idealize.ShloMosaic.sem_eq_zero_of_no_sems (by decide) r.2⟩)
    (Cert.ProjSRefIdeal.Value.run m g)

set_option maxHeartbeats 2000000 in
/-- On equal arguments the kernel and the reference end with the same queries, keys and values, and gates. -/
theorem algebraic : Cert.algebraic_ProjSIdeal_ProjSRefIdeal := by
  pair_intro
  · run_from Cert.ProjSIdeal.Gen.run_main m g
    · exact Cert.ProjSIdeal.Gen.V_main_arg1 m c
    · exact Cert.ProjSIdeal.Gen.V_main_arg2 m c
    · exact Cert.ProjSIdeal.Gen.V_main_arg3 m c
  · run_from Cert.ProjSRefIdeal.Value.run m' g'
    · exact (Cert.ProjSIdeal.Value.final5 m c).symm
    · exact (Cert.ProjSIdeal.Value.final6 m c).symm
    · exact (Cert.ProjSIdeal.Value.final7 m c).symm

end Cert.ProjSIdealAlg

end
-- ==== Proof.PoolMath.lean ====
/-
  The pooling of the prompt rows: the reference's arrays and what the kernel stores, read at one index.
-/
module

public import proofs.«01_k».proof.Proof.Gen.PoolIdeal.Value
public import proofs.«01_k».proof.Proof.Gen.PoolRefIdeal.Run
public import Idealize.ShloMosaic.Lib.Pipeline.ValueKit
public import Idealize.ShloMosaic.Lib.Pointwise
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.PoolIdeal.Value

open Cert.PoolIdeal Cert.PoolIdeal.Gen

/-- The rows, by batch. -/
def XP (a0 : FVec Ideal S16384x1024 .f32) : FVec Ideal Cert.PoolRefIdeal.S4x4096x1024 .f32 :=
  shapeCast Cert.PoolRefIdeal.S4x4096x1024 a0 Cert.PoolRefIdeal.Gen.shapeCasts_S16384x1024_S4x4096x1024

/-- The normalised rows. -/
def XN (a0 : FVec Ideal S16384x1024 .f32) (a1 : FVec Ideal S1024 .f32) : FVec Ideal Cert.PoolRefIdeal.S4x4096x1024 .f32 :=
  mulf (mulf (XP a0) (broadcastInDim Cert.PoolRefIdeal.S4x4096x1024 ![0, 1, 2] Cert.PoolRefIdeal.Gen.bcast_S4x4096x1_S4x4096x1024_0_1_2 (Host.rsqrt (addf (Host.divf (broadcastInDim Cert.PoolRefIdeal.S4x4096x1 ![0, 1] Cert.PoolRefIdeal.Gen.bcast_S4x4096_S4x4096x1_0_1 (Host.reduceAdd (mulf (XP a0) (XP a0)) (constant Cert.PoolRefIdeal.S_ .f32 0x00000000#32) Cert.PoolRefIdeal.Gen.reducesTo_S4x4096x1024_S4x4096_d2 Cert.PoolRefIdeal.Gen.h_S_)) (broadcastInDim Cert.PoolRefIdeal.S4x4096x1 ![] Cert.PoolRefIdeal.Gen.bcast_S_S4x4096x1 (constant Cert.PoolRefIdeal.S_ .f32 0x44800000#32))) (broadcastInDim Cert.PoolRefIdeal.S4x4096x1 ![] Cert.PoolRefIdeal.Gen.bcast_S_S4x4096x1 (constant Cert.PoolRefIdeal.S_ .f32 0x358637BD#32)))))) (broadcastInDim Cert.PoolRefIdeal.S4x4096x1024 ![0, 1, 2] Cert.PoolRefIdeal.Gen.bcast_S1x1x1024_S4x4096x1024_0_1_2 (broadcastInDim Cert.PoolRefIdeal.S1x1x1024 ![2] Cert.PoolRefIdeal.Gen.bcast_S1024_S1x1x1024_2 a1))

/-- The normalised rows behind fifteen rows of zeros. -/
def XC (a0 : FVec Ideal S16384x1024 .f32) (a1 : FVec Ideal S1024 .f32) : FVec Ideal Cert.PoolRefIdeal.S4x4111x1024 .f32 :=
  concatenate Cert.PoolRefIdeal.S4x4111x1024 1 [⟨Cert.PoolRefIdeal.S4x15x1024, (broadcastInDim Cert.PoolRefIdeal.S4x15x1024 ![] Cert.PoolRefIdeal.Gen.bcast_S_S4x15x1024 (constant Cert.PoolRefIdeal.S_ .f32 0x00000000#32))⟩, ⟨Cert.PoolRefIdeal.S4x4096x1024, (XN a0 a1)⟩] Cert.PoolRefIdeal.Gen.concatenates_S4x15x1024_S4x4096x1024_S4x4111x1024_d1

/-- The sums over two rows, for the first group of columns. -/
def SUM2 (a0 : FVec Ideal S16384x1024 .f32) (a1 : FVec Ideal S1024 .f32) : FVec Ideal Cert.PoolRefIdeal.S4x4096x256 .f32 :=
  addf (extractStridedSlice Cert.PoolRefIdeal.S4x4096x256 ![0, 15, 0] (XC a0 a1) Cert.PoolRefIdeal.Gen.slices_S4x4111x1024_S4x4096x256_0_15_0) (extractStridedSlice Cert.PoolRefIdeal.S4x4096x256 ![0, 14, 0] (XC a0 a1) Cert.PoolRefIdeal.Gen.slices_S4x4111x1024_S4x4096x256_0_14_0)

/-- The averages over two rows, or over the rows there are. -/
def AVG2 (a0 : FVec Ideal S16384x1024 .f32) (a1 : FVec Ideal S1024 .f32) : FVec Ideal Cert.PoolRefIdeal.S4x4096x256 .f32 :=
  Host.divf (SUM2 a0 a1) (broadcastInDim Cert.PoolRefIdeal.S4x4096x256 ![0, 1, 2] Cert.PoolRefIdeal.Gen.bcast_S1x4096x1_S4x4096x256_0_1_2 (broadcastInDim Cert.PoolRefIdeal.S1x4096x1 ![1] Cert.PoolRefIdeal.Gen.bcast_S4096_S1x4096x1_1 (sitofp .f32 (minsi (addi (iotaInDim Cert.PoolRefIdeal.S4096 32 0) (broadcastInDim Cert.PoolRefIdeal.S4096 ![] Cert.PoolRefIdeal.Gen.bcast_S_S4096 (constantI Cert.PoolRefIdeal.S_ 32 1#32))) (broadcastInDim Cert.PoolRefIdeal.S4096 ![] Cert.PoolRefIdeal.Gen.bcast_S_S4096 (constantI Cert.PoolRefIdeal.S_ 32 2#32))))))

/-- The sums over four rows, for the second group of columns. -/
def SUM4 (a0 : FVec Ideal S16384x1024 .f32) (a1 : FVec Ideal S1024 .f32) : FVec Ideal Cert.PoolRefIdeal.S4x4096x256 .f32 :=
  addf (addf (addf (extractStridedSlice Cert.PoolRefIdeal.S4x4096x256 ![0, 15, 256] (XC a0 a1) Cert.PoolRefIdeal.Gen.slices_S4x4111x1024_S4x4096x256_0_15_256) (extractStridedSlice Cert.PoolRefIdeal.S4x4096x256 ![0, 14, 256] (XC a0 a1) Cert.PoolRefIdeal.Gen.slices_S4x4111x1024_S4x4096x256_0_14_256)) (extractStridedSlice Cert.PoolRefIdeal.S4x4096x256 ![0, 13, 256] (XC a0 a1) Cert.PoolRefIdeal.Gen.slices_S4x4111x1024_S4x4096x256_0_13_256)) (extractStridedSlice Cert.PoolRefIdeal.S4x4096x256 ![0, 12, 256] (XC a0 a1) Cert.PoolRefIdeal.Gen.slices_S4x4111x1024_S4x4096x256_0_12_256)

/-- The averages over four rows, or over the rows there are. -/
def AVG4 (a0 : FVec Ideal S16384x1024 .f32) (a1 : FVec Ideal S1024 .f32) : FVec Ideal Cert.PoolRefIdeal.S4x4096x256 .f32 :=
  Host.divf (SUM4 a0 a1) (broadcastInDim Cert.PoolRefIdeal.S4x4096x256 ![0, 1, 2] Cert.PoolRefIdeal.Gen.bcast_S1x4096x1_S4x4096x256_0_1_2 (broadcastInDim Cert.PoolRefIdeal.S1x4096x1 ![1] Cert.PoolRefIdeal.Gen.bcast_S4096_S1x4096x1_1 (sitofp .f32 (minsi (addi (iotaInDim Cert.PoolRefIdeal.S4096 32 0) (broadcastInDim Cert.PoolRefIdeal.S4096 ![] Cert.PoolRefIdeal.Gen.bcast_S_S4096 (constantI Cert.PoolRefIdeal.S_ 32 1#32))) (broadcastInDim Cert.PoolRefIdeal.S4096 ![] Cert.PoolRefIdeal.Gen.bcast_S_S4096 (constantI Cert.PoolRefIdeal.S_ 32 4#32))))))

/-- The sums over eight rows, for the third group of columns. -/
def SUM8 (a0 : FVec Ideal S16384x1024 .f32) (a1 : FVec Ideal S1024 .f32) : FVec Ideal Cert.PoolRefIdeal.S4x4096x256 .f32 :=
  addf (addf (addf (addf (addf (addf (addf (extractStridedSlice Cert.PoolRefIdeal.S4x4096x256 ![0, 15, 512] (XC a0 a1) Cert.PoolRefIdeal.Gen.slices_S4x4111x1024_S4x4096x256_0_15_512) (extractStridedSlice Cert.PoolRefIdeal.S4x4096x256 ![0, 14, 512] (XC a0 a1) Cert.PoolRefIdeal.Gen.slices_S4x4111x1024_S4x4096x256_0_14_512)) (extractStridedSlice Cert.PoolRefIdeal.S4x4096x256 ![0, 13, 512] (XC a0 a1) Cert.PoolRefIdeal.Gen.slices_S4x4111x1024_S4x4096x256_0_13_512)) (extractStridedSlice Cert.PoolRefIdeal.S4x4096x256 ![0, 12, 512] (XC a0 a1) Cert.PoolRefIdeal.Gen.slices_S4x4111x1024_S4x4096x256_0_12_512)) (extractStridedSlice Cert.PoolRefIdeal.S4x4096x256 ![0, 11, 512] (XC a0 a1) Cert.PoolRefIdeal.Gen.slices_S4x4111x1024_S4x4096x256_0_11_512)) (extractStridedSlice Cert.PoolRefIdeal.S4x4096x256 ![0, 10, 512] (XC a0 a1) Cert.PoolRefIdeal.Gen.slices_S4x4111x1024_S4x4096x256_0_10_512)) (extractStridedSlice Cert.PoolRefIdeal.S4x4096x256 ![0, 9, 512] (XC a0 a1) Cert.PoolRefIdeal.Gen.slices_S4x4111x1024_S4x4096x256_0_9_512)) (extractStridedSlice Cert.PoolRefIdeal.S4x4096x256 ![0, 8, 512] (XC a0 a1) Cert.PoolRefIdeal.Gen.slices_S4x4111x1024_S4x4096x256_0_8_512)

/-- The averages over eight rows, or over the rows there are. -/
def AVG8 (a0 : FVec Ideal S16384x1024 .f32) (a1 : FVec Ideal S1024 .f32) : FVec Ideal Cert.PoolRefIdeal.S4x4096x256 .f32 :=
  Host.divf (SUM8 a0 a1) (broadcastInDim Cert.PoolRefIdeal.S4x4096x256 ![0, 1, 2] Cert.PoolRefIdeal.Gen.bcast_S1x4096x1_S4x4096x256_0_1_2 (broadcastInDim Cert.PoolRefIdeal.S1x4096x1 ![1] Cert.PoolRefIdeal.Gen.bcast_S4096_S1x4096x1_1 (sitofp .f32 (minsi (addi (iotaInDim Cert.PoolRefIdeal.S4096 32 0) (broadcastInDim Cert.PoolRefIdeal.S4096 ![] Cert.PoolRefIdeal.Gen.bcast_S_S4096 (constantI Cert.PoolRefIdeal.S_ 32 1#32))) (broadcastInDim Cert.PoolRefIdeal.S4096 ![] Cert.PoolRefIdeal.Gen.bcast_S_S4096 (constantI Cert.PoolRefIdeal.S_ 32 8#32))))))

/-- The sums over sixteen rows, for the last group of columns. -/
def SUM16 (a0 : FVec Ideal S16384x1024 .f32) (a1 : FVec Ideal S1024 .f32) : FVec Ideal Cert.PoolRefIdeal.S4x4096x256 .f32 :=
  addf (addf (addf (addf (addf (addf (addf (addf (addf (addf (addf (addf (addf (addf (addf (extractStridedSlice Cert.PoolRefIdeal.S4x4096x256 ![0, 15, 768] (XC a0 a1) Cert.PoolRefIdeal.Gen.slices_S4x4111x1024_S4x4096x256_0_15_768) (extractStridedSlice Cert.PoolRefIdeal.S4x4096x256 ![0, 14, 768] (XC a0 a1) Cert.PoolRefIdeal.Gen.slices_S4x4111x1024_S4x4096x256_0_14_768)) (extractStridedSlice Cert.PoolRefIdeal.S4x4096x256 ![0, 13, 768] (XC a0 a1) Cert.PoolRefIdeal.Gen.slices_S4x4111x1024_S4x4096x256_0_13_768)) (extractStridedSlice Cert.PoolRefIdeal.S4x4096x256 ![0, 12, 768] (XC a0 a1) Cert.PoolRefIdeal.Gen.slices_S4x4111x1024_S4x4096x256_0_12_768)) (extractStridedSlice Cert.PoolRefIdeal.S4x4096x256 ![0, 11, 768] (XC a0 a1) Cert.PoolRefIdeal.Gen.slices_S4x4111x1024_S4x4096x256_0_11_768)) (extractStridedSlice Cert.PoolRefIdeal.S4x4096x256 ![0, 10, 768] (XC a0 a1) Cert.PoolRefIdeal.Gen.slices_S4x4111x1024_S4x4096x256_0_10_768)) (extractStridedSlice Cert.PoolRefIdeal.S4x4096x256 ![0, 9, 768] (XC a0 a1) Cert.PoolRefIdeal.Gen.slices_S4x4111x1024_S4x4096x256_0_9_768)) (extractStridedSlice Cert.PoolRefIdeal.S4x4096x256 ![0, 8, 768] (XC a0 a1) Cert.PoolRefIdeal.Gen.slices_S4x4111x1024_S4x4096x256_0_8_768)) (extractStridedSlice Cert.PoolRefIdeal.S4x4096x256 ![0, 7, 768] (XC a0 a1) Cert.PoolRefIdeal.Gen.slices_S4x4111x1024_S4x4096x256_0_7_768)) (extractStridedSlice Cert.PoolRefIdeal.S4x4096x256 ![0, 6, 768] (XC a0 a1) Cert.PoolRefIdeal.Gen.slices_S4x4111x1024_S4x4096x256_0_6_768)) (extractStridedSlice Cert.PoolRefIdeal.S4x4096x256 ![0, 5, 768] (XC a0 a1) Cert.PoolRefIdeal.Gen.slices_S4x4111x1024_S4x4096x256_0_5_768)) (extractStridedSlice Cert.PoolRefIdeal.S4x4096x256 ![0, 4, 768] (XC a0 a1) Cert.PoolRefIdeal.Gen.slices_S4x4111x1024_S4x4096x256_0_4_768)) (extractStridedSlice Cert.PoolRefIdeal.S4x4096x256 ![0, 3, 768] (XC a0 a1) Cert.PoolRefIdeal.Gen.slices_S4x4111x1024_S4x4096x256_0_3_768)) (extractStridedSlice Cert.PoolRefIdeal.S4x4096x256 ![0, 2, 768] (XC a0 a1) Cert.PoolRefIdeal.Gen.slices_S4x4111x1024_S4x4096x256_0_2_768)) (extractStridedSlice Cert.PoolRefIdeal.S4x4096x256 ![0, 1, 768] (XC a0 a1) Cert.PoolRefIdeal.Gen.slices_S4x4111x1024_S4x4096x256_0_1_768)) (extractStridedSlice Cert.PoolRefIdeal.S4x4096x256 ![0, 0, 768] (XC a0 a1) Cert.PoolRefIdeal.Gen.slices_S4x4111x1024_S4x4096x256_0_0_768)

/-- The averages over sixteen rows, or over the rows there are. -/
def AVG16 (a0 : FVec Ideal S16384x1024 .f32) (a1 : FVec Ideal S1024 .f32) : FVec Ideal Cert.PoolRefIdeal.S4x4096x256 .f32 :=
  Host.divf (SUM16 a0 a1) (broadcastInDim Cert.PoolRefIdeal.S4x4096x256 ![0, 1, 2] Cert.PoolRefIdeal.Gen.bcast_S1x4096x1_S4x4096x256_0_1_2 (broadcastInDim Cert.PoolRefIdeal.S1x4096x1 ![1] Cert.PoolRefIdeal.Gen.bcast_S4096_S1x4096x1_1 (sitofp .f32 (minsi (addi (iotaInDim Cert.PoolRefIdeal.S4096 32 0) (broadcastInDim Cert.PoolRefIdeal.S4096 ![] Cert.PoolRefIdeal.Gen.bcast_S_S4096 (constantI Cert.PoolRefIdeal.S_ 32 1#32))) (broadcastInDim Cert.PoolRefIdeal.S4096 ![] Cert.PoolRefIdeal.Gen.bcast_S_S4096 (constantI Cert.PoolRefIdeal.S_ 32 16#32))))))

/-- The averages less the rows. -/
def DIF (a0 : FVec Ideal S16384x1024 .f32) (a1 : FVec Ideal S1024 .f32) : FVec Ideal Cert.PoolRefIdeal.S4x4096x1024 .f32 :=
  subf (concatenate Cert.PoolRefIdeal.S4x4096x1024 2 [⟨Cert.PoolRefIdeal.S4x4096x256, (AVG2 a0 a1)⟩, ⟨Cert.PoolRefIdeal.S4x4096x256, (AVG4 a0 a1)⟩, ⟨Cert.PoolRefIdeal.S4x4096x256, (AVG8 a0 a1)⟩, ⟨Cert.PoolRefIdeal.S4x4096x256, (AVG16 a0 a1)⟩] Cert.PoolRefIdeal.Gen.concatenates_S4x4096x256_S4x4096x256_S4x4096x256_S4x4096x256_S4x4096x1024_d2) (XN a0 a1)

/-- The differences times the weights of their group. -/
def MIX (a0 : FVec Ideal S16384x1024 .f32) (a1 : FVec Ideal S1024 .f32) (a2 : FVec Ideal S4x256x256 .f32) : FVec Ideal Cert.PoolRefIdeal.S4x4096x4x256 .f32 :=
  transpose Cert.PoolRefIdeal.S4x4096x4x256 [2, 3, 0, 1] (Host.dotGeneral Cert.PoolRefIdeal.dot_S4x256x256_S4x4096x4x256_S4x256x4x4096_1_3_2_01_0_2 none a2 (shapeCast Cert.PoolRefIdeal.S4x4096x4x256 (DIF a0 a1) Cert.PoolRefIdeal.Gen.shapeCasts_S4x4096x1024_S4x4096x4x256)) Cert.PoolRefIdeal.Gen.transposes_S4x256x4x4096_S4x4096x4x256_2_3_0_1

/-- The second result: the last fifteen normalised rows. -/
def STATE (a0 : FVec Ideal S16384x1024 .f32) (a1 : FVec Ideal S1024 .f32) : FVec Ideal Cert.PoolRefIdeal.S4x15x1024 .f32 :=
  extractStridedSlice Cert.PoolRefIdeal.S4x15x1024 ![0, 4096, 0] (XC a0 a1) Cert.PoolRefIdeal.Gen.slices_S4x4111x1024_S4x15x1024_0_4096_0

/-- The first result: the rows with the scaled mix added. -/
def REF (a0 : FVec Ideal S16384x1024 .f32) (a1 : FVec Ideal S1024 .f32) (a2 : FVec Ideal S4x256x256 .f32) (a3 : FVec Ideal S1024 .f32) : FVec Ideal Cert.PoolRefIdeal.S16384x1024 .f32 :=
  shapeCast Cert.PoolRefIdeal.S16384x1024 (addf (XP a0) (mulf (shapeCast Cert.PoolRefIdeal.S4x4096x1024 (MIX a0 a1 a2) Cert.PoolRefIdeal.Gen.shapeCasts_S4x4096x4x256_S4x4096x1024) (broadcastInDim Cert.PoolRefIdeal.S4x4096x1024 ![0, 1, 2] Cert.PoolRefIdeal.Gen.bcast_S1x1x1024_S4x4096x1024_0_1_2 (broadcastInDim Cert.PoolRefIdeal.S1x1x1024 ![2] Cert.PoolRefIdeal.Gen.bcast_S1024_S1x1x1024_2 a3)))) Cert.PoolRefIdeal.Gen.shapeCasts_S4x4096x1024_S16384x1024

/-! ## The reference's steps at an index -/

theorem XP_at (x : FVec Ideal S16384x1024 .f32) (b : Fin 4) (s : Fin 4096) (r : Fin 16384)
    (hr : r.val = b.val * 4096 + s.val) (k : Fin 1024) : XP x (ix3 b s k) = x (ix2 r k) := by
  pointwise [XP]; blk_ext []

theorem XN_at (x : FVec Ideal S16384x1024 .f32) (g : FVec Ideal S1024 .f32) (b : Fin 4) (s : Fin 4096) (r : Fin 16384)
    (hr : r.val = b.val * 4096 + s.val) (k : Fin 1024) :
    XN x g (ix3 b s k) = x (ix2 r k) * Ideal.rsqrt (Ideal.div (∑ l : Fin 1024, x (ix2 r l) * x (ix2 r l))
      (Ideal.ofBits .f32 0x44800000#32) + Ideal.ofBits .f32 0x358637BD#32) * g (ix1 k) := by
  have h : XN x g (ix3 b s k) = XP x (ix3 b s k) * Ideal.rsqrt (Ideal.div (∑ l : Fin 1024, XP x (ix3 b s l) * XP x (ix3 b s l))
      (Ideal.ofBits .f32 0x44800000#32) + Ideal.ofBits .f32 0x358637BD#32) * g (ix1 k) := by
    pointwise [XN]
  rw [h]; simp only [XP_at x b s r hr]

theorem XC_at (x : FVec Ideal S16384x1024 .f32) (g : FVec Ideal S1024 .f32) (b : Fin 4) (i : Fin 4111) (k : Fin 1024) :
    XC x g (ix3 b i k) = if h : i.val < 15 then 0 else XN x g (ix3 b (⟨i.val - 15, by omega⟩ : Fin 4096) k) := by
  unfold XC
  generalize XN x g = U
  pointwise []

/-- Row `j` of the normalised rows behind the zeros, by its number. -/
def xc (x : FVec Ideal S16384x1024 .f32) (g : FVec Ideal S1024 .f32) (b : Fin 4) (k : Fin 1024) (j : ℕ) : EReal :=
  if h : j < 4111 then XC x g (ix3 b (⟨j, h⟩ : Fin 4111) k) else 0

theorem xc_eq (x : FVec Ideal S16384x1024 .f32) (g : FVec Ideal S1024 .f32) (b : Fin 4) (k : Fin 1024) (i : Fin 4111) (j : ℕ) (h : i.val = j) :
    XC x g (ix3 b i k) = xc x g b k j := by
  subst h; rw [xc, dif_pos i.isLt]

theorem STATE_at (x : FVec Ideal S16384x1024 .f32) (g : FVec Ideal S1024 .f32) (b : Fin 4) (i : Fin 15) (k : Fin 1024) :
    STATE x g (ix3 b i k) = XN x g (ix3 b (⟨i.val + 4081, by omega⟩ : Fin 4096) k) := by
  have h : STATE x g (ix3 b i k) = XC x g (ix3 b (⟨i.val + 4096, by omega⟩ : Fin 4111) k) := by
    unfold STATE
    generalize XC x g = U
    pointwise []; blk_ext []
  rw [h, XC_at, dif_neg (by dsimp only; omega)]
  rfl

theorem SUM2_at (x : FVec Ideal S16384x1024 .f32) (g : FVec Ideal S1024 .f32) (b : Fin 4) (s : Fin 4096) (e : Fin 256) (k : Fin 1024) (hk : (⟨e.val, by omega⟩ : Fin 1024) = k) :
    SUM2 x g (ix3 b s e) = xc x g b k (s.val + 15) + xc x g b k (s.val + 14) := by
  subst hk
  have q := fun i j h => xc_eq x g b (⟨e.val, by omega⟩ : Fin 1024) i j h
  unfold SUM2
  rw [← q ⟨15 + s.val, by omega⟩ (s.val + 15) (by dsimp only; omega), ← q ⟨14 + s.val, by omega⟩ (s.val + 14) (by dsimp only; omega)]
  generalize XC x g = U
  pointwise []

theorem SUM4_at (x : FVec Ideal S16384x1024 .f32) (g : FVec Ideal S1024 .f32) (b : Fin 4) (s : Fin 4096) (e : Fin 256) (k : Fin 1024) (hk : (⟨256 + e.val, by omega⟩ : Fin 1024) = k) :
    SUM4 x g (ix3 b s e) = xc x g b k (s.val + 15) + xc x g b k (s.val + 14) + xc x g b k (s.val + 13) + xc x g b k (s.val + 12) := by
  subst hk
  have q := fun i j h => xc_eq x g b (⟨256 + e.val, by omega⟩ : Fin 1024) i j h
  unfold SUM4
  rw [← q ⟨15 + s.val, by omega⟩ (s.val + 15) (by dsimp only; omega), ← q ⟨14 + s.val, by omega⟩ (s.val + 14) (by dsimp only; omega), ← q ⟨13 + s.val, by omega⟩ (s.val + 13) (by dsimp only; omega), ← q ⟨12 + s.val, by omega⟩ (s.val + 12) (by dsimp only; omega)]
  generalize XC x g = U
  pointwise []

theorem SUM8_at (x : FVec Ideal S16384x1024 .f32) (g : FVec Ideal S1024 .f32) (b : Fin 4) (s : Fin 4096) (e : Fin 256) (k : Fin 1024) (hk : (⟨512 + e.val, by omega⟩ : Fin 1024) = k) :
    SUM8 x g (ix3 b s e) = xc x g b k (s.val + 15) + xc x g b k (s.val + 14) + xc x g b k (s.val + 13) + xc x g b k (s.val + 12) + xc x g b k (s.val + 11) + xc x g b k (s.val + 10) + xc x g b k (s.val + 9) + xc x g b k (s.val + 8) := by
  subst hk
  have q := fun i j h => xc_eq x g b (⟨512 + e.val, by omega⟩ : Fin 1024) i j h
  unfold SUM8
  rw [← q ⟨15 + s.val, by omega⟩ (s.val + 15) (by dsimp only; omega), ← q ⟨14 + s.val, by omega⟩ (s.val + 14) (by dsimp only; omega), ← q ⟨13 + s.val, by omega⟩ (s.val + 13) (by dsimp only; omega), ← q ⟨12 + s.val, by omega⟩ (s.val + 12) (by dsimp only; omega), ← q ⟨11 + s.val, by omega⟩ (s.val + 11) (by dsimp only; omega), ← q ⟨10 + s.val, by omega⟩ (s.val + 10) (by dsimp only; omega), ← q ⟨9 + s.val, by omega⟩ (s.val + 9) (by dsimp only; omega), ← q ⟨8 + s.val, by omega⟩ (s.val + 8) (by dsimp only; omega)]
  generalize XC x g = U
  pointwise []

theorem SUM16_at (x : FVec Ideal S16384x1024 .f32) (g : FVec Ideal S1024 .f32) (b : Fin 4) (s : Fin 4096) (e : Fin 256) (k : Fin 1024) (hk : (⟨768 + e.val, by omega⟩ : Fin 1024) = k) :
    SUM16 x g (ix3 b s e) = xc x g b k (s.val + 15) + xc x g b k (s.val + 14) + xc x g b k (s.val + 13) + xc x g b k (s.val + 12) + xc x g b k (s.val + 11) + xc x g b k (s.val + 10) + xc x g b k (s.val + 9) + xc x g b k (s.val + 8) + xc x g b k (s.val + 7) + xc x g b k (s.val + 6) + xc x g b k (s.val + 5) + xc x g b k (s.val + 4) + xc x g b k (s.val + 3) + xc x g b k (s.val + 2) + xc x g b k (s.val + 1) + xc x g b k s.val := by
  subst hk
  have q := fun i j h => xc_eq x g b (⟨768 + e.val, by omega⟩ : Fin 1024) i j h
  unfold SUM16
  rw [← q ⟨15 + s.val, by omega⟩ (s.val + 15) (by dsimp only; omega), ← q ⟨14 + s.val, by omega⟩ (s.val + 14) (by dsimp only; omega), ← q ⟨13 + s.val, by omega⟩ (s.val + 13) (by dsimp only; omega), ← q ⟨12 + s.val, by omega⟩ (s.val + 12) (by dsimp only; omega), ← q ⟨11 + s.val, by omega⟩ (s.val + 11) (by dsimp only; omega), ← q ⟨10 + s.val, by omega⟩ (s.val + 10) (by dsimp only; omega), ← q ⟨9 + s.val, by omega⟩ (s.val + 9) (by dsimp only; omega), ← q ⟨8 + s.val, by omega⟩ (s.val + 8) (by dsimp only; omega), ← q ⟨7 + s.val, by omega⟩ (s.val + 7) (by dsimp only; omega), ← q ⟨6 + s.val, by omega⟩ (s.val + 6) (by dsimp only; omega), ← q ⟨5 + s.val, by omega⟩ (s.val + 5) (by dsimp only; omega), ← q ⟨4 + s.val, by omega⟩ (s.val + 4) (by dsimp only; omega), ← q ⟨3 + s.val, by omega⟩ (s.val + 3) (by dsimp only; omega), ← q ⟨2 + s.val, by omega⟩ (s.val + 2) (by dsimp only; omega), ← q ⟨1 + s.val, by omega⟩ (s.val + 1) (by dsimp only; omega), ← q ⟨s.val, by omega⟩ s.val rfl]
  generalize XC x g = U
  pointwise []

/-- The count of rows a window of `w` covers at row `s`. -/
def cnt (s : ℕ) (w : BitVec 32) : EReal :=
  FloatOps.sitofp (F := Ideal) .f32 (IntOp.minsi (IntOp.addi (BitVec.ofNat 32 s) 1#32) w)

theorem AVG2_at (x : FVec Ideal S16384x1024 .f32) (g : FVec Ideal S1024 .f32) (b : Fin 4) (s : Fin 4096) (e : Fin 256) :
    AVG2 x g (ix3 b s e) = Ideal.div (SUM2 x g (ix3 b s e)) (cnt s.val 2#32) := by
  unfold AVG2
  generalize SUM2 x g = U
  pointwise [cnt]

theorem AVG4_at (x : FVec Ideal S16384x1024 .f32) (g : FVec Ideal S1024 .f32) (b : Fin 4) (s : Fin 4096) (e : Fin 256) :
    AVG4 x g (ix3 b s e) = Ideal.div (SUM4 x g (ix3 b s e)) (cnt s.val 4#32) := by
  unfold AVG4
  generalize SUM4 x g = U
  pointwise [cnt]

theorem AVG8_at (x : FVec Ideal S16384x1024 .f32) (g : FVec Ideal S1024 .f32) (b : Fin 4) (s : Fin 4096) (e : Fin 256) :
    AVG8 x g (ix3 b s e) = Ideal.div (SUM8 x g (ix3 b s e)) (cnt s.val 8#32) := by
  unfold AVG8
  generalize SUM8 x g = U
  pointwise [cnt]

theorem AVG16_at (x : FVec Ideal S16384x1024 .f32) (g : FVec Ideal S1024 .f32) (b : Fin 4) (s : Fin 4096) (e : Fin 256) :
    AVG16 x g (ix3 b s e) = Ideal.div (SUM16 x g (ix3 b s e)) (cnt s.val 16#32) := by
  unfold AVG16
  generalize SUM16 x g = U
  pointwise [cnt]

/-- The group of a column and the column inside it. -/
theorem DIF_at (x : FVec Ideal S16384x1024 .f32) (g : FVec Ideal S1024 .f32) (b : Fin 4) (s : Fin 4096) (e : Fin 256) :
    DIF x g (ix3 b s (⟨e.val, by omega⟩ : Fin 1024)) = AVG2 x g (ix3 b s e) - XN x g (ix3 b s (⟨e.val, by omega⟩ : Fin 1024))
    ∧ DIF x g (ix3 b s (⟨256 + e.val, by omega⟩ : Fin 1024)) = AVG4 x g (ix3 b s e) - XN x g (ix3 b s (⟨256 + e.val, by omega⟩ : Fin 1024))
    ∧ DIF x g (ix3 b s (⟨512 + e.val, by omega⟩ : Fin 1024)) = AVG8 x g (ix3 b s e) - XN x g (ix3 b s (⟨512 + e.val, by omega⟩ : Fin 1024))
    ∧ DIF x g (ix3 b s (⟨768 + e.val, by omega⟩ : Fin 1024)) = AVG16 x g (ix3 b s e) - XN x g (ix3 b s (⟨768 + e.val, by omega⟩ : Fin 1024)) := by
  unfold DIF
  generalize AVG2 x g = U2
  generalize AVG4 x g = U4
  generalize AVG8 x g = U8
  generalize AVG16 x g = U16
  generalize XN x g = X
  have he := e.isLt
  refine ⟨?_, ?_, ?_, ?_⟩
  · pointwise []
  · pointwise []
  · pointwise []
    rw [dif_neg (by first | omega | (simp; done) | (simp; omega)), dif_neg (by first | omega | (simp; done) | (simp; omega)), dif_pos (by first | omega | (simp; done) | (simp; omega))]
    refine congrArg (· - _) ?_
    blk_ext []
  · pointwise []
    rw [dif_neg (by first | omega | (simp; done) | (simp; omega)), dif_neg (by first | omega | (simp; done) | (simp; omega)), dif_neg (by first | omega | (simp; done) | (simp; omega))]
    refine congrArg (· - _) ?_
    blk_ext []

theorem MIX_at (x : FVec Ideal S16384x1024 .f32) (g : FVec Ideal S1024 .f32) (w : FVec Ideal S4x256x256 .f32) (b : Fin 4) (s : Fin 4096) (i : Fin 4) (e : Fin 256) :
    MIX x g w (ix4 b s i e) = ∑ l : Fin 256, DIF x g (ix3 b s (⟨i.val * 256 + l.val, by omega⟩ : Fin 1024)) * w (ix3 i l e) := by
  unfold MIX
  generalize DIF x g = D
  pointwise []
  refine Finset.sum_congr rfl fun l _ => ?_
  rw [mul_comm]

theorem REF_at (x : FVec Ideal S16384x1024 .f32) (g : FVec Ideal S1024 .f32) (w : FVec Ideal S4x256x256 .f32) (sc : FVec Ideal S1024 .f32)
    (b : Fin 4) (s : Fin 4096) (i : Fin 4) (e : Fin 256) (r : Fin 16384) (hr : r.val = b.val * 4096 + s.val) (k : Fin 1024) (hk : k.val = i.val * 256 + e.val) :
    REF x g w sc (ix2 r k) = x (ix2 r k) + MIX x g w (ix4 b s i e) * sc (ix1 k) := by
  rw [← XP_at x b s r hr]
  have h1 : ∀ T : FVec Ideal Cert.PoolRefIdeal.S4x4096x1024 .f32, shapeCast Cert.PoolRefIdeal.S16384x1024 T Cert.PoolRefIdeal.Gen.shapeCasts_S4x4096x1024_S16384x1024 (ix2 r k) = T (ix3 b s k) := by
    intro T; pointwise []; blk_ext []
  have h2 : ∀ T : FVec Ideal Cert.PoolRefIdeal.S4x4096x4x256 .f32, shapeCast Cert.PoolRefIdeal.S4x4096x1024 T Cert.PoolRefIdeal.Gen.shapeCasts_S4x4096x4x256_S4x4096x1024 (ix3 b s k) = T (ix4 b s i e) := by
    intro T; pointwise []; blk_ext []
  unfold REF
  rw [h1, ← h2 (MIX x g w)]
  generalize shapeCast Cert.PoolRefIdeal.S4x4096x1024 (MIX x g w) Cert.PoolRefIdeal.Gen.shapeCasts_S4x4096x4x256_S4x4096x1024 = M
  pointwise []

/-! ## The kernel's payloads at an index -/

theorem pay5_at (x : Vec Ideal S512x1024 .f32) (g : Vec Ideal S1x1024 .f32) (p : Fin 512) (k : Fin 1024) :
    k0_pay5 x g (ix2 p k) = x (ix2 p k) * Ideal.rsqrt (Ideal.div (∑ l : Fin 1024, x (ix2 p l) * x (ix2 p l))
      (Ideal.ofBits .f32 0x44800000#32) + Ideal.ofBits .f32 0x358637BD#32) * g (ix2 (0 : Fin 1) k) := by
  pointwise [k0_pay5]

/-- The carried rows, then the block's. -/
def CAT (C : Vec Ideal S16x1024 .f32) (U : FVec Ideal S512x1024 .f32) : FVec Ideal S528x1024 .f32 :=
  concatenate S528x1024 0 [⟨S16x1024, C⟩, ⟨S512x1024, U⟩] concatenates_S16x1024_S512x1024_S528x1024_d0

theorem CAT_at (C : Vec Ideal S16x1024 .f32) (U : FVec Ideal S512x1024 .f32) (q : Fin 528) (k : Fin 1024) :
    CAT C U (ix2 q k) = if h : q.val < 16 then C (ix2 (⟨q.val, h⟩ : Fin 16) k) else U (ix2 (⟨q.val - 16, by omega⟩ : Fin 512) k) := by
  pointwise [CAT]

/-- Row `j` of the two together, by its number. -/
def cat (C : Vec Ideal S16x1024 .f32) (U : FVec Ideal S512x1024 .f32) (k : Fin 1024) (j : ℕ) : EReal :=
  if h : j < 528 then CAT C U (ix2 (⟨j, h⟩ : Fin 528) k) else 0

theorem cat_eq (C : Vec Ideal S16x1024 .f32) (U : FVec Ideal S512x1024 .f32) (k : Fin 1024) (i : Fin 528) (j : ℕ) (h : i.val = j) :
    CAT C U (ix2 i k) = cat C U k j := by
  subst h; rw [cat, dif_pos i.isLt]

/-- A rotation along the rows, read where nothing wraps around. -/
theorem rot_at (T : FVec Ideal S528x1024 .f32) (n : BitVec 32) (q q' : Fin 528) (k : Fin 1024) (hn : 1 ≤ n.toNat) (h : q'.val + n.toNat = q.val) :
    dynamicRotate 0 n none T rotates_S528x1024_d0 (ix2 q k) = T (ix2 q' k) := by
  have hq := q.isLt
  refine dynamicRotate_apply 0 n T _ _ _ (Fin.forall_fin_two.mpr ⟨?_, ?_⟩)
  · rw [if_pos rfl]
    change q'.val = (q.val + 528 - n.toNat % 528) % 528
    omega
  · rw [if_neg (by decide)]
    rfl

theorem add_at (A B : FVec Ideal S528x1024 .f32) (q : Fin 528) (k : Fin 1024) : addf A B (ix2 q k) = A (ix2 q k) + B (ix2 q k) := by
  pointwise []

section Sums
variable (x : Vec Ideal S512x1024 .f32) (g : Vec Ideal S1x1024 .f32) (C : Vec Ideal S16x1024 .f32)

theorem pay6_at (q : Fin 528) (k : Fin 1024) (j : ℕ) (h : q.val = j + 1) :
    k0_pay6 x g C (ix2 q k) = cat C (k0_pay5 x g) k (j + 1) + cat C (k0_pay5 x g) k j := by
  rw [← cat_eq C (k0_pay5 x g) k q (j + 1) h, ← cat_eq C (k0_pay5 x g) k (⟨j, by omega⟩ : Fin 528) j rfl]
  refine (add_at _ _ q k).trans (congrArg (CAT C (k0_pay5 x g) (ix2 q k) + ·) ?_)
  exact rot_at _ 1#32 q ⟨j, by omega⟩ k (by decide) (by rw [h]; rfl)

theorem pay8_at (q : Fin 528) (k : Fin 1024) (j : ℕ) (h : q.val = j + 3) :
    k0_pay8 x g C (ix2 q k) = (cat C (k0_pay5 x g) k (j + 3) + cat C (k0_pay5 x g) k (j + 2))
      + (cat C (k0_pay5 x g) k (j + 1) + cat C (k0_pay5 x g) k j) := by
  rw [← pay6_at x g C q k (j + 2) h, ← pay6_at x g C ⟨j + 1, by omega⟩ k j rfl]
  refine (add_at _ _ q k).trans (congrArg (k0_pay6 x g C (ix2 q k) + ·) ?_)
  exact rot_at _ 2#32 q ⟨j + 1, by omega⟩ k (by decide) (by rw [h]; rfl)

theorem pay10_at (q : Fin 528) (k : Fin 1024) (j : ℕ) (h : q.val = j + 7) :
    k0_pay10 x g C (ix2 q k) = ((cat C (k0_pay5 x g) k (j + 7) + cat C (k0_pay5 x g) k (j + 6))
      + (cat C (k0_pay5 x g) k (j + 5) + cat C (k0_pay5 x g) k (j + 4)))
      + ((cat C (k0_pay5 x g) k (j + 3) + cat C (k0_pay5 x g) k (j + 2))
      + (cat C (k0_pay5 x g) k (j + 1) + cat C (k0_pay5 x g) k j)) := by
  rw [← pay8_at x g C q k (j + 4) h, ← pay8_at x g C ⟨j + 3, by omega⟩ k j rfl]
  refine (add_at _ _ q k).trans (congrArg (k0_pay8 x g C (ix2 q k) + ·) ?_)
  exact rot_at _ 4#32 q ⟨j + 3, by omega⟩ k (by decide) (by rw [h]; rfl)

theorem slice_at (T : FVec Ideal S528x1024 .f32) (p : Fin 512) (e : Fin 256) :
    extractStridedSlice S512x256 ![16, 0] T slices_S528x1024_o16_0_S512x256 (ix2 p e) = T (ix2 (⟨16 + p.val, by omega⟩ : Fin 528) (⟨e.val, by omega⟩ : Fin 1024))
    ∧ extractStridedSlice S512x256 ![16, 256] T slices_S528x1024_o16_256_S512x256 (ix2 p e) = T (ix2 (⟨16 + p.val, by omega⟩ : Fin 528) (⟨256 + e.val, by omega⟩ : Fin 1024))
    ∧ extractStridedSlice S512x256 ![16, 512] T slices_S528x1024_o16_512_S512x256 (ix2 p e) = T (ix2 (⟨16 + p.val, by omega⟩ : Fin 528) (⟨512 + e.val, by omega⟩ : Fin 1024))
    ∧ extractStridedSlice S512x256 ![16, 768] T slices_S528x1024_o16_768_S512x256 (ix2 p e) = T (ix2 (⟨16 + p.val, by omega⟩ : Fin 528) (⟨768 + e.val, by omega⟩ : Fin 1024)) := by
  refine ⟨?_, ?_, ?_, ?_⟩ <;> pointwise []

theorem pay7_at (p : Fin 512) (e : Fin 256) :
    k0_pay7 x g C (ix2 p e) = cat C (k0_pay5 x g) (⟨e.val, by omega⟩ : Fin 1024) (p.val + 16) + cat C (k0_pay5 x g) (⟨e.val, by omega⟩ : Fin 1024) (p.val + 15) :=
  (slice_at _ p e).1.trans (pay6_at x g C _ _ (p.val + 15) (by dsimp only; omega))

theorem pay9_at (p : Fin 512) (e : Fin 256) (k : Fin 1024) (hk : (⟨256 + e.val, by omega⟩ : Fin 1024) = k) :
    k0_pay9 x g C (ix2 p e) = (cat C (k0_pay5 x g) k (p.val + 16) + cat C (k0_pay5 x g) k (p.val + 15))
      + (cat C (k0_pay5 x g) k (p.val + 14) + cat C (k0_pay5 x g) k (p.val + 13)) := by
  subst hk
  exact (slice_at _ p e).2.1.trans (pay8_at x g C _ _ (p.val + 13) (by dsimp only; omega))

theorem pay11_at (p : Fin 512) (e : Fin 256) (k : Fin 1024) (hk : (⟨512 + e.val, by omega⟩ : Fin 1024) = k) :
    k0_pay11 x g C (ix2 p e) = ((cat C (k0_pay5 x g) k (p.val + 16) + cat C (k0_pay5 x g) k (p.val + 15))
      + (cat C (k0_pay5 x g) k (p.val + 14) + cat C (k0_pay5 x g) k (p.val + 13)))
      + ((cat C (k0_pay5 x g) k (p.val + 12) + cat C (k0_pay5 x g) k (p.val + 11))
      + (cat C (k0_pay5 x g) k (p.val + 10) + cat C (k0_pay5 x g) k (p.val + 9))) := by
  subst hk
  exact (slice_at _ p e).2.2.1.trans (pay10_at x g C _ _ (p.val + 9) (by dsimp only; omega))

theorem pay12_at (p : Fin 512) (e : Fin 256) (k : Fin 1024) (hk : (⟨768 + e.val, by omega⟩ : Fin 1024) = k) :
    k0_pay12 x g C (ix2 p e) = (((cat C (k0_pay5 x g) k (p.val + 16) + cat C (k0_pay5 x g) k (p.val + 15))
      + (cat C (k0_pay5 x g) k (p.val + 14) + cat C (k0_pay5 x g) k (p.val + 13)))
      + ((cat C (k0_pay5 x g) k (p.val + 12) + cat C (k0_pay5 x g) k (p.val + 11))
      + (cat C (k0_pay5 x g) k (p.val + 10) + cat C (k0_pay5 x g) k (p.val + 9))))
      + (((cat C (k0_pay5 x g) k (p.val + 8) + cat C (k0_pay5 x g) k (p.val + 7))
      + (cat C (k0_pay5 x g) k (p.val + 6) + cat C (k0_pay5 x g) k (p.val + 5)))
      + ((cat C (k0_pay5 x g) k (p.val + 4) + cat C (k0_pay5 x g) k (p.val + 3))
      + (cat C (k0_pay5 x g) k (p.val + 2) + cat C (k0_pay5 x g) k (p.val + 1)))) := by
  subst hk
  refine (slice_at (addf (k0_pay10 x g C) (dynamicRotate 0 8#32 none (k0_pay10 x g C) rotates_S528x1024_d0)) p e).2.2.2.trans ?_
  rw [← pay10_at x g C ⟨16 + p.val, by omega⟩ _ (p.val + 9) (by dsimp only; omega), ← pay10_at x g C ⟨p.val + 8, by omega⟩ _ (p.val + 1) rfl]
  refine (add_at _ _ _ _).trans (congrArg (k0_pay10 x g C _ + ·) ?_)
  exact rot_at _ 8#32 _ ⟨p.val + 8, by omega⟩ _ (by decide) (by dsimp only; rw [show (8#32).toNat = 8 from rfl]; omega)

end Sums

/-- The number of a block's row in its sequence. -/
theorem pay13_at (i : grid0.Coords) (p : Fin 512) (e : Fin 256) (s : ℕ) (hs : s = (i 1).val * 512 + p.val) :
    k0_pay13 i (ix2 p e) = BitVec.ofNat 32 s := by
  have h : k0_pay13 i (ix2 p e) = IntOp.addi (IntOp.muli (BitVec.ofNat 32 (i 1).val) 512#32) (BitVec.ofNat 32 p.val) := by
    pointwise [k0_pay13]
    rfl
  rw [h, hs, BitVec.ofNat_add, BitVec.ofNat_mul]
  rfl

section Groups
variable (U : FVec Ideal S512x1024 .f32) (S : FVec Ideal S512x256 .f32) (P : IVec S512x256 32) (W : Vec Ideal S1x256x256 .bf16)

/-- One group's averages less the rows, times its weights. -/
theorem pay18_at (p : Fin 512) (e : Fin 256) (s : ℕ) (hP : ∀ l : Fin 256, P (ix2 p l) = BitVec.ofNat 32 s) :
    k0_pay18 U S (addi P (broadcast S512x256 1#32)) k0_pay15 W (ix2 p e) = ∑ l : Fin 256, (Ideal.div (S (ix2 p l)) (cnt s 2#32)
      - U (ix2 p (⟨l.val, by omega⟩ : Fin 1024))) * W (ix3 (0 : Fin 1) l e) := by
  pointwise [k0_pay18, k0_pay15, cnt, hP]

theorem pay19_at (p : Fin 512) (e : Fin 256) (s : ℕ) (hP : ∀ l : Fin 256, P (ix2 p l) = BitVec.ofNat 32 s) :
    k0_pay19 U S P W (ix2 p e) = ∑ l : Fin 256, (Ideal.div (S (ix2 p l)) (cnt s 4#32)
      - U (ix2 p (⟨256 + l.val, by omega⟩ : Fin 1024))) * W (ix3 (0 : Fin 1) l e) := by
  pointwise [k0_pay19, cnt, hP]

theorem pay20_at (p : Fin 512) (e : Fin 256) (s : ℕ) (hP : ∀ l : Fin 256, P (ix2 p l) = BitVec.ofNat 32 s) :
    k0_pay20 U S P W (ix2 p e) = ∑ l : Fin 256, (Ideal.div (S (ix2 p l)) (cnt s 8#32)
      - U (ix2 p (⟨512 + l.val, by omega⟩ : Fin 1024))) * W (ix3 (0 : Fin 1) l e) := by
  pointwise [k0_pay20, cnt, hP]

/-- The last group, which the kernel multiplies where it puts the four together. -/
def last4 : FVec Ideal S512x256 .f32 :=
  matmul dot_S512x256_S256x256_S512x256_1_0_0_1_n_n none
    (truncf .bf16 (subf (divf S (k0_pay16 P)) (extractStridedSlice S512x256 ![0, 768] U slices_S512x1024_o0_768_S512x256)) bitsLt_bf16_f32 : FVec Ideal S512x256 .bf16)
    (shapeCast S256x256 W shapeCasts_S1x256x256_S256x256 : FVec Ideal S256x256 .bf16) (constant S512x256 .f32 0x00000000#32)

theorem last4_at (p : Fin 512) (e : Fin 256) (s : ℕ) (hP : ∀ l : Fin 256, P (ix2 p l) = BitVec.ofNat 32 s) :
    last4 U S P W (ix2 p e) = ∑ l : Fin 256, (Ideal.div (S (ix2 p l)) (cnt s 16#32)
      - U (ix2 p (⟨768 + l.val, by omega⟩ : Fin 1024))) * W (ix3 (0 : Fin 1) l e) := by
  pointwise [last4, k0_pay16, cnt, hP]

end Groups

/-- The four groups side by side, scaled and added to the rows. -/
theorem pay1_at (x : Vec Ideal S512x1024 .f32) (U : FVec Ideal S512x1024 .f32) (S : FVec Ideal S512x256 .f32) (P : IVec S512x256 32)
    (sc : Vec Ideal S1x1024 .f32) (Y0 Y1 Y2 : FVec Ideal S512x256 .f32) (W : Vec Ideal S1x256x256 .bf16) (p : Fin 512) (i : Fin 4) (e : Fin 256)
    (k : Fin 1024) (hk : k.val = i.val * 256 + e.val) :
    k0_pay1 x U S (k0_pay16 P) (k0_pay17 sc) Y0 Y1 Y2 W (ix2 p k)
      = x (ix2 p k) + (![Y0, Y1, Y2, last4 U S P W] i) (ix2 p e) * sc (ix2 (0 : Fin 1) k) := by
  have h : k0_pay1 x U S (k0_pay16 P) (k0_pay17 sc) Y0 Y1 Y2 W (ix2 p k) = x (ix2 p k)
      + (concatenate S512x1024 1 [⟨S512x256, Y0⟩, ⟨S512x256, Y1⟩, ⟨S512x256, Y2⟩, ⟨S512x256, last4 U S P W⟩] concatenates_S512x256_S512x256_S512x256_S512x256_S512x1024_d1) (ix2 p k)
        * sc (ix2 (0 : Fin 1) k) := by
    unfold k0_pay1
    change (addf x (mulf (concatenate S512x1024 1 [⟨S512x256, Y0⟩, ⟨S512x256, Y1⟩, ⟨S512x256, Y2⟩, ⟨S512x256, last4 U S P W⟩] concatenates_S512x256_S512x256_S512x256_S512x256_S512x1024_d1) (broadcastTo S512x1024 (k0_pay17 sc) broadcasts_S1x1024_S512x1024)) : FVec Ideal S512x1024 .f32) (ix2 p k) = _
    generalize concatenate S512x1024 1 [⟨S512x256, Y0⟩, ⟨S512x256, Y1⟩, ⟨S512x256, Y2⟩, ⟨S512x256, last4 U S P W⟩] concatenates_S512x256_S512x256_S512x256_S512x256_S512x1024_d1 = T
    pointwise [k0_pay17]
  rw [h]
  congr 2
  generalize last4 U S P W = Y3
  have he := e.isLt
  obtain ⟨kv, hkv⟩ := k
  change kv = _ at hk
  subst hk
  fin_cases i
  · pointwise []
  · pointwise []
  · pointwise []
    rw [dif_neg (by first | omega | (simp; done) | (simp; omega)), dif_neg (by first | omega | (simp; done) | (simp; omega)), dif_pos (by first | omega | (simp; done) | (simp; omega))]
    blk_ext []
  · pointwise []
    rw [dif_neg (by first | omega | (simp; done) | (simp; omega)), dif_neg (by first | omega | (simp; done) | (simp; omega)), dif_neg (by first | omega | (simp; done) | (simp; omega))]
    blk_ext []

theorem pay2_at (U : FVec Ideal S512x1024 .f32) (j : Fin 16) (k : Fin 1024) :
    k0_pay2 U (ix2 j k) = U (ix2 (⟨496 + j.val, by omega⟩ : Fin 512) k) := by
  pointwise [k0_pay2]

theorem pay3_at (U : FVec Ideal S512x1024 .f32) (b : Fin 1) (j : Fin 15) (k : Fin 1024) :
    k0_pay3 U (ix3 b j k) = U (ix2 (⟨497 + j.val, by omega⟩ : Fin 512) k) := by
  pointwise [k0_pay3]; blk_ext []

theorem pay4_at (j : Fin 16) (k : Fin 1024) : k0_pay4 (F := Ideal) (ix2 j k) = 0 := by
  pointwise [k0_pay4]

end Cert.PoolIdeal.Value

end
-- ==== Proof.PoolValue.lean ====
/-
  The pooling kernel's two output arrays are the reference's two results: the rows carried from one block to the next
  are the last sixteen normalised rows before the block, or zeros at the start of a sequence, so the kernel's sums by
  doubling are the reference's sums over two, four, eight and sixteen rows.
-/
module

public import proofs.«01_k».proof.Proof.PoolMath
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.PoolIdeal.Value

open Cert.PoolIdeal Cert.PoolIdeal.Gen

variable (m : (ℓ : Loc nD τ sig) → Buf (Elt Ideal) ℓ)

abbrev A0 (c : Dev nD) : FVec Ideal S16384x1024 .f32 := m ((c : Thread nD τ).loc main_arg0)
abbrev A1 (c : Dev nD) : FVec Ideal S1024 .f32 := m ((c : Thread nD τ).loc main_arg1)
abbrev A2 (c : Dev nD) : FVec Ideal S4x256x256 .f32 := m ((c : Thread nD τ).loc main_arg2)
abbrev A3 (c : Dev nD) : FVec Ideal S1024 .f32 := m ((c : Thread nD τ).loc main_arg3)

/-- Where each window's block sits at point `t`: row block `t` of the rows, and the state of batch `t / 8`. -/
theorem idx : ∀ t : Fin cfg0.N, win0_0.index t = ![t.val, 0] ∧ win0_1.index t = ![0, 0] ∧ win0_2.index t = ![0, 0, 0] ∧ win0_3.index t = ![0, 0] ∧ win0_4.index t = ![t.val, 0] ∧ win0_5.index t = ![t.val / 8, 0, 0] :=
  (by decide +kernel : ∀ t : Fin grid0.N, win0_0.index t = ![t.val, 0] ∧ win0_1.index t = ![0, 0] ∧ win0_2.index t = ![0, 0, 0] ∧ win0_3.index t = ![0, 0] ∧ win0_4.index t = ![t.val, 0] ∧ win0_5.index t = ![t.val / 8, 0, 0])

theorem lt_N (t : Fin cfg0.N) : t.val < 32 := t.isLt

/-- The second coordinate of a point: the number of its block in the sequence. -/
theorem coord (t : Fin cfg0.N) : (grid0.coords t 1).val = t.val % 8 :=
  (by decide +kernel : ∀ t : Fin grid0.N, (grid0.coords t 1).val = t.val % 8) t

/-- The normalised rows of block `t`, as the kernel forms them. -/
abbrev normed (c : Dev nD) (t : Fin cfg0.N) : FVec Ideal S512x1024 .f32 := k0_pay5 (iblk m c 0 t) (iblk m c 1 t)

/-! ## What a point leaves -/

/-- After point `t` the scratch holds the last sixteen normalised rows of the block. -/
theorem scratch (c : Dev nD) (t : Fin cfg0.N) :
    (outsAt0 m c t.val t.isLt).2.2 = k0_pay2 (normed m c t) := by
  by_cases h0 : t.val % 8 = 0
  · rw [outsAt0_A m c t h0 (by omega)]
    frame_out
  · by_cases h1 : t.val % 8 = 7
    · rw [outsAt0_C m c t h0 h1]
      frame_out
    · rw [outsAt0_B m c t h0 h1]
      frame_out

/-- The rows carried into point `t`: zeros at the start of a sequence, the last rows of the block before otherwise. -/
def carry (c : Dev nD) (t : Fin cfg0.N) : Vec Ideal S16x1024 .f32 :=
  if t.val % 8 = 0 then k0_pay4 (F := Ideal)
  else k0_pay2 (normed m c ⟨t.val - 1, Nat.lt_of_le_of_lt (Nat.sub_le _ _) t.isLt⟩)

/-- What point `t` stores as rows. -/
def rows (c : Dev nD) (t : Fin cfg0.N) (C : Vec Ideal S16x1024 .f32) : FVec Ideal S512x1024 .f32 :=
  k0_pay1 (iblk m c 0 t) (normed m c t) (k0_pay12 (iblk m c 0 t) (iblk m c 1 t) C)
    (k0_pay16 (k0_pay13 (grid0.coords t))) (k0_pay17 (iblk m c 3 t))
    (k0_pay18 (normed m c t) (k0_pay7 (iblk m c 0 t) (iblk m c 1 t) C) (k0_pay14 (grid0.coords t)) k0_pay15
      (View.ld (iblk m c 2 t) (Rect.unit ![0, 0, 0] ![1, 256, 256] inb_S4x256x256_S1x256x256_0_0_0)))
    (k0_pay19 (normed m c t) (k0_pay9 (iblk m c 0 t) (iblk m c 1 t) C) (k0_pay13 (grid0.coords t))
      (View.ld (iblk m c 2 t) (Rect.unit ![1, 0, 0] ![1, 256, 256] inb_S4x256x256_S1x256x256_1_0_0)))
    (k0_pay20 (normed m c t) (k0_pay11 (iblk m c 0 t) (iblk m c 1 t) C) (k0_pay13 (grid0.coords t))
      (View.ld (iblk m c 2 t) (Rect.unit ![2, 0, 0] ![1, 256, 256] inb_S4x256x256_S1x256x256_2_0_0)))
    (View.ld (iblk m c 2 t) (Rect.unit ![3, 0, 0] ![1, 256, 256] inb_S4x256x256_S1x256x256_3_0_0))

theorem stored_rows (c : Dev nD) (t : Fin cfg0.N) : (outsAt0 m c t.val t.isLt).1 = rows m c t (carry m c t) := by
  have hs := scratch m c ⟨t.val - 1, Nat.lt_of_le_of_lt (Nat.sub_le _ _) t.isLt⟩
  by_cases h0 : t.val % 8 = 0
  · rw [outsAt0_A m c t h0 (by omega), carry, if_pos h0]
    frame_out
    rfl
  · rw [carry, if_neg h0, ← hs]
    by_cases h1 : t.val % 8 = 7
    · rw [outsAt0_C m c t h0 h1]
      frame_out
      simp only [read_unread_whole]
      rfl
    · rw [outsAt0_B m c t h0 h1]
      frame_out
      simp only [read_unread_whole]
      rfl

theorem stored_state (c : Dev nD) (t : Fin cfg0.N) (h1 : t.val % 8 = 7) : (outsAt0 m c t.val t.isLt).2.1 = k0_pay3 (normed m c t) := by
  rw [outsAt0_C m c t (by omega) h1]
  frame_out

/-! ## The kernel's blocks against the reference -/

/-- The normalised rows of a block, at an index. -/
theorem normed_block (c : Dev nD) (t : Fin cfg0.N) (b : Fin 4) (s : Fin 4096) (p : Fin 512) (k : Fin 1024)
    (hb : b.val = t.val / 8) (hs : s.val = t.val % 8 * 512 + p.val) :
    normed m c t (ix2 p k) = XN (A0 m c) (A1 m c) (ix3 b s k) := by
  have hx : ∀ k : Fin 1024, (show Vec Ideal S512x1024 .f32 from iblk m c 0 t) (ix2 p k)
      = A0 m c (ix2 (⟨b.val * 4096 + s.val, by omega⟩ : Fin 16384) k) := by
    intro k; have := lt_N t; blk_point [iblk, V, idx t]
  have hg : ∀ k : Fin 1024, (show Vec Ideal S1x1024 .f32 from iblk m c 1 t) (ix2 (0 : Fin 1) k) = A1 m c (ix1 k) := by
    intro k; blk_point [iblk, V, idx t]
  refine (pay5_at _ _ _ _).trans ?_
  rw [XN_at _ _ b s (⟨b.val * 4096 + s.val, by omega⟩ : Fin 16384) rfl]
  simp only [hx, hg]

/-- The carried rows and the block's, from the second on, are the reference's rows behind the zeros. -/
theorem cat_block (c : Dev nD) (t : Fin cfg0.N) (b : Fin 4) (k : Fin 1024) (j i : ℕ) (hj : j < 527)
    (hb : b.val = t.val / 8) (hi : i = t.val % 8 * 512 + j) :
    cat (carry m c t) (normed m c t) k (j + 1) = xc (A0 m c) (A1 m c) b k i := by
  have hN := lt_N t
  rw [cat, dif_pos (by omega), xc, dif_pos (by omega), CAT_at, XC_at]
  by_cases h16 : j + 1 < 16
  · rw [dif_pos h16]
    by_cases h0 : t.val % 8 = 0
    · rw [carry, if_pos h0, dif_pos (by dsimp only; omega), pay4_at]
    · rw [carry, if_neg h0, dif_neg (by dsimp only; omega), pay2_at]
      exact normed_block m c _ b _ _ k (by dsimp only; omega) (by dsimp only; omega)
  · rw [dif_neg h16, dif_neg (by dsimp only; omega)]
    exact normed_block m c t b _ _ k hb (by dsimp only; omega)

/-- The weights of group `i`, at an index. -/
theorem weight0 (c : Dev nD) (t : Fin cfg0.N) (l e : Fin 256) :
    (show Vec Ideal S1x256x256 .bf16 from View.ld (iblk m c 2 t) (Rect.unit ![0, 0, 0] ![1, 256, 256] inb_S4x256x256_S1x256x256_0_0_0)) (ix3 (0 : Fin 1) l e)
      = A2 m c (ix3 (0 : Fin 4) l e) := by
  blk_point [iblk, V, idx t]
theorem weight1 (c : Dev nD) (t : Fin cfg0.N) (l e : Fin 256) :
    (show Vec Ideal S1x256x256 .bf16 from View.ld (iblk m c 2 t) (Rect.unit ![1, 0, 0] ![1, 256, 256] inb_S4x256x256_S1x256x256_1_0_0)) (ix3 (0 : Fin 1) l e)
      = A2 m c (ix3 (1 : Fin 4) l e) := by
  blk_point [iblk, V, idx t]
theorem weight2 (c : Dev nD) (t : Fin cfg0.N) (l e : Fin 256) :
    (show Vec Ideal S1x256x256 .bf16 from View.ld (iblk m c 2 t) (Rect.unit ![2, 0, 0] ![1, 256, 256] inb_S4x256x256_S1x256x256_2_0_0)) (ix3 (0 : Fin 1) l e)
      = A2 m c (ix3 (2 : Fin 4) l e) := by
  blk_point [iblk, V, idx t]
theorem weight3 (c : Dev nD) (t : Fin cfg0.N) (l e : Fin 256) :
    (show Vec Ideal S1x256x256 .bf16 from View.ld (iblk m c 2 t) (Rect.unit ![3, 0, 0] ![1, 256, 256] inb_S4x256x256_S1x256x256_3_0_0)) (ix3 (0 : Fin 1) l e)
      = A2 m c (ix3 (3 : Fin 4) l e) := by
  blk_point [iblk, V, idx t]

/-- What point `t` stores as rows, at an index. -/
theorem point (c : Dev nD) (t : Fin cfg0.N) (p : Fin 512) (k : Fin 1024) (r : Fin 16384) (hr : r.val = t.val * 512 + p.val) :
    rows m c t (carry m c t) (ix2 p k) = REF (A0 m c) (A1 m c) (A2 m c) (A3 m c) (ix2 r k) := by
  have hN := lt_N t
  have hx : (show Vec Ideal S512x1024 .f32 from iblk m c 0 t) (ix2 p k) = A0 m c (ix2 r k) := by
    blk_point [iblk, V, idx t]
  have hsc : (show Vec Ideal S1x1024 .f32 from iblk m c 3 t) (ix2 (0 : Fin 1) k) = A3 m c (ix1 k) := by
    blk_point [iblk, V, idx t]
  obtain ⟨b, hb⟩ : ∃ b : Fin 4, b.val = t.val / 8 := ⟨⟨t.val / 8, by omega⟩, rfl⟩
  obtain ⟨s, hs⟩ : ∃ s : Fin 4096, s.val = t.val % 8 * 512 + p.val := ⟨⟨t.val % 8 * 512 + p.val, by omega⟩, rfl⟩
  obtain ⟨i, hi⟩ : ∃ i : Fin 4, i.val = k.val / 256 := ⟨⟨k.val / 256, by omega⟩, rfl⟩
  obtain ⟨e, he⟩ : ∃ e : Fin 256, e.val = k.val % 256 := ⟨⟨k.val % 256, by omega⟩, rfl⟩
  have hP : ∀ l : Fin 256, k0_pay13 (grid0.coords t) (ix2 p l) = BitVec.ofNat 32 s.val := fun l =>
    pay13_at (grid0.coords t) p l s.val (by rw [coord, hs])
  have hU : ∀ q : Fin 1024, normed m c t (ix2 p q) = XN (A0 m c) (A1 m c) (ix3 b s q) := fun q => normed_block m c t b s p q hb hs
  have hC : ∀ (q : Fin 1024) (n : ℕ), n ≤ 15 → cat (carry m c t) (normed m c t) q (p.val + (n + 1)) = xc (A0 m c) (A1 m c) b q (s.val + n) :=
    fun q n hn => cat_block m c t b q (p.val + n) _ (by omega) hb (by omega)
  have hC0 : ∀ (q : Fin 1024), cat (carry m c t) (normed m c t) q (p.val + 1) = xc (A0 m c) (A1 m c) b q s.val :=
    fun q => cat_block m c t b q p.val _ (by omega) hb (by omega)
  rw [REF_at _ _ _ _ b s i e r (by omega) k (by omega)]
  refine (pay1_at _ _ _ _ _ _ _ _ _ p i e k (by omega)).trans ?_
  refine congrArg₂ (· + ·) hx (congrArg₂ (· * ·) ?_ hsc)
  rw [MIX_at]
  fin_cases i
  · refine (pay18_at _ _ _ _ p e s.val hP).trans (Finset.sum_congr rfl fun l _ => congrArg₂ (· * ·) ?_ (weight0 m c t l e))
    rw [hU, pay7_at, hC _ 15 (by omega), hC _ 14 (by omega)]
    have hd := (DIF_at (A0 m c) (A1 m c) b s l).1
    rw [AVG2_at, SUM2_at _ _ _ _ _ _ rfl] at hd
    refine hd.symm.trans ?_
    blk_ext []
  · refine (pay19_at _ _ _ _ p e s.val hP).trans (Finset.sum_congr rfl fun l _ => congrArg₂ (· * ·) ?_ (weight1 m c t l e))
    rw [hU, pay9_at _ _ _ _ _ _ rfl, hC _ 15 (by omega), hC _ 14 (by omega), hC _ 13 (by omega), hC _ 12 (by omega)]
    have hd := (DIF_at (A0 m c) (A1 m c) b s l).2.1
    rw [AVG4_at, SUM4_at _ _ _ _ _ _ rfl] at hd
    simp only [← add_assoc]
    refine hd.symm.trans ?_
    blk_ext []
  · refine (pay20_at _ _ _ _ p e s.val hP).trans (Finset.sum_congr rfl fun l _ => congrArg₂ (· * ·) ?_ (weight2 m c t l e))
    rw [hU, pay11_at _ _ _ _ _ _ rfl, hC _ 15 (by omega), hC _ 14 (by omega), hC _ 13 (by omega), hC _ 12 (by omega),
      hC _ 11 (by omega), hC _ 10 (by omega), hC _ 9 (by omega), hC _ 8 (by omega)]
    have hd := (DIF_at (A0 m c) (A1 m c) b s l).2.2.1
    rw [AVG8_at, SUM8_at _ _ _ _ _ _ rfl] at hd
    simp only [← add_assoc]
    refine hd.symm.trans ?_
    blk_ext []
  · refine (last4_at _ _ _ _ p e s.val hP).trans (Finset.sum_congr rfl fun l _ => congrArg₂ (· * ·) ?_ (weight3 m c t l e))
    rw [hU, pay12_at _ _ _ _ _ _ rfl, hC _ 15 (by omega), hC _ 14 (by omega), hC _ 13 (by omega), hC _ 12 (by omega),
      hC _ 11 (by omega), hC _ 10 (by omega), hC _ 9 (by omega), hC _ 8 (by omega), hC _ 7 (by omega), hC _ 6 (by omega),
      hC _ 5 (by omega), hC _ 4 (by omega), hC _ 3 (by omega), hC _ 2 (by omega), hC _ 1 (by omega), hC0]
    have hd := (DIF_at (A0 m c) (A1 m c) b s l).2.2.2
    rw [AVG16_at, SUM16_at _ _ _ _ _ _ rfl] at hd
    simp only [← add_assoc]
    refine hd.symm.trans ?_
    blk_ext []

/-- After the run the array of rows is the reference's first result. -/
theorem final_rows (c : Dev nD) : (dats m 0 c).arrAt 4 cfg0.N = REF (A0 m c) (A1 m c) (A2 m c) (A3 m c) := by
  refine (dats m 0 c).arrAt_eq_of_covers 4 _ (by decide +kernel) fun t _ y => ?_
  blk_simp
  rw [after0_4, stored_rows]
  idx_vars y
  have hN := lt_N t
  have he : ((View.whole main_v3_0).slice (win0_4.rect t)).emb (ix2 y0 y1) = ix2 (⟨t.val * 512 + y0.val, by omega⟩ : Fin 16384) y1 := by
    blk_ext [idx t]
  rw [he]
  exact point m c t y0 y1 _ rfl

/-- After the run the state array is the reference's second result. -/
theorem final_state (c : Dev nD) : (dats m 0 c).arrAt 5 cfg0.N = STATE (A0 m c) (A1 m c) := by
  refine (dats m 0 c).arrAt_eq_of_covers 5 _ (by decide +kernel) fun t hf y => ?_
  have h7 : t.val % 8 = 7 := (flush0_5 t).mp hf
  blk_simp
  rw [after0_5, stored_state m c t h7]
  idx_vars y
  have hN := lt_N t
  have he : ((View.whole main_v3_1).slice (win0_5.rect t)).emb (ix3 y0 y1 y2) = ix3 (⟨t.val / 8, by omega⟩ : Fin 4) y1 y2 := by
    blk_ext [idx t]
  rw [he, STATE_at]
  refine (pay3_at _ _ _ _).trans (normed_block m c t _ _ _ _ rfl ?_)
  dsimp only
  omega

end Cert.PoolIdeal.Value

end
-- ==== Proof.PoolClaim.lean ====
/-
  The pooling of the prompt rows: the claim about its values, and the frame of its reference.
-/
module

public import proofs.«01_k».proof.Defs
public import proofs.«01_k».proof.Proof.PoolValue
public import Idealize.ShloMosaic.Lib.Claim

@[expose] public section

set_option maxRecDepth 16384

noncomputable section

open Idealize.ShloMosaic Idealize.SL.Sem

namespace Cert.PoolIdealAlg

/-- The reference runs to the end and leaves its arguments as they were. -/
theorem frame_ref : Cert.quiescent_PoolRefIdeal := by
  intro m g _
  exact (θ_run Cert.PoolRefIdeal.defs _ _).mono
    (fun r h => ⟨fun c => (h c).2.2, Idealize.ShloMosaic.sem_eq_zero_of_no_sems (by decide) r.2⟩)
    (Cert.PoolRefIdeal.Value.run m g)

/-- On equal arguments the kernel and the pooling of the reference end with the same rows and the same state. -/
theorem algebraic : Cert.algebraic_PoolIdeal_PoolRefIdeal := by
  pair_intro
  · run_from Cert.PoolIdeal.Gen.run_main m g
  · run_from Cert.PoolRefIdeal.Value.run m' g'
    · obtain ⟨h0, h1, h2, h3⟩ := hagree c
      refine Eq.trans ?_ (Cert.PoolIdeal.Value.final_rows m c).symm
      rw [Cert.PoolRefIdeal.Value.res_main_v116, h0, h1, h2, h3]
      rfl
    · exact (Cert.PoolIdeal.Value.final_state m c).symm

end Cert.PoolIdealAlg

end
-- ==== Proof.PoolSValue.lean ====
/-
  The pooling of the sample tokens: each token is its own sequence, behind the fifteen rows of its state. The kernel's
  rows and new state are the reference's two results.
-/
module

public import proofs.«01_k».proof.Proof.Gen.PoolSIdeal.Value
public import proofs.«01_k».proof.Proof.Gen.PoolSRefIdeal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.PoolSIdeal.Value

open Cert.PoolSIdeal Cert.PoolSIdeal.Gen

/-- The rows, one to each sequence. -/
def XP (a0 : FVec Ideal S128x1024 .f32) : FVec Ideal Cert.PoolSRefIdeal.S128x1x1024 .f32 :=
  shapeCast Cert.PoolSRefIdeal.S128x1x1024 a0 Cert.PoolSRefIdeal.Gen.shapeCasts_S128x1024_S128x1x1024

/-- The normalised rows. -/
def XN (a0 : FVec Ideal S128x1024 .f32) (a1 : FVec Ideal S1024 .f32) : FVec Ideal Cert.PoolSRefIdeal.S128x1x1024 .f32 :=
  mulf (mulf (XP a0) (broadcastInDim Cert.PoolSRefIdeal.S128x1x1024 ![0, 1, 2] Cert.PoolSRefIdeal.Gen.bcast_S128x1x1_S128x1x1024_0_1_2 (Host.rsqrt (addf (Host.divf (broadcastInDim Cert.PoolSRefIdeal.S128x1x1 ![0, 1] Cert.PoolSRefIdeal.Gen.bcast_S128x1_S128x1x1_0_1 (Host.reduceAdd (mulf (XP a0) (XP a0)) (constant Cert.PoolSRefIdeal.S_ .f32 0x00000000#32) Cert.PoolSRefIdeal.Gen.reducesTo_S128x1x1024_S128x1_d2 Cert.PoolSRefIdeal.Gen.h_S_)) (broadcastInDim Cert.PoolSRefIdeal.S128x1x1 ![] Cert.PoolSRefIdeal.Gen.bcast_S_S128x1x1 (constant Cert.PoolSRefIdeal.S_ .f32 0x44800000#32))) (broadcastInDim Cert.PoolSRefIdeal.S128x1x1 ![] Cert.PoolSRefIdeal.Gen.bcast_S_S128x1x1 (constant Cert.PoolSRefIdeal.S_ .f32 0x358637BD#32)))))) (broadcastInDim Cert.PoolSRefIdeal.S128x1x1024 ![0, 1, 2] Cert.PoolSRefIdeal.Gen.bcast_S1x1x1024_S128x1x1024_0_1_2 (broadcastInDim Cert.PoolSRefIdeal.S1x1x1024 ![2] Cert.PoolSRefIdeal.Gen.bcast_S1024_S1x1x1024_2 a1))

/-- The normalised row behind the fifteen rows of the state. -/
def XC (a0 : FVec Ideal S128x1024 .f32) (a1 : FVec Ideal S1024 .f32) (a2 : FVec Ideal S128x15x1024 .f32) : FVec Ideal Cert.PoolSRefIdeal.S128x16x1024 .f32 :=
  concatenate Cert.PoolSRefIdeal.S128x16x1024 1 [⟨Cert.PoolSRefIdeal.S128x15x1024, a2⟩, ⟨Cert.PoolSRefIdeal.S128x1x1024, (XN a0 a1)⟩] Cert.PoolSRefIdeal.Gen.concatenates_S128x15x1024_S128x1x1024_S128x16x1024_d1

/-- The sums over two rows, for the first group of columns. -/
def SUM2 (a0 : FVec Ideal S128x1024 .f32) (a1 : FVec Ideal S1024 .f32) (a2 : FVec Ideal S128x15x1024 .f32) : FVec Ideal Cert.PoolSRefIdeal.S128x1x256 .f32 :=
  addf (extractStridedSlice Cert.PoolSRefIdeal.S128x1x256 ![0, 15, 0] (XC a0 a1 a2) Cert.PoolSRefIdeal.Gen.slices_S128x16x1024_S128x1x256_0_15_0) (extractStridedSlice Cert.PoolSRefIdeal.S128x1x256 ![0, 14, 0] (XC a0 a1 a2) Cert.PoolSRefIdeal.Gen.slices_S128x16x1024_S128x1x256_0_14_0)

/-- The averages over two rows. -/
def AVG2 (a0 : FVec Ideal S128x1024 .f32) (a1 : FVec Ideal S1024 .f32) (a2 : FVec Ideal S128x15x1024 .f32) : FVec Ideal Cert.PoolSRefIdeal.S128x1x256 .f32 :=
  Host.divf (SUM2 a0 a1 a2) (broadcastInDim Cert.PoolSRefIdeal.S128x1x256 ![0, 1, 2] Cert.PoolSRefIdeal.Gen.bcast_S1x1x1_S128x1x256_0_1_2 (broadcastInDim Cert.PoolSRefIdeal.S1x1x1 ![1] Cert.PoolSRefIdeal.Gen.bcast_S1_S1x1x1_1 (sitofp .f32 (minsi (addi (addi (broadcastInDim Cert.PoolSRefIdeal.S1 ![] Cert.PoolSRefIdeal.Gen.bcast_S_S1 (constantI Cert.PoolSRefIdeal.S_ 32 2048#32)) (iotaInDim Cert.PoolSRefIdeal.S1 32 0)) (broadcastInDim Cert.PoolSRefIdeal.S1 ![] Cert.PoolSRefIdeal.Gen.bcast_S_S1 (constantI Cert.PoolSRefIdeal.S_ 32 1#32))) (broadcastInDim Cert.PoolSRefIdeal.S1 ![] Cert.PoolSRefIdeal.Gen.bcast_S_S1 (constantI Cert.PoolSRefIdeal.S_ 32 2#32))))))

/-- The sums over four rows, for the second group of columns. -/
def SUM4 (a0 : FVec Ideal S128x1024 .f32) (a1 : FVec Ideal S1024 .f32) (a2 : FVec Ideal S128x15x1024 .f32) : FVec Ideal Cert.PoolSRefIdeal.S128x1x256 .f32 :=
  addf (addf (addf (extractStridedSlice Cert.PoolSRefIdeal.S128x1x256 ![0, 15, 256] (XC a0 a1 a2) Cert.PoolSRefIdeal.Gen.slices_S128x16x1024_S128x1x256_0_15_256) (extractStridedSlice Cert.PoolSRefIdeal.S128x1x256 ![0, 14, 256] (XC a0 a1 a2) Cert.PoolSRefIdeal.Gen.slices_S128x16x1024_S128x1x256_0_14_256)) (extractStridedSlice Cert.PoolSRefIdeal.S128x1x256 ![0, 13, 256] (XC a0 a1 a2) Cert.PoolSRefIdeal.Gen.slices_S128x16x1024_S128x1x256_0_13_256)) (extractStridedSlice Cert.PoolSRefIdeal.S128x1x256 ![0, 12, 256] (XC a0 a1 a2) Cert.PoolSRefIdeal.Gen.slices_S128x16x1024_S128x1x256_0_12_256)

/-- The averages over four rows. -/
def AVG4 (a0 : FVec Ideal S128x1024 .f32) (a1 : FVec Ideal S1024 .f32) (a2 : FVec Ideal S128x15x1024 .f32) : FVec Ideal Cert.PoolSRefIdeal.S128x1x256 .f32 :=
  Host.divf (SUM4 a0 a1 a2) (broadcastInDim Cert.PoolSRefIdeal.S128x1x256 ![0, 1, 2] Cert.PoolSRefIdeal.Gen.bcast_S1x1x1_S128x1x256_0_1_2 (broadcastInDim Cert.PoolSRefIdeal.S1x1x1 ![1] Cert.PoolSRefIdeal.Gen.bcast_S1_S1x1x1_1 (sitofp .f32 (minsi (addi (addi (broadcastInDim Cert.PoolSRefIdeal.S1 ![] Cert.PoolSRefIdeal.Gen.bcast_S_S1 (constantI Cert.PoolSRefIdeal.S_ 32 2048#32)) (iotaInDim Cert.PoolSRefIdeal.S1 32 0)) (broadcastInDim Cert.PoolSRefIdeal.S1 ![] Cert.PoolSRefIdeal.Gen.bcast_S_S1 (constantI Cert.PoolSRefIdeal.S_ 32 1#32))) (broadcastInDim Cert.PoolSRefIdeal.S1 ![] Cert.PoolSRefIdeal.Gen.bcast_S_S1 (constantI Cert.PoolSRefIdeal.S_ 32 4#32))))))

/-- The sums over eight rows, for the third group of columns. -/
def SUM8 (a0 : FVec Ideal S128x1024 .f32) (a1 : FVec Ideal S1024 .f32) (a2 : FVec Ideal S128x15x1024 .f32) : FVec Ideal Cert.PoolSRefIdeal.S128x1x256 .f32 :=
  addf (addf (addf (addf (addf (addf (addf (extractStridedSlice Cert.PoolSRefIdeal.S128x1x256 ![0, 15, 512] (XC a0 a1 a2) Cert.PoolSRefIdeal.Gen.slices_S128x16x1024_S128x1x256_0_15_512) (extractStridedSlice Cert.PoolSRefIdeal.S128x1x256 ![0, 14, 512] (XC a0 a1 a2) Cert.PoolSRefIdeal.Gen.slices_S128x16x1024_S128x1x256_0_14_512)) (extractStridedSlice Cert.PoolSRefIdeal.S128x1x256 ![0, 13, 512] (XC a0 a1 a2) Cert.PoolSRefIdeal.Gen.slices_S128x16x1024_S128x1x256_0_13_512)) (extractStridedSlice Cert.PoolSRefIdeal.S128x1x256 ![0, 12, 512] (XC a0 a1 a2) Cert.PoolSRefIdeal.Gen.slices_S128x16x1024_S128x1x256_0_12_512)) (extractStridedSlice Cert.PoolSRefIdeal.S128x1x256 ![0, 11, 512] (XC a0 a1 a2) Cert.PoolSRefIdeal.Gen.slices_S128x16x1024_S128x1x256_0_11_512)) (extractStridedSlice Cert.PoolSRefIdeal.S128x1x256 ![0, 10, 512] (XC a0 a1 a2) Cert.PoolSRefIdeal.Gen.slices_S128x16x1024_S128x1x256_0_10_512)) (extractStridedSlice Cert.PoolSRefIdeal.S128x1x256 ![0, 9, 512] (XC a0 a1 a2) Cert.PoolSRefIdeal.Gen.slices_S128x16x1024_S128x1x256_0_9_512)) (extractStridedSlice Cert.PoolSRefIdeal.S128x1x256 ![0, 8, 512] (XC a0 a1 a2) Cert.PoolSRefIdeal.Gen.slices_S128x16x1024_S128x1x256_0_8_512)

/-- The averages over eight rows. -/
def AVG8 (a0 : FVec Ideal S128x1024 .f32) (a1 : FVec Ideal S1024 .f32) (a2 : FVec Ideal S128x15x1024 .f32) : FVec Ideal Cert.PoolSRefIdeal.S128x1x256 .f32 :=
  Host.divf (SUM8 a0 a1 a2) (broadcastInDim Cert.PoolSRefIdeal.S128x1x256 ![0, 1, 2] Cert.PoolSRefIdeal.Gen.bcast_S1x1x1_S128x1x256_0_1_2 (broadcastInDim Cert.PoolSRefIdeal.S1x1x1 ![1] Cert.PoolSRefIdeal.Gen.bcast_S1_S1x1x1_1 (sitofp .f32 (minsi (addi (addi (broadcastInDim Cert.PoolSRefIdeal.S1 ![] Cert.PoolSRefIdeal.Gen.bcast_S_S1 (constantI Cert.PoolSRefIdeal.S_ 32 2048#32)) (iotaInDim Cert.PoolSRefIdeal.S1 32 0)) (broadcastInDim Cert.PoolSRefIdeal.S1 ![] Cert.PoolSRefIdeal.Gen.bcast_S_S1 (constantI Cert.PoolSRefIdeal.S_ 32 1#32))) (broadcastInDim Cert.PoolSRefIdeal.S1 ![] Cert.PoolSRefIdeal.Gen.bcast_S_S1 (constantI Cert.PoolSRefIdeal.S_ 32 8#32))))))

/-- The sums over sixteen rows, for the last group of columns. -/
def SUM16 (a0 : FVec Ideal S128x1024 .f32) (a1 : FVec Ideal S1024 .f32) (a2 : FVec Ideal S128x15x1024 .f32) : FVec Ideal Cert.PoolSRefIdeal.S128x1x256 .f32 :=
  addf (addf (addf (addf (addf (addf (addf (addf (addf (addf (addf (addf (addf (addf (addf (extractStridedSlice Cert.PoolSRefIdeal.S128x1x256 ![0, 15, 768] (XC a0 a1 a2) Cert.PoolSRefIdeal.Gen.slices_S128x16x1024_S128x1x256_0_15_768) (extractStridedSlice Cert.PoolSRefIdeal.S128x1x256 ![0, 14, 768] (XC a0 a1 a2) Cert.PoolSRefIdeal.Gen.slices_S128x16x1024_S128x1x256_0_14_768)) (extractStridedSlice Cert.PoolSRefIdeal.S128x1x256 ![0, 13, 768] (XC a0 a1 a2) Cert.PoolSRefIdeal.Gen.slices_S128x16x1024_S128x1x256_0_13_768)) (extractStridedSlice Cert.PoolSRefIdeal.S128x1x256 ![0, 12, 768] (XC a0 a1 a2) Cert.PoolSRefIdeal.Gen.slices_S128x16x1024_S128x1x256_0_12_768)) (extractStridedSlice Cert.PoolSRefIdeal.S128x1x256 ![0, 11, 768] (XC a0 a1 a2) Cert.PoolSRefIdeal.Gen.slices_S128x16x1024_S128x1x256_0_11_768)) (extractStridedSlice Cert.PoolSRefIdeal.S128x1x256 ![0, 10, 768] (XC a0 a1 a2) Cert.PoolSRefIdeal.Gen.slices_S128x16x1024_S128x1x256_0_10_768)) (extractStridedSlice Cert.PoolSRefIdeal.S128x1x256 ![0, 9, 768] (XC a0 a1 a2) Cert.PoolSRefIdeal.Gen.slices_S128x16x1024_S128x1x256_0_9_768)) (extractStridedSlice Cert.PoolSRefIdeal.S128x1x256 ![0, 8, 768] (XC a0 a1 a2) Cert.PoolSRefIdeal.Gen.slices_S128x16x1024_S128x1x256_0_8_768)) (extractStridedSlice Cert.PoolSRefIdeal.S128x1x256 ![0, 7, 768] (XC a0 a1 a2) Cert.PoolSRefIdeal.Gen.slices_S128x16x1024_S128x1x256_0_7_768)) (extractStridedSlice Cert.PoolSRefIdeal.S128x1x256 ![0, 6, 768] (XC a0 a1 a2) Cert.PoolSRefIdeal.Gen.slices_S128x16x1024_S128x1x256_0_6_768)) (extractStridedSlice Cert.PoolSRefIdeal.S128x1x256 ![0, 5, 768] (XC a0 a1 a2) Cert.PoolSRefIdeal.Gen.slices_S128x16x1024_S128x1x256_0_5_768)) (extractStridedSlice Cert.PoolSRefIdeal.S128x1x256 ![0, 4, 768] (XC a0 a1 a2) Cert.PoolSRefIdeal.Gen.slices_S128x16x1024_S128x1x256_0_4_768)) (extractStridedSlice Cert.PoolSRefIdeal.S128x1x256 ![0, 3, 768] (XC a0 a1 a2) Cert.PoolSRefIdeal.Gen.slices_S128x16x1024_S128x1x256_0_3_768)) (extractStridedSlice Cert.PoolSRefIdeal.S128x1x256 ![0, 2, 768] (XC a0 a1 a2) Cert.PoolSRefIdeal.Gen.slices_S128x16x1024_S128x1x256_0_2_768)) (extractStridedSlice Cert.PoolSRefIdeal.S128x1x256 ![0, 1, 768] (XC a0 a1 a2) Cert.PoolSRefIdeal.Gen.slices_S128x16x1024_S128x1x256_0_1_768)) (extractStridedSlice Cert.PoolSRefIdeal.S128x1x256 ![0, 0, 768] (XC a0 a1 a2) Cert.PoolSRefIdeal.Gen.slices_S128x16x1024_S128x1x256_0_0_768)

/-- The averages over sixteen rows. -/
def AVG16 (a0 : FVec Ideal S128x1024 .f32) (a1 : FVec Ideal S1024 .f32) (a2 : FVec Ideal S128x15x1024 .f32) : FVec Ideal Cert.PoolSRefIdeal.S128x1x256 .f32 :=
  Host.divf (SUM16 a0 a1 a2) (broadcastInDim Cert.PoolSRefIdeal.S128x1x256 ![0, 1, 2] Cert.PoolSRefIdeal.Gen.bcast_S1x1x1_S128x1x256_0_1_2 (broadcastInDim Cert.PoolSRefIdeal.S1x1x1 ![1] Cert.PoolSRefIdeal.Gen.bcast_S1_S1x1x1_1 (sitofp .f32 (minsi (addi (addi (broadcastInDim Cert.PoolSRefIdeal.S1 ![] Cert.PoolSRefIdeal.Gen.bcast_S_S1 (constantI Cert.PoolSRefIdeal.S_ 32 2048#32)) (iotaInDim Cert.PoolSRefIdeal.S1 32 0)) (broadcastInDim Cert.PoolSRefIdeal.S1 ![] Cert.PoolSRefIdeal.Gen.bcast_S_S1 (constantI Cert.PoolSRefIdeal.S_ 32 1#32))) (broadcastInDim Cert.PoolSRefIdeal.S1 ![] Cert.PoolSRefIdeal.Gen.bcast_S_S1 (constantI Cert.PoolSRefIdeal.S_ 32 16#32))))))

/-- The averages less the rows. -/
def DIF (a0 : FVec Ideal S128x1024 .f32) (a1 : FVec Ideal S1024 .f32) (a2 : FVec Ideal S128x15x1024 .f32) : FVec Ideal Cert.PoolSRefIdeal.S128x1x1024 .f32 :=
  subf (concatenate Cert.PoolSRefIdeal.S128x1x1024 2 [⟨Cert.PoolSRefIdeal.S128x1x256, (AVG2 a0 a1 a2)⟩, ⟨Cert.PoolSRefIdeal.S128x1x256, (AVG4 a0 a1 a2)⟩, ⟨Cert.PoolSRefIdeal.S128x1x256, (AVG8 a0 a1 a2)⟩, ⟨Cert.PoolSRefIdeal.S128x1x256, (AVG16 a0 a1 a2)⟩] Cert.PoolSRefIdeal.Gen.concatenates_S128x1x256_S128x1x256_S128x1x256_S128x1x256_S128x1x1024_d2) (XN a0 a1)

/-- The differences times the weights of their group. -/
def MIX (a0 : FVec Ideal S128x1024 .f32) (a1 : FVec Ideal S1024 .f32) (a2 : FVec Ideal S128x15x1024 .f32) (a3 : FVec Ideal S4x256x256 .f32) : FVec Ideal Cert.PoolSRefIdeal.S128x1x4x256 .f32 :=
  transpose Cert.PoolSRefIdeal.S128x1x4x256 [2, 3, 0, 1] (Host.dotGeneral Cert.PoolSRefIdeal.dot_S4x256x256_S128x1x4x256_S4x256x128x1_1_3_2_01_0_2 none a3 (shapeCast Cert.PoolSRefIdeal.S128x1x4x256 (DIF a0 a1 a2) Cert.PoolSRefIdeal.Gen.shapeCasts_S128x1x1024_S128x1x4x256)) Cert.PoolSRefIdeal.Gen.transposes_S4x256x128x1_S128x1x4x256_2_3_0_1

/-- The first result: the rows with the scaled mix added. -/
def REF (a0 : FVec Ideal S128x1024 .f32) (a1 : FVec Ideal S1024 .f32) (a2 : FVec Ideal S128x15x1024 .f32) (a3 : FVec Ideal S4x256x256 .f32) (a4 : FVec Ideal S1024 .f32) : FVec Ideal Cert.PoolSRefIdeal.S128x1024 .f32 :=
  shapeCast Cert.PoolSRefIdeal.S128x1024 (addf (XP a0) (mulf (shapeCast Cert.PoolSRefIdeal.S128x1x1024 (MIX a0 a1 a2 a3) Cert.PoolSRefIdeal.Gen.shapeCasts_S128x1x4x256_S128x1x1024) (broadcastInDim Cert.PoolSRefIdeal.S128x1x1024 ![0, 1, 2] Cert.PoolSRefIdeal.Gen.bcast_S1x1x1024_S128x1x1024_0_1_2 (broadcastInDim Cert.PoolSRefIdeal.S1x1x1024 ![2] Cert.PoolSRefIdeal.Gen.bcast_S1024_S1x1x1024_2 a4)))) Cert.PoolSRefIdeal.Gen.shapeCasts_S128x1x1024_S128x1024

/-- The second result: the last fifteen rows, side by side. -/
def STATE (a0 : FVec Ideal S128x1024 .f32) (a1 : FVec Ideal S1024 .f32) (a2 : FVec Ideal S128x15x1024 .f32) : FVec Ideal Cert.PoolSRefIdeal.S128x15360 .f32 :=
  shapeCast Cert.PoolSRefIdeal.S128x15360 (extractStridedSlice Cert.PoolSRefIdeal.S128x15x1024 ![0, 1, 0] (XC a0 a1 a2) Cert.PoolSRefIdeal.Gen.slices_S128x16x1024_S128x15x1024_0_1_0) Cert.PoolSRefIdeal.Gen.shapeCasts_S128x15x1024_S128x15360

/-! ## The reference's steps at an index -/

theorem XP_at (x : FVec Ideal S128x1024 .f32) (r : Fin 128) (k : Fin 1024) : XP x (ix3 r (0 : Fin 1) k) = x (ix2 r k) := by
  pointwise [XP]; blk_ext []

theorem XN_at (x : FVec Ideal S128x1024 .f32) (g : FVec Ideal S1024 .f32) (r : Fin 128) (k : Fin 1024) :
    XN x g (ix3 r (0 : Fin 1) k) = x (ix2 r k) * Ideal.rsqrt (Ideal.div (∑ l : Fin 1024, x (ix2 r l) * x (ix2 r l))
      (Ideal.ofBits .f32 0x44800000#32) + Ideal.ofBits .f32 0x358637BD#32) * g (ix1 k) := by
  have h : XN x g (ix3 r (0 : Fin 1) k) = XP x (ix3 r (0 : Fin 1) k) * Ideal.rsqrt (Ideal.div (∑ l : Fin 1024, XP x (ix3 r (0 : Fin 1) l) * XP x (ix3 r (0 : Fin 1) l))
      (Ideal.ofBits .f32 0x44800000#32) + Ideal.ofBits .f32 0x358637BD#32) * g (ix1 k) := by
    pointwise [XN]
  rw [h]; simp only [XP_at]

theorem XC_at (x : FVec Ideal S128x1024 .f32) (g : FVec Ideal S1024 .f32) (st : FVec Ideal S128x15x1024 .f32) (r : Fin 128) (i : Fin 16) (k : Fin 1024) :
    XC x g st (ix3 r i k) = if h : i.val < 15 then st (ix3 r (⟨i.val, h⟩ : Fin 15) k) else XN x g (ix3 r (⟨i.val - 15, by omega⟩ : Fin 1) k) := by
  unfold XC
  generalize XN x g = U
  pointwise []

theorem XC_st (x : FVec Ideal S128x1024 .f32) (g : FVec Ideal S1024 .f32) (st : FVec Ideal S128x15x1024 .f32) (r : Fin 128) (i : Fin 15) (j : Fin 16) (k : Fin 1024) (h : j.val = i.val) :
    XC x g st (ix3 r j k) = st (ix3 r i k) := by
  rw [XC_at, dif_pos (by omega)]
  exact congrArg (fun q => st (ix3 r q k)) (Fin.ext h)

theorem XC_xn (x : FVec Ideal S128x1024 .f32) (g : FVec Ideal S1024 .f32) (st : FVec Ideal S128x15x1024 .f32) (r : Fin 128) (k : Fin 1024) :
    XC x g st (ix3 r (15 : Fin 16) k) = XN x g (ix3 r (0 : Fin 1) k) := by
  rw [XC_at, dif_neg (by decide)]
  rfl

theorem STATE_at (x : FVec Ideal S128x1024 .f32) (g : FVec Ideal S1024 .f32) (st : FVec Ideal S128x15x1024 .f32) (r : Fin 128) (j : Fin 15) (k : Fin 1024) (e : Fin 15360) (he : e.val = j.val * 1024 + k.val) :
    STATE x g st (ix2 r e) = XC x g st (ix3 r (⟨1 + j.val, by omega⟩ : Fin 16) k) := by
  unfold STATE
  generalize XC x g st = U
  pointwise []; blk_ext []

/-- The count of rows a window of `w` covers at the sample's row. -/
def cnt (w : BitVec 32) : EReal :=
  FloatOps.sitofp (F := Ideal) .f32 (IntOp.minsi (IntOp.addi (IntOp.addi 2048#32 (BitVec.ofNat 32 0)) 1#32) w)

theorem cnt_2 : cnt 2#32 = Ideal.ofBits .f32 0x40000000#32 := by
  symm
  change _ = (((2 : ℤ) : ℝ) : EReal)
  simp [Ideal.ofBits, Ideal.ieee, -EReal.coe_mul]; norm_num

theorem cnt_4 : cnt 4#32 = Ideal.ofBits .f32 0x40800000#32 := by
  symm
  change _ = (((4 : ℤ) : ℝ) : EReal)
  simp [Ideal.ofBits, Ideal.ieee, -EReal.coe_mul]; norm_num

theorem cnt_8 : cnt 8#32 = Ideal.ofBits .f32 0x41000000#32 := by
  symm
  change _ = (((8 : ℤ) : ℝ) : EReal)
  simp [Ideal.ofBits, Ideal.ieee, -EReal.coe_mul]; norm_num

theorem cnt_16 : cnt 16#32 = Ideal.ofBits .f32 0x41800000#32 := by
  symm
  change _ = (((16 : ℤ) : ℝ) : EReal)
  simp [Ideal.ofBits, Ideal.ieee, -EReal.coe_mul]; norm_num

theorem SUM2_at (x : FVec Ideal S128x1024 .f32) (g : FVec Ideal S1024 .f32) (st : FVec Ideal S128x15x1024 .f32) (r : Fin 128) (e : Fin 256) (k : Fin 1024) (hk : (⟨e.val, by omega⟩ : Fin 1024) = k) :
    SUM2 x g st (ix3 r (0 : Fin 1) e) = XN x g (ix3 r (0 : Fin 1) k) + st (ix3 r (14 : Fin 15) k) := by
  subst hk
  have hst := fun i j h => (XC_st x g st r i j (⟨e.val, by omega⟩ : Fin 1024) h).symm
  have hxn := (XC_xn x g st r (⟨e.val, by omega⟩ : Fin 1024)).symm
  unfold SUM2
  rw [hxn, hst 14 14 rfl]
  generalize XC x g st = U
  pointwise []

theorem AVG2_at (x : FVec Ideal S128x1024 .f32) (g : FVec Ideal S1024 .f32) (st : FVec Ideal S128x15x1024 .f32) (r : Fin 128) (e : Fin 256) :
    AVG2 x g st (ix3 r (0 : Fin 1) e) = Ideal.div (SUM2 x g st (ix3 r (0 : Fin 1) e)) (cnt 2#32) := by
  unfold AVG2
  generalize SUM2 x g st = U
  pointwise [cnt]

theorem SUM4_at (x : FVec Ideal S128x1024 .f32) (g : FVec Ideal S1024 .f32) (st : FVec Ideal S128x15x1024 .f32) (r : Fin 128) (e : Fin 256) (k : Fin 1024) (hk : (⟨256 + e.val, by omega⟩ : Fin 1024) = k) :
    SUM4 x g st (ix3 r (0 : Fin 1) e) = XN x g (ix3 r (0 : Fin 1) k) + st (ix3 r (14 : Fin 15) k) + st (ix3 r (13 : Fin 15) k) + st (ix3 r (12 : Fin 15) k) := by
  subst hk
  have hst := fun i j h => (XC_st x g st r i j (⟨256 + e.val, by omega⟩ : Fin 1024) h).symm
  have hxn := (XC_xn x g st r (⟨256 + e.val, by omega⟩ : Fin 1024)).symm
  unfold SUM4
  rw [hxn, hst 14 14 rfl, hst 13 13 rfl, hst 12 12 rfl]
  generalize XC x g st = U
  pointwise []

theorem AVG4_at (x : FVec Ideal S128x1024 .f32) (g : FVec Ideal S1024 .f32) (st : FVec Ideal S128x15x1024 .f32) (r : Fin 128) (e : Fin 256) :
    AVG4 x g st (ix3 r (0 : Fin 1) e) = Ideal.div (SUM4 x g st (ix3 r (0 : Fin 1) e)) (cnt 4#32) := by
  unfold AVG4
  generalize SUM4 x g st = U
  pointwise [cnt]

theorem SUM8_at (x : FVec Ideal S128x1024 .f32) (g : FVec Ideal S1024 .f32) (st : FVec Ideal S128x15x1024 .f32) (r : Fin 128) (e : Fin 256) (k : Fin 1024) (hk : (⟨512 + e.val, by omega⟩ : Fin 1024) = k) :
    SUM8 x g st (ix3 r (0 : Fin 1) e) = XN x g (ix3 r (0 : Fin 1) k) + st (ix3 r (14 : Fin 15) k) + st (ix3 r (13 : Fin 15) k) + st (ix3 r (12 : Fin 15) k) + st (ix3 r (11 : Fin 15) k) + st (ix3 r (10 : Fin 15) k) + st (ix3 r (9 : Fin 15) k) + st (ix3 r (8 : Fin 15) k) := by
  subst hk
  have hst := fun i j h => (XC_st x g st r i j (⟨512 + e.val, by omega⟩ : Fin 1024) h).symm
  have hxn := (XC_xn x g st r (⟨512 + e.val, by omega⟩ : Fin 1024)).symm
  unfold SUM8
  rw [hxn, hst 14 14 rfl, hst 13 13 rfl, hst 12 12 rfl, hst 11 11 rfl, hst 10 10 rfl, hst 9 9 rfl, hst 8 8 rfl]
  generalize XC x g st = U
  pointwise []

theorem AVG8_at (x : FVec Ideal S128x1024 .f32) (g : FVec Ideal S1024 .f32) (st : FVec Ideal S128x15x1024 .f32) (r : Fin 128) (e : Fin 256) :
    AVG8 x g st (ix3 r (0 : Fin 1) e) = Ideal.div (SUM8 x g st (ix3 r (0 : Fin 1) e)) (cnt 8#32) := by
  unfold AVG8
  generalize SUM8 x g st = U
  pointwise [cnt]

theorem SUM16_at (x : FVec Ideal S128x1024 .f32) (g : FVec Ideal S1024 .f32) (st : FVec Ideal S128x15x1024 .f32) (r : Fin 128) (e : Fin 256) (k : Fin 1024) (hk : (⟨768 + e.val, by omega⟩ : Fin 1024) = k) :
    SUM16 x g st (ix3 r (0 : Fin 1) e) = XN x g (ix3 r (0 : Fin 1) k) + st (ix3 r (14 : Fin 15) k) + st (ix3 r (13 : Fin 15) k) + st (ix3 r (12 : Fin 15) k) + st (ix3 r (11 : Fin 15) k) + st (ix3 r (10 : Fin 15) k) + st (ix3 r (9 : Fin 15) k) + st (ix3 r (8 : Fin 15) k) + st (ix3 r (7 : Fin 15) k) + st (ix3 r (6 : Fin 15) k) + st (ix3 r (5 : Fin 15) k) + st (ix3 r (4 : Fin 15) k) + st (ix3 r (3 : Fin 15) k) + st (ix3 r (2 : Fin 15) k) + st (ix3 r (1 : Fin 15) k) + st (ix3 r (0 : Fin 15) k) := by
  subst hk
  have hst := fun i j h => (XC_st x g st r i j (⟨768 + e.val, by omega⟩ : Fin 1024) h).symm
  have hxn := (XC_xn x g st r (⟨768 + e.val, by omega⟩ : Fin 1024)).symm
  unfold SUM16
  rw [hxn, hst 14 14 rfl, hst 13 13 rfl, hst 12 12 rfl, hst 11 11 rfl, hst 10 10 rfl, hst 9 9 rfl, hst 8 8 rfl, hst 7 7 rfl, hst 6 6 rfl, hst 5 5 rfl, hst 4 4 rfl, hst 3 3 rfl, hst 2 2 rfl, hst 1 1 rfl, hst 0 0 rfl]
  generalize XC x g st = U
  pointwise []

theorem AVG16_at (x : FVec Ideal S128x1024 .f32) (g : FVec Ideal S1024 .f32) (st : FVec Ideal S128x15x1024 .f32) (r : Fin 128) (e : Fin 256) :
    AVG16 x g st (ix3 r (0 : Fin 1) e) = Ideal.div (SUM16 x g st (ix3 r (0 : Fin 1) e)) (cnt 16#32) := by
  unfold AVG16
  generalize SUM16 x g st = U
  pointwise [cnt]

theorem DIF_at (x : FVec Ideal S128x1024 .f32) (g : FVec Ideal S1024 .f32) (st : FVec Ideal S128x15x1024 .f32) (r : Fin 128) (e : Fin 256) :
    DIF x g st (ix3 r (0 : Fin 1) (⟨e.val, by omega⟩ : Fin 1024)) = AVG2 x g st (ix3 r (0 : Fin 1) e) - XN x g (ix3 r (0 : Fin 1) (⟨e.val, by omega⟩ : Fin 1024))
    ∧ DIF x g st (ix3 r (0 : Fin 1) (⟨256 + e.val, by omega⟩ : Fin 1024)) = AVG4 x g st (ix3 r (0 : Fin 1) e) - XN x g (ix3 r (0 : Fin 1) (⟨256 + e.val, by omega⟩ : Fin 1024))
    ∧ DIF x g st (ix3 r (0 : Fin 1) (⟨512 + e.val, by omega⟩ : Fin 1024)) = AVG8 x g st (ix3 r (0 : Fin 1) e) - XN x g (ix3 r (0 : Fin 1) (⟨512 + e.val, by omega⟩ : Fin 1024))
    ∧ DIF x g st (ix3 r (0 : Fin 1) (⟨768 + e.val, by omega⟩ : Fin 1024)) = AVG16 x g st (ix3 r (0 : Fin 1) e) - XN x g (ix3 r (0 : Fin 1) (⟨768 + e.val, by omega⟩ : Fin 1024)) := by
  unfold DIF
  generalize AVG2 x g st = U2
  generalize AVG4 x g st = U4
  generalize AVG8 x g st = U8
  generalize AVG16 x g st = U16
  generalize XN x g = X
  have he := e.isLt
  refine ⟨?_, ?_, ?_, ?_⟩
  · pointwise []
  · pointwise []
  · pointwise []
    rw [dif_neg (by first | omega | (simp; done) | (simp; omega)), dif_neg (by first | omega | (simp; done) | (simp; omega)), dif_pos (by first | omega | (simp; done) | (simp; omega))]
    refine congrArg (· - _) ?_
    blk_ext []
  · pointwise []
    rw [dif_neg (by first | omega | (simp; done) | (simp; omega)), dif_neg (by first | omega | (simp; done) | (simp; omega)), dif_neg (by first | omega | (simp; done) | (simp; omega))]
    refine congrArg (· - _) ?_
    blk_ext []

theorem MIX_at (x : FVec Ideal S128x1024 .f32) (g : FVec Ideal S1024 .f32) (st : FVec Ideal S128x15x1024 .f32) (w : FVec Ideal S4x256x256 .f32) (r : Fin 128) (i : Fin 4) (e : Fin 256) :
    MIX x g st w (ix4 r (0 : Fin 1) i e) = ∑ l : Fin 256, DIF x g st (ix3 r (0 : Fin 1) (⟨i.val * 256 + l.val, by omega⟩ : Fin 1024)) * w (ix3 i l e) := by
  unfold MIX
  generalize DIF x g st = D
  pointwise []
  refine Finset.sum_congr rfl fun l _ => ?_
  rw [mul_comm]

theorem REF_at (x : FVec Ideal S128x1024 .f32) (g : FVec Ideal S1024 .f32) (st : FVec Ideal S128x15x1024 .f32) (w : FVec Ideal S4x256x256 .f32) (sc : FVec Ideal S1024 .f32)
    (r : Fin 128) (i : Fin 4) (e : Fin 256) (k : Fin 1024) (hk : k.val = i.val * 256 + e.val) :
    REF x g st w sc (ix2 r k) = x (ix2 r k) + MIX x g st w (ix4 r (0 : Fin 1) i e) * sc (ix1 k) := by
  rw [← XP_at x r k]
  have h1 : ∀ T : FVec Ideal Cert.PoolSRefIdeal.S128x1x1024 .f32, shapeCast Cert.PoolSRefIdeal.S128x1024 T Cert.PoolSRefIdeal.Gen.shapeCasts_S128x1x1024_S128x1024 (ix2 r k) = T (ix3 r (0 : Fin 1) k) := by
    intro T; pointwise []; blk_ext []
  have h2 : ∀ T : FVec Ideal Cert.PoolSRefIdeal.S128x1x4x256 .f32, shapeCast Cert.PoolSRefIdeal.S128x1x1024 T Cert.PoolSRefIdeal.Gen.shapeCasts_S128x1x4x256_S128x1x1024 (ix3 r (0 : Fin 1) k) = T (ix4 r (0 : Fin 1) i e) := by
    intro T; pointwise []; blk_ext []
  unfold REF
  rw [h1, ← h2 (MIX x g st w)]
  generalize shapeCast Cert.PoolSRefIdeal.S128x1x1024 (MIX x g st w) Cert.PoolSRefIdeal.Gen.shapeCasts_S128x1x4x256_S128x1x1024 = M
  pointwise []

/-! ## The kernel's payloads at an index -/

theorem pay2_at (x : Vec Ideal S128x1024 .f32) (g : Vec Ideal S1x1024 .f32) (p : Fin 128) (k : Fin 1024) :
    k0_pay2 x g (ix2 p k) = x (ix2 p k) * Ideal.rsqrt (Ideal.div (∑ l : Fin 1024, x (ix2 p l) * x (ix2 p l))
      (Ideal.ofBits .f32 0x44800000#32) + Ideal.ofBits .f32 0x358637BD#32) * g (ix2 (0 : Fin 1) k) := by
  pointwise [k0_pay2]

section Sums
variable (x : Vec Ideal S128x1024 .f32) (g : Vec Ideal S1x1024 .f32) (st : Vec Ideal S128x15360 .f32)

theorem pay4_at (p : Fin 128) (k : Fin 1024) :
    k0_pay4 x g st (ix2 p k) = k0_pay2 x g (ix2 p k) + st (ix2 p (⟨14336 + k.val, by omega⟩ : Fin 15360)) := by
  unfold k0_pay4
  generalize k0_pay2 x g = U
  pointwise [k0_pay3]

theorem pay7_at (p : Fin 128) (k : Fin 1024) :
    k0_pay7 x g st (ix2 p k) = k0_pay4 x g st (ix2 p k) + st (ix2 p (⟨13312 + k.val, by omega⟩ : Fin 15360)) + st (ix2 p (⟨12288 + k.val, by omega⟩ : Fin 15360)) := by
  unfold k0_pay7
  generalize k0_pay4 x g st = U
  pointwise [k0_pay3]

theorem pay10_at (p : Fin 128) (k : Fin 1024) :
    k0_pay10 x g st (ix2 p k) = k0_pay7 x g st (ix2 p k) + st (ix2 p (⟨11264 + k.val, by omega⟩ : Fin 15360)) + st (ix2 p (⟨10240 + k.val, by omega⟩ : Fin 15360)) + st (ix2 p (⟨9216 + k.val, by omega⟩ : Fin 15360)) + st (ix2 p (⟨8192 + k.val, by omega⟩ : Fin 15360)) := by
  unfold k0_pay10
  generalize k0_pay7 x g st = U
  pointwise [k0_pay3]

theorem pay13_at (p : Fin 128) (k : Fin 1024) :
    k0_pay13 x g st (ix2 p k) = k0_pay10 x g st (ix2 p k) + st (ix2 p (⟨7168 + k.val, by omega⟩ : Fin 15360)) + st (ix2 p (⟨6144 + k.val, by omega⟩ : Fin 15360)) + st (ix2 p (⟨5120 + k.val, by omega⟩ : Fin 15360)) + st (ix2 p (⟨4096 + k.val, by omega⟩ : Fin 15360)) + st (ix2 p (⟨3072 + k.val, by omega⟩ : Fin 15360)) := by
  unfold k0_pay13
  generalize k0_pay10 x g st = U
  pointwise [k0_pay3]

theorem pay5_at (p : Fin 128) (e : Fin 256) : k0_pay5 x g st (ix2 p e) = k0_pay4 x g st (ix2 p (⟨e.val, by omega⟩ : Fin 1024)) := by
  unfold k0_pay5
  generalize k0_pay4 x g st = U
  pointwise []

theorem pay8_at (p : Fin 128) (e : Fin 256) : k0_pay8 x g st (ix2 p e) = k0_pay7 x g st (ix2 p (⟨256 + e.val, by omega⟩ : Fin 1024)) := by
  unfold k0_pay8
  generalize k0_pay7 x g st = U
  pointwise []

theorem pay11_at (p : Fin 128) (e : Fin 256) : k0_pay11 x g st (ix2 p e) = k0_pay10 x g st (ix2 p (⟨512 + e.val, by omega⟩ : Fin 1024)) := by
  unfold k0_pay11
  generalize k0_pay10 x g st = U
  pointwise []

end Sums

/-- The averages of group 0 less the rows, times the group's weights. -/
def grp0 (U : FVec Ideal S128x1024 .f32) (S N : FVec Ideal S128x256 .f32) (W : Vec Ideal S1x256x256 .bf16) : FVec Ideal S128x256 .f32 :=
  matmul dot_S128x256_S256x256_S128x256_1_0_0_1_n_n none
    (truncf .bf16 (subf (divf S N) (extractStridedSlice S128x256 ![0, 0] U slices_S128x1024_o0_0_S128x256)) bitsLt_bf16_f32 : FVec Ideal S128x256 .bf16)
    (shapeCast S256x256 W shapeCasts_S1x256x256_S256x256 : FVec Ideal S256x256 .bf16) (constant S128x256 .f32 0x00000000#32)

theorem grp0_at (U : FVec Ideal S128x1024 .f32) (S N : FVec Ideal S128x256 .f32) (W : Vec Ideal S1x256x256 .bf16) (p : Fin 128) (e : Fin 256) :
    grp0 U S N W (ix2 p e) = ∑ l : Fin 256, (Ideal.div (S (ix2 p l)) (N (ix2 p l)) - U (ix2 p (⟨l.val, by omega⟩ : Fin 1024))) * W (ix3 (0 : Fin 1) l e) := by
  pointwise [grp0]

/-- The averages of group 1 less the rows, times the group's weights. -/
def grp1 (U : FVec Ideal S128x1024 .f32) (S N : FVec Ideal S128x256 .f32) (W : Vec Ideal S1x256x256 .bf16) : FVec Ideal S128x256 .f32 :=
  matmul dot_S128x256_S256x256_S128x256_1_0_0_1_n_n none
    (truncf .bf16 (subf (divf S N) (extractStridedSlice S128x256 ![0, 256] U slices_S128x1024_o0_256_S128x256)) bitsLt_bf16_f32 : FVec Ideal S128x256 .bf16)
    (shapeCast S256x256 W shapeCasts_S1x256x256_S256x256 : FVec Ideal S256x256 .bf16) (constant S128x256 .f32 0x00000000#32)

theorem grp1_at (U : FVec Ideal S128x1024 .f32) (S N : FVec Ideal S128x256 .f32) (W : Vec Ideal S1x256x256 .bf16) (p : Fin 128) (e : Fin 256) :
    grp1 U S N W (ix2 p e) = ∑ l : Fin 256, (Ideal.div (S (ix2 p l)) (N (ix2 p l)) - U (ix2 p (⟨256 + l.val, by omega⟩ : Fin 1024))) * W (ix3 (0 : Fin 1) l e) := by
  pointwise [grp1]

/-- The averages of group 2 less the rows, times the group's weights. -/
def grp2 (U : FVec Ideal S128x1024 .f32) (S N : FVec Ideal S128x256 .f32) (W : Vec Ideal S1x256x256 .bf16) : FVec Ideal S128x256 .f32 :=
  matmul dot_S128x256_S256x256_S128x256_1_0_0_1_n_n none
    (truncf .bf16 (subf (divf S N) (extractStridedSlice S128x256 ![0, 512] U slices_S128x1024_o0_512_S128x256)) bitsLt_bf16_f32 : FVec Ideal S128x256 .bf16)
    (shapeCast S256x256 W shapeCasts_S1x256x256_S256x256 : FVec Ideal S256x256 .bf16) (constant S128x256 .f32 0x00000000#32)

theorem grp2_at (U : FVec Ideal S128x1024 .f32) (S N : FVec Ideal S128x256 .f32) (W : Vec Ideal S1x256x256 .bf16) (p : Fin 128) (e : Fin 256) :
    grp2 U S N W (ix2 p e) = ∑ l : Fin 256, (Ideal.div (S (ix2 p l)) (N (ix2 p l)) - U (ix2 p (⟨512 + l.val, by omega⟩ : Fin 1024))) * W (ix3 (0 : Fin 1) l e) := by
  pointwise [grp2]

/-- The averages of group 3 less the rows, times the group's weights. -/
def grp3 (U : FVec Ideal S128x1024 .f32) (S N : FVec Ideal S128x256 .f32) (W : Vec Ideal S1x256x256 .bf16) : FVec Ideal S128x256 .f32 :=
  matmul dot_S128x256_S256x256_S128x256_1_0_0_1_n_n none
    (truncf .bf16 (subf (divf S N) (extractStridedSlice S128x256 ![0, 768] U slices_S128x1024_o0_768_S128x256)) bitsLt_bf16_f32 : FVec Ideal S128x256 .bf16)
    (shapeCast S256x256 W shapeCasts_S1x256x256_S256x256 : FVec Ideal S256x256 .bf16) (constant S128x256 .f32 0x00000000#32)

theorem grp3_at (U : FVec Ideal S128x1024 .f32) (S N : FVec Ideal S128x256 .f32) (W : Vec Ideal S1x256x256 .bf16) (p : Fin 128) (e : Fin 256) :
    grp3 U S N W (ix2 p e) = ∑ l : Fin 256, (Ideal.div (S (ix2 p l)) (N (ix2 p l)) - U (ix2 p (⟨768 + l.val, by omega⟩ : Fin 1024))) * W (ix3 (0 : Fin 1) l e) := by
  pointwise [grp3]

/-- The sums over sixteen rows, which the kernel finishes where it puts the four groups together. -/
def sum16 (st : FVec Ideal S128x15360 .f32) (S V : FVec Ideal S128x1024 .f32) : FVec Ideal S128x256 .f32 :=
  extractStridedSlice S128x256 ![0, 768] (addf (addf (addf S V) (extractStridedSlice S128x1024 ![0, 1024] st slices_S128x15360_o0_1024_S128x1024))
    (extractStridedSlice S128x1024 ![0, 0] st slices_S128x15360_o0_0_S128x1024)) slices_S128x1024_o0_768_S128x256

theorem sum16_at (st : Vec Ideal S128x15360 .f32) (S : FVec Ideal S128x1024 .f32) (p : Fin 128) (e : Fin 256) (k : Fin 1024) (hk : (⟨768 + e.val, by omega⟩ : Fin 1024) = k) :
    sum16 (k0_pay3 st) S (k0_pay14 st) (ix2 p e) = S (ix2 p k) + st (ix2 p (⟨2048 + k.val, by omega⟩ : Fin 15360))
      + st (ix2 p (⟨1024 + k.val, by omega⟩ : Fin 15360)) + st (ix2 p (⟨k.val, by omega⟩ : Fin 15360)) := by
  subst hk
  pointwise [sum16, k0_pay14, k0_pay3]

/-- The count of the last group. -/
def n16 : FVec Ideal S128x256 .f32 := broadcast S128x256 (Scalar.ofBits .f32 0x41800000#32)

/-- The four groups side by side, scaled and added to the rows. -/
theorem pay15_at (x : Vec Ideal S128x1024 .f32) (U : FVec Ideal S128x1024 .f32) (st : FVec Ideal S128x15360 .f32) (S0 N0 S1 N1 S2 N2 : FVec Ideal S128x256 .f32)
    (S V : FVec Ideal S128x1024 .f32) (sc : Vec Ideal S1x1024 .f32) (W0 W1 W2 W3 : Vec Ideal S1x256x256 .bf16) (p : Fin 128) (i : Fin 4) (e : Fin 256)
    (k : Fin 1024) (hk : k.val = i.val * 256 + e.val) :
    k0_pay15 x U st S0 N0 S1 N1 S2 N2 S V sc W0 W1 W2 W3 (ix2 p k)
      = x (ix2 p k) + (![grp0 U S0 N0 W0, grp1 U S1 N1 W1, grp2 U S2 N2 W2, grp3 U (sum16 st S V) n16 W3] i) (ix2 p e) * sc (ix2 (0 : Fin 1) k) := by
  have h : ∀ T : FVec Ideal S128x1024 .f32, (addf x (mulf T (broadcastTo S128x1024 (shapeCast S1x1024 sc shapeCasts_S1x1024_S1x1024) broadcasts_S1x1024_S128x1024)) : FVec Ideal S128x1024 .f32) (ix2 p k)
      = x (ix2 p k) + T (ix2 p k) * sc (ix2 (0 : Fin 1) k) := by
    intro T; pointwise []
  refine (h (concatenate S128x1024 1 [⟨S128x256, grp0 U S0 N0 W0⟩, ⟨S128x256, grp1 U S1 N1 W1⟩, ⟨S128x256, grp2 U S2 N2 W2⟩, ⟨S128x256, grp3 U (sum16 st S V) n16 W3⟩] concatenates_S128x256_S128x256_S128x256_S128x256_S128x1024_d1)).trans ?_
  congr 2
  generalize grp0 U S0 N0 W0 = Y0
  generalize grp1 U S1 N1 W1 = Y1
  generalize grp2 U S2 N2 W2 = Y2
  generalize grp3 U (sum16 st S V) n16 W3 = Y3
  have he := e.isLt
  obtain ⟨kv, hkv⟩ := k
  change kv = _ at hk
  subst hk
  fin_cases i
  · pointwise []
  · pointwise []
  · pointwise []
    rw [dif_neg (by first | omega | (simp; done) | (simp; omega)), dif_neg (by first | omega | (simp; done) | (simp; omega)), dif_pos (by first | omega | (simp; done) | (simp; omega))]
    blk_ext []
  · pointwise []
    rw [dif_neg (by first | omega | (simp; done) | (simp; omega)), dif_neg (by first | omega | (simp; done) | (simp; omega)), dif_neg (by first | omega | (simp; done) | (simp; omega))]
    blk_ext []

/-! ## The blocks -/

variable (m : (ℓ : Loc nD τ sig) → Buf (Elt Ideal) ℓ)

abbrev A0 (c : Dev nD) : FVec Ideal S128x1024 .f32 := m ((c : Thread nD τ).loc main_arg0)
abbrev A1 (c : Dev nD) : FVec Ideal S1024 .f32 := m ((c : Thread nD τ).loc main_arg1)
abbrev A2 (c : Dev nD) : FVec Ideal S128x15x1024 .f32 := m ((c : Thread nD τ).loc main_arg2)
abbrev A3 (c : Dev nD) : FVec Ideal S4x256x256 .f32 := m ((c : Thread nD τ).loc main_arg3)
abbrev A4 (c : Dev nD) : FVec Ideal S1024 .f32 := m ((c : Thread nD τ).loc main_arg4)

/-- The one grid point has every array whole. -/
theorem idx : ∀ t : Fin cfg0.N, win0_0.index t = ![0, 0] ∧ win0_1.index t = ![0, 0] ∧ win0_2.index t = ![0, 0] ∧ win0_3.index t = ![0, 0, 0] ∧ win0_4.index t = ![0, 0] ∧ win0_5.index t = ![0, 0] ∧ win0_6.index t = ![0, 0] :=
  (by decide +kernel : ∀ t : Fin grid0.N, win0_0.index t = ![0, 0] ∧ win0_1.index t = ![0, 0] ∧ win0_2.index t = ![0, 0] ∧ win0_3.index t = ![0, 0, 0] ∧ win0_4.index t = ![0, 0] ∧ win0_5.index t = ![0, 0] ∧ win0_6.index t = ![0, 0])

theorem normed_block (c : Dev nD) (t : Fin cfg0.N) (r : Fin 128) (k : Fin 1024) :
    k0_pay2 (iblk m c 0 t) (iblk m c 1 t) (ix2 r k) = XN (A0 m c) (A1 m c) (ix3 r (0 : Fin 1) k) := by
  have hx : ∀ k : Fin 1024, (show Vec Ideal S128x1024 .f32 from iblk m c 0 t) (ix2 r k) = A0 m c (ix2 r k) := by
    intro k; blk_point [iblk, V, idx t]
  have hg : ∀ k : Fin 1024, (show Vec Ideal S1x1024 .f32 from iblk m c 1 t) (ix2 (0 : Fin 1) k) = A1 m c (ix1 k) := by
    intro k; blk_point [iblk, V, idx t]
  refine (pay2_at _ _ _ _).trans ?_
  rw [XN_at]
  simp only [hx, hg]

/-- The state's rows, side by side in the kernel's block. -/
theorem state_block (c : Dev nD) (t : Fin cfg0.N) (r : Fin 128) (j : Fin 15) (k : Fin 1024) (e : Fin 15360) (he : e.val = j.val * 1024 + k.val) :
    (show Vec Ideal S128x15360 .f32 from iblk m c 2 t) (ix2 r e) = A2 m c (ix3 r j k) := by
  blk_point [iblk, V, idx t]

theorem weight0 (c : Dev nD) (t : Fin cfg0.N) (l e : Fin 256) :
    (show Vec Ideal S1x256x256 .bf16 from View.ld (iblk m c 3 t) (Rect.unit ![0, 0, 0] ![1, 256, 256] inb_S4x256x256_S1x256x256_0_0_0)) (ix3 (0 : Fin 1) l e)
      = A3 m c (ix3 (0 : Fin 4) l e) := by
  blk_point [iblk, V, idx t]

theorem weight1 (c : Dev nD) (t : Fin cfg0.N) (l e : Fin 256) :
    (show Vec Ideal S1x256x256 .bf16 from View.ld (iblk m c 3 t) (Rect.unit ![1, 0, 0] ![1, 256, 256] inb_S4x256x256_S1x256x256_1_0_0)) (ix3 (0 : Fin 1) l e)
      = A3 m c (ix3 (1 : Fin 4) l e) := by
  blk_point [iblk, V, idx t]

theorem weight2 (c : Dev nD) (t : Fin cfg0.N) (l e : Fin 256) :
    (show Vec Ideal S1x256x256 .bf16 from View.ld (iblk m c 3 t) (Rect.unit ![2, 0, 0] ![1, 256, 256] inb_S4x256x256_S1x256x256_2_0_0)) (ix3 (0 : Fin 1) l e)
      = A3 m c (ix3 (2 : Fin 4) l e) := by
  blk_point [iblk, V, idx t]

theorem weight3 (c : Dev nD) (t : Fin cfg0.N) (l e : Fin 256) :
    (show Vec Ideal S1x256x256 .bf16 from View.ld (iblk m c 3 t) (Rect.unit ![3, 0, 0] ![1, 256, 256] inb_S4x256x256_S1x256x256_3_0_0)) (ix3 (0 : Fin 1) l e)
      = A3 m c (ix3 (3 : Fin 4) l e) := by
  blk_point [iblk, V, idx t]

theorem pay4_block (c : Dev nD) (t : Fin cfg0.N) (r : Fin 128) (k : Fin 1024) :
    k0_pay4 (iblk m c 0 t) (iblk m c 1 t) (iblk m c 2 t) (ix2 r k) = XN (A0 m c) (A1 m c) (ix3 r (0 : Fin 1) k) + A2 m c (ix3 r (14 : Fin 15) k) :=
  (pay4_at _ _ _ _ _).trans (congrArg₂ (· + ·) (normed_block m c t r k) (state_block m c t r 14 k _ (by simp)))

theorem pay7_block (c : Dev nD) (t : Fin cfg0.N) (r : Fin 128) (k : Fin 1024) :
    k0_pay7 (iblk m c 0 t) (iblk m c 1 t) (iblk m c 2 t) (ix2 r k) = XN (A0 m c) (A1 m c) (ix3 r (0 : Fin 1) k) + A2 m c (ix3 r (14 : Fin 15) k) + A2 m c (ix3 r (13 : Fin 15) k) + A2 m c (ix3 r (12 : Fin 15) k) :=
  (pay7_at _ _ _ _ _).trans (congrArg₂ (· + ·) (congrArg₂ (· + ·) (pay4_block m c t r k) (state_block m c t r 13 k _ (by simp))) (state_block m c t r 12 k _ (by simp)))

theorem pay10_block (c : Dev nD) (t : Fin cfg0.N) (r : Fin 128) (k : Fin 1024) :
    k0_pay10 (iblk m c 0 t) (iblk m c 1 t) (iblk m c 2 t) (ix2 r k) = XN (A0 m c) (A1 m c) (ix3 r (0 : Fin 1) k) + A2 m c (ix3 r (14 : Fin 15) k) + A2 m c (ix3 r (13 : Fin 15) k) + A2 m c (ix3 r (12 : Fin 15) k) + A2 m c (ix3 r (11 : Fin 15) k) + A2 m c (ix3 r (10 : Fin 15) k) + A2 m c (ix3 r (9 : Fin 15) k) + A2 m c (ix3 r (8 : Fin 15) k) :=
  (pay10_at _ _ _ _ _).trans (congrArg₂ (· + ·) (congrArg₂ (· + ·) (congrArg₂ (· + ·) (congrArg₂ (· + ·) (pay7_block m c t r k) (state_block m c t r 11 k _ (by simp))) (state_block m c t r 10 k _ (by simp))) (state_block m c t r 9 k _ (by simp))) (state_block m c t r 8 k _ (by simp)))

theorem pay13_block (c : Dev nD) (t : Fin cfg0.N) (r : Fin 128) (k : Fin 1024) :
    k0_pay13 (iblk m c 0 t) (iblk m c 1 t) (iblk m c 2 t) (ix2 r k) = XN (A0 m c) (A1 m c) (ix3 r (0 : Fin 1) k) + A2 m c (ix3 r (14 : Fin 15) k) + A2 m c (ix3 r (13 : Fin 15) k) + A2 m c (ix3 r (12 : Fin 15) k) + A2 m c (ix3 r (11 : Fin 15) k) + A2 m c (ix3 r (10 : Fin 15) k) + A2 m c (ix3 r (9 : Fin 15) k) + A2 m c (ix3 r (8 : Fin 15) k) + A2 m c (ix3 r (7 : Fin 15) k) + A2 m c (ix3 r (6 : Fin 15) k) + A2 m c (ix3 r (5 : Fin 15) k) + A2 m c (ix3 r (4 : Fin 15) k) + A2 m c (ix3 r (3 : Fin 15) k) :=
  (pay13_at _ _ _ _ _).trans (congrArg₂ (· + ·) (congrArg₂ (· + ·) (congrArg₂ (· + ·) (congrArg₂ (· + ·) (congrArg₂ (· + ·) (pay10_block m c t r k) (state_block m c t r 7 k _ (by simp))) (state_block m c t r 6 k _ (by simp))) (state_block m c t r 5 k _ (by simp))) (state_block m c t r 4 k _ (by simp))) (state_block m c t r 3 k _ (by simp)))

theorem sum16_block (c : Dev nD) (t : Fin cfg0.N) (r : Fin 128) (e : Fin 256) (k : Fin 1024) (hk : (⟨768 + e.val, by omega⟩ : Fin 1024) = k) :
    sum16 (k0_pay3 (iblk m c 2 t)) (k0_pay13 (iblk m c 0 t) (iblk m c 1 t) (iblk m c 2 t)) (k0_pay14 (iblk m c 2 t)) (ix2 r e) = XN (A0 m c) (A1 m c) (ix3 r (0 : Fin 1) k) + A2 m c (ix3 r (14 : Fin 15) k) + A2 m c (ix3 r (13 : Fin 15) k) + A2 m c (ix3 r (12 : Fin 15) k) + A2 m c (ix3 r (11 : Fin 15) k) + A2 m c (ix3 r (10 : Fin 15) k) + A2 m c (ix3 r (9 : Fin 15) k) + A2 m c (ix3 r (8 : Fin 15) k) + A2 m c (ix3 r (7 : Fin 15) k) + A2 m c (ix3 r (6 : Fin 15) k) + A2 m c (ix3 r (5 : Fin 15) k) + A2 m c (ix3 r (4 : Fin 15) k) + A2 m c (ix3 r (3 : Fin 15) k) + A2 m c (ix3 r (2 : Fin 15) k) + A2 m c (ix3 r (1 : Fin 15) k) + A2 m c (ix3 r (0 : Fin 15) k) :=
  (sum16_at _ _ _ _ _ hk).trans (congrArg₂ (· + ·) (congrArg₂ (· + ·) (congrArg₂ (· + ·) (pay13_block m c t r k) (state_block m c t r 2 k _ (by simp))) (state_block m c t r 1 k _ (by simp))) (state_block m c t r 0 k _ (by simp)))

/-- The rows stored. -/
def rows (c : Dev nD) (t : Fin cfg0.N) : FVec Ideal S128x1024 .f32 :=
  k0_pay15 (iblk m c 0 t) (k0_pay2 (iblk m c 0 t) (iblk m c 1 t)) (k0_pay3 (iblk m c 2 t))
    (k0_pay5 (iblk m c 0 t) (iblk m c 1 t) (iblk m c 2 t)) k0_pay6 (k0_pay8 (iblk m c 0 t) (iblk m c 1 t) (iblk m c 2 t)) k0_pay9 (k0_pay11 (iblk m c 0 t) (iblk m c 1 t) (iblk m c 2 t)) k0_pay12 (k0_pay13 (iblk m c 0 t) (iblk m c 1 t) (iblk m c 2 t)) (k0_pay14 (iblk m c 2 t)) (iblk m c 4 t)
    (View.ld (iblk m c 3 t) (Rect.unit ![0, 0, 0] ![1, 256, 256] inb_S4x256x256_S1x256x256_0_0_0))
    (View.ld (iblk m c 3 t) (Rect.unit ![1, 0, 0] ![1, 256, 256] inb_S4x256x256_S1x256x256_1_0_0))
    (View.ld (iblk m c 3 t) (Rect.unit ![2, 0, 0] ![1, 256, 256] inb_S4x256x256_S1x256x256_2_0_0))
    (View.ld (iblk m c 3 t) (Rect.unit ![3, 0, 0] ![1, 256, 256] inb_S4x256x256_S1x256x256_3_0_0))

/-- The rows stored, at an index. -/
theorem point (c : Dev nD) (t : Fin cfg0.N) (r : Fin 128) (k : Fin 1024) :
    rows m c t (ix2 r k) = REF (A0 m c) (A1 m c) (A2 m c) (A3 m c) (A4 m c) (ix2 r k) := by
  have hx : (show Vec Ideal S128x1024 .f32 from iblk m c 0 t) (ix2 r k) = A0 m c (ix2 r k) := by
    blk_point [iblk, V, idx t]
  have hsc : (show Vec Ideal S1x1024 .f32 from iblk m c 4 t) (ix2 (0 : Fin 1) k) = A4 m c (ix1 k) := by
    blk_point [iblk, V, idx t]
  obtain ⟨i, hi⟩ : ∃ i : Fin 4, i.val = k.val / 256 := ⟨⟨k.val / 256, by omega⟩, rfl⟩
  obtain ⟨e, he⟩ : ∃ e : Fin 256, e.val = k.val % 256 := ⟨⟨k.val % 256, by omega⟩, rfl⟩
  rw [REF_at _ _ _ _ _ r i e k (by omega)]
  refine (pay15_at _ _ _ _ _ _ _ _ _ _ _ _ _ _ _ _ r i e k (by omega)).trans ?_
  refine congrArg₂ (· + ·) hx (congrArg₂ (· * ·) ?_ hsc)
  rw [MIX_at]
  fin_cases i
  · refine (grp0_at _ _ _ _ r e).trans (Finset.sum_congr rfl fun l _ => congrArg₂ (· * ·) ?_ (weight0 m c t l e))
    have hd := (DIF_at (A0 m c) (A1 m c) (A2 m c) r l).1
    rw [AVG2_at, SUM2_at _ _ _ _ _ _ rfl, cnt_2] at hd
    refine (congrArg₂ (· - ·) (congrArg₂ Ideal.div ((pay5_at _ _ _ r l).trans (pay4_block m c t r _)) rfl) (normed_block m c t r _)).trans (hd.symm.trans ?_)
    blk_ext []
  · refine (grp1_at _ _ _ _ r e).trans (Finset.sum_congr rfl fun l _ => congrArg₂ (· * ·) ?_ (weight1 m c t l e))
    have hd := (DIF_at (A0 m c) (A1 m c) (A2 m c) r l).2.1
    rw [AVG4_at, SUM4_at _ _ _ _ _ _ rfl, cnt_4] at hd
    refine (congrArg₂ (· - ·) (congrArg₂ Ideal.div ((pay8_at _ _ _ r l).trans (pay7_block m c t r _)) rfl) (normed_block m c t r _)).trans (hd.symm.trans ?_)
    blk_ext []
  · refine (grp2_at _ _ _ _ r e).trans (Finset.sum_congr rfl fun l _ => congrArg₂ (· * ·) ?_ (weight2 m c t l e))
    have hd := (DIF_at (A0 m c) (A1 m c) (A2 m c) r l).2.2.1
    rw [AVG8_at, SUM8_at _ _ _ _ _ _ rfl, cnt_8] at hd
    refine (congrArg₂ (· - ·) (congrArg₂ Ideal.div ((pay11_at _ _ _ r l).trans (pay10_block m c t r _)) rfl) (normed_block m c t r _)).trans (hd.symm.trans ?_)
    blk_ext []
  · refine (grp3_at _ _ _ _ r e).trans (Finset.sum_congr rfl fun l _ => congrArg₂ (· * ·) ?_ (weight3 m c t l e))
    have hd := (DIF_at (A0 m c) (A1 m c) (A2 m c) r l).2.2.2
    rw [AVG16_at, SUM16_at _ _ _ _ _ _ rfl, cnt_16] at hd
    refine (congrArg₂ (· - ·) (congrArg₂ Ideal.div (sum16_block m c t r l _ rfl) rfl) (normed_block m c t r _)).trans (hd.symm.trans ?_)
    blk_ext []

/-- After the run the array of rows is the reference's first result. -/
theorem final_rows (c : Dev nD) : (dats m 0 c).arrAt 5 cfg0.N = REF (A0 m c) (A1 m c) (A2 m c) (A3 m c) (A4 m c) := by
  refine (dats m 0 c).arrAt_eq_of_covers 5 _ (by decide +kernel) fun t _ y => ?_
  blk_simp
  rw [after0_5]
  have hr : (outsAt0 m c t).1 = rows m c t := by
    unfold outsAt0
    frame_out
    simp only [read_unread_whole]
    rfl
  rw [hr]
  idx_vars y
  have he : ((View.whole main_v4_0).slice (win0_5.rect t)).emb (ix2 y0 y1) = ix2 y0 y1 := by
    blk_ext [idx t]
  rw [he]
  exact point m c t y0 y1

/-- After the run the state array is the reference's second result. -/
theorem final_state (c : Dev nD) : (dats m 0 c).arrAt 6 cfg0.N = STATE (A0 m c) (A1 m c) (A2 m c) := by
  refine (dats m 0 c).arrAt_eq_of_covers 6 _ (by decide +kernel) fun t hf y => ?_
  blk_simp
  rw [after0_6]
  unfold outsAt0
  frame_out
  simp only [read_unread_whole]
  idx_vars y
  have he : ((View.whole main_v4_1).slice (win0_6.rect t)).emb (ix2 y0 y1) = ix2 y0 y1 := by
    blk_ext [idx t]
  rw [he]
  clear he hf
  canon_tiles x h using (View.cover_of_tiledBy _ ![128, 1024] (by sl_kernel_rfl) _)
  · idx_vars x
    obtain rfl : y0 = x0 := Fin.ext h0
    have h1' : y1.val = 14336 + x1.val := h1
    rw [STATE_at _ _ _ y0 14 x1 y1 (by simp; omega)]
    exact (normed_block m c t y0 x1).trans (XC_xn _ _ _ _ _).symm
  · idx_vars x
    obtain rfl : y0 = x0 := Fin.ext h0
    have h1' : y1.val = x1.val := h1
    have hx1 : x1.val < 14336 := x1.isLt
    obtain ⟨j, hj⟩ : ∃ j : Fin 15, j.val = x1.val / 1024 := ⟨⟨x1.val / 1024, by omega⟩, rfl⟩
    obtain ⟨k, hk⟩ : ∃ k : Fin 1024, k.val = x1.val % 1024 := ⟨⟨x1.val % 1024, by omega⟩, rfl⟩
    rw [STATE_at _ _ _ y0 j k y1 (by omega), XC_st _ _ _ _ (⟨1 + j.val, by omega⟩ : Fin 15) _ _ rfl]
    have h2 : k0_pay1 (F := Ideal) (k0_pay3 (iblk m c 2 t)) (ix2 y0 x1) = (show Vec Ideal S128x15360 .f32 from iblk m c 2 t) (ix2 y0 (⟨1024 + x1.val, by omega⟩ : Fin 15360)) := by
      pointwise [k0_pay1, k0_pay3]
    exact h2.trans (state_block m c t y0 _ k _ (by dsimp only; omega))

end Cert.PoolSIdeal.Value

end
-- ==== Proof.PoolSClaim.lean ====
/-
  The pooling of the sample rows: the claim about its values, and the frame of its reference.
-/
module

public import proofs.«01_k».proof.Defs
public import proofs.«01_k».proof.Proof.PoolSValue
public import Idealize.ShloMosaic.Lib.Claim

@[expose] public section

set_option maxRecDepth 16384

noncomputable section

open Idealize.ShloMosaic Idealize.SL.Sem

namespace Cert.PoolSIdealAlg

/-- The reference runs to the end and leaves its arguments as they were. -/
theorem frame_ref : Cert.quiescent_PoolSRefIdeal := by
  intro m g _
  exact (θ_run Cert.PoolSRefIdeal.defs _ _).mono
    (fun r h => ⟨fun c => (h c).2.2, Idealize.ShloMosaic.sem_eq_zero_of_no_sems (by decide) r.2⟩)
    (Cert.PoolSRefIdeal.Value.run m g)

/-- On equal arguments the kernel and the pooling of the reference end with the same rows and the same state. -/
theorem algebraic : Cert.algebraic_PoolSIdeal_PoolSRefIdeal := by
  pair_intro
  · run_from Cert.PoolSIdeal.Gen.run_main m g
  · run_from Cert.PoolSRefIdeal.Value.run m' g'
    · obtain ⟨h0, h1, h2, h3, h4⟩ := hagree c
      refine Eq.trans ?_ (Cert.PoolSIdeal.Value.final_rows m c).symm
      rw [Cert.PoolSRefIdeal.Value.res_main_v117, h0, h1, h2, h3, h4]
      rfl
    · exact (Cert.PoolSIdeal.Value.final_state m c).symm

end Cert.PoolSIdealAlg

end
-- ==== Proof.lean ====
module

public import proofs.«01_k».proof.Defs
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.Last
public import proofs.«01_k».proof.Proof.Gen.Last.Skeleton
public import proofs.«01_k».proof.Proof.Gen.Last.Launch
public import proofs.«01_k».proof.Proof.Gen.Last.Points
public import proofs.«01_k».proof.Proof.Gen.Last.Frame
public import proofs.«01_k».proof.Proof.Gen.LastIdeal
public import proofs.«01_k».proof.Proof.Gen.LastIdeal.Skeleton
public import proofs.«01_k».proof.Proof.Gen.LastIdeal.Launch
public import proofs.«01_k».proof.Proof.Gen.LastIdeal.Points
public import proofs.«01_k».proof.Proof.Gen.LastIdeal.Frame
public import proofs.«01_k».proof.Proof.Gen.LastRefIdeal
public import proofs.«01_k».proof.Proof.Gen.Cross
public import proofs.«01_k».proof.Proof.Gen.Cross.Skeleton
public import proofs.«01_k».proof.Proof.Gen.Cross.Launch
public import proofs.«01_k».proof.Proof.Gen.Cross.Points
public import proofs.«01_k».proof.Proof.Gen.Cross.Frame
public import proofs.«01_k».proof.Proof.Gen.CrossIdeal
public import proofs.«01_k».proof.Proof.Gen.CrossIdeal.Skeleton
public import proofs.«01_k».proof.Proof.Gen.CrossIdeal.Launch
public import proofs.«01_k».proof.Proof.Gen.CrossIdeal.Points
public import proofs.«01_k».proof.Proof.Gen.CrossIdeal.Frame
public import proofs.«01_k».proof.Proof.Gen.CrossRefIdeal
public import proofs.«01_k».proof.Proof.Gen.MemKv
public import proofs.«01_k».proof.Proof.Gen.MemKv.Skeleton
public import proofs.«01_k».proof.Proof.Gen.MemKv.Launch
public import proofs.«01_k».proof.Proof.Gen.MemKv.Points
public import proofs.«01_k».proof.Proof.Gen.MemKv.Frame
public import proofs.«01_k».proof.Proof.Gen.MemKvIdeal
public import proofs.«01_k».proof.Proof.Gen.MemKvIdeal.Skeleton
public import proofs.«01_k».proof.Proof.Gen.MemKvIdeal.Launch
public import proofs.«01_k».proof.Proof.Gen.MemKvIdeal.Points
public import proofs.«01_k».proof.Proof.Gen.MemKvIdeal.Frame
public import proofs.«01_k».proof.Proof.Gen.MemKvRefIdeal
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvRefIdeal
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal
public import proofs.«01_k».proof.Proof.Gen.LastS
public import proofs.«01_k».proof.Proof.Gen.LastS.Skeleton
public import proofs.«01_k».proof.Proof.Gen.LastS.Launch
public import proofs.«01_k».proof.Proof.Gen.LastS.Points
public import proofs.«01_k».proof.Proof.Gen.LastS.Frame
public import proofs.«01_k».proof.Proof.Gen.LastSIdeal
public import proofs.«01_k».proof.Proof.Gen.LastSIdeal.Skeleton
public import proofs.«01_k».proof.Proof.Gen.LastSIdeal.Launch
public import proofs.«01_k».proof.Proof.Gen.LastSIdeal.Points
public import proofs.«01_k».proof.Proof.Gen.LastSIdeal.Frame
public import proofs.«01_k».proof.Proof.Gen.LastSRefIdeal
public import proofs.«01_k».proof.Proof.Gen.ConvS
public import proofs.«01_k».proof.Proof.Gen.ConvS.Skeleton
public import proofs.«01_k».proof.Proof.Gen.ConvS.Launch
public import proofs.«01_k».proof.Proof.Gen.ConvS.Points
public import proofs.«01_k».proof.Proof.Gen.ConvS.Frame
public import proofs.«01_k».proof.Proof.Gen.ConvSIdeal
public import proofs.«01_k».proof.Proof.Gen.ConvSIdeal.Skeleton
public import proofs.«01_k».proof.Proof.Gen.ConvSIdeal.Launch
public import proofs.«01_k».proof.Proof.Gen.ConvSIdeal.Points
public import proofs.«01_k».proof.Proof.Gen.ConvSIdeal.Frame
public import proofs.«01_k».proof.Proof.Gen.ConvSRefIdeal
public import proofs.«01_k».proof.Proof.Gen.ProjS
public import proofs.«01_k».proof.Proof.Gen.ProjS.Skeleton
public import proofs.«01_k».proof.Proof.Gen.ProjS.Launch
public import proofs.«01_k».proof.Proof.Gen.ProjS.Points
public import proofs.«01_k».proof.Proof.Gen.ProjS.Frame
public import proofs.«01_k».proof.Proof.Gen.ProjSIdeal
public import proofs.«01_k».proof.Proof.Gen.ProjSIdeal.Skeleton
public import proofs.«01_k».proof.Proof.Gen.ProjSIdeal.Launch
public import proofs.«01_k».proof.Proof.Gen.ProjSIdeal.Points
public import proofs.«01_k».proof.Proof.Gen.ProjSIdeal.Frame
public import proofs.«01_k».proof.Proof.Gen.ProjSRefIdeal
public import proofs.«01_k».proof.Proof.Gen.Pool
public import proofs.«01_k».proof.Proof.Gen.Pool.Skeleton
public import proofs.«01_k».proof.Proof.Gen.Pool.Launch
public import proofs.«01_k».proof.Proof.Gen.Pool.Points
public import proofs.«01_k».proof.Proof.Gen.Pool.Frame
public import proofs.«01_k».proof.Proof.Gen.PoolIdeal
public import proofs.«01_k».proof.Proof.Gen.PoolIdeal.Skeleton
public import proofs.«01_k».proof.Proof.Gen.PoolIdeal.Launch
public import proofs.«01_k».proof.Proof.Gen.PoolIdeal.Points
public import proofs.«01_k».proof.Proof.Gen.PoolIdeal.Frame
public import proofs.«01_k».proof.Proof.Gen.PoolRefIdeal
public import proofs.«01_k».proof.Proof.Gen.PoolS
public import proofs.«01_k».proof.Proof.Gen.PoolS.Skeleton
public import proofs.«01_k».proof.Proof.Gen.PoolS.Launch
public import proofs.«01_k».proof.Proof.Gen.PoolS.Points
public import proofs.«01_k».proof.Proof.Gen.PoolS.Frame
public import proofs.«01_k».proof.Proof.Gen.PoolSIdeal
public import proofs.«01_k».proof.Proof.Gen.PoolSIdeal.Skeleton
public import proofs.«01_k».proof.Proof.Gen.PoolSIdeal.Launch
public import proofs.«01_k».proof.Proof.Gen.PoolSIdeal.Points
public import proofs.«01_k».proof.Proof.Gen.PoolSIdeal.Frame
public import proofs.«01_k».proof.Proof.Gen.PoolSRefIdeal
public import proofs.«01_k».proof.Proof.Gen.NsaPrompt
public import proofs.«01_k».proof.Proof.Gen.NsaPrompt.Skeleton
public import proofs.«01_k».proof.Proof.Gen.NsaPrompt.Loops
public import proofs.«01_k».proof.Proof.Gen.NsaPrompt.Launch
public import proofs.«01_k».proof.Proof.Gen.NsaPrompt.Points
public import proofs.«01_k».proof.Proof.Gen.NsaPrompt.Frame
public import proofs.«01_k».proof.Proof.Gen.NsaPromptIdeal
public import proofs.«01_k».proof.Proof.Gen.NsaPromptIdeal.Skeleton
public import proofs.«01_k».proof.Proof.Gen.NsaPromptIdeal.Loops
public import proofs.«01_k».proof.Proof.Gen.NsaPromptIdeal.Launch
public import proofs.«01_k».proof.Proof.Gen.NsaPromptIdeal.Points
public import proofs.«01_k».proof.Proof.Gen.NsaPromptIdeal.Frame
public import proofs.«01_k».proof.Proof.FfnClaim
public import proofs.«01_k».proof.Proof.LastClaim
public import proofs.«01_k».proof.Proof.CrossClaim
public import proofs.«01_k».proof.Proof.MemKvClaim
public import proofs.«01_k».proof.Proof.ConvClaim
public import proofs.«01_k».proof.Proof.ProjClaim
public import proofs.«01_k».proof.Proof.OutClaim
public import proofs.«01_k».proof.Proof.LastSClaim
public import proofs.«01_k».proof.Proof.ConvSClaim
public import proofs.«01_k».proof.Proof.ProjSClaim
public import proofs.«01_k».proof.Proof.PoolClaim
public import proofs.«01_k».proof.Proof.PoolSClaim
public import Idealize.ShloMosaic.Adequacy
public import Idealize.ShloMosaic.Init

@[expose] public section

noncomputable section

namespace Cert.Proof

open Idealize.ShloMosaic Idealize.SL.Sem Cert.Ffn

theorem claim : Cert.Claim := ⟨Cert.Ffn.Gen.facts, Cert.FfnIdeal.Gen.facts, Cert.FfnRefIdeal.Gen.facts, Cert.Last.Gen.facts, Cert.LastIdeal.Gen.facts, Cert.LastRefIdeal.Gen.facts, Cert.Cross.Gen.facts, Cert.CrossIdeal.Gen.facts, Cert.CrossRefIdeal.Gen.facts, Cert.MemKv.Gen.facts, Cert.MemKvIdeal.Gen.facts, Cert.MemKvRefIdeal.Gen.facts, Cert.Conv.Gen.facts, Cert.ConvIdeal.Gen.facts, Cert.ConvRefIdeal.Gen.facts, Cert.Proj.Gen.facts, Cert.ProjIdeal.Gen.facts, Cert.ProjRefIdeal.Gen.facts, Cert.Out.Gen.facts, Cert.OutIdeal.Gen.facts, Cert.OutRefIdeal.Gen.facts, Cert.LastS.Gen.facts, Cert.LastSIdeal.Gen.facts, Cert.LastSRefIdeal.Gen.facts, Cert.ConvS.Gen.facts, Cert.ConvSIdeal.Gen.facts, Cert.ConvSRefIdeal.Gen.facts, Cert.ProjS.Gen.facts, Cert.ProjSIdeal.Gen.facts, Cert.ProjSRefIdeal.Gen.facts, Cert.Pool.Gen.facts, Cert.PoolIdeal.Gen.facts, Cert.PoolRefIdeal.Gen.facts, Cert.PoolS.Gen.facts, Cert.PoolSIdeal.Gen.facts, Cert.PoolSRefIdeal.Gen.facts, Cert.NsaPrompt.Gen.facts, Cert.NsaPromptIdeal.Gen.facts,
  fun m ρ _ => Cert.Ffn.Gen.frame m ρ,
  fun m ρ _ => Cert.FfnIdeal.Gen.frame m ρ,
  Cert.FfnIdealAlg.frame_ref,
  fun m ρ _ => Cert.Last.Gen.frame m ρ,
  fun m ρ _ => Cert.LastIdeal.Gen.frame m ρ,
  Cert.LastIdealAlg.frame_ref,
  fun m ρ _ => Cert.Cross.Gen.frame m ρ,
  fun m ρ _ => Cert.CrossIdeal.Gen.frame m ρ,
  Cert.CrossIdealAlg.frame_ref,
  fun m ρ _ => Cert.MemKv.Gen.frame m ρ,
  fun m ρ _ => Cert.MemKvIdeal.Gen.frame m ρ,
  Cert.MemKvIdealAlg.frame_ref,
  fun m ρ _ => Cert.Conv.Gen.frame m ρ,
  fun m ρ _ => Cert.ConvIdeal.Gen.frame m ρ,
  Cert.ConvIdealAlg.frame_ref,
  fun m ρ _ => Cert.Proj.Gen.frame m ρ,
  fun m ρ _ => Cert.ProjIdeal.Gen.frame m ρ,
  Cert.ProjIdealAlg.frame_ref,
  fun m ρ _ => Cert.Out.Gen.frame m ρ,
  fun m ρ _ => Cert.OutIdeal.Gen.frame m ρ,
  Cert.OutIdealAlg.frame_ref,
  fun m ρ _ => Cert.LastS.Gen.frame m ρ,
  fun m ρ _ => Cert.LastSIdeal.Gen.frame m ρ,
  Cert.LastSIdealAlg.frame_ref,
  fun m ρ _ => Cert.ConvS.Gen.frame m ρ,
  fun m ρ _ => Cert.ConvSIdeal.Gen.frame m ρ,
  Cert.ConvSIdealAlg.frame_ref,
  fun m ρ _ => Cert.ProjS.Gen.frame m ρ,
  fun m ρ _ => Cert.ProjSIdeal.Gen.frame m ρ,
  Cert.ProjSIdealAlg.frame_ref,
  fun m ρ _ => Cert.Pool.Gen.frame m ρ,
  fun m ρ _ => Cert.PoolIdeal.Gen.frame m ρ,
  Cert.PoolIdealAlg.frame_ref,
  fun m ρ _ => Cert.PoolS.Gen.frame m ρ,
  fun m ρ _ => Cert.PoolSIdeal.Gen.frame m ρ,
  Cert.PoolSIdealAlg.frame_ref,
  fun m ρ _ => Cert.NsaPrompt.Gen.frame m ρ,
  fun m ρ _ => Cert.NsaPromptIdeal.Gen.frame m ρ,
  trivial,
  Cert.FfnIdealAlg.algebraic,
  trivial,
  Cert.LastIdealAlg.algebraic,
  trivial,
  Cert.CrossIdealAlg.algebraic,
  trivial,
  Cert.MemKvIdealAlg.algebraic,
  trivial,
  Cert.ConvIdealAlg.algebraic,
  trivial,
  Cert.ProjIdealAlg.algebraic,
  trivial,
  Cert.OutIdealAlg.algebraic,
  trivial,
  Cert.LastSIdealAlg.algebraic,
  trivial,
  Cert.ConvSIdealAlg.algebraic,
  trivial,
  Cert.ProjSIdealAlg.algebraic,
  trivial,
  Cert.PoolIdealAlg.algebraic,
  trivial,
  Cert.PoolSIdealAlg.algebraic,
  trivial⟩

end Cert.Proof

end
